-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)
      ∧ m' ((c.tc : Thread Cert.GateUpReferenceIdeal.nD Cert.GateUpReferenceIdeal.τ).loc Cert.GateUpReferenceIdeal.main_arg4) = m ((c.tc : Thread Cert.GateUpIdeal.nD Cert.GateUpIdeal.τ).loc Cert.GateUpIdeal.main_arg4)) →
    ∃ (v0 : (c : Dev Cert.GateUpIdeal.nD) → Buf (Elt Ideal) ((c.tc : Thread Cert.GateUpIdeal.nD Cert.GateUpIdeal.τ).loc Cert.GateUpIdeal.main_v8)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v8) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v35) = v0 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3)
          ∧ r.2.mem ((c.tc : Thread Cert.GateUpReferenceIdeal.nD Cert.GateUpReferenceIdeal.τ).loc Cert.GateUpReferenceIdeal.main_arg4) = m' ((c.tc : Thread Cert.GateUpReferenceIdeal.nD Cert.GateUpReferenceIdeal.τ).loc Cert.GateUpReferenceIdeal.main_arg4))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpReferenceIdeal : Cert.GateUpReferenceIdeal.Facts),
    quiescent_Kernel (hKernel := hKernel)
    ∧ quiescent_KernelIdeal (hKernelIdeal := hKernelIdeal)
    ∧ quiescent_ReferenceIdeal (hReferenceIdeal := hReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ preserves_Kernel_KernelIdeal
    ∧ algebraic_KernelIdeal_ReferenceIdeal (hKernelIdeal := hKernelIdeal) (hReferenceIdeal := hReferenceIdeal)
    ∧ preserves_GateUp_GateUpIdeal
    ∧ algebraic_GateUpIdeal_GateUpReferenceIdeal (hGateUpIdeal := hGateUpIdeal) (hGateUpReferenceIdeal := hGateUpReferenceIdeal)
-- ==== Kernel.lean ====
abbrev S14x16x256 : Shape := ⟨3, ![14, 16, 256]⟩
abbrev S16x8192 : Shape := ⟨2, ![16, 8192]⟩
abbrev S8192x112x16 : Shape := ⟨3, ![8192, 112, 16]⟩
abbrev S8192x112 : Shape := ⟨2, ![8192, 112]⟩
abbrev S112x16x8192 : Shape := ⟨3, ![112, 16, 8192]⟩
abbrev S224x8x64x128 : Shape := ⟨4, ![224, 8, 64, 128]⟩
abbrev S224x64x8x128 : Shape := ⟨4, ![224, 64, 8, 128]⟩
abbrev S224x512x128 : Shape := ⟨3, ![224, 512, 128]⟩
abbrev S112x8192 : Shape := ⟨2, ![112, 8192]⟩
abbrev S14x8x8192 : Shape := ⟨3, ![14, 8, 8192]⟩
abbrev S256x256 : Shape := ⟨2, ![256, 256]⟩
abbrev S112x512 : Shape := ⟨2, ![112, 512]⟩
abbrev S24 : Shape := ⟨1, ![24]⟩
abbrev S1 : Shape := ⟨1, ![1]⟩
abbrev S_ : Shape := ⟨0, ![]⟩
abbrev S16x512x128 : Shape := ⟨3, ![16, 512, 128]⟩
abbrev S1x8x8192 : Shape := ⟨3, ![1, 8, 8192]⟩
abbrev S8x8192 : Shape := ⟨2, ![8, 8192]⟩
abbrev S224x256 : Shape := ⟨2, ![224, 256]⟩
abbrev S16x256 : Shape := ⟨2, ![16, 256]⟩
abbrev S1x8x512 : Shape := ⟨3, ![1, 8, 512]⟩
abbrev S8x512 : Shape := ⟨2, ![8, 512]⟩
abbrev S1x128 : Shape := ⟨2, ![1, 128]⟩
abbrev S8x128 : Shape := ⟨2, ![8, 128]⟩
abbrev S8x1x128 : Shape := ⟨3, ![8, 1, 128]⟩
abbrev S8x2x128 : Shape := ⟨3, ![8, 2, 128]⟩
abbrev S16x128 : Shape := ⟨2, ![16, 128]⟩
abbrev S1x32x128 : Shape := ⟨3, ![1, 32, 128]⟩
abbrev S32x128 : Shape := ⟨2, ![32, 128]⟩
abbrev S8x8x128 : Shape := ⟨3, ![8, 8, 128]⟩
abbrev S64x128 : Shape := ⟨2, ![64, 128]⟩
abbrev S256x128 : Shape := ⟨2, ![256, 128]⟩

abbrev nBuf : Space → Nat
  | .hbm => 11
  | .vmem => 8
  | .smem => 0
  | _ => 0

abbrev bufTy : (tb : Table) → Fin (tcTables nBuf tb) → BufTy
  | .hbm, ⟨0, _⟩ => ⟨S14x16x256, .bf16⟩
  | .hbm, ⟨1, _⟩ => ⟨S16x8192, .f32⟩
  | .hbm, ⟨2, _⟩ => ⟨S8192x112x16, .i8⟩
  | .hbm, ⟨3, _⟩ => ⟨S8192x112, .bf16⟩
  | .hbm, ⟨4, _⟩ => ⟨S112x16x8192, .i8⟩
  | .hbm, ⟨5, _⟩ => ⟨S224x8x64x128, .i8⟩
  | .hbm, ⟨6, _⟩ => ⟨S224x64x8x128, .i8⟩
  | .hbm, ⟨7, _⟩ => ⟨S224x512x128, .i8⟩
  | .hbm, ⟨8, _⟩ => ⟨S112x8192, .bf16⟩
  | .hbm, ⟨9, _⟩ => ⟨S14x8x8192, .bf16⟩
  | .hbm, ⟨10, _⟩ => ⟨S16x8192, .bf16⟩
  | .local _ .vmem, ⟨0, _⟩ => ⟨S14x16x256, .bf16⟩
  | .local _ .vmem, ⟨1, _⟩ => ⟨S16x8192, .f32⟩
  | .local _ .vmem, ⟨2, _⟩ => ⟨S16x8192, .bf16⟩
  | .local _ .vmem, ⟨3, _⟩ => ⟨S16x8192, .bf16⟩
  | .local _ .vmem, ⟨4, _⟩ => ⟨S224x512x128, .i8⟩
  | .local _ .vmem, ⟨5, _⟩ => ⟨S14x8x8192, .bf16⟩
  | .local _ .vmem, ⟨6, _⟩ => ⟨S256x256, .bf16⟩
  | .local _ .vmem, ⟨7, _⟩ => ⟨S112x512, .f32⟩
  | _, _ => ⟨S14x16x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_428 : BitVec 32 := 0#32
  let c16_i32_429 : BitVec 32 := 16#32
  let v480 : BitVec 32 := Scalar.addi c0_i32_428 c16_i32_429
  let c1_i32_430 : BitVec 32 := 1#32
  ⟨c0_i32_428, v480, c1_i32_430⟩
def k0_mult1 (k0_t1 : Fin k0_t1_loop.trips) : BitVec 32 :=
  let c0_i32_428 : BitVec 32 := 0#32
  let c1_i32_430 : BitVec 32 := 1#32
  let arg11 : BitVec 32 := Scf.iv c0_i32_428 c1_i32_430 k0_t1
  let c512_i32 : BitVec 32 := 512#32
  let v481 : BitVec 32 := Scalar.muli arg11 c512_i32
  v481
def k0_off1 (k0_t1 : Fin k0_t1_loop.trips) : Fin 3 → Nat :=
  let c0_432 : Index := 0#32
  let c0_433 : Index := 0#32
  let c0_i32_428 : BitVec 32 := 0#32
  let c1_i32_430 : BitVec 32 := 1#32
  let arg11 : BitVec 32 := Scf.iv c0_i32_428 c1_i32_430 k0_t1
  let c512_i32 : BitVec 32 := 512#32
  let v481 : BitVec 32 := Scalar.muli arg11 c512_i32
  let v482 : BitVec 32 := v481
  let v483 : Index := Scalar.indexCast v482
  ![0, 0, v483.toNat]
def k0_mult2 (k0_t1 : Fin k0_t1_loop.trips) : BitVec 32 :=
  let c0_i32_428 : BitVec 32 := 0#32
  let c1_i32_430 : BitVec 32 := 1#32
  let arg11 : BitVec 32 := Scf.iv c0_i32_428 c1_i32_430 k0_t1
  let c512_i32_436 : BitVec 32 := 512#32
  let v490 : BitVec 32 := Scalar.muli arg11 c512_i32_436
  v490
def k0_off2 (k0_t1 : Fin k0_t1_loop.trips) : Fin 3 → Nat :=
  let c1 : Index := 1#32
  let c0_437 : Index := 0#32
  let c0_i32_428 : BitVec 32 := 0#32
  let c1_i32_430 : BitVec 32 := 1#32
  let arg11 : BitVec 32 := Scf.iv c0_i32_428 c1_i32_430 k0_t1
  let c512_i32_436 : BitVec 32 := 512#32
  let v490 : BitVec 32 := Scalar.muli arg11 c512_i32_436
  let v491 : BitVec 32 := v490
  let v492 : Index := Scalar.indexCast v491
  ![1, 0, v492.toNat]
def k0_mult3 (k0_t1 : Fin k0_t1_loop.trips) : BitVec 32 :=
  let c0_i32_428 : BitVec 32 := 0#32
  let c1_i32_430 : BitVec 32 := 1#32
  let arg11 : BitVec 32 := Scf.iv c0_i32_428 c1_i32_430 k0_t1
  let c512_i32_439 : BitVec 32 := 512#32
  let v499 : BitVec 32 := Scalar.muli arg11 c512_i32_439
  v499
def k0_off3 (k0_t1 : Fin k0_t1_loop.trips) : Fin 3 → Nat :=
  let c2 : Index := 2#32
  let c0_440 : Index := 0#32
  let c0_i32_428 : BitVec 32 := 0#32
  let c1_i32_430 : BitVec 32 := 1#32
  let arg11 : BitVec 32 := Scf.iv c0_i32_428 c1_i32_430 k0_t1
  let c512_i32_439 : BitVec 32 := 512#32
  let v499 : BitVec 32 := Scalar.muli arg11 c512_i32_439
  let v500 : BitVec 32 := v499
  let v501 : Index := Scalar.indexCast v500
  ![2, 0, v501.toNat]
def k0_mult4 (k0_t1 : Fin k0_t1_loop.trips) : BitVec 32 :=
  let c0_i32_428 : BitVec 32 := 0#32
  let c1_i32_430 : BitVec 32 := 1#32
  let arg11 : BitVec 32 := Scf.iv c0_i32_428 c1_i32_430 k0_t1
  let c512_i32_442 : BitVec 32 := 512#32
  let v508 : BitVec 32 := Scalar.muli arg11 c512_i32_442
  v508
def k0_off4 (k0_t1 : Fin k0_t1_loop.trips) : Fin 3 → Nat :=
  let c3 : Index := 3#32
  let c0_443 : Index := 0#32
  let c0_i32_428 : BitVec 32 := 0#32
  let c1_i32_430 : BitVec 32 := 1#32
  let arg11 : BitVec 32 := Scf.iv c0_i32_428 c1_i32_430 k0_t1
  let c512_i32_442 : BitVec 32 := 512#32
  let v508 : BitVec 32 := Scalar.muli arg11 c512_i32_442
  let v509 : BitVec 32 := v508
  let v510 : Index := Scalar.indexCast v509
  ![3, 0, v510.toNat]
def k0_mult5 (k0_t1 : Fin k0_t1_loop.trips) : BitVec 32 :=
  let c0_i32_428 : BitVec 32 := 0#32
  let c1_i32_430 : BitVec 32 := 1#32
  let arg11 : BitVec 32 := Scf.iv c0_i32_428 c1_i32_430 k0_t1
  let c512_i32_445 : BitVec 32 := 512#32
  let v517 : BitVec 32 := Scalar.muli arg11 c512_i32_445
  v517
def k0_off5 (k0_t1 : Fin k0_t1_loop.trips) : Fin 3 → Nat :=
  let c4 : Index := 4#32
  let c0_446 : Index := 0#32
  let c0_i32_428 : BitVec 32 := 0#32
  let c1_i32_430 : BitVec 32 := 1#32
  let arg11 : BitVec 32 := Scf.iv c0_i32_428 c1_i32_430 k0_t1
  let c512_i32_445 : BitVec 32 := 512#32
  let v517 : BitVec 32 := Scalar.muli arg11 c512_i32_445
  let v518 : BitVec 32 := v517
  let v519 : Index := Scalar.indexCast v518
  ![4, 0, v519.toNat]
def k0_mult6 (k0_t1 : Fin k0_t1_loop.trips) : BitVec 32 :=
  let c0_i32_428 : BitVec 32 := 0#32
  let c1_i32_430 : BitVec 32 := 1#32
  let arg11 : BitVec 32 := Scf.iv c0_i32_428 c1_i32_430 k0_t1
  let c512_i32_448 : BitVec 32 := 512#32
  let v526 : BitVec 32 := Scalar.muli arg11 c512_i32_448
  v526
def k0_off6 (k0_t1 : Fin k0_t1_loop.trips) : Fin 3 → Nat :=
  let c5 : Index := 5#32
  let c0_449 : Index := 0#32
  let c0_i32_428 : BitVec 32 := 0#32
  let c1_i32_430 : BitVec 32 := 1#32
  let arg11 : BitVec 32 := Scf.iv c0_i32_428 c1_i32_430 k0_t1
  let c512_i32_448 : BitVec 32 := 512#32
  let v526 : BitVec 32 := Scalar.muli arg11 c512_i32_448
  let v527 : BitVec 32 := v526
  let v528 : Index := Scalar.indexCast v527
  ![5, 0, v528.toNat]
def k0_mult7 (k0_t1 : Fin k0_t1_loop.trips) : BitVec 32 :=
  let c0_i32_428 : BitVec 32 := 0#32
  let c1_i32_430 : BitVec 32 := 1#32
  let arg11 : BitVec 32 := Scf.iv c0_i32_428 c1_i32_430 k0_t1
  let c512_i32_451 : BitVec 32 := 512#32
  let v535 : BitVec 32 := Scalar.muli arg11 c512_i32_451
  v535
def k0_off7 (k0_t1 : Fin k0_t1_loop.trips) : Fin 3 → Nat :=
  let c6 : Index := 6#32
  let c0_452 : Index := 0#32
  let c0_i32_428 : BitVec 32 := 0#32
  let c1_i32_430 : BitVec 32 := 1#32
  let arg11 : BitVec 32 := Scf.iv c0_i32_428 c1_i32_430 k0_t1
  let c512_i32_451 : BitVec 32 := 512#32
  let v535 : BitVec 32 := Scalar.muli arg11 c512_i32_451
  let v536 : BitVec 32 := v535
  let v537 : Index := Scalar.indexCast v536
  ![6, 0, v537.toNat]
def k0_mult8 (k0_t1 : Fin k0_t1_loop.trips) : BitVec 32 :=
  let c0_i32_428 : BitVec 32 := 0#32
  let c1_i32_430 : BitVec 32 := 1#32
  let arg11 : BitVec 32 := Scf.iv c0_i32_428 c1_i32_430 k0_t1
  let c512_i32_454 : BitVec 32 := 512#32
  let v544 : BitVec 32 := Scalar.muli arg11 c512_i32_454
  v544
def k0_off8 (k0_t1 : Fin k0_t1_loop.trips) : Fin 3 → Nat :=
  let c7 : Index := 7#32
  let c0_455 : Index := 0#32
  let c0_i32_428 : BitVec 32 := 0#32
  let c1_i32_430 : BitVec 32 := 1#32
  let arg11 : BitVec 32 := Scf.iv c0_i32_428 c1_i32_430 k0_t1
  let c512_i32_454 : BitVec 32 := 512#32
  let v544 : BitVec 32 := Scalar.muli arg11 c512_i32_454
  let v545 : BitVec 32 := v544
  let v546 : Index := Scalar.indexCast v545
  ![7, 0, v546.toNat]
def k0_mult9 (k0_t1 : Fin k0_t1_loop.trips) : BitVec 32 :=
  let c0_i32_428 : BitVec 32 := 0#32
  let c1_i32_430 : BitVec 32 := 1#32
  let arg11 : BitVec 32 := Scf.iv c0_i32_428 c1_i32_430 k0_t1
  let c512_i32_457 : BitVec 32 := 512#32
  let v553 : BitVec 32 := Scalar.muli arg11 c512_i32_457
  v553
def k0_off9 (k0_t1 : Fin k0_t1_loop.trips) : Fin 3 → Nat :=
  let c8_458 : Index := 8#32
  let c0_459 : Index := 0#32
  let c0_i32_428 : BitVec 32 := 0#32
  let c1_i32_430 : BitVec 32 := 1#32
  let arg11 : BitVec 32 := Scf.iv c0_i32_428 c1_i32_430 k0_t1
  let c512_i32_457 : BitVec 32 := 512#32
  let v553 : BitVec 32 := Scalar.muli arg11 c512_i32_457
  let v554 : BitVec 32 := v553
  let v555 : Index := Scalar.indexCast v554
  ![8, 0, v555.toNat]
def k0_mult10 (k0_t1 : Fin k0_t1_loop.trips) : BitVec 32 :=
  let c0_i32_428 : BitVec 32 := 0#32
  let c1_i32_430 : BitVec 32 := 1#32
  let arg11 : BitVec 32 := Scf.iv c0_i32_428 c1_i32_430 k0_t1
  let c512_i32_461 : BitVec 32 := 512#32
  let v562 : BitVec 32 := Scalar.muli arg11 c512_i32_461
  v562
def k0_off10 (k0_t1 : Fin k0_t1_loop.trips) : Fin 3 → Nat :=
  let c9 : Index := 9#32
  let c0_462 : Index := 0#32
  let c0_i32_428 : BitVec 32 := 0#32
  let c1_i32_430 : BitVec 32 := 1#32
  let arg11 : BitVec 32 := Scf.iv c0_i32_428 c1_i32_430 k0_t1
  let c512_i32_461 : BitVec 32 := 512#32
  let v562 : BitVec 32 := Scalar.muli arg11 c512_i32_461
  let v563 : BitVec 32 := v562
  let v564 : Index := Scalar.indexCast v563
  ![9, 0, v564.toNat]
def k0_mult11 (k0_t1 : Fin k0_t1_loop.trips) : BitVec 32 :=
  let c0_i32_428 : BitVec 32 := 0#32
  let c1_i32_430 : BitVec 32 := 1#32
  let arg11 : BitVec 32 := Scf.iv c0_i32_428 c1_i32_430 k0_t1
  let c512_i32_464 : BitVec 32 := 512#32
  let v571 : BitVec 32 := Scalar.muli arg11 c512_i32_464
  v571
def k0_off11 (k0_t1 : Fin k0_t1_loop.trips) : Fin 3 → Nat :=
  let c10 : Index := 10#32
  let c0_465 : Index := 0#32
  let c0_i32_428 : BitVec 32 := 0#32
  let c1_i32_430 : BitVec 32 := 1#32
  let arg11 : BitVec 32 := Scf.iv c0_i32_428 c1_i32_430 k0_t1
  let c512_i32_464 : BitVec 32 := 512#32
  let v571 : BitVec 32 := Scalar.muli arg11 c512_i32_464
  let v572 : BitVec 32 := v571
  let v573 : Index := Scalar.indexCast v572
  ![10, 0, v573.toNat]
def k0_mult12 (k0_t1 : Fin k0_t1_loop.trips) : BitVec 32 :=
  let c0_i32_428 : BitVec 32 := 0#32
  let c1_i32_430 : BitVec 32 := 1#32
  let arg11 : BitVec 32 := Scf.iv c0_i32_428 c1_i32_430 k0_t1
  let c512_i32_467 : BitVec 32 := 512#32
  let v580 : BitVec 32 := Scalar.muli arg11 c512_i32_467
  v580
def k0_off12 (k0_t1 : Fin k0_t1_loop.trips) : Fin 3 → Nat :=
  let c11 : Index := 11#32
  let c0_468 : Index := 0#32
  let c0_i32_428 : BitVec 32 := 0#32
  let c1_i32_430 : BitVec 32 := 1#32
  let arg11 : BitVec 32 := Scf.iv c0_i32_428 c1_i32_430 k0_t1
  let c512_i32_467 : BitVec 32 := 512#32
  let v580 : BitVec 32 := Scalar.muli arg11 c512_i32_467
  let v581 : BitVec 32 := v580
  let v582 : Index := Scalar.indexCast v581
  ![11, 0, v582.toNat]
def k0_mult13 (k0_t1 : Fin k0_t1_loop.trips) : BitVec 32 :=
  let c0_i32_428 : BitVec 32 := 0#32
  let c1_i32_430 : BitVec 32 := 1#32
  let arg11 : BitVec 32 := Scf.iv c0_i32_428 c1_i32_430 k0_t1
  let c512_i32_470 : BitVec 32 := 512#32
  let v589 : BitVec 32 := Scalar.muli arg11 c512_i32_470
  v589
def k0_off13 (k0_t1 : Fin k0_t1_loop.trips) : Fin 3 → Nat :=
  let c12 : Index := 12#32
  let c0_471 : Index := 0#32
  let c0_i32_428 : BitVec 32 := 0#32
  let c1_i32_430 : BitVec 32 := 1#32
  let arg11 : BitVec 32 := Scf.iv c0_i32_428 c1_i32_430 k0_t1
  let c512_i32_470 : BitVec 32 := 512#32
  let v589 : BitVec 32 := Scalar.muli arg11 c512_i32_470
  let v590 : BitVec 32 := v589
  let v591 : Index := Scalar.indexCast v590
  ![12, 0, v591.toNat]
def k0_mult14 (k0_t1 : Fin k0_t1_loop.trips) : BitVec 32 :=
  let c0_i32_428 : BitVec 32 := 0#32
  let c1_i32_430 : BitVec 32 := 1#32
  let arg11 : BitVec 32 := Scf.iv c0_i32_428 c1_i32_430 k0_t1
  let c512_i32_473 : BitVec 32 := 512#32
  let v598 : BitVec 32 := Scalar.muli arg11 c512_i32_473
  v598
def k0_off14 (k0_t1 : Fin k0_t1_loop.trips) : Fin 3 → Nat :=
  let c13 : Index := 13#32
  let c0_474 : Index := 0#32
  let c0_i32_428 : BitVec 32 := 0#32
  let c1_i32_430 : BitVec 32 := 1#32
  let arg11 : BitVec 32 := Scf.iv c0_i32_428 c1_i32_430 k0_t1
  let c512_i32_473 : BitVec 32 := 512#32
  let v598 : BitVec 32 := Scalar.muli arg11 c512_i32_473
  let v599 : BitVec 32 := v598
  let v600 : Index := Scalar.indexCast v599
  ![13, 0, v600.toNat]
def k0_off15 (k0_t1 : Fin k0_t1_loop.trips) : Fin 3 → Nat :=
  let c0_485 : Index := 0#32
  let c0_i32_428 : BitVec 32 := 0#32
  let c1_i32_430 : BitVec 32 := 1#32
  let arg11 : BitVec 32 := Scf.iv c0_i32_428 c1_i32_430 k0_t1
  let c32_i32_484 : BitVec 32 := 32#32
  let v641 : BitVec 32 := Scalar.muli arg11 c32_i32_484
  let v642 : Index := Scalar.indexCast v641
  let c0_486 : Index := 0#32
  ![0, v642.toNat, 0]
def k0_off16 (k0_t1 : Fin k0_t1_loop.trips) : Fin 3 → Nat :=
  let c1_490 : Index := 1#32
  let c0_i32_428 : BitVec 32 := 0#32
  let c1_i32_430 : BitVec 32 := 1#32
  let arg11 : BitVec 32 := Scf.iv c0_i32_428 c1_i32_430 k0_t1
  let c32_i32_489 : BitVec 32 := 32#32
  let v669 : BitVec 32 := Scalar.muli arg11 c32_i32_489
  let v670 : Index := Scalar.indexCast v669
  let c0_491 : Index := 0#32
  ![1, v670.toNat, 0]
def k0_off17 (k0_t1 : Fin k0_t1_loop.trips) : Fin 3 → Nat :=
  let c2_505 : Index := 2#32
  let c0_i32_428 : BitVec 32 := 0#32
  let c1_i32_430 : BitVec 32 := 1#32
  let arg11 : BitVec 32 := Scf.iv c0_i32_428 c1_i32_430 k0_t1
  let c32_i32_504 : BitVec 32 := 32#32
  let v729 : BitVec 32 := Scalar.muli arg11 c32_i32_504
  let v730 : Index := Scalar.indexCast v729
  let c0_506 : Index := 0#32
  ![2, v730.toNat, 0]
def k0_off18 (k0_t1 : Fin k0_t1_loop.trips) : Fin 3 → Nat :=
  let c3_512 : Index := 3#32
  let c0_i32_428 : BitVec 32 := 0#32
  let c1_i32_430 : BitVec 32 := 1#32
  let arg11 : BitVec 32 := Scf.iv c0_i32_428 c1_i32_430 k0_t1
  let c32_i32_511 : BitVec 32 := 32#32
  let v757 : BitVec 32 := Scalar.muli arg11 c32_i32_511
  let v758 : Index := Scalar.indexCast v757
  let c0_513 : Index := 0#32
  ![3, v758.toNat, 0]
def k0_off19 (k0_t1 : Fin k0_t1_loop.trips) : Fin 3 → Nat :=
  let c4_527 : Index := 4#32
  let c0_i32_428 : BitVec 32 := 0#32
  let c1_i32_430 : BitVec 32 := 1#32
  let arg11 : BitVec 32 := Scf.iv c0_i32_428 c1_i32_430 k0_t1
  let c32_i32_526 : BitVec 32 := 32#32
  let v817 : BitVec 32 := Scalar.muli arg11 c32_i32_526
  let v818 : Index := Scalar.indexCast v817
  let c0_528 : Index := 0#32
  ![4, v818.toNat, 0]
def k0_off20 (k0_t1 : Fin k0_t1_loop.trips) : Fin 3 → Nat :=
  let c5_534 : Index := 5#32
  let c0_i32_428 : BitVec 32 := 0#32
  let c1_i32_430 : BitVec 32 := 1#32
  let arg11 : BitVec 32 := Scf.iv c0_i32_428 c1_i32_430 k0_t1
  let c32_i32_533 : BitVec 32 := 32#32
  let v845 : BitVec 32 := Scalar.muli arg11 c32_i32_533
  let v846 : Index := Scalar.indexCast v845
  let c0_535 : Index := 0#32
  ![5, v846.toNat, 0]
def k0_off21 (k0_t1 : Fin k0_t1_loop.trips) : Fin 3 → Nat :=
  let c6_549 : Index := 6#32
  let c0_i32_428 : BitVec 32 := 0#32
  let c1_i32_430 : BitVec 32 := 1#32
  let arg11 : BitVec 32 := Scf.iv c0_i32_428 c1_i32_430 k0_t1
  let c32_i32_548 : BitVec 32 := 32#32
  let v905 : BitVec 32 := Scalar.muli arg11 c32_i32_548
  let v906 : Index := Scalar.indexCast v905
  let c0_550 : Index := 0#32
  ![6, v906.toNat, 0]
def k0_off22 (k0_t1 : Fin k0_t1_loop.trips) : Fin 3 → Nat :=
  let c7_556 : Index := 7#32
  let c0_i32_428 : BitVec 32 := 0#32
  let c1_i32_430 : BitVec 32 := 1#32
  let arg11 : BitVec 32 := Scf.iv c0_i32_428 c1_i32_430 k0_t1
  let c32_i32_555 : BitVec 32 := 32#32
  let v933 : BitVec 32 := Scalar.muli arg11 c32_i32_555
  let v934 : Index := Scalar.indexCast v933
  let c0_557 : Index := 0#32
  ![7, v934.toNat, 0]
def k0_off23 (k0_t1 : Fin k0_t1_loop.trips) : Fin 3 → Nat :=
  let c8_571 : Index := 8#32
  let c0_i32_428 : BitVec 32 := 0#32
  let c1_i32_430 : BitVec 32 := 1#32
  let arg11 : BitVec 32 := Scf.iv c0_i32_428 c1_i32_430 k0_t1
  let c32_i32_570 : BitVec 32 := 32#32
  let v993 : BitVec 32 := Scalar.muli arg11 c32_i32_570
  let v994 : Index := Scalar.indexCast v993
  let c0_572 : Index := 0#32
  ![8, v994.toNat, 0]
def k0_off24 (k0_t1 : Fin k0_t1_loop.trips) : Fin 3 → Nat :=
  let c9_578 : Index := 9#32
  let c0_i32_428 : BitVec 32 := 0#32
  let c1_i32_430 : BitVec 32 := 1#32
  let arg11 : BitVec 32 := Scf.iv c0_i32_428 c1_i32_430 k0_t1
  let c32_i32_577 : BitVec 32 := 32#32
  let v1021 : BitVec 32 := Scalar.muli arg11 c32_i32_577
  let v1022 : Index := Scalar.indexCast v1021
  let c0_579 : Index := 0#32
  ![9, v1022.toNat, 0]
def k0_off25 (k0_t1 : Fin k0_t1_loop.trips) : Fin 3 → Nat :=
  let c10_593 : Index := 10#32
  let c0_i32_428 : BitVec 32 := 0#32
  let c1_i32_430 : BitVec 32 := 1#32
  let arg11 : BitVec 32 := Scf.iv c0_i32_428 c1_i32_430 k0_t1
  let c32_i32_592 : BitVec 32 := 32#32
  let v1081 : BitVec 32 := Scalar.muli arg11 c32_i32_592
  let v1082 : Index := Scalar.indexCast v1081
  let c0_594 : Index := 0#32
  ![10, v1082.toNat, 0]
def k0_off26 (k0_t1 : Fin k0_t1_loop.trips) : Fin 3 → Nat :=
  let c11_600 : Index := 11#32
  let c0_i32_428 : BitVec 32 := 0#32
  let c1_i32_430 : BitVec 32 := 1#32
  let arg11 : BitVec 32 := Scf.iv c0_i32_428 c1_i32_430 k0_t1
  let c32_i32_599 : BitVec 32 := 32#32
  let v1109 : BitVec 32 := Scalar.muli arg11 c32_i32_599
  let v1110 : Index := Scalar.indexCast v1109
  let c0_601 : Index := 0#32
  ![11, v1110.toNat, 0]
def k0_off27 (k0_t1 : Fin k0_t1_loop.trips) : Fin 3 → Nat :=
  let c12_615 : Index := 12#32
  let c0_i32_428 : BitVec 32 := 0#32
  let c1_i32_430 : BitVec 32 := 1#32
  let arg11 : BitVec 32 := Scf.iv c0_i32_428 c1_i32_430 k0_t1
  let c32_i32_614 : BitVec 32 := 32#32
  let v1169 : BitVec 32 := Scalar.muli arg11 c32_i32_614
  let v1170 : Index := Scalar.indexCast v1169
  let c0_616 : Index := 0#32
  ![12, v1170.toNat, 0]
def k0_off28 (k0_t1 : Fin k0_t1_loop.trips) : Fin 3 → Nat :=
  let c13_622 : Index := 13#32
  let c0_i32_428 : BitVec 32 := 0#32
  let c1_i32_430 : BitVec 32 := 1#32
  let arg11 : BitVec 32 := Scf.iv c0_i32_428 c1_i32_430 k0_t1
  let c32_i32_621 : BitVec 32 := 32#32
  let v1197 : BitVec 32 := Scalar.muli arg11 c32_i32_621
  let v1198 : Index := Scalar.indexCast v1197
  let c0_623 : Index := 0#32
  ![13, v1198.toNat, 0]
def k0_off29 (k0_t1 : Fin k0_t1_loop.trips) : Fin 3 → Nat :=
  let c14 : Index := 14#32
  let c0_i32_428 : BitVec 32 := 0#32
  let c1_i32_430 : BitVec 32 := 1#32
  let arg11 : BitVec 32 := Scf.iv c0_i32_428 c1_i32_430 k0_t1
  let c32_i32_636 : BitVec 32 := 32#32
  let v1257 : BitVec 32 := Scalar.muli arg11 c32_i32_636
  let v1258 : Index := Scalar.indexCast v1257
  let c0_637 : Index := 0#32
  ![14, v1258.toNat, 0]
def k0_off30 (k0_t1 : Fin k0_t1_loop.trips) : Fin 3 → Nat :=
  let c15 : Index := 15#32
  let c0_i32_428 : BitVec 32 := 0#32
  let c1_i32_430 : BitVec 32 := 1#32
  let arg11 : BitVec 32 := Scf.iv c0_i32_428 c1_i32_430 k0_t1
  let c32_i32_642 : BitVec 32 := 32#32
  let v1285 : BitVec 32 := Scalar.muli arg11 c32_i32_642
  let v1286 : Index := Scalar.indexCast v1285
  let c0_643 : Index := 0#32
  ![15, v1286.toNat, 0]
def k0_off31 (k0_t1 : Fin k0_t1_loop.trips) : Fin 3 → Nat :=
  let c16_661 : Index := 16#32
  let c0_i32_428 : BitVec 32 := 0#32
  let c1_i32_430 : BitVec 32 := 1#32
  let arg11 : BitVec 32 := Scf.iv c0_i32_428 c1_i32_430 k0_t1
  let c32_i32_660 : BitVec 32 := 32#32
  let v1356 : BitVec 32 := Scalar.muli arg11 c32_i32_660
  let v1357 : Index := Scalar.indexCast v1356
  let c0_662 : Index := 0#32
  ![16, v1357.toNat, 0]
def k0_off32 (k0_t1 : Fin k0_t1_loop.trips) : Fin 3 → Nat :=
  let c17 : Index := 17#32
  let c0_i32_428 : BitVec 32 := 0#32
  let c1_i32_430 : BitVec 32 := 1#32
  let arg11 : BitVec 32 := Scf.iv c0_i32_428 c1_i32_430 k0_t1
  let c32_i32_667 : BitVec 32 := 32#32
  let v1384 : BitVec 32 := Scalar.muli arg11 c32_i32_667
  let v1385 : Index := Scalar.indexCast v1384
  let c0_668 : Index := 0#32
  ![17, v1385.toNat, 0]
def k0_off33 (k0_t1 : Fin k0_t1_loop.trips) : Fin 3 → Nat :=
  let c18 : Index := 18#32
  let c0_i32_428 : BitVec 32 := 0#32
  let c1_i32_430 : BitVec 32 := 1#32
  let arg11 : BitVec 32 := Scf.iv c0_i32_428 c1_i32_430 k0_t1
  let c32_i32_681 : BitVec 32 := 32#32
  let v1444 : BitVec 32 := Scalar.muli arg11 c32_i32_681
  let v1445 : Index := Scalar.indexCast v1444
  let c0_682 : Index := 0#32
  ![18, v1445.toNat, 0]
def k0_off34 (k0_t1 : Fin k0_t1_loop.trips) : Fin 3 → Nat :=
  let c19 : Index := 19#32
  let c0_i32_428 : BitVec 32 := 0#32
  let c1_i32_430 : BitVec 32 := 1#32
  let arg11 : BitVec 32 := Scf.iv c0_i32_428 c1_i32_430 k0_t1
  let c32_i32_687 : BitVec 32 := 32#32
  let v1472 : BitVec 32 := Scalar.muli arg11 c32_i32_687
  let v1473 : Index := Scalar.indexCast v1472
  let c0_688 : Index := 0#32
  ![19, v1473.toNat, 0]
def k0_off35 (k0_t1 : Fin k0_t1_loop.trips) : Fin 3 → Nat :=
  let c20 : Index := 20#32
  let c0_i32_428 : BitVec 32 := 0#32
  let c1_i32_430 : BitVec 32 := 1#32
  let arg11 : BitVec 32 := Scf.iv c0_i32_428 c1_i32_430 k0_t1
  let c32_i32_701 : BitVec 32 := 32#32
  let v1532 : BitVec 32 := Scalar.muli arg11 c32_i32_701
  let v1533 : Index := Scalar.indexCast v1532
  let c0_702 : Index := 0#32
  ![20, v1533.toNat, 0]
def k0_off36 (k0_t1 : Fin k0_t1_loop.trips) : Fin 3 → Nat :=
  let c21 : Index := 21#32
  let c0_i32_428 : BitVec 32 := 0#32
  let c1_i32_430 : BitVec 32 := 1#32
  let arg11 : BitVec 32 := Scf.iv c0_i32_428 c1_i32_430 k0_t1
  let c32_i32_707 : BitVec 32 := 32#32
  let v1560 : BitVec 32 := Scalar.muli arg11 c32_i32_707
  let v1561 : Index := Scalar.indexCast v1560
  let c0_708 : Index := 0#32
  ![21, v1561.toNat, 0]
def k0_off37 (k0_t1 : Fin k0_t1_loop.trips) : Fin 3 → Nat :=
  let c22 : Index := 22#32
  let c0_i32_428 : BitVec 32 := 0#32
  let c1_i32_430 : BitVec 32 := 1#32
  let arg11 : BitVec 32 := Scf.iv c0_i32_428 c1_i32_430 k0_t1
  let c32_i32_721 : BitVec 32 := 32#32
  let v1620 : BitVec 32 := Scalar.muli arg11 c32_i32_721
  let v1621 : Index := Scalar.indexCast v1620
  let c0_722 : Index := 0#32
  ![22, v1621.toNat, 0]
def k0_off38 (k0_t1 : Fin k0_t1_loop.trips) : Fin 3 → Nat :=
  let c23 : Index := 23#32
  let c0_i32_428 : BitVec 32 := 0#32
  let c1_i32_430 : BitVec 32 := 1#32
  let arg11 : BitVec 32 := Scf.iv c0_i32_428 c1_i32_430 k0_t1
  let c32_i32_727 : BitVec 32 := 32#32
  let v1648 : BitVec 32 := Scalar.muli arg11 c32_i32_727
  let v1649 : Index := Scalar.indexCast v1648
  let c0_728 : Index := 0#32
  ![23, v1649.toNat, 0]
def k0_off39 (k0_t1 : Fin k0_t1_loop.trips) : Fin 3 → Nat :=
  let c24_742 : Index := 24#32
  let c0_i32_428 : BitVec 32 := 0#32
  let c1_i32_430 : BitVec 32 := 1#32
  let arg11 : BitVec 32 := Scf.iv c0_i32_428 c1_i32_430 k0_t1
  let c32_i32_741 : BitVec 32 := 32#32
  let v1708 : BitVec 32 := Scalar.muli arg11 c32_i32_741
  let v1709 : Index := Scalar.indexCast v1708
  let c0_743 : Index := 0#32
  ![24, v1709.toNat, 0]
def k0_off40 (k0_t1 : Fin k0_t1_loop.trips) : Fin 3 → Nat :=
  let c25 : Index := 25#32
  let c0_i32_428 : BitVec 32 := 0#32
  let c1_i32_430 : BitVec 32 := 1#32
  let arg11 : BitVec 32 := Scf.iv c0_i32_428 c1_i32_430 k0_t1
  let c32_i32_748 : BitVec 32 := 32#32
  let v1736 : BitVec 32 := Scalar.muli arg11 c32_i32_748
  let v1737 : Index := Scalar.indexCast v1736
  let c0_749 : Index := 0#32
  ![25, v1737.toNat, 0]
def k0_off41 (k0_t1 : Fin k0_t1_loop.trips) : Fin 3 → Nat :=
  let c26 : Index := 26#32
  let c0_i32_428 : BitVec 32 := 0#32
  let c1_i32_430 : BitVec 32 := 1#32
  let arg11 : BitVec 32 := Scf.iv c0_i32_428 c1_i32_430 k0_t1
  let c32_i32_762 : BitVec 32 := 32#32
  let v1796 : BitVec 32 := Scalar.muli arg11 c32_i32_762
  let v1797 : Index := Scalar.indexCast v1796
  let c0_763 : Index := 0#32
  ![26, v1797.toNat, 0]
def k0_off42 (k0_t1 : Fin k0_t1_loop.trips) : Fin 3 → Nat :=
  let c27 : Index := 27#32
  let c0_i32_428 : BitVec 32 := 0#32
  let c1_i32_430 : BitVec 32 := 1#32
  let arg11 : BitVec 32 := Scf.iv c0_i32_428 c1_i32_430 k0_t1
  let c32_i32_768 : BitVec 32 := 32#32
  let v1824 : BitVec 32 := Scalar.muli arg11 c32_i32_768
  let v1825 : Index := Scalar.indexCast v1824
  let c0_769 : Index := 0#32
  ![27, v1825.toNat, 0]
def k0_off43 (k0_t1 : Fin k0_t1_loop.trips) : Fin 3 → Nat :=
  let c28 : Index := 28#32
  let c0_i32_428 : BitVec 32 := 0#32
  let c1_i32_430 : BitVec 32 := 1#32
  let arg11 : BitVec 32 := Scf.iv c0_i32_428 c1_i32_430 k0_t1
  let c32_i32_782 : BitVec 32 := 32#32
  let v1884 : BitVec 32 := Scalar.muli arg11 c32_i32_782
  let v1885 : Index := Scalar.indexCast v1884
  let c0_783 : Index := 0#32
  ![28, v1885.toNat, 0]
def k0_off44 (k0_t1 : Fin k0_t1_loop.trips) : Fin 3 → Nat :=
  let c29 : Index := 29#32
  let c0_i32_428 : BitVec 32 := 0#32
  let c1_i32_430 : BitVec 32 := 1#32
  let arg11 : BitVec 32 := Scf.iv c0_i32_428 c1_i32_430 k0_t1
  let c32_i32_788 : BitVec 32 := 32#32
  let v1912 : BitVec 32 := Scalar.muli arg11 c32_i32_788
  let v1913 : Index := Scalar.indexCast v1912
  let c0_789 : Index := 0#32
  ![29, v1913.toNat, 0]
def k0_off45 (k0_t1 : Fin k0_t1_loop.trips) : Fin 3 → Nat :=
  let c30 : Index := 30#32
  let c0_i32_428 : BitVec 32 := 0#32
  let c1_i32_430 : BitVec 32 := 1#32
  let arg11 : BitVec 32 := Scf.iv c0_i32_428 c1_i32_430 k0_t1
  let c32_i32_802 : BitVec 32 := 32#32
  let v1972 : BitVec 32 := Scalar.muli arg11 c32_i32_802
  let v1973 : Index := Scalar.indexCast v1972
  let c0_803 : Index := 0#32
  ![30, v1973.toNat, 0]
def k0_off46 (k0_t1 : Fin k0_t1_loop.trips) : Fin 3 → Nat :=
  let c31 : Index := 31#32
  let c0_i32_428 : BitVec 32 := 0#32
  let c1_i32_430 : BitVec 32 := 1#32
  let arg11 : BitVec 32 := Scf.iv c0_i32_428 c1_i32_430 k0_t1
  let c32_i32_808 : BitVec 32 := 32#32
  let v2000 : BitVec 32 := Scalar.muli arg11 c32_i32_808
  let v2001 : Index := Scalar.indexCast v2000
  let c0_809 : Index := 0#32
  ![31, v2001.toNat, 0]
def k0_off47 (k0_t1 : Fin k0_t1_loop.trips) : Fin 3 → Nat :=
  let c32_827 : Index := 32#32
  let c0_i32_428 : BitVec 32 := 0#32
  let c1_i32_430 : BitVec 32 := 1#32
  let arg11 : BitVec 32 := Scf.iv c0_i32_428 c1_i32_430 k0_t1
  let c32_i32_826 : BitVec 32 := 32#32
  let v2071 : BitVec 32 := Scalar.muli arg11 c32_i32_826
  let v2072 : Index := Scalar.indexCast v2071
  let c0_828 : Index := 0#32
  ![32, v2072.toNat, 0]
def k0_off48 (k0_t1 : Fin k0_t1_loop.trips) : Fin 3 → Nat :=
  let c33 : Index := 33#32
  let c0_i32_428 : BitVec 32 := 0#32
  let c1_i32_430 : BitVec 32 := 1#32
  let arg11 : BitVec 32 := Scf.iv c0_i32_428 c1_i32_430 k0_t1
  let c32_i32_833 : BitVec 32 := 32#32
  let v2099 : BitVec 32 := Scalar.muli arg11 c32_i32_833
  let v2100 : Index := Scalar.indexCast v2099
  let c0_834 : Index := 0#32
  ![33, v2100.toNat, 0]
def k0_off49 (k0_t1 : Fin k0_t1_loop.trips) : Fin 3 → Nat :=
  let c34 : Index := 34#32
  let c0_i32_428 : BitVec 32 := 0#32
  let c1_i32_430 : BitVec 32 := 1#32
  let arg11 : BitVec 32 := Scf.iv c0_i32_428 c1_i32_430 k0_t1
  let c32_i32_847 : BitVec 32 := 32#32
  let v2159 : BitVec 32 := Scalar.muli arg11 c32_i32_847
  let v2160 : Index := Scalar.indexCast v2159
  let c0_848 : Index := 0#32
  ![34, v2160.toNat, 0]
def k0_off50 (k0_t1 : Fin k0_t1_loop.trips) : Fin 3 → Nat :=
  let c35 : Index := 35#32
  let c0_i32_428 : BitVec 32 := 0#32
  let c1_i32_430 : BitVec 32 := 1#32
  let arg11 : BitVec 32 := Scf.iv c0_i32_428 c1_i32_430 k0_t1
  let c32_i32_853 : BitVec 32 := 32#32
  let v2187 : BitVec 32 := Scalar.muli arg11 c32_i32_853
  let v2188 : Index := Scalar.indexCast v2187
  let c0_854 : Index := 0#32
  ![35, v2188.toNat, 0]
def k0_off51 (k0_t1 : Fin k0_t1_loop.trips) : Fin 3 → Nat :=
  let c36 : Index := 36#32
  let c0_i32_428 : BitVec 32 := 0#32
  let c1_i32_430 : BitVec 32 := 1#32
  let arg11 : BitVec 32 := Scf.iv c0_i32_428 c1_i32_430 k0_t1
  let c32_i32_867 : BitVec 32 := 32#32
  let v2247 : BitVec 32 := Scalar.muli arg11 c32_i32_867
  let v2248 : Index := Scalar.indexCast v2247
  let c0_868 : Index := 0#32
  ![36, v2248.toNat, 0]
def k0_off52 (k0_t1 : Fin k0_t1_loop.trips) : Fin 3 → Nat :=
  let c37 : Index := 37#32
  let c0_i32_428 : BitVec 32 := 0#32
  let c1_i32_430 : BitVec 32 := 1#32
  let arg11 : BitVec 32 := Scf.iv c0_i32_428 c1_i32_430 k0_t1
  let c32_i32_873 : BitVec 32 := 32#32
  let v2275 : BitVec 32 := Scalar.muli arg11 c32_i32_873
  let v2276 : Index := Scalar.indexCast v2275
  let c0_874 : Index := 0#32
  ![37, v2276.toNat, 0]
def k0_off53 (k0_t1 : Fin k0_t1_loop.trips) : Fin 3 → Nat :=
  let c38 : Index := 38#32
  let c0_i32_428 : BitVec 32 := 0#32
  let c1_i32_430 : BitVec 32 := 1#32
  let arg11 : BitVec 32 := Scf.iv c0_i32_428 c1_i32_430 k0_t1
  let c32_i32_887 : BitVec 32 := 32#32
  let v2335 : BitVec 32 := Scalar.muli arg11 c32_i32_887
  let v2336 : Index := Scalar.indexCast v2335
  let c0_888 : Index := 0#32
  ![38, v2336.toNat, 0]
def k0_off54 (k0_t1 : Fin k0_t1_loop.trips) : Fin 3 → Nat :=
  let c39 : Index := 39#32
  let c0_i32_428 : BitVec 32 := 0#32
  let c1_i32_430 : BitVec 32 := 1#32
  let arg11 : BitVec 32 := Scf.iv c0_i32_428 c1_i32_430 k0_t1
  let c32_i32_893 : BitVec 32 := 32#32
  let v2363 : BitVec 32 := Scalar.muli arg11 c32_i32_893
  let v2364 : Index := Scalar.indexCast v2363
  let c0_894 : Index := 0#32
  ![39, v2364.toNat, 0]
def k0_off55 (k0_t1 : Fin k0_t1_loop.trips) : Fin 3 → Nat :=
  let c40_908 : Index := 40#32
  let c0_i32_428 : BitVec 32 := 0#32
  let c1_i32_430 : BitVec 32 := 1#32
  let arg11 : BitVec 32 := Scf.iv c0_i32_428 c1_i32_430 k0_t1
  let c32_i32_907 : BitVec 32 := 32#32
  let v2423 : BitVec 32 := Scalar.muli arg11 c32_i32_907
  let v2424 : Index := Scalar.indexCast v2423
  let c0_909 : Index := 0#32
  ![40, v2424.toNat, 0]
def k0_off56 (k0_t1 : Fin k0_t1_loop.trips) : Fin 3 → Nat :=
  let c41 : Index := 41#32
  let c0_i32_428 : BitVec 32 := 0#32
  let c1_i32_430 : BitVec 32 := 1#32
  let arg11 : BitVec 32 := Scf.iv c0_i32_428 c1_i32_430 k0_t1
  let c32_i32_914 : BitVec 32 := 32#32
  let v2451 : BitVec 32 := Scalar.muli arg11 c32_i32_914
  let v2452 : Index := Scalar.indexCast v2451
  let c0_915 : Index := 0#32
  ![41, v2452.toNat, 0]
def k0_off57 (k0_t1 : Fin k0_t1_loop.trips) : Fin 3 → Nat :=
  let c42 : Index := 42#32
  let c0_i32_428 : BitVec 32 := 0#32
  let c1_i32_430 : BitVec 32 := 1#32
  let arg11 : BitVec 32 := Scf.iv c0_i32_428 c1_i32_430 k0_t1
  let c32_i32_928 : BitVec 32 := 32#32
  let v2511 : BitVec 32 := Scalar.muli arg11 c32_i32_928
  let v2512 : Index := Scalar.indexCast v2511
  let c0_929 : Index := 0#32
  ![42, v2512.toNat, 0]
def k0_off58 (k0_t1 : Fin k0_t1_loop.trips) : Fin 3 → Nat :=
  let c43 : Index := 43#32
  let c0_i32_428 : BitVec 32 := 0#32
  let c1_i32_430 : BitVec 32 := 1#32
  let arg11 : BitVec 32 := Scf.iv c0_i32_428 c1_i32_430 k0_t1
  let c32_i32_934 : BitVec 32 := 32#32
  let v2539 : BitVec 32 := Scalar.muli arg11 c32_i32_934
  let v2540 : Index := Scalar.indexCast v2539
  let c0_935 : Index := 0#32
  ![43, v2540.toNat, 0]
def k0_off59 (k0_t1 : Fin k0_t1_loop.trips) : Fin 3 → Nat :=
  let c44 : Index := 44#32
  let c0_i32_428 : BitVec 32 := 0#32
  let c1_i32_430 : BitVec 32 := 1#32
  let arg11 : BitVec 32 := Scf.iv c0_i32_428 c1_i32_430 k0_t1
  let c32_i32_948 : BitVec 32 := 32#32
  let v2599 : BitVec 32 := Scalar.muli arg11 c32_i32_948
  let v2600 : Index := Scalar.indexCast v2599
  let c0_949 : Index := 0#32
  ![44, v2600.toNat, 0]
def k0_off60 (k0_t1 : Fin k0_t1_loop.trips) : Fin 3 → Nat :=
  let c45 : Index := 45#32
  let c0_i32_428 : BitVec 32 := 0#32
  let c1_i32_430 : BitVec 32 := 1#32
  let arg11 : BitVec 32 := Scf.iv c0_i32_428 c1_i32_430 k0_t1
  let c32_i32_954 : BitVec 32 := 32#32
  let v2627 : BitVec 32 := Scalar.muli arg11 c32_i32_954
  let v2628 : Index := Scalar.indexCast v2627
  let c0_955 : Index := 0#32
  ![45, v2628.toNat, 0]
def k0_off61 (k0_t1 : Fin k0_t1_loop.trips) : Fin 3 → Nat :=
  let c46 : Index := 46#32
  let c0_i32_428 : BitVec 32 := 0#32
  let c1_i32_430 : BitVec 32 := 1#32
  let arg11 : BitVec 32 := Scf.iv c0_i32_428 c1_i32_430 k0_t1
  let c32_i32_968 : BitVec 32 := 32#32
  let v2687 : BitVec 32 := Scalar.muli arg11 c32_i32_968
  let v2688 : Index := Scalar.indexCast v2687
  let c0_969 : Index := 0#32
  ![46, v2688.toNat, 0]
def k0_off62 (k0_t1 : Fin k0_t1_loop.trips) : Fin 3 → Nat :=
  let c47 : Index := 47#32
  let c0_i32_428 : BitVec 32 := 0#32
  let c1_i32_430 : BitVec 32 := 1#32
  let arg11 : BitVec 32 := Scf.iv c0_i32_428 c1_i32_430 k0_t1
  let c32_i32_974 : BitVec 32 := 32#32
  let v2715 : BitVec 32 := Scalar.muli arg11 c32_i32_974
  let v2716 : Index := Scalar.indexCast v2715
  let c0_975 : Index := 0#32
  ![47, v2716.toNat, 0]
def k0_off63 (k0_t1 : Fin k0_t1_loop.trips) : Fin 3 → Nat :=
  let c48_993 : Index := 48#32
  let c0_i32_428 : BitVec 32 := 0#32
  let c1_i32_430 : BitVec 32 := 1#32
  let arg11 : BitVec 32 := Scf.iv c0_i32_428 c1_i32_430 k0_t1
  let c32_i32_992 : BitVec 32 := 32#32
  let v2786 : BitVec 32 := Scalar.muli arg11 c32_i32_992
  let v2787 : Index := Scalar.indexCast v2786
  let c0_994 : Index := 0#32
  ![48, v2787.toNat, 0]
def k0_off64 (k0_t1 : Fin k0_t1_loop.trips) : Fin 3 → Nat :=
  let c49 : Index := 49#32
  let c0_i32_428 : BitVec 32 := 0#32
  let c1_i32_430 : BitVec 32 := 1#32
  let arg11 : BitVec 32 := Scf.iv c0_i32_428 c1_i32_430 k0_t1
  let c32_i32_999 : BitVec 32 := 32#32
  let v2814 : BitVec 32 := Scalar.muli arg11 c32_i32_999
  let v2815 : Index := Scalar.indexCast v2814
  let c0_1000 : Index := 0#32
  ![49, v2815.toNat, 0]
def k0_off65 (k0_t1 : Fin k0_t1_loop.trips) : Fin 3 → Nat :=
  let c50 : Index := 50#32
  let c0_i32_428 : BitVec 32 := 0#32
  let c1_i32_430 : BitVec 32 := 1#32
  let arg11 : BitVec 32 := Scf.iv c0_i32_428 c1_i32_430 k0_t1
  let c32_i32_1013 : BitVec 32 := 32#32
  let v2874 : BitVec 32 := Scalar.muli arg11 c32_i32_1013
  let v2875 : Index := Scalar.indexCast v2874
  let c0_1014 : Index := 0#32
  ![50, v2875.toNat, 0]
def k0_off66 (k0_t1 : Fin k0_t1_loop.trips) : Fin 3 → Nat :=
  let c51 : Index := 51#32
  let c0_i32_428 : BitVec 32 := 0#32
  let c1_i32_430 : BitVec 32 := 1#32
  let arg11 : BitVec 32 := Scf.iv c0_i32_428 c1_i32_430 k0_t1
  let c32_i32_1019 : BitVec 32 := 32#32
  let v2902 : BitVec 32 := Scalar.muli arg11 c32_i32_1019
  let v2903 : Index := Scalar.indexCast v2902
  let c0_1020 : Index := 0#32
  ![51, v2903.toNat, 0]
def k0_off67 (k0_t1 : Fin k0_t1_loop.trips) : Fin 3 → Nat :=
  let c52 : Index := 52#32
  let c0_i32_428 : BitVec 32 := 0#32
  let c1_i32_430 : BitVec 32 := 1#32
  let arg11 : BitVec 32 := Scf.iv c0_i32_428 c1_i32_430 k0_t1
  let c32_i32_1033 : BitVec 32 := 32#32
  let v2962 : BitVec 32 := Scalar.muli arg11 c32_i32_1033
  let v2963 : Index := Scalar.indexCast v2962
  let c0_1034 : Index := 0#32
  ![52, v2963.toNat, 0]
def k0_off68 (k0_t1 : Fin k0_t1_loop.trips) : Fin 3 → Nat :=
  let c53 : Index := 53#32
  let c0_i32_428 : BitVec 32 := 0#32
  let c1_i32_430 : BitVec 32 := 1#32
  let arg11 : BitVec 32 := Scf.iv c0_i32_428 c1_i32_430 k0_t1
  let c32_i32_1039 : BitVec 32 := 32#32
  let v2990 : BitVec 32 := Scalar.muli arg11 c32_i32_1039
  let v2991 : Index := Scalar.indexCast v2990
  let c0_1040 : Index := 0#32
  ![53, v2991.toNat, 0]
def k0_off69 (k0_t1 : Fin k0_t1_loop.trips) : Fin 3 → Nat :=
  let c54 : Index := 54#32
  let c0_i32_428 : BitVec 32 := 0#32
  let c1_i32_430 : BitVec 32 := 1#32
  let arg11 : BitVec 32 := Scf.iv c0_i32_428 c1_i32_430 k0_t1
  let c32_i32_1053 : BitVec 32 := 32#32
  let v3050 : BitVec 32 := Scalar.muli arg11 c32_i32_1053
  let v3051 : Index := Scalar.indexCast v3050
  let c0_1054 : Index := 0#32
  ![54, v3051.toNat, 0]
def k0_off70 (k0_t1 : Fin k0_t1_loop.trips) : Fin 3 → Nat :=
  let c55 : Index := 55#32
  let c0_i32_428 : BitVec 32 := 0#32
  let c1_i32_430 : BitVec 32 := 1#32
  let arg11 : BitVec 32 := Scf.iv c0_i32_428 c1_i32_430 k0_t1
  let c32_i32_1059 : BitVec 32 := 32#32
  let v3078 : BitVec 32 := Scalar.muli arg11 c32_i32_1059
  let v3079 : Index := Scalar.indexCast v3078
  let c0_1060 : Index := 0#32
  ![55, v3079.toNat, 0]
def k0_off71 (k0_t1 : Fin k0_t1_loop.trips) : Fin 3 → Nat :=
  let c56_1074 : Index := 56#32
  let c0_i32_428 : BitVec 32 := 0#32
  let c1_i32_430 : BitVec 32 := 1#32
  let arg11 : BitVec 32 := Scf.iv c0_i32_428 c1_i32_430 k0_t1
  let c32_i32_1073 : BitVec 32 := 32#32
  let v3138 : BitVec 32 := Scalar.muli arg11 c32_i32_1073
  let v3139 : Index := Scalar.indexCast v3138
  let c0_1075 : Index := 0#32
  ![56, v3139.toNat, 0]
def k0_off72 (k0_t1 : Fin k0_t1_loop.trips) : Fin 3 → Nat :=
  let c57 : Index := 57#32
  let c0_i32_428 : BitVec 32 := 0#32
  let c1_i32_430 : BitVec 32 := 1#32
  let arg11 : BitVec 32 := Scf.iv c0_i32_428 c1_i32_430 k0_t1
  let c32_i32_1080 : BitVec 32 := 32#32
  let v3166 : BitVec 32 := Scalar.muli arg11 c32_i32_1080
  let v3167 : Index := Scalar.indexCast v3166
  let c0_1081 : Index := 0#32
  ![57, v3167.toNat, 0]
def k0_off73 (k0_t1 : Fin k0_t1_loop.trips) : Fin 3 → Nat :=
  let c58 : Index := 58#32
  let c0_i32_428 : BitVec 32 := 0#32
  let c1_i32_430 : BitVec 32 := 1#32
  let arg11 : BitVec 32 := Scf.iv c0_i32_428 c1_i32_430 k0_t1
  let c32_i32_1094 : BitVec 32 := 32#32
  let v3226 : BitVec 32 := Scalar.muli arg11 c32_i32_1094
  let v3227 : Index := Scalar.indexCast v3226
  let c0_1095 : Index := 0#32
  ![58, v3227.toNat, 0]
def k0_off74 (k0_t1 : Fin k0_t1_loop.trips) : Fin 3 → Nat :=
  let c59 : Index := 59#32
  let c0_i32_428 : BitVec 32 := 0#32
  let c1_i32_430 : BitVec 32 := 1#32
  let arg11 : BitVec 32 := Scf.iv c0_i32_428 c1_i32_430 k0_t1
  let c32_i32_1100 : BitVec 32 := 32#32
  let v3254 : BitVec 32 := Scalar.muli arg11 c32_i32_1100
  let v3255 : Index := Scalar.indexCast v3254
  let c0_1101 : Index := 0#32
  ![59, v3255.toNat, 0]
def k0_off75 (k0_t1 : Fin k0_t1_loop.trips) : Fin 3 → Nat :=
  let c60 : Index := 60#32
  let c0_i32_428 : BitVec 32 := 0#32
  let c1_i32_430 : BitVec 32 := 1#32
  let arg11 : BitVec 32 := Scf.iv c0_i32_428 c1_i32_430 k0_t1
  let c32_i32_1114 : BitVec 32 := 32#32
  let v3314 : BitVec 32 := Scalar.muli arg11 c32_i32_1114
  let v3315 : Index := Scalar.indexCast v3314
  let c0_1115 : Index := 0#32
  ![60, v3315.toNat, 0]
def k0_off76 (k0_t1 : Fin k0_t1_loop.trips) : Fin 3 → Nat :=
  let c61 : Index := 61#32
  let c0_i32_428 : BitVec 32 := 0#32
  let c1_i32_430 : BitVec 32 := 1#32
  let arg11 : BitVec 32 := Scf.iv c0_i32_428 c1_i32_430 k0_t1
  let c32_i32_1120 : BitVec 32 := 32#32
  let v3342 : BitVec 32 := Scalar.muli arg11 c32_i32_1120
  let v3343 : Index := Scalar.indexCast v3342
  let c0_1121 : Index := 0#32
  ![61, v3343.toNat, 0]
def k0_off77 (k0_t1 : Fin k0_t1_loop.trips) : Fin 3 → Nat :=
  let c62 : Index := 62#32
  let c0_i32_428 : BitVec 32 := 0#32
  let c1_i32_430 : BitVec 32 := 1#32
  let arg11 : BitVec 32 := Scf.iv c0_i32_428 c1_i32_430 k0_t1
  let c32_i32_1134 : BitVec 32 := 32#32
  let v3402 : BitVec 32 := Scalar.muli arg11 c32_i32_1134
  let v3403 : Index := Scalar.indexCast v3402
  let c0_1135 : Index := 0#32
  ![62, v3403.toNat, 0]
def k0_off78 (k0_t1 : Fin k0_t1_loop.trips) : Fin 3 → Nat :=
  let c63 : Index := 63#32
  let c0_i32_428 : BitVec 32 := 0#32
  let c1_i32_430 : BitVec 32 := 1#32
  let arg11 : BitVec 32 := Scf.iv c0_i32_428 c1_i32_430 k0_t1
  let c32_i32_1140 : BitVec 32 := 32#32
  let v3430 : BitVec 32 := Scalar.muli arg11 c32_i32_1140
  let v3431 : Index := Scalar.indexCast v3430
  let c0_1141 : Index := 0#32
  ![63, v3431.toNat, 0]
def k0_off79 (k0_t1 : Fin k0_t1_loop.trips) : Fin 3 → Nat :=
  let c64_1159 : Index := 64#32
  let c0_i32_428 : BitVec 32 := 0#32
  let c1_i32_430 : BitVec 32 := 1#32
  let arg11 : BitVec 32 := Scf.iv c0_i32_428 c1_i32_430 k0_t1
  let c32_i32_1158 : BitVec 32 := 32#32
  let v3501 : BitVec 32 := Scalar.muli arg11 c32_i32_1158
  let v3502 : Index := Scalar.indexCast v3501
  let c0_1160 : Index := 0#32
  ![64, v3502.toNat, 0]
def k0_off80 (k0_t1 : Fin k0_t1_loop.trips) : Fin 3 → Nat :=
  let c65 : Index := 65#32
  let c0_i32_428 : BitVec 32 := 0#32
  let c1_i32_430 : BitVec 32 := 1#32
  let arg11 : BitVec 32 := Scf.iv c0_i32_428 c1_i32_430 k0_t1
  let c32_i32_1165 : BitVec 32 := 32#32
  let v3529 : BitVec 32 := Scalar.muli arg11 c32_i32_1165
  let v3530 : Index := Scalar.indexCast v3529
  let c0_1166 : Index := 0#32
  ![65, v3530.toNat, 0]
def k0_off81 (k0_t1 : Fin k0_t1_loop.trips) : Fin 3 → Nat :=
  let c66 : Index := 66#32
  let c0_i32_428 : BitVec 32 := 0#32
  let c1_i32_430 : BitVec 32 := 1#32
  let arg11 : BitVec 32 := Scf.iv c0_i32_428 c1_i32_430 k0_t1
  let c32_i32_1179 : BitVec 32 := 32#32
  let v3589 : BitVec 32 := Scalar.muli arg11 c32_i32_1179
  let v3590 : Index := Scalar.indexCast v3589
  let c0_1180 : Index := 0#32
  ![66, v3590.toNat, 0]
def k0_off82 (k0_t1 : Fin k0_t1_loop.trips) : Fin 3 → Nat :=
  let c67 : Index := 67#32
  let c0_i32_428 : BitVec 32 := 0#32
  let c1_i32_430 : BitVec 32 := 1#32
  let arg11 : BitVec 32 := Scf.iv c0_i32_428 c1_i32_430 k0_t1
  let c32_i32_1185 : BitVec 32 := 32#32
  let v3617 : BitVec 32 := Scalar.muli arg11 c32_i32_1185
  let v3618 : Index := Scalar.indexCast v3617
  let c0_1186 : Index := 0#32
  ![67, v3618.toNat, 0]
def k0_off83 (k0_t1 : Fin k0_t1_loop.trips) : Fin 3 → Nat :=
  let c68 : Index := 68#32
  let c0_i32_428 : BitVec 32 := 0#32
  let c1_i32_430 : BitVec 32 := 1#32
  let arg11 : BitVec 32 := Scf.iv c0_i32_428 c1_i32_430 k0_t1
  let c32_i32_1199 : BitVec 32 := 32#32
  let v3677 : BitVec 32 := Scalar.muli arg11 c32_i32_1199
  let v3678 : Index := Scalar.indexCast v3677
  let c0_1200 : Index := 0#32
  ![68, v3678.toNat, 0]
def k0_off84 (k0_t1 : Fin k0_t1_loop.trips) : Fin 3 → Nat :=
  let c69 : Index := 69#32
  let c0_i32_428 : BitVec 32 := 0#32
  let c1_i32_430 : BitVec 32 := 1#32
  let arg11 : BitVec 32 := Scf.iv c0_i32_428 c1_i32_430 k0_t1
  let c32_i32_1205 : BitVec 32 := 32#32
  let v3705 : BitVec 32 := Scalar.muli arg11 c32_i32_1205
  let v3706 : Index := Scalar.indexCast v3705
  let c0_1206 : Index := 0#32
  ![69, v3706.toNat, 0]
def k0_off85 (k0_t1 : Fin k0_t1_loop.trips) : Fin 3 → Nat :=
  let c70 : Index := 70#32
  let c0_i32_428 : BitVec 32 := 0#32
  let c1_i32_430 : BitVec 32 := 1#32
  let arg11 : BitVec 32 := Scf.iv c0_i32_428 c1_i32_430 k0_t1
  let c32_i32_1219 : BitVec 32 := 32#32
  let v3765 : BitVec 32 := Scalar.muli arg11 c32_i32_1219
  let v3766 : Index := Scalar.indexCast v3765
  let c0_1220 : Index := 0#32
  ![70, v3766.toNat, 0]
def k0_off86 (k0_t1 : Fin k0_t1_loop.trips) : Fin 3 → Nat :=
  let c71 : Index := 71#32
  let c0_i32_428 : BitVec 32 := 0#32
  let c1_i32_430 : BitVec 32 := 1#32
  let arg11 : BitVec 32 := Scf.iv c0_i32_428 c1_i32_430 k0_t1
  let c32_i32_1225 : BitVec 32 := 32#32
  let v3793 : BitVec 32 := Scalar.muli arg11 c32_i32_1225
  let v3794 : Index := Scalar.indexCast v3793
  let c0_1226 : Index := 0#32
  ![71, v3794.toNat, 0]
def k0_off87 (k0_t1 : Fin k0_t1_loop.trips) : Fin 3 → Nat :=
  let c72_1240 : Index := 72#32
  let c0_i32_428 : BitVec 32 := 0#32
  let c1_i32_430 : BitVec 32 := 1#32
  let arg11 : BitVec 32 := Scf.iv c0_i32_428 c1_i32_430 k0_t1
  let c32_i32_1239 : BitVec 32 := 32#32
  let v3853 : BitVec 32 := Scalar.muli arg11 c32_i32_1239
  let v3854 : Index := Scalar.indexCast v3853
  let c0_1241 : Index := 0#32
  ![72, v3854.toNat, 0]
def k0_off88 (k0_t1 : Fin k0_t1_loop.trips) : Fin 3 → Nat :=
  let c73 : Index := 73#32
  let c0_i32_428 : BitVec 32 := 0#32
  let c1_i32_430 : BitVec 32 := 1#32
  let arg11 : BitVec 32 := Scf.iv c0_i32_428 c1_i32_430 k0_t1
  let c32_i32_1246 : BitVec 32 := 32#32
  let v3881 : BitVec 32 := Scalar.muli arg11 c32_i32_1246
  let v3882 : Index := Scalar.indexCast v3881
  let c0_1247 : Index := 0#32
  ![73, v3882.toNat, 0]
def k0_off89 (k0_t1 : Fin k0_t1_loop.trips) : Fin 3 → Nat :=
  let c74 : Index := 74#32
  let c0_i32_428 : BitVec 32 := 0#32
  let c1_i32_430 : BitVec 32 := 1#32
  let arg11 : BitVec 32 := Scf.iv c0_i32_428 c1_i32_430 k0_t1
  let c32_i32_1260 : BitVec 32 := 32#32
  let v3941 : BitVec 32 := Scalar.muli arg11 c32_i32_1260
  let v3942 : Index := Scalar.indexCast v3941
  let c0_1261 : Index := 0#32
  ![74, v3942.toNat, 0]
def k0_off90 (k0_t1 : Fin k0_t1_loop.trips) : Fin 3 → Nat :=
  let c75 : Index := 75#32
  let c0_i32_428 : BitVec 32 := 0#32
  let c1_i32_430 : BitVec 32 := 1#32
  let arg11 : BitVec 32 := Scf.iv c0_i32_428 c1_i32_430 k0_t1
  let c32_i32_1266 : BitVec 32 := 32#32
  let v3969 : BitVec 32 := Scalar.muli arg11 c32_i32_1266
  let v3970 : Index := Scalar.indexCast v3969
  let c0_1267 : Index := 0#32
  ![75, v3970.toNat, 0]
def k0_off91 (k0_t1 : Fin k0_t1_loop.trips) : Fin 3 → Nat :=
  let c76 : Index := 76#32
  let c0_i32_428 : BitVec 32 := 0#32
  let c1_i32_430 : BitVec 32 := 1#32
  let arg11 : BitVec 32 := Scf.iv c0_i32_428 c1_i32_430 k0_t1
  let c32_i32_1280 : BitVec 32 := 32#32
  let v4029 : BitVec 32 := Scalar.muli arg11 c32_i32_1280
  let v4030 : Index := Scalar.indexCast v4029
  let c0_1281 : Index := 0#32
  ![76, v4030.toNat, 0]
def k0_off92 (k0_t1 : Fin k0_t1_loop.trips) : Fin 3 → Nat :=
  let c77 : Index := 77#32
  let c0_i32_428 : BitVec 32 := 0#32
  let c1_i32_430 : BitVec 32 := 1#32
  let arg11 : BitVec 32 := Scf.iv c0_i32_428 c1_i32_430 k0_t1
  let c32_i32_1286 : BitVec 32 := 32#32
  let v4057 : BitVec 32 := Scalar.muli arg11 c32_i32_1286
  let v4058 : Index := Scalar.indexCast v4057
  let c0_1287 : Index := 0#32
  ![77, v4058.toNat, 0]
def k0_off93 (k0_t1 : Fin k0_t1_loop.trips) : Fin 3 → Nat :=
  let c78 : Index := 78#32
  let c0_i32_428 : BitVec 32 := 0#32
  let c1_i32_430 : BitVec 32 := 1#32
  let arg11 : BitVec 32 := Scf.iv c0_i32_428 c1_i32_430 k0_t1
  let c32_i32_1300 : BitVec 32 := 32#32
  let v4117 : BitVec 32 := Scalar.muli arg11 c32_i32_1300
  let v4118 : Index := Scalar.indexCast v4117
  let c0_1301 : Index := 0#32
  ![78, v4118.toNat, 0]
def k0_off94 (k0_t1 : Fin k0_t1_loop.trips) : Fin 3 → Nat :=
  let c79 : Index := 79#32
  let c0_i32_428 : BitVec 32 := 0#32
  let c1_i32_430 : BitVec 32 := 1#32
  let arg11 : BitVec 32 := Scf.iv c0_i32_428 c1_i32_430 k0_t1
  let c32_i32_1306 : BitVec 32 := 32#32
  let v4145 : BitVec 32 := Scalar.muli arg11 c32_i32_1306
  let v4146 : Index := Scalar.indexCast v4145
  let c0_1307 : Index := 0#32
  ![79, v4146.toNat, 0]
def k0_off95 (k0_t1 : Fin k0_t1_loop.trips) : Fin 3 → Nat :=
  let c80_1325 : Index := 80#32
  let c0_i32_428 : BitVec 32 := 0#32
  let c1_i32_430 : BitVec 32 := 1#32
  let arg11 : BitVec 32 := Scf.iv c0_i32_428 c1_i32_430 k0_t1
  let c32_i32_1324 : BitVec 32 := 32#32
  let v4216 : BitVec 32 := Scalar.muli arg11 c32_i32_1324
  let v4217 : Index := Scalar.indexCast v4216
  let c0_1326 : Index := 0#32
  ![80, v4217.toNat, 0]
def k0_off96 (k0_t1 : Fin k0_t1_loop.trips) : Fin 3 → Nat :=
  let c81 : Index := 81#32
  let c0_i32_428 : BitVec 32 := 0#32
  let c1_i32_430 : BitVec 32 := 1#32
  let arg11 : BitVec 32 := Scf.iv c0_i32_428 c1_i32_430 k0_t1
  let c32_i32_1331 : BitVec 32 := 32#32
  let v4244 : BitVec 32 := Scalar.muli arg11 c32_i32_1331
  let v4245 : Index := Scalar.indexCast v4244
  let c0_1332 : Index := 0#32
  ![81, v4245.toNat, 0]
def k0_off97 (k0_t1 : Fin k0_t1_loop.trips) : Fin 3 → Nat :=
  let c82 : Index := 82#32
  let c0_i32_428 : BitVec 32 := 0#32
  let c1_i32_430 : BitVec 32 := 1#32
  let arg11 : BitVec 32 := Scf.iv c0_i32_428 c1_i32_430 k0_t1
  let c32_i32_1345 : BitVec 32 := 32#32
  let v4304 : BitVec 32 := Scalar.muli arg11 c32_i32_1345
  let v4305 : Index := Scalar.indexCast v4304
  let c0_1346 : Index := 0#32
  ![82, v4305.toNat, 0]
def k0_off98 (k0_t1 : Fin k0_t1_loop.trips) : Fin 3 → Nat :=
  let c83 : Index := 83#32
  let c0_i32_428 : BitVec 32 := 0#32
  let c1_i32_430 : BitVec 32 := 1#32
  let arg11 : BitVec 32 := Scf.iv c0_i32_428 c1_i32_430 k0_t1
  let c32_i32_1351 : BitVec 32 := 32#32
  let v4332 : BitVec 32 := Scalar.muli arg11 c32_i32_1351
  let v4333 : Index := Scalar.indexCast v4332
  let c0_1352 : Index := 0#32
  ![83, v4333.toNat, 0]
def k0_off99 (k0_t1 : Fin k0_t1_loop.trips) : Fin 3 → Nat :=
  let c84 : Index := 84#32
  let c0_i32_428 : BitVec 32 := 0#32
  let c1_i32_430 : BitVec 32 := 1#32
  let arg11 : BitVec 32 := Scf.iv c0_i32_428 c1_i32_430 k0_t1
  let c32_i32_1365 : BitVec 32 := 32#32
  let v4392 : BitVec 32 := Scalar.muli arg11 c32_i32_1365
  let v4393 : Index := Scalar.indexCast v4392
  let c0_1366 : Index := 0#32
  ![84, v4393.toNat, 0]
def k0_off100 (k0_t1 : Fin k0_t1_loop.trips) : Fin 3 → Nat :=
  let c85 : Index := 85#32
  let c0_i32_428 : BitVec 32 := 0#32
  let c1_i32_430 : BitVec 32 := 1#32
  let arg11 : BitVec 32 := Scf.iv c0_i32_428 c1_i32_430 k0_t1
  let c32_i32_1371 : BitVec 32 := 32#32
  let v4420 : BitVec 32 := Scalar.muli arg11 c32_i32_1371
  let v4421 : Index := Scalar.indexCast v4420
  let c0_1372 : Index := 0#32
  ![85, v4421.toNat, 0]
def k0_off101 (k0_t1 : Fin k0_t1_loop.trips) : Fin 3 → Nat :=
  let c86 : Index := 86#32
  let c0_i32_428 : BitVec 32 := 0#32
  let c1_i32_430 : BitVec 32 := 1#32
  let arg11 : BitVec 32 := Scf.iv c0_i32_428 c1_i32_430 k0_t1
  let c32_i32_1385 : BitVec 32 := 32#32
  let v4480 : BitVec 32 := Scalar.muli arg11 c32_i32_1385
  let v4481 : Index := Scalar.indexCast v4480
  let c0_1386 : Index := 0#32
  ![86, v4481.toNat, 0]
def k0_off102 (k0_t1 : Fin k0_t1_loop.trips) : Fin 3 → Nat :=
  let c87 : Index := 87#32
  let c0_i32_428 : BitVec 32 := 0#32
  let c1_i32_430 : BitVec 32 := 1#32
  let arg11 : BitVec 32 := Scf.iv c0_i32_428 c1_i32_430 k0_t1
  let c32_i32_1391 : BitVec 32 := 32#32
  let v4508 : BitVec 32 := Scalar.muli arg11 c32_i32_1391
  let v4509 : Index := Scalar.indexCast v4508
  let c0_1392 : Index := 0#32
  ![87, v4509.toNat, 0]
def k0_off103 (k0_t1 : Fin k0_t1_loop.trips) : Fin 3 → Nat :=
  let c88_1406 : Index := 88#32
  let c0_i32_428 : BitVec 32 := 0#32
  let c1_i32_430 : BitVec 32 := 1#32
  let arg11 : BitVec 32 := Scf.iv c0_i32_428 c1_i32_430 k0_t1
  let c32_i32_1405 : BitVec 32 := 32#32
  let v4568 : BitVec 32 := Scalar.muli arg11 c32_i32_1405
  let v4569 : Index := Scalar.indexCast v4568
  let c0_1407 : Index := 0#32
  ![88, v4569.toNat, 0]
def k0_off104 (k0_t1 : Fin k0_t1_loop.trips) : Fin 3 → Nat :=
  let c89 : Index := 89#32
  let c0_i32_428 : BitVec 32 := 0#32
  let c1_i32_430 : BitVec 32 := 1#32
  let arg11 : BitVec 32 := Scf.iv c0_i32_428 c1_i32_430 k0_t1
  let c32_i32_1412 : BitVec 32 := 32#32
  let v4596 : BitVec 32 := Scalar.muli arg11 c32_i32_1412
  let v4597 : Index := Scalar.indexCast v4596
  let c0_1413 : Index := 0#32
  ![89, v4597.toNat, 0]
def k0_off105 (k0_t1 : Fin k0_t1_loop.trips) : Fin 3 → Nat :=
  let c90 : Index := 90#32
  let c0_i32_428 : BitVec 32 := 0#32
  let c1_i32_430 : BitVec 32 := 1#32
  let arg11 : BitVec 32 := Scf.iv c0_i32_428 c1_i32_430 k0_t1
  let c32_i32_1426 : BitVec 32 := 32#32
  let v4656 : BitVec 32 := Scalar.muli arg11 c32_i32_1426
  let v4657 : Index := Scalar.indexCast v4656
  let c0_1427 : Index := 0#32
  ![90, v4657.toNat, 0]
def k0_off106 (k0_t1 : Fin k0_t1_loop.trips) : Fin 3 → Nat :=
  let c91 : Index := 91#32
  let c0_i32_428 : BitVec 32 := 0#32
  let c1_i32_430 : BitVec 32 := 1#32
  let arg11 : BitVec 32 := Scf.iv c0_i32_428 c1_i32_430 k0_t1
  let c32_i32_1432 : BitVec 32 := 32#32
  let v4684 : BitVec 32 := Scalar.muli arg11 c32_i32_1432
  let v4685 : Index := Scalar.indexCast v4684
  let c0_1433 : Index := 0#32
  ![91, v4685.toNat, 0]
def k0_off107 (k0_t1 : Fin k0_t1_loop.trips) : Fin 3 → Nat :=
  let c92 : Index := 92#32
  let c0_i32_428 : BitVec 32 := 0#32
  let c1_i32_430 : BitVec 32 := 1#32
  let arg11 : BitVec 32 := Scf.iv c0_i32_428 c1_i32_430 k0_t1
  let c32_i32_1446 : BitVec 32 := 32#32
  let v4744 : BitVec 32 := Scalar.muli arg11 c32_i32_1446
  let v4745 : Index := Scalar.indexCast v4744
  let c0_1447 : Index := 0#32
  ![92, v4745.toNat, 0]
def k0_off108 (k0_t1 : Fin k0_t1_loop.trips) : Fin 3 → Nat :=
  let c93 : Index := 93#32
  let c0_i32_428 : BitVec 32 := 0#32
  let c1_i32_430 : BitVec 32 := 1#32
  let arg11 : BitVec 32 := Scf.iv c0_i32_428 c1_i32_430 k0_t1
  let c32_i32_1452 : BitVec 32 := 32#32
  let v4772 : BitVec 32 := Scalar.muli arg11 c32_i32_1452
  let v4773 : Index := Scalar.indexCast v4772
  let c0_1453 : Index := 0#32
  ![93, v4773.toNat, 0]
def k0_off109 (k0_t1 : Fin k0_t1_loop.trips) : Fin 3 → Nat :=
  let c94 : Index := 94#32
  let c0_i32_428 : BitVec 32 := 0#32
  let c1_i32_430 : BitVec 32 := 1#32
  let arg11 : BitVec 32 := Scf.iv c0_i32_428 c1_i32_430 k0_t1
  let c32_i32_1466 : BitVec 32 := 32#32
  let v4832 : BitVec 32 := Scalar.muli arg11 c32_i32_1466
  let v4833 : Index := Scalar.indexCast v4832
  let c0_1467 : Index := 0#32
  ![94, v4833.toNat, 0]
def k0_off110 (k0_t1 : Fin k0_t1_loop.trips) : Fin 3 → Nat :=
  let c95 : Index := 95#32
  let c0_i32_428 : BitVec 32 := 0#32
  let c1_i32_430 : BitVec 32 := 1#32
  let arg11 : BitVec 32 := Scf.iv c0_i32_428 c1_i32_430 k0_t1
  let c32_i32_1472 : BitVec 32 := 32#32
  let v4860 : BitVec 32 := Scalar.muli arg11 c32_i32_1472
  let v4861 : Index := Scalar.indexCast v4860
  let c0_1473 : Index := 0#32
  ![95, v4861.toNat, 0]
def k0_off111 (k0_t1 : Fin k0_t1_loop.trips) : Fin 3 → Nat :=
  let c96_1491 : Index := 96#32
  let c0_i32_428 : BitVec 32 := 0#32
  let c1_i32_430 : BitVec 32 := 1#32
  let arg11 : BitVec 32 := Scf.iv c0_i32_428 c1_i32_430 k0_t1
  let c32_i32_1490 : BitVec 32 := 32#32
  let v4931 : BitVec 32 := Scalar.muli arg11 c32_i32_1490
  let v4932 : Index := Scalar.indexCast v4931
  let c0_1492 : Index := 0#32
  ![96, v4932.toNat, 0]
def k0_off112 (k0_t1 : Fin k0_t1_loop.trips) : Fin 3 → Nat :=
  let c97 : Index := 97#32
  let c0_i32_428 : BitVec 32 := 0#32
  let c1_i32_430 : BitVec 32 := 1#32
  let arg11 : BitVec 32 := Scf.iv c0_i32_428 c1_i32_430 k0_t1
  let c32_i32_1497 : BitVec 32 := 32#32
  let v4959 : BitVec 32 := Scalar.muli arg11 c32_i32_1497
  let v4960 : Index := Scalar.indexCast v4959
  let c0_1498 : Index := 0#32
  ![97, v4960.toNat, 0]
def k0_off113 (k0_t1 : Fin k0_t1_loop.trips) : Fin 3 → Nat :=
  let c98 : Index := 98#32
  let c0_i32_428 : BitVec 32 := 0#32
  let c1_i32_430 : BitVec 32 := 1#32
  let arg11 : BitVec 32 := Scf.iv c0_i32_428 c1_i32_430 k0_t1
  let c32_i32_1511 : BitVec 32 := 32#32
  let v5019 : BitVec 32 := Scalar.muli arg11 c32_i32_1511
  let v5020 : Index := Scalar.indexCast v5019
  let c0_1512 : Index := 0#32
  ![98, v5020.toNat, 0]
def k0_off114 (k0_t1 : Fin k0_t1_loop.trips) : Fin 3 → Nat :=
  let c99 : Index := 99#32
  let c0_i32_428 : BitVec 32 := 0#32
  let c1_i32_430 : BitVec 32 := 1#32
  let arg11 : BitVec 32 := Scf.iv c0_i32_428 c1_i32_430 k0_t1
  let c32_i32_1517 : BitVec 32 := 32#32
  let v5047 : BitVec 32 := Scalar.muli arg11 c32_i32_1517
  let v5048 : Index := Scalar.indexCast v5047
  let c0_1518 : Index := 0#32
  ![99, v5048.toNat, 0]
def k0_off115 (k0_t1 : Fin k0_t1_loop.trips) : Fin 3 → Nat :=
  let c100 : Index := 100#32
  let c0_i32_428 : BitVec 32 := 0#32
  let c1_i32_430 : BitVec 32 := 1#32
  let arg11 : BitVec 32 := Scf.iv c0_i32_428 c1_i32_430 k0_t1
  let c32_i32_1531 : BitVec 32 := 32#32
  let v5107 : BitVec 32 := Scalar.muli arg11 c32_i32_1531
  let v5108 : Index := Scalar.indexCast v5107
  let c0_1532 : Index := 0#32
  ![100, v5108.toNat, 0]
def k0_off116 (k0_t1 : Fin k0_t1_loop.trips) : Fin 3 → Nat :=
  let c101 : Index := 101#32
  let c0_i32_428 : BitVec 32 := 0#32
  let c1_i32_430 : BitVec 32 := 1#32
  let arg11 : BitVec 32 := Scf.iv c0_i32_428 c1_i32_430 k0_t1
  let c32_i32_1537 : BitVec 32 := 32#32
  let v5135 : BitVec 32 := Scalar.muli arg11 c32_i32_1537
  let v5136 : Index := Scalar.indexCast v5135
  let c0_1538 : Index := 0#32
  ![101, v5136.toNat, 0]
def k0_off117 (k0_t1 : Fin k0_t1_loop.trips) : Fin 3 → Nat :=
  let c102 : Index := 102#32
  let c0_i32_428 : BitVec 32 := 0#32
  let c1_i32_430 : BitVec 32 := 1#32
  let arg11 : BitVec 32 := Scf.iv c0_i32_428 c1_i32_430 k0_t1
  let c32_i32_1551 : BitVec 32 := 32#32
  let v5195 : BitVec 32 := Scalar.muli arg11 c32_i32_1551
  let v5196 : Index := Scalar.indexCast v5195
  let c0_1552 : Index := 0#32
  ![102, v5196.toNat, 0]
def k0_off118 (k0_t1 : Fin k0_t1_loop.trips) : Fin 3 → Nat :=
  let c103 : Index := 103#32
  let c0_i32_428 : BitVec 32 := 0#32
  let c1_i32_430 : BitVec 32 := 1#32
  let arg11 : BitVec 32 := Scf.iv c0_i32_428 c1_i32_430 k0_t1
  let c32_i32_1557 : BitVec 32 := 32#32
  let v5223 : BitVec 32 := Scalar.muli arg11 c32_i32_1557
  let v5224 : Index := Scalar.indexCast v5223
  let c0_1558 : Index := 0#32
  ![103, v5224.toNat, 0]
def k0_off119 (k0_t1 : Fin k0_t1_loop.trips) : Fin 3 → Nat :=
  let c104_1572 : Index := 104#32
  let c0_i32_428 : BitVec 32 := 0#32
  let c1_i32_430 : BitVec 32 := 1#32
  let arg11 : BitVec 32 := Scf.iv c0_i32_428 c1_i32_430 k0_t1
  let c32_i32_1571 : BitVec 32 := 32#32
  let v5283 : BitVec 32 := Scalar.muli arg11 c32_i32_1571
  let v5284 : Index := Scalar.indexCast v5283
  let c0_1573 : Index := 0#32
  ![104, v5284.toNat, 0]
def k0_off120 (k0_t1 : Fin k0_t1_loop.trips) : Fin 3 → Nat :=
  let c105 : Index := 105#32
  let c0_i32_428 : BitVec 32 := 0#32
  let c1_i32_430 : BitVec 32 := 1#32
  let arg11 : BitVec 32 := Scf.iv c0_i32_428 c1_i32_430 k0_t1
  let c32_i32_1578 : BitVec 32 := 32#32
  let v5311 : BitVec 32 := Scalar.muli arg11 c32_i32_1578
  let v5312 : Index := Scalar.indexCast v5311
  let c0_1579 : Index := 0#32
  ![105, v5312.toNat, 0]
def k0_off121 (k0_t1 : Fin k0_t1_loop.trips) : Fin 3 → Nat :=
  let c106 : Index := 106#32
  let c0_i32_428 : BitVec 32 := 0#32
  let c1_i32_430 : BitVec 32 := 1#32
  let arg11 : BitVec 32 := Scf.iv c0_i32_428 c1_i32_430 k0_t1
  let c32_i32_1592 : BitVec 32 := 32#32
  let v5371 : BitVec 32 := Scalar.muli arg11 c32_i32_1592
  let v5372 : Index := Scalar.indexCast v5371
  let c0_1593 : Index := 0#32
  ![106, v5372.toNat, 0]
def k0_off122 (k0_t1 : Fin k0_t1_loop.trips) : Fin 3 → Nat :=
  let c107 : Index := 107#32
  let c0_i32_428 : BitVec 32 := 0#32
  let c1_i32_430 : BitVec 32 := 1#32
  let arg11 : BitVec 32 := Scf.iv c0_i32_428 c1_i32_430 k0_t1
  let c32_i32_1598 : BitVec 32 := 32#32
  let v5399 : BitVec 32 := Scalar.muli arg11 c32_i32_1598
  let v5400 : Index := Scalar.indexCast v5399
  let c0_1599 : Index := 0#32
  ![107, v5400.toNat, 0]
def k0_off123 (k0_t1 : Fin k0_t1_loop.trips) : Fin 3 → Nat :=
  let c108 : Index := 108#32
  let c0_i32_428 : BitVec 32 := 0#32
  let c1_i32_430 : BitVec 32 := 1#32
  let arg11 : BitVec 32 := Scf.iv c0_i32_428 c1_i32_430 k0_t1
  let c32_i32_1612 : BitVec 32 := 32#32
  let v5459 : BitVec 32 := Scalar.muli arg11 c32_i32_1612
  let v5460 : Index := Scalar.indexCast v5459
  let c0_1613 : Index := 0#32
  ![108, v5460.toNat, 0]
def k0_off124 (k0_t1 : Fin k0_t1_loop.trips) : Fin 3 → Nat :=
  let c109 : Index := 109#32
  let c0_i32_428 : BitVec 32 := 0#32
  let c1_i32_430 : BitVec 32 := 1#32
  let arg11 : BitVec 32 := Scf.iv c0_i32_428 c1_i32_430 k0_t1
  let c32_i32_1618 : BitVec 32 := 32#32
  let v5487 : BitVec 32 := Scalar.muli arg11 c32_i32_1618
  let v5488 : Index := Scalar.indexCast v5487
  let c0_1619 : Index := 0#32
  ![109, v5488.toNat, 0]
def k0_off125 (k0_t1 : Fin k0_t1_loop.trips) : Fin 3 → Nat :=
  let c110 : Index := 110#32
  let c0_i32_428 : BitVec 32 := 0#32
  let c1_i32_430 : BitVec 32 := 1#32
  let arg11 : BitVec 32 := Scf.iv c0_i32_428 c1_i32_430 k0_t1
  let c32_i32_1632 : BitVec 32 := 32#32
  let v5547 : BitVec 32 := Scalar.muli arg11 c32_i32_1632
  let v5548 : Index := Scalar.indexCast v5547
  let c0_1633 : Index := 0#32
  ![110, v5548.toNat, 0]
def k0_off126 (k0_t1 : Fin k0_t1_loop.trips) : Fin 3 → Nat :=
  let c111 : Index := 111#32
  let c0_i32_428 : BitVec 32 := 0#32
  let c1_i32_430 : BitVec 32 := 1#32
  let arg11 : BitVec 32 := Scf.iv c0_i32_428 c1_i32_430 k0_t1
  let c32_i32_1638 : BitVec 32 := 32#32
  let v5575 : BitVec 32 := Scalar.muli arg11 c32_i32_1638
  let v5576 : Index := Scalar.indexCast v5575
  let c0_1639 : Index := 0#32
  ![111, v5576.toNat, 0]
def k0_off127 (k0_t1 : Fin k0_t1_loop.trips) : Fin 3 → Nat :=
  let c112 : Index := 112#32
  let c0_i32_428 : BitVec 32 := 0#32
  let c1_i32_430 : BitVec 32 := 1#32
  let arg11 : BitVec 32 := Scf.iv c0_i32_428 c1_i32_430 k0_t1
  let c32_i32_1656 : BitVec 32 := 32#32
  let v5646 : BitVec 32 := Scalar.muli arg11 c32_i32_1656
  let v5647 : Index := Scalar.indexCast v5646
  let c0_1657 : Index := 0#32
  ![112, v5647.toNat, 0]
def k0_off128 (k0_t1 : Fin k0_t1_loop.trips) : Fin 3 → Nat :=
  let c113 : Index := 113#32
  let c0_i32_428 : BitVec 32 := 0#32
  let c1_i32_430 : BitVec 32 := 1#32
  let arg11 : BitVec 32 := Scf.iv c0_i32_428 c1_i32_430 k0_t1
  let c32_i32_1662 : BitVec 32 := 32#32
  let v5674 : BitVec 32 := Scalar.muli arg11 c32_i32_1662
  let v5675 : Index := Scalar.indexCast v5674
  let c0_1663 : Index := 0#32
  ![113, v5675.toNat, 0]
def k0_off129 (k0_t1 : Fin k0_t1_loop.trips) : Fin 3 → Nat :=
  let c114 : Index := 114#32
  let c0_i32_428 : BitVec 32 := 0#32
  let c1_i32_430 : BitVec 32 := 1#32
  let arg11 : BitVec 32 := Scf.iv c0_i32_428 c1_i32_430 k0_t1
  let c32_i32_1676 : BitVec 32 := 32#32
  let v5734 : BitVec 32 := Scalar.muli arg11 c32_i32_1676
  let v5735 : Index := Scalar.indexCast v5734
  let c0_1677 : Index := 0#32
  ![114, v5735.toNat, 0]
def k0_off130 (k0_t1 : Fin k0_t1_loop.trips) : Fin 3 → Nat :=
  let c115 : Index := 115#32
  let c0_i32_428 : BitVec 32 := 0#32
  let c1_i32_430 : BitVec 32 := 1#32
  let arg11 : BitVec 32 := Scf.iv c0_i32_428 c1_i32_430 k0_t1
  let c32_i32_1682 : BitVec 32 := 32#32
  let v5762 : BitVec 32 := Scalar.muli arg11 c32_i32_1682
  let v5763 : Index := Scalar.indexCast v5762
  let c0_1683 : Index := 0#32
  ![115, v5763.toNat, 0]
def k0_off131 (k0_t1 : Fin k0_t1_loop.trips) : Fin 3 → Nat :=
  let c116 : Index := 116#32
  let c0_i32_428 : BitVec 32 := 0#32
  let c1_i32_430 : BitVec 32 := 1#32
  let arg11 : BitVec 32 := Scf.iv c0_i32_428 c1_i32_430 k0_t1
  let c32_i32_1696 : BitVec 32 := 32#32
  let v5822 : BitVec 32 := Scalar.muli arg11 c32_i32_1696
  let v5823 : Index := Scalar.indexCast v5822
  let c0_1697 : Index := 0#32
  ![116, v5823.toNat, 0]
def k0_off132 (k0_t1 : Fin k0_t1_loop.trips) : Fin 3 → Nat :=
  let c117 : Index := 117#32
  let c0_i32_428 : BitVec 32 := 0#32
  let c1_i32_430 : BitVec 32 := 1#32
  let arg11 : BitVec 32 := Scf.iv c0_i32_428 c1_i32_430 k0_t1
  let c32_i32_1702 : BitVec 32 := 32#32
  let v5850 : BitVec 32 := Scalar.muli arg11 c32_i32_1702
  let v5851 : Index := Scalar.indexCast v5850
  let c0_1703 : Index := 0#32
  ![117, v5851.toNat, 0]
def k0_off133 (k0_t1 : Fin k0_t1_loop.trips) : Fin 3 → Nat :=
  let c118 : Index := 118#32
  let c0_i32_428 : BitVec 32 := 0#32
  let c1_i32_430 : BitVec 32 := 1#32
  let arg11 : BitVec 32 := Scf.iv c0_i32_428 c1_i32_430 k0_t1
  let c32_i32_1716 : BitVec 32 := 32#32
  let v5910 : BitVec 32 := Scalar.muli arg11 c32_i32_1716
  let v5911 : Index := Scalar.indexCast v5910
  let c0_1717 : Index := 0#32
  ![118, v5911.toNat, 0]
def k0_off134 (k0_t1 : Fin k0_t1_loop.trips) : Fin 3 → Nat :=
  let c119 : Index := 119#32
  let c0_i32_428 : BitVec 32 := 0#32
  let c1_i32_430 : BitVec 32 := 1#32
  let arg11 : BitVec 32 := Scf.iv c0_i32_428 c1_i32_430 k0_t1
  let c32_i32_1722 : BitVec 32 := 32#32
  let v5938 : BitVec 32 := Scalar.muli arg11 c32_i32_1722
  let v5939 : Index := Scalar.indexCast v5938
  let c0_1723 : Index := 0#32
  ![119, v5939.toNat, 0]
def k0_off135 (k0_t1 : Fin k0_t1_loop.trips) : Fin 3 → Nat :=
  let c120 : Index := 120#32
  let c0_i32_428 : BitVec 32 := 0#32
  let c1_i32_430 : BitVec 32 := 1#32
  let arg11 : BitVec 32 := Scf.iv c0_i32_428 c1_i32_430 k0_t1
  let c32_i32_1736 : BitVec 32 := 32#32
  let v5998 : BitVec 32 := Scalar.muli arg11 c32_i32_1736
  let v5999 : Index := Scalar.indexCast v5998
  let c0_1737 : Index := 0#32
  ![120, v5999.toNat, 0]
def k0_off136 (k0_t1 : Fin k0_t1_loop.trips) : Fin 3 → Nat :=
  let c121 : Index := 121#32
  let c0_i32_428 : BitVec 32 := 0#32
  let c1_i32_430 : BitVec 32 := 1#32
  let arg11 : BitVec 32 := Scf.iv c0_i32_428 c1_i32_430 k0_t1
  let c32_i32_1742 : BitVec 32 := 32#32
  let v6026 : BitVec 32 := Scalar.muli arg11 c32_i32_1742
  let v6027 : Index := Scalar.indexCast v6026
  let c0_1743 : Index := 0#32
  ![121, v6027.toNat, 0]
def k0_off137 (k0_t1 : Fin k0_t1_loop.trips) : Fin 3 → Nat :=
  let c122 : Index := 122#32
  let c0_i32_428 : BitVec 32 := 0#32
  let c1_i32_430 : BitVec 32 := 1#32
  let arg11 : BitVec 32 := Scf.iv c0_i32_428 c1_i32_430 k0_t1
  let c32_i32_1756 : BitVec 32 := 32#32
  let v6086 : BitVec 32 := Scalar.muli arg11 c32_i32_1756
  let v6087 : Index := Scalar.indexCast v6086
  let c0_1757 : Index := 0#32
  ![122, v6087.toNat, 0]
def k0_off138 (k0_t1 : Fin k0_t1_loop.trips) : Fin 3 → Nat :=
  let c123 : Index := 123#32
  let c0_i32_428 : BitVec 32 := 0#32
  let c1_i32_430 : BitVec 32 := 1#32
  let arg11 : BitVec 32 := Scf.iv c0_i32_428 c1_i32_430 k0_t1
  let c32_i32_1762 : BitVec 32 := 32#32
  let v6114 : BitVec 32 := Scalar.muli arg11 c32_i32_1762
  let v6115 : Index := Scalar.indexCast v6114
  let c0_1763 : Index := 0#32
  ![123, v6115.toNat, 0]
def k0_off139 (k0_t1 : Fin k0_t1_loop.trips) : Fin 3 → Nat :=
  let c124 : Index := 124#32
  let c0_i32_428 : BitVec 32 := 0#32
  let c1_i32_430 : BitVec 32 := 1#32
  let arg11 : BitVec 32 := Scf.iv c0_i32_428 c1_i32_430 k0_t1
  let c32_i32_1776 : BitVec 32 := 32#32
  let v6174 : BitVec 32 := Scalar.muli arg11 c32_i32_1776
  let v6175 : Index := Scalar.indexCast v6174
  let c0_1777 : Index := 0#32
  ![124, v6175.toNat, 0]
def k0_off140 (k0_t1 : Fin k0_t1_loop.trips) : Fin 3 → Nat :=
  let c125 : Index := 125#32
  let c0_i32_428 : BitVec 32 := 0#32
  let c1_i32_430 : BitVec 32 := 1#32
  let arg11 : BitVec 32 := Scf.iv c0_i32_428 c1_i32_430 k0_t1
  let c32_i32_1782 : BitVec 32 := 32#32
  let v6202 : BitVec 32 := Scalar.muli arg11 c32_i32_1782
  let v6203 : Index := Scalar.indexCast v6202
  let c0_1783 : Index := 0#32
  ![125, v6203.toNat, 0]
def k0_off141 (k0_t1 : Fin k0_t1_loop.trips) : Fin 3 → Nat :=
  let c126 : Index := 126#32
  let c0_i32_428 : BitVec 32 := 0#32
  let c1_i32_430 : BitVec 32 := 1#32
  let arg11 : BitVec 32 := Scf.iv c0_i32_428 c1_i32_430 k0_t1
  let c32_i32_1796 : BitVec 32 := 32#32
  let v6262 : BitVec 32 := Scalar.muli arg11 c32_i32_1796
  let v6263 : Index := Scalar.indexCast v6262
  let c0_1797 : Index := 0#32
  ![126, v6263.toNat, 0]
def k0_off142 (k0_t1 : Fin k0_t1_loop.trips) : Fin 3 → Nat :=
  let c127 : Index := 127#32
  let c0_i32_428 : BitVec 32 := 0#32
  let c1_i32_430 : BitVec 32 := 1#32
  let arg11 : BitVec 32 := Scf.iv c0_i32_428 c1_i32_430 k0_t1
  let c32_i32_1802 : BitVec 32 := 32#32
  let v6290 : BitVec 32 := Scalar.muli arg11 c32_i32_1802
  let v6291 : Index := Scalar.indexCast v6290
  let c0_1803 : Index := 0#32
  ![127, v6291.toNat, 0]
def k0_off143 (k0_t1 : Fin k0_t1_loop.trips) : Fin 3 → Nat :=
  let c128_1821 : Index := 128#32
  let c0_i32_428 : BitVec 32 := 0#32
  let c1_i32_430 : BitVec 32 := 1#32
  let arg11 : BitVec 32 := Scf.iv c0_i32_428 c1_i32_430 k0_t1
  let c32_i32_1820 : BitVec 32 := 32#32
  let v6361 : BitVec 32 := Scalar.muli arg11 c32_i32_1820
  let v6362 : Index := Scalar.indexCast v6361
  let c0_1822 : Index := 0#32
  ![128, v6362.toNat, 0]
def k0_off144 (k0_t1 : Fin k0_t1_loop.trips) : Fin 3 → Nat :=
  let c129 : Index := 129#32
  let c0_i32_428 : BitVec 32 := 0#32
  let c1_i32_430 : BitVec 32 := 1#32
  let arg11 : BitVec 32 := Scf.iv c0_i32_428 c1_i32_430 k0_t1
  let c32_i32_1827 : BitVec 32 := 32#32
  let v6389 : BitVec 32 := Scalar.muli arg11 c32_i32_1827
  let v6390 : Index := Scalar.indexCast v6389
  let c0_1828 : Index := 0#32
  ![129, v6390.toNat, 0]
def k0_off145 (k0_t1 : Fin k0_t1_loop.trips) : Fin 3 → Nat :=
  let c130 : Index := 130#32
  let c0_i32_428 : BitVec 32 := 0#32
  let c1_i32_430 : BitVec 32 := 1#32
  let arg11 : BitVec 32 := Scf.iv c0_i32_428 c1_i32_430 k0_t1
  let c32_i32_1841 : BitVec 32 := 32#32
  let v6449 : BitVec 32 := Scalar.muli arg11 c32_i32_1841
  let v6450 : Index := Scalar.indexCast v6449
  let c0_1842 : Index := 0#32
  ![130, v6450.toNat, 0]
def k0_off146 (k0_t1 : Fin k0_t1_loop.trips) : Fin 3 → Nat :=
  let c131 : Index := 131#32
  let c0_i32_428 : BitVec 32 := 0#32
  let c1_i32_430 : BitVec 32 := 1#32
  let arg11 : BitVec 32 := Scf.iv c0_i32_428 c1_i32_430 k0_t1
  let c32_i32_1847 : BitVec 32 := 32#32
  let v6477 : BitVec 32 := Scalar.muli arg11 c32_i32_1847
  let v6478 : Index := Scalar.indexCast v6477
  let c0_1848 : Index := 0#32
  ![131, v6478.toNat, 0]
def k0_off147 (k0_t1 : Fin k0_t1_loop.trips) : Fin 3 → Nat :=
  let c132 : Index := 132#32
  let c0_i32_428 : BitVec 32 := 0#32
  let c1_i32_430 : BitVec 32 := 1#32
  let arg11 : BitVec 32 := Scf.iv c0_i32_428 c1_i32_430 k0_t1
  let c32_i32_1861 : BitVec 32 := 32#32
  let v6537 : BitVec 32 := Scalar.muli arg11 c32_i32_1861
  let v6538 : Index := Scalar.indexCast v6537
  let c0_1862 : Index := 0#32
  ![132, v6538.toNat, 0]
def k0_off148 (k0_t1 : Fin k0_t1_loop.trips) : Fin 3 → Nat :=
  let c133 : Index := 133#32
  let c0_i32_428 : BitVec 32 := 0#32
  let c1_i32_430 : BitVec 32 := 1#32
  let arg11 : BitVec 32 := Scf.iv c0_i32_428 c1_i32_430 k0_t1
  let c32_i32_1867 : BitVec 32 := 32#32
  let v6565 : BitVec 32 := Scalar.muli arg11 c32_i32_1867
  let v6566 : Index := Scalar.indexCast v6565
  let c0_1868 : Index := 0#32
  ![133, v6566.toNat, 0]
def k0_off149 (k0_t1 : Fin k0_t1_loop.trips) : Fin 3 → Nat :=
  let c134 : Index := 134#32
  let c0_i32_428 : BitVec 32 := 0#32
  let c1_i32_430 : BitVec 32 := 1#32
  let arg11 : BitVec 32 := Scf.iv c0_i32_428 c1_i32_430 k0_t1
  let c32_i32_1881 : BitVec 32 := 32#32
  let v6625 : BitVec 32 := Scalar.muli arg11 c32_i32_1881
  let v6626 : Index := Scalar.indexCast v6625
  let c0_1882 : Index := 0#32
  ![134, v6626.toNat, 0]
def k0_off150 (k0_t1 : Fin k0_t1_loop.trips) : Fin 3 → Nat :=
  let c135 : Index := 135#32
  let c0_i32_428 : BitVec 32 := 0#32
  let c1_i32_430 : BitVec 32 := 1#32
  let arg11 : BitVec 32 := Scf.iv c0_i32_428 c1_i32_430 k0_t1
  let c32_i32_1887 : BitVec 32 := 32#32
  let v6653 : BitVec 32 := Scalar.muli arg11 c32_i32_1887
  let v6654 : Index := Scalar.indexCast v6653
  let c0_1888 : Index := 0#32
  ![135, v6654.toNat, 0]
def k0_off151 (k0_t1 : Fin k0_t1_loop.trips) : Fin 3 → Nat :=
  let c136 : Index := 136#32
  let c0_i32_428 : BitVec 32 := 0#32
  let c1_i32_430 : BitVec 32 := 1#32
  let arg11 : BitVec 32 := Scf.iv c0_i32_428 c1_i32_430 k0_t1
  let c32_i32_1901 : BitVec 32 := 32#32
  let v6713 : BitVec 32 := Scalar.muli arg11 c32_i32_1901
  let v6714 : Index := Scalar.indexCast v6713
  let c0_1902 : Index := 0#32
  ![136, v6714.toNat, 0]
def k0_off152 (k0_t1 : Fin k0_t1_loop.trips) : Fin 3 → Nat :=
  let c137 : Index := 137#32
  let c0_i32_428 : BitVec 32 := 0#32
  let c1_i32_430 : BitVec 32 := 1#32
  let arg11 : BitVec 32 := Scf.iv c0_i32_428 c1_i32_430 k0_t1
  let c32_i32_1907 : BitVec 32 := 32#32
  let v6741 : BitVec 32 := Scalar.muli arg11 c32_i32_1907
  let v6742 : Index := Scalar.indexCast v6741
  let c0_1908 : Index := 0#32
  ![137, v6742.toNat, 0]
def k0_off153 (k0_t1 : Fin k0_t1_loop.trips) : Fin 3 → Nat :=
  let c138 : Index := 138#32
  let c0_i32_428 : BitVec 32 := 0#32
  let c1_i32_430 : BitVec 32 := 1#32
  let arg11 : BitVec 32 := Scf.iv c0_i32_428 c1_i32_430 k0_t1
  let c32_i32_1921 : BitVec 32 := 32#32
  let v6801 : BitVec 32 := Scalar.muli arg11 c32_i32_1921
  let v6802 : Index := Scalar.indexCast v6801
  let c0_1922 : Index := 0#32
  ![138, v6802.toNat, 0]
def k0_off154 (k0_t1 : Fin k0_t1_loop.trips) : Fin 3 → Nat :=
  let c139 : Index := 139#32
  let c0_i32_428 : BitVec 32 := 0#32
  let c1_i32_430 : BitVec 32 := 1#32
  let arg11 : BitVec 32 := Scf.iv c0_i32_428 c1_i32_430 k0_t1
  let c32_i32_1927 : BitVec 32 := 32#32
  let v6829 : BitVec 32 := Scalar.muli arg11 c32_i32_1927
  let v6830 : Index := Scalar.indexCast v6829
  let c0_1928 : Index := 0#32
  ![139, v6830.toNat, 0]
def k0_off155 (k0_t1 : Fin k0_t1_loop.trips) : Fin 3 → Nat :=
  let c140 : Index := 140#32
  let c0_i32_428 : BitVec 32 := 0#32
  let c1_i32_430 : BitVec 32 := 1#32
  let arg11 : BitVec 32 := Scf.iv c0_i32_428 c1_i32_430 k0_t1
  let c32_i32_1941 : BitVec 32 := 32#32
  let v6889 : BitVec 32 := Scalar.muli arg11 c32_i32_1941
  let v6890 : Index := Scalar.indexCast v6889
  let c0_1942 : Index := 0#32
  ![140, v6890.toNat, 0]
def k0_off156 (k0_t1 : Fin k0_t1_loop.trips) : Fin 3 → Nat :=
  let c141 : Index := 141#32
  let c0_i32_428 : BitVec 32 := 0#32
  let c1_i32_430 : BitVec 32 := 1#32
  let arg11 : BitVec 32 := Scf.iv c0_i32_428 c1_i32_430 k0_t1
  let c32_i32_1947 : BitVec 32 := 32#32
  let v6917 : BitVec 32 := Scalar.muli arg11 c32_i32_1947
  let v6918 : Index := Scalar.indexCast v6917
  let c0_1948 : Index := 0#32
  ![141, v6918.toNat, 0]
def k0_off157 (k0_t1 : Fin k0_t1_loop.trips) : Fin 3 → Nat :=
  let c142 : Index := 142#32
  let c0_i32_428 : BitVec 32 := 0#32
  let c1_i32_430 : BitVec 32 := 1#32
  let arg11 : BitVec 32 := Scf.iv c0_i32_428 c1_i32_430 k0_t1
  let c32_i32_1961 : BitVec 32 := 32#32
  let v6977 : BitVec 32 := Scalar.muli arg11 c32_i32_1961
  let v6978 : Index := Scalar.indexCast v6977
  let c0_1962 : Index := 0#32
  ![142, v6978.toNat, 0]
def k0_off158 (k0_t1 : Fin k0_t1_loop.trips) : Fin 3 → Nat :=
  let c143 : Index := 143#32
  let c0_i32_428 : BitVec 32 := 0#32
  let c1_i32_430 : BitVec 32 := 1#32
  let arg11 : BitVec 32 := Scf.iv c0_i32_428 c1_i32_430 k0_t1
  let c32_i32_1967 : BitVec 32 := 32#32
  let v7005 : BitVec 32 := Scalar.muli arg11 c32_i32_1967
  let v7006 : Index := Scalar.indexCast v7005
  let c0_1968 : Index := 0#32
  ![143, v7006.toNat, 0]
def k0_off159 (k0_t1 : Fin k0_t1_loop.trips) : Fin 3 → Nat :=
  let c144 : Index := 144#32
  let c0_i32_428 : BitVec 32 := 0#32
  let c1_i32_430 : BitVec 32 := 1#32
  let arg11 : BitVec 32 := Scf.iv c0_i32_428 c1_i32_430 k0_t1
  let c32_i32_1985 : BitVec 32 := 32#32
  let v7076 : BitVec 32 := Scalar.muli arg11 c32_i32_1985
  let v7077 : Index := Scalar.indexCast v7076
  let c0_1986 : Index := 0#32
  ![144, v7077.toNat, 0]
def k0_off160 (k0_t1 : Fin k0_t1_loop.trips) : Fin 3 → Nat :=
  let c145 : Index := 145#32
  let c0_i32_428 : BitVec 32 := 0#32
  let c1_i32_430 : BitVec 32 := 1#32
  let arg11 : BitVec 32 := Scf.iv c0_i32_428 c1_i32_430 k0_t1
  let c32_i32_1991 : BitVec 32 := 32#32
  let v7104 : BitVec 32 := Scalar.muli arg11 c32_i32_1991
  let v7105 : Index := Scalar.indexCast v7104
  let c0_1992 : Index := 0#32
  ![145, v7105.toNat, 0]
def k0_off161 (k0_t1 : Fin k0_t1_loop.trips) : Fin 3 → Nat :=
  let c146 : Index := 146#32
  let c0_i32_428 : BitVec 32 := 0#32
  let c1_i32_430 : BitVec 32 := 1#32
  let arg11 : BitVec 32 := Scf.iv c0_i32_428 c1_i32_430 k0_t1
  let c32_i32_2005 : BitVec 32 := 32#32
  let v7164 : BitVec 32 := Scalar.muli arg11 c32_i32_2005
  let v7165 : Index := Scalar.indexCast v7164
  let c0_2006 : Index := 0#32
  ![146, v7165.toNat, 0]
def k0_off162 (k0_t1 : Fin k0_t1_loop.trips) : Fin 3 → Nat :=
  let c147 : Index := 147#32
  let c0_i32_428 : BitVec 32 := 0#32
  let c1_i32_430 : BitVec 32 := 1#32
  let arg11 : BitVec 32 := Scf.iv c0_i32_428 c1_i32_430 k0_t1
  let c32_i32_2011 : BitVec 32 := 32#32
  let v7192 : BitVec 32 := Scalar.muli arg11 c32_i32_2011
  let v7193 : Index := Scalar.indexCast v7192
  let c0_2012 : Index := 0#32
  ![147, v7193.toNat, 0]
def k0_off163 (k0_t1 : Fin k0_t1_loop.trips) : Fin 3 → Nat :=
  let c148 : Index := 148#32
  let c0_i32_428 : BitVec 32 := 0#32
  let c1_i32_430 : BitVec 32 := 1#32
  let arg11 : BitVec 32 := Scf.iv c0_i32_428 c1_i32_430 k0_t1
  let c32_i32_2025 : BitVec 32 := 32#32
  let v7252 : BitVec 32 := Scalar.muli arg11 c32_i32_2025
  let v7253 : Index := Scalar.indexCast v7252
  let c0_2026 : Index := 0#32
  ![148, v7253.toNat, 0]
def k0_off164 (k0_t1 : Fin k0_t1_loop.trips) : Fin 3 → Nat :=
  let c149 : Index := 149#32
  let c0_i32_428 : BitVec 32 := 0#32
  let c1_i32_430 : BitVec 32 := 1#32
  let arg11 : BitVec 32 := Scf.iv c0_i32_428 c1_i32_430 k0_t1
  let c32_i32_2031 : BitVec 32 := 32#32
  let v7280 : BitVec 32 := Scalar.muli arg11 c32_i32_2031
  let v7281 : Index := Scalar.indexCast v7280
  let c0_2032 : Index := 0#32
  ![149, v7281.toNat, 0]
def k0_off165 (k0_t1 : Fin k0_t1_loop.trips) : Fin 3 → Nat :=
  let c150 : Index := 150#32
  let c0_i32_428 : BitVec 32 := 0#32
  let c1_i32_430 : BitVec 32 := 1#32
  let arg11 : BitVec 32 := Scf.iv c0_i32_428 c1_i32_430 k0_t1
  let c32_i32_2045 : BitVec 32 := 32#32
  let v7340 : BitVec 32 := Scalar.muli arg11 c32_i32_2045
  let v7341 : Index := Scalar.indexCast v7340
  let c0_2046 : Index := 0#32
  ![150, v7341.toNat, 0]
def k0_off166 (k0_t1 : Fin k0_t1_loop.trips) : Fin 3 → Nat :=
  let c151 : Index := 151#32
  let c0_i32_428 : BitVec 32 := 0#32
  let c1_i32_430 : BitVec 32 := 1#32
  let arg11 : BitVec 32 := Scf.iv c0_i32_428 c1_i32_430 k0_t1
  let c32_i32_2051 : BitVec 32 := 32#32
  let v7368 : BitVec 32 := Scalar.muli arg11 c32_i32_2051
  let v7369 : Index := Scalar.indexCast v7368
  let c0_2052 : Index := 0#32
  ![151, v7369.toNat, 0]
def k0_off167 (k0_t1 : Fin k0_t1_loop.trips) : Fin 3 → Nat :=
  let c152 : Index := 152#32
  let c0_i32_428 : BitVec 32 := 0#32
  let c1_i32_430 : BitVec 32 := 1#32
  let arg11 : BitVec 32 := Scf.iv c0_i32_428 c1_i32_430 k0_t1
  let c32_i32_2065 : BitVec 32 := 32#32
  let v7428 : BitVec 32 := Scalar.muli arg11 c32_i32_2065
  let v7429 : Index := Scalar.indexCast v7428
  let c0_2066 : Index := 0#32
  ![152, v7429.toNat, 0]
def k0_off168 (k0_t1 : Fin k0_t1_loop.trips) : Fin 3 → Nat :=
  let c153 : Index := 153#32
  let c0_i32_428 : BitVec 32 := 0#32
  let c1_i32_430 : BitVec 32 := 1#32
  let arg11 : BitVec 32 := Scf.iv c0_i32_428 c1_i32_430 k0_t1
  let c32_i32_2071 : BitVec 32 := 32#32
  let v7456 : BitVec 32 := Scalar.muli arg11 c32_i32_2071
  let v7457 : Index := Scalar.indexCast v7456
  let c0_2072 : Index := 0#32
  ![153, v7457.toNat, 0]
def k0_off169 (k0_t1 : Fin k0_t1_loop.trips) : Fin 3 → Nat :=
  let c154 : Index := 154#32
  let c0_i32_428 : BitVec 32 := 0#32
  let c1_i32_430 : BitVec 32 := 1#32
  let arg11 : BitVec 32 := Scf.iv c0_i32_428 c1_i32_430 k0_t1
  let c32_i32_2085 : BitVec 32 := 32#32
  let v7516 : BitVec 32 := Scalar.muli arg11 c32_i32_2085
  let v7517 : Index := Scalar.indexCast v7516
  let c0_2086 : Index := 0#32
  ![154, v7517.toNat, 0]
def k0_off170 (k0_t1 : Fin k0_t1_loop.trips) : Fin 3 → Nat :=
  let c155 : Index := 155#32
  let c0_i32_428 : BitVec 32 := 0#32
  let c1_i32_430 : BitVec 32 := 1#32
  let arg11 : BitVec 32 := Scf.iv c0_i32_428 c1_i32_430 k0_t1
  let c32_i32_2091 : BitVec 32 := 32#32
  let v7544 : BitVec 32 := Scalar.muli arg11 c32_i32_2091
  let v7545 : Index := Scalar.indexCast v7544
  let c0_2092 : Index := 0#32
  ![155, v7545.toNat, 0]
def k0_off171 (k0_t1 : Fin k0_t1_loop.trips) : Fin 3 → Nat :=
  let c156 : Index := 156#32
  let c0_i32_428 : BitVec 32 := 0#32
  let c1_i32_430 : BitVec 32 := 1#32
  let arg11 : BitVec 32 := Scf.iv c0_i32_428 c1_i32_430 k0_t1
  let c32_i32_2105 : BitVec 32 := 32#32
  let v7604 : BitVec 32 := Scalar.muli arg11 c32_i32_2105
  let v7605 : Index := Scalar.indexCast v7604
  let c0_2106 : Index := 0#32
  ![156, v7605.toNat, 0]
def k0_off172 (k0_t1 : Fin k0_t1_loop.trips) : Fin 3 → Nat :=
  let c157 : Index := 157#32
  let c0_i32_428 : BitVec 32 := 0#32
  let c1_i32_430 : BitVec 32 := 1#32
  let arg11 : BitVec 32 := Scf.iv c0_i32_428 c1_i32_430 k0_t1
  let c32_i32_2111 : BitVec 32 := 32#32
  let v7632 : BitVec 32 := Scalar.muli arg11 c32_i32_2111
  let v7633 : Index := Scalar.indexCast v7632
  let c0_2112 : Index := 0#32
  ![157, v7633.toNat, 0]
def k0_off173 (k0_t1 : Fin k0_t1_loop.trips) : Fin 3 → Nat :=
  let c158 : Index := 158#32
  let c0_i32_428 : BitVec 32 := 0#32
  let c1_i32_430 : BitVec 32 := 1#32
  let arg11 : BitVec 32 := Scf.iv c0_i32_428 c1_i32_430 k0_t1
  let c32_i32_2125 : BitVec 32 := 32#32
  let v7692 : BitVec 32 := Scalar.muli arg11 c32_i32_2125
  let v7693 : Index := Scalar.indexCast v7692
  let c0_2126 : Index := 0#32
  ![158, v7693.toNat, 0]
def k0_off174 (k0_t1 : Fin k0_t1_loop.trips) : Fin 3 → Nat :=
  let c159 : Index := 159#32
  let c0_i32_428 : BitVec 32 := 0#32
  let c1_i32_430 : BitVec 32 := 1#32
  let arg11 : BitVec 32 := Scf.iv c0_i32_428 c1_i32_430 k0_t1
  let c32_i32_2131 : BitVec 32 := 32#32
  let v7720 : BitVec 32 := Scalar.muli arg11 c32_i32_2131
  let v7721 : Index := Scalar.indexCast v7720
  let c0_2132 : Index := 0#32
  ![159, v7721.toNat, 0]
def k0_off175 (k0_t1 : Fin k0_t1_loop.trips) : Fin 3 → Nat :=
  let c160 : Index := 160#32
  let c0_i32_428 : BitVec 32 := 0#32
  let c1_i32_430 : BitVec 32 := 1#32
  let arg11 : BitVec 32 := Scf.iv c0_i32_428 c1_i32_430 k0_t1
  let c32_i32_2149 : BitVec 32 := 32#32
  let v7791 : BitVec 32 := Scalar.muli arg11 c32_i32_2149
  let v7792 : Index := Scalar.indexCast v7791
  let c0_2150 : Index := 0#32
  ![160, v7792.toNat, 0]
def k0_off176 (k0_t1 : Fin k0_t1_loop.trips) : Fin 3 → Nat :=
  let c161 : Index := 161#32
  let c0_i32_428 : BitVec 32 := 0#32
  let c1_i32_430 : BitVec 32 := 1#32
  let arg11 : BitVec 32 := Scf.iv c0_i32_428 c1_i32_430 k0_t1
  let c32_i32_2155 : BitVec 32 := 32#32
  let v7819 : BitVec 32 := Scalar.muli arg11 c32_i32_2155
  let v7820 : Index := Scalar.indexCast v7819
  let c0_2156 : Index := 0#32
  ![161, v7820.toNat, 0]
def k0_off177 (k0_t1 : Fin k0_t1_loop.trips) : Fin 3 → Nat :=
  let c162 : Index := 162#32
  let c0_i32_428 : BitVec 32 := 0#32
  let c1_i32_430 : BitVec 32 := 1#32
  let arg11 : BitVec 32 := Scf.iv c0_i32_428 c1_i32_430 k0_t1
  let c32_i32_2169 : BitVec 32 := 32#32
  let v7879 : BitVec 32 := Scalar.muli arg11 c32_i32_2169
  let v7880 : Index := Scalar.indexCast v7879
  let c0_2170 : Index := 0#32
  ![162, v7880.toNat, 0]
def k0_off178 (k0_t1 : Fin k0_t1_loop.trips) : Fin 3 → Nat :=
  let c163 : Index := 163#32
  let c0_i32_428 : BitVec 32 := 0#32
  let c1_i32_430 : BitVec 32 := 1#32
  let arg11 : BitVec 32 := Scf.iv c0_i32_428 c1_i32_430 k0_t1
  let c32_i32_2175 : BitVec 32 := 32#32
  let v7907 : BitVec 32 := Scalar.muli arg11 c32_i32_2175
  let v7908 : Index := Scalar.indexCast v7907
  let c0_2176 : Index := 0#32
  ![163, v7908.toNat, 0]
def k0_off179 (k0_t1 : Fin k0_t1_loop.trips) : Fin 3 → Nat :=
  let c164 : Index := 164#32
  let c0_i32_428 : BitVec 32 := 0#32
  let c1_i32_430 : BitVec 32 := 1#32
  let arg11 : BitVec 32 := Scf.iv c0_i32_428 c1_i32_430 k0_t1
  let c32_i32_2189 : BitVec 32 := 32#32
  let v7967 : BitVec 32 := Scalar.muli arg11 c32_i32_2189
  let v7968 : Index := Scalar.indexCast v7967
  let c0_2190 : Index := 0#32
  ![164, v7968.toNat, 0]
def k0_off180 (k0_t1 : Fin k0_t1_loop.trips) : Fin 3 → Nat :=
  let c165 : Index := 165#32
  let c0_i32_428 : BitVec 32 := 0#32
  let c1_i32_430 : BitVec 32 := 1#32
  let arg11 : BitVec 32 := Scf.iv c0_i32_428 c1_i32_430 k0_t1
  let c32_i32_2195 : BitVec 32 := 32#32
  let v7995 : BitVec 32 := Scalar.muli arg11 c32_i32_2195
  let v7996 : Index := Scalar.indexCast v7995
  let c0_2196 : Index := 0#32
  ![165, v7996.toNat, 0]
def k0_off181 (k0_t1 : Fin k0_t1_loop.trips) : Fin 3 → Nat :=
  let c166 : Index := 166#32
  let c0_i32_428 : BitVec 32 := 0#32
  let c1_i32_430 : BitVec 32 := 1#32
  let arg11 : BitVec 32 := Scf.iv c0_i32_428 c1_i32_430 k0_t1
  let c32_i32_2209 : BitVec 32 := 32#32
  let v8055 : BitVec 32 := Scalar.muli arg11 c32_i32_2209
  let v8056 : Index := Scalar.indexCast v8055
  let c0_2210 : Index := 0#32
  ![166, v8056.toNat, 0]
def k0_off182 (k0_t1 : Fin k0_t1_loop.trips) : Fin 3 → Nat :=
  let c167 : Index := 167#32
  let c0_i32_428 : BitVec 32 := 0#32
  let c1_i32_430 : BitVec 32 := 1#32
  let arg11 : BitVec 32 := Scf.iv c0_i32_428 c1_i32_430 k0_t1
  let c32_i32_2215 : BitVec 32 := 32#32
  let v8083 : BitVec 32 := Scalar.muli arg11 c32_i32_2215
  let v8084 : Index := Scalar.indexCast v8083
  let c0_2216 : Index := 0#32
  ![167, v8084.toNat, 0]
def k0_off183 (k0_t1 : Fin k0_t1_loop.trips) : Fin 3 → Nat :=
  let c168 : Index := 168#32
  let c0_i32_428 : BitVec 32 := 0#32
  let c1_i32_430 : BitVec 32 := 1#32
  let arg11 : BitVec 32 := Scf.iv c0_i32_428 c1_i32_430 k0_t1
  let c32_i32_2229 : BitVec 32 := 32#32
  let v8143 : BitVec 32 := Scalar.muli arg11 c32_i32_2229
  let v8144 : Index := Scalar.indexCast v8143
  let c0_2230 : Index := 0#32
  ![168, v8144.toNat, 0]
def k0_off184 (k0_t1 : Fin k0_t1_loop.trips) : Fin 3 → Nat :=
  let c169 : Index := 169#32
  let c0_i32_428 : BitVec 32 := 0#32
  let c1_i32_430 : BitVec 32 := 1#32
  let arg11 : BitVec 32 := Scf.iv c0_i32_428 c1_i32_430 k0_t1
  let c32_i32_2235 : BitVec 32 := 32#32
  let v8171 : BitVec 32 := Scalar.muli arg11 c32_i32_2235
  let v8172 : Index := Scalar.indexCast v8171
  let c0_2236 : Index := 0#32
  ![169, v8172.toNat, 0]
def k0_off185 (k0_t1 : Fin k0_t1_loop.trips) : Fin 3 → Nat :=
  let c170 : Index := 170#32
  let c0_i32_428 : BitVec 32 := 0#32
  let c1_i32_430 : BitVec 32 := 1#32
  let arg11 : BitVec 32 := Scf.iv c0_i32_428 c1_i32_430 k0_t1
  let c32_i32_2249 : BitVec 32 := 32#32
  let v8231 : BitVec 32 := Scalar.muli arg11 c32_i32_2249
  let v8232 : Index := Scalar.indexCast v8231
  let c0_2250 : Index := 0#32
  ![170, v8232.toNat, 0]
def k0_off186 (k0_t1 : Fin k0_t1_loop.trips) : Fin 3 → Nat :=
  let c171 : Index := 171#32
  let c0_i32_428 : BitVec 32 := 0#32
  let c1_i32_430 : BitVec 32 := 1#32
  let arg11 : BitVec 32 := Scf.iv c0_i32_428 c1_i32_430 k0_t1
  let c32_i32_2255 : BitVec 32 := 32#32
  let v8259 : BitVec 32 := Scalar.muli arg11 c32_i32_2255
  let v8260 : Index := Scalar.indexCast v8259
  let c0_2256 : Index := 0#32
  ![171, v8260.toNat, 0]
def k0_off187 (k0_t1 : Fin k0_t1_loop.trips) : Fin 3 → Nat :=
  let c172 : Index := 172#32
  let c0_i32_428 : BitVec 32 := 0#32
  let c1_i32_430 : BitVec 32 := 1#32
  let arg11 : BitVec 32 := Scf.iv c0_i32_428 c1_i32_430 k0_t1
  let c32_i32_2269 : BitVec 32 := 32#32
  let v8319 : BitVec 32 := Scalar.muli arg11 c32_i32_2269
  let v8320 : Index := Scalar.indexCast v8319
  let c0_2270 : Index := 0#32
  ![172, v8320.toNat, 0]
def k0_off188 (k0_t1 : Fin k0_t1_loop.trips) : Fin 3 → Nat :=
  let c173 : Index := 173#32
  let c0_i32_428 : BitVec 32 := 0#32
  let c1_i32_430 : BitVec 32 := 1#32
  let arg11 : BitVec 32 := Scf.iv c0_i32_428 c1_i32_430 k0_t1
  let c32_i32_2275 : BitVec 32 := 32#32
  let v8347 : BitVec 32 := Scalar.muli arg11 c32_i32_2275
  let v8348 : Index := Scalar.indexCast v8347
  let c0_2276 : Index := 0#32
  ![173, v8348.toNat, 0]
def k0_off189 (k0_t1 : Fin k0_t1_loop.trips) : Fin 3 → Nat :=
  let c174 : Index := 174#32
  let c0_i32_428 : BitVec 32 := 0#32
  let c1_i32_430 : BitVec 32 := 1#32
  let arg11 : BitVec 32 := Scf.iv c0_i32_428 c1_i32_430 k0_t1
  let c32_i32_2289 : BitVec 32 := 32#32
  let v8407 : BitVec 32 := Scalar.muli arg11 c32_i32_2289
  let v8408 : Index := Scalar.indexCast v8407
  let c0_2290 : Index := 0#32
  ![174, v8408.toNat, 0]
def k0_off190 (k0_t1 : Fin k0_t1_loop.trips) : Fin 3 → Nat :=
  let c175 : Index := 175#32
  let c0_i32_428 : BitVec 32 := 0#32
  let c1_i32_430 : BitVec 32 := 1#32
  let arg11 : BitVec 32 := Scf.iv c0_i32_428 c1_i32_430 k0_t1
  let c32_i32_2295 : BitVec 32 := 32#32
  let v8435 : BitVec 32 := Scalar.muli arg11 c32_i32_2295
  let v8436 : Index := Scalar.indexCast v8435
  let c0_2296 : Index := 0#32
  ![175, v8436.toNat, 0]
def k0_off191 (k0_t1 : Fin k0_t1_loop.trips) : Fin 3 → Nat :=
  let c176 : Index := 176#32
  let c0_i32_428 : BitVec 32 := 0#32
  let c1_i32_430 : BitVec 32 := 1#32
  let arg11 : BitVec 32 := Scf.iv c0_i32_428 c1_i32_430 k0_t1
  let c32_i32_2313 : BitVec 32 := 32#32
  let v8506 : BitVec 32 := Scalar.muli arg11 c32_i32_2313
  let v8507 : Index := Scalar.indexCast v8506
  let c0_2314 : Index := 0#32
  ![176, v8507.toNat, 0]
def k0_off192 (k0_t1 : Fin k0_t1_loop.trips) : Fin 3 → Nat :=
  let c177 : Index := 177#32
  let c0_i32_428 : BitVec 32 := 0#32
  let c1_i32_430 : BitVec 32 := 1#32
  let arg11 : BitVec 32 := Scf.iv c0_i32_428 c1_i32_430 k0_t1
  let c32_i32_2319 : BitVec 32 := 32#32
  let v8534 : BitVec 32 := Scalar.muli arg11 c32_i32_2319
  let v8535 : Index := Scalar.indexCast v8534
  let c0_2320 : Index := 0#32
  ![177, v8535.toNat, 0]
def k0_off193 (k0_t1 : Fin k0_t1_loop.trips) : Fin 3 → Nat :=
  let c178 : Index := 178#32
  let c0_i32_428 : BitVec 32 := 0#32
  let c1_i32_430 : BitVec 32 := 1#32
  let arg11 : BitVec 32 := Scf.iv c0_i32_428 c1_i32_430 k0_t1
  let c32_i32_2333 : BitVec 32 := 32#32
  let v8594 : BitVec 32 := Scalar.muli arg11 c32_i32_2333
  let v8595 : Index := Scalar.indexCast v8594
  let c0_2334 : Index := 0#32
  ![178, v8595.toNat, 0]
def k0_off194 (k0_t1 : Fin k0_t1_loop.trips) : Fin 3 → Nat :=
  let c179 : Index := 179#32
  let c0_i32_428 : BitVec 32 := 0#32
  let c1_i32_430 : BitVec 32 := 1#32
  let arg11 : BitVec 32 := Scf.iv c0_i32_428 c1_i32_430 k0_t1
  let c32_i32_2339 : BitVec 32 := 32#32
  let v8622 : BitVec 32 := Scalar.muli arg11 c32_i32_2339
  let v8623 : Index := Scalar.indexCast v8622
  let c0_2340 : Index := 0#32
  ![179, v8623.toNat, 0]
def k0_off195 (k0_t1 : Fin k0_t1_loop.trips) : Fin 3 → Nat :=
  let c180 : Index := 180#32
  let c0_i32_428 : BitVec 32 := 0#32
  let c1_i32_430 : BitVec 32 := 1#32
  let arg11 : BitVec 32 := Scf.iv c0_i32_428 c1_i32_430 k0_t1
  let c32_i32_2353 : BitVec 32 := 32#32
  let v8682 : BitVec 32 := Scalar.muli arg11 c32_i32_2353
  let v8683 : Index := Scalar.indexCast v8682
  let c0_2354 : Index := 0#32
  ![180, v8683.toNat, 0]
def k0_off196 (k0_t1 : Fin k0_t1_loop.trips) : Fin 3 → Nat :=
  let c181 : Index := 181#32
  let c0_i32_428 : BitVec 32 := 0#32
  let c1_i32_430 : BitVec 32 := 1#32
  let arg11 : BitVec 32 := Scf.iv c0_i32_428 c1_i32_430 k0_t1
  let c32_i32_2359 : BitVec 32 := 32#32
  let v8710 : BitVec 32 := Scalar.muli arg11 c32_i32_2359
  let v8711 : Index := Scalar.indexCast v8710
  let c0_2360 : Index := 0#32
  ![181, v8711.toNat, 0]
def k0_off197 (k0_t1 : Fin k0_t1_loop.trips) : Fin 3 → Nat :=
  let c182 : Index := 182#32
  let c0_i32_428 : BitVec 32 := 0#32
  let c1_i32_430 : BitVec 32 := 1#32
  let arg11 : BitVec 32 := Scf.iv c0_i32_428 c1_i32_430 k0_t1
  let c32_i32_2373 : BitVec 32 := 32#32
  let v8770 : BitVec 32 := Scalar.muli arg11 c32_i32_2373
  let v8771 : Index := Scalar.indexCast v8770
  let c0_2374 : Index := 0#32
  ![182, v8771.toNat, 0]
def k0_off198 (k0_t1 : Fin k0_t1_loop.trips) : Fin 3 → Nat :=
  let c183 : Index := 183#32
  let c0_i32_428 : BitVec 32 := 0#32
  let c1_i32_430 : BitVec 32 := 1#32
  let arg11 : BitVec 32 := Scf.iv c0_i32_428 c1_i32_430 k0_t1
  let c32_i32_2379 : BitVec 32 := 32#32
  let v8798 : BitVec 32 := Scalar.muli arg11 c32_i32_2379
  let v8799 : Index := Scalar.indexCast v8798
  let c0_2380 : Index := 0#32
  ![183, v8799.toNat, 0]
def k0_off199 (k0_t1 : Fin k0_t1_loop.trips) : Fin 3 → Nat :=
  let c184 : Index := 184#32
  let c0_i32_428 : BitVec 32 := 0#32
  let c1_i32_430 : BitVec 32 := 1#32
  let arg11 : BitVec 32 := Scf.iv c0_i32_428 c1_i32_430 k0_t1
  let c32_i32_2393 : BitVec 32 := 32#32
  let v8858 : BitVec 32 := Scalar.muli arg11 c32_i32_2393
  let v8859 : Index := Scalar.indexCast v8858
  let c0_2394 : Index := 0#32
  ![184, v8859.toNat, 0]
def k0_off200 (k0_t1 : Fin k0_t1_loop.trips) : Fin 3 → Nat :=
  let c185 : Index := 185#32
  let c0_i32_428 : BitVec 32 := 0#32
  let c1_i32_430 : BitVec 32 := 1#32
  let arg11 : BitVec 32 := Scf.iv c0_i32_428 c1_i32_430 k0_t1
  let c32_i32_2399 : BitVec 32 := 32#32
  let v8886 : BitVec 32 := Scalar.muli arg11 c32_i32_2399
  let v8887 : Index := Scalar.indexCast v8886
  let c0_2400 : Index := 0#32
  ![185, v8887.toNat, 0]
def k0_off201 (k0_t1 : Fin k0_t1_loop.trips) : Fin 3 → Nat :=
  let c186 : Index := 186#32
  let c0_i32_428 : BitVec 32 := 0#32
  let c1_i32_430 : BitVec 32 := 1#32
  let arg11 : BitVec 32 := Scf.iv c0_i32_428 c1_i32_430 k0_t1
  let c32_i32_2413 : BitVec 32 := 32#32
  let v8946 : BitVec 32 := Scalar.muli arg11 c32_i32_2413
  let v8947 : Index := Scalar.indexCast v8946
  let c0_2414 : Index := 0#32
  ![186, v8947.toNat, 0]
def k0_off202 (k0_t1 : Fin k0_t1_loop.trips) : Fin 3 → Nat :=
  let c187 : Index := 187#32
  let c0_i32_428 : BitVec 32 := 0#32
  let c1_i32_430 : BitVec 32 := 1#32
  let arg11 : BitVec 32 := Scf.iv c0_i32_428 c1_i32_430 k0_t1
  let c32_i32_2419 : BitVec 32 := 32#32
  let v8974 : BitVec 32 := Scalar.muli arg11 c32_i32_2419
  let v8975 : Index := Scalar.indexCast v8974
  let c0_2420 : Index := 0#32
  ![187, v8975.toNat, 0]
def k0_off203 (k0_t1 : Fin k0_t1_loop.trips) : Fin 3 → Nat :=
  let c188 : Index := 188#32
  let c0_i32_428 : BitVec 32 := 0#32
  let c1_i32_430 : BitVec 32 := 1#32
  let arg11 : BitVec 32 := Scf.iv c0_i32_428 c1_i32_430 k0_t1
  let c32_i32_2433 : BitVec 32 := 32#32
  let v9034 : BitVec 32 := Scalar.muli arg11 c32_i32_2433
  let v9035 : Index := Scalar.indexCast v9034
  let c0_2434 : Index := 0#32
  ![188, v9035.toNat, 0]
def k0_off204 (k0_t1 : Fin k0_t1_loop.trips) : Fin 3 → Nat :=
  let c189 : Index := 189#32
  let c0_i32_428 : BitVec 32 := 0#32
  let c1_i32_430 : BitVec 32 := 1#32
  let arg11 : BitVec 32 := Scf.iv c0_i32_428 c1_i32_430 k0_t1
  let c32_i32_2439 : BitVec 32 := 32#32
  let v9062 : BitVec 32 := Scalar.muli arg11 c32_i32_2439
  let v9063 : Index := Scalar.indexCast v9062
  let c0_2440 : Index := 0#32
  ![189, v9063.toNat, 0]
def k0_off205 (k0_t1 : Fin k0_t1_loop.trips) : Fin 3 → Nat :=
  let c190 : Index := 190#32
  let c0_i32_428 : BitVec 32 := 0#32
  let c1_i32_430 : BitVec 32 := 1#32
  let arg11 : BitVec 32 := Scf.iv c0_i32_428 c1_i32_430 k0_t1
  let c32_i32_2453 : BitVec 32 := 32#32
  let v9122 : BitVec 32 := Scalar.muli arg11 c32_i32_2453
  let v9123 : Index := Scalar.indexCast v9122
  let c0_2454 : Index := 0#32
  ![190, v9123.toNat, 0]
def k0_off206 (k0_t1 : Fin k0_t1_loop.trips) : Fin 3 → Nat :=
  let c191 : Index := 191#32
  let c0_i32_428 : BitVec 32 := 0#32
  let c1_i32_430 : BitVec 32 := 1#32
  let arg11 : BitVec 32 := Scf.iv c0_i32_428 c1_i32_430 k0_t1
  let c32_i32_2459 : BitVec 32 := 32#32
  let v9150 : BitVec 32 := Scalar.muli arg11 c32_i32_2459
  let v9151 : Index := Scalar.indexCast v9150
  let c0_2460 : Index := 0#32
  ![191, v9151.toNat, 0]
def k0_off207 (k0_t1 : Fin k0_t1_loop.trips) : Fin 3 → Nat :=
  let c192 : Index := 192#32
  let c0_i32_428 : BitVec 32 := 0#32
  let c1_i32_430 : BitVec 32 := 1#32
  let arg11 : BitVec 32 := Scf.iv c0_i32_428 c1_i32_430 k0_t1
  let c32_i32_2477 : BitVec 32 := 32#32
  let v9221 : BitVec 32 := Scalar.muli arg11 c32_i32_2477
  let v9222 : Index := Scalar.indexCast v9221
  let c0_2478 : Index := 0#32
  ![192, v9222.toNat, 0]
def k0_off208 (k0_t1 : Fin k0_t1_loop.trips) : Fin 3 → Nat :=
  let c193 : Index := 193#32
  let c0_i32_428 : BitVec 32 := 0#32
  let c1_i32_430 : BitVec 32 := 1#32
  let arg11 : BitVec 32 := Scf.iv c0_i32_428 c1_i32_430 k0_t1
  let c32_i32_2483 : BitVec 32 := 32#32
  let v9249 : BitVec 32 := Scalar.muli arg11 c32_i32_2483
  let v9250 : Index := Scalar.indexCast v9249
  let c0_2484 : Index := 0#32
  ![193, v9250.toNat, 0]
def k0_off209 (k0_t1 : Fin k0_t1_loop.trips) : Fin 3 → Nat :=
  let c194 : Index := 194#32
  let c0_i32_428 : BitVec 32 := 0#32
  let c1_i32_430 : BitVec 32 := 1#32
  let arg11 : BitVec 32 := Scf.iv c0_i32_428 c1_i32_430 k0_t1
  let c32_i32_2497 : BitVec 32 := 32#32
  let v9309 : BitVec 32 := Scalar.muli arg11 c32_i32_2497
  let v9310 : Index := Scalar.indexCast v9309
  let c0_2498 : Index := 0#32
  ![194, v9310.toNat, 0]
def k0_off210 (k0_t1 : Fin k0_t1_loop.trips) : Fin 3 → Nat :=
  let c195 : Index := 195#32
  let c0_i32_428 : BitVec 32 := 0#32
  let c1_i32_430 : BitVec 32 := 1#32
  let arg11 : BitVec 32 := Scf.iv c0_i32_428 c1_i32_430 k0_t1
  let c32_i32_2503 : BitVec 32 := 32#32
  let v9337 : BitVec 32 := Scalar.muli arg11 c32_i32_2503
  let v9338 : Index := Scalar.indexCast v9337
  let c0_2504 : Index := 0#32
  ![195, v9338.toNat, 0]
def k0_off211 (k0_t1 : Fin k0_t1_loop.trips) : Fin 3 → Nat :=
  let c196 : Index := 196#32
  let c0_i32_428 : BitVec 32 := 0#32
  let c1_i32_430 : BitVec 32 := 1#32
  let arg11 : BitVec 32 := Scf.iv c0_i32_428 c1_i32_430 k0_t1
  let c32_i32_2517 : BitVec 32 := 32#32
  let v9397 : BitVec 32 := Scalar.muli arg11 c32_i32_2517
  let v9398 : Index := Scalar.indexCast v9397
  let c0_2518 : Index := 0#32
  ![196, v9398.toNat, 0]
def k0_off212 (k0_t1 : Fin k0_t1_loop.trips) : Fin 3 → Nat :=
  let c197 : Index := 197#32
  let c0_i32_428 : BitVec 32 := 0#32
  let c1_i32_430 : BitVec 32 := 1#32
  let arg11 : BitVec 32 := Scf.iv c0_i32_428 c1_i32_430 k0_t1
  let c32_i32_2523 : BitVec 32 := 32#32
  let v9425 : BitVec 32 := Scalar.muli arg11 c32_i32_2523
  let v9426 : Index := Scalar.indexCast v9425
  let c0_2524 : Index := 0#32
  ![197, v9426.toNat, 0]
def k0_off213 (k0_t1 : Fin k0_t1_loop.trips) : Fin 3 → Nat :=
  let c198 : Index := 198#32
  let c0_i32_428 : BitVec 32 := 0#32
  let c1_i32_430 : BitVec 32 := 1#32
  let arg11 : BitVec 32 := Scf.iv c0_i32_428 c1_i32_430 k0_t1
  let c32_i32_2537 : BitVec 32 := 32#32
  let v9485 : BitVec 32 := Scalar.muli arg11 c32_i32_2537
  let v9486 : Index := Scalar.indexCast v9485
  let c0_2538 : Index := 0#32
  ![198, v9486.toNat, 0]
def k0_off214 (k0_t1 : Fin k0_t1_loop.trips) : Fin 3 → Nat :=
  let c199 : Index := 199#32
  let c0_i32_428 : BitVec 32 := 0#32
  let c1_i32_430 : BitVec 32 := 1#32
  let arg11 : BitVec 32 := Scf.iv c0_i32_428 c1_i32_430 k0_t1
  let c32_i32_2543 : BitVec 32 := 32#32
  let v9513 : BitVec 32 := Scalar.muli arg11 c32_i32_2543
  let v9514 : Index := Scalar.indexCast v9513
  let c0_2544 : Index := 0#32
  ![199, v9514.toNat, 0]
def k0_off215 (k0_t1 : Fin k0_t1_loop.trips) : Fin 3 → Nat :=
  let c200 : Index := 200#32
  let c0_i32_428 : BitVec 32 := 0#32
  let c1_i32_430 : BitVec 32 := 1#32
  let arg11 : BitVec 32 := Scf.iv c0_i32_428 c1_i32_430 k0_t1
  let c32_i32_2557 : BitVec 32 := 32#32
  let v9573 : BitVec 32 := Scalar.muli arg11 c32_i32_2557
  let v9574 : Index := Scalar.indexCast v9573
  let c0_2558 : Index := 0#32
  ![200, v9574.toNat, 0]
def k0_off216 (k0_t1 : Fin k0_t1_loop.trips) : Fin 3 → Nat :=
  let c201 : Index := 201#32
  let c0_i32_428 : BitVec 32 := 0#32
  let c1_i32_430 : BitVec 32 := 1#32
  let arg11 : BitVec 32 := Scf.iv c0_i32_428 c1_i32_430 k0_t1
  let c32_i32_2563 : BitVec 32 := 32#32
  let v9601 : BitVec 32 := Scalar.muli arg11 c32_i32_2563
  let v9602 : Index := Scalar.indexCast v9601
  let c0_2564 : Index := 0#32
  ![201, v9602.toNat, 0]
def k0_off217 (k0_t1 : Fin k0_t1_loop.trips) : Fin 3 → Nat :=
  let c202 : Index := 202#32
  let c0_i32_428 : BitVec 32 := 0#32
  let c1_i32_430 : BitVec 32 := 1#32
  let arg11 : BitVec 32 := Scf.iv c0_i32_428 c1_i32_430 k0_t1
  let c32_i32_2577 : BitVec 32 := 32#32
  let v9661 : BitVec 32 := Scalar.muli arg11 c32_i32_2577
  let v9662 : Index := Scalar.indexCast v9661
  let c0_2578 : Index := 0#32
  ![202, v9662.toNat, 0]
def k0_off218 (k0_t1 : Fin k0_t1_loop.trips) : Fin 3 → Nat :=
  let c203 : Index := 203#32
  let c0_i32_428 : BitVec 32 := 0#32
  let c1_i32_430 : BitVec 32 := 1#32
  let arg11 : BitVec 32 := Scf.iv c0_i32_428 c1_i32_430 k0_t1
  let c32_i32_2583 : BitVec 32 := 32#32
  let v9689 : BitVec 32 := Scalar.muli arg11 c32_i32_2583
  let v9690 : Index := Scalar.indexCast v9689
  let c0_2584 : Index := 0#32
  ![203, v9690.toNat, 0]
def k0_off219 (k0_t1 : Fin k0_t1_loop.trips) : Fin 3 → Nat :=
  let c204 : Index := 204#32
  let c0_i32_428 : BitVec 32 := 0#32
  let c1_i32_430 : BitVec 32 := 1#32
  let arg11 : BitVec 32 := Scf.iv c0_i32_428 c1_i32_430 k0_t1
  let c32_i32_2597 : BitVec 32 := 32#32
  let v9749 : BitVec 32 := Scalar.muli arg11 c32_i32_2597
  let v9750 : Index := Scalar.indexCast v9749
  let c0_2598 : Index := 0#32
  ![204, v9750.toNat, 0]
def k0_off220 (k0_t1 : Fin k0_t1_loop.trips) : Fin 3 → Nat :=
  let c205 : Index := 205#32
  let c0_i32_428 : BitVec 32 := 0#32
  let c1_i32_430 : BitVec 32 := 1#32
  let arg11 : BitVec 32 := Scf.iv c0_i32_428 c1_i32_430 k0_t1
  let c32_i32_2603 : BitVec 32 := 32#32
  let v9777 : BitVec 32 := Scalar.muli arg11 c32_i32_2603
  let v9778 : Index := Scalar.indexCast v9777
  let c0_2604 : Index := 0#32
  ![205, v9778.toNat, 0]
def k0_off221 (k0_t1 : Fin k0_t1_loop.trips) : Fin 3 → Nat :=
  let c206 : Index := 206#32
  let c0_i32_428 : BitVec 32 := 0#32
  let c1_i32_430 : BitVec 32 := 1#32
  let arg11 : BitVec 32 := Scf.iv c0_i32_428 c1_i32_430 k0_t1
  let c32_i32_2617 : BitVec 32 := 32#32
  let v9837 : BitVec 32 := Scalar.muli arg11 c32_i32_2617
  let v9838 : Index := Scalar.indexCast v9837
  let c0_2618 : Index := 0#32
  ![206, v9838.toNat, 0]
def k0_off222 (k0_t1 : Fin k0_t1_loop.trips) : Fin 3 → Nat :=
  let c207 : Index := 207#32
  let c0_i32_428 : BitVec 32 := 0#32
  let c1_i32_430 : BitVec 32 := 1#32
  let arg11 : BitVec 32 := Scf.iv c0_i32_428 c1_i32_430 k0_t1
  let c32_i32_2623 : BitVec 32 := 32#32
  let v9865 : BitVec 32 := Scalar.muli arg11 c32_i32_2623
  let v9866 : Index := Scalar.indexCast v9865
  let c0_2624 : Index := 0#32
  ![207, v9866.toNat, 0]
def k0_off223 (k0_t1 : Fin k0_t1_loop.trips) : Fin 3 → Nat :=
  let c208 : Index := 208#32
  let c0_i32_428 : BitVec 32 := 0#32
  let c1_i32_430 : BitVec 32 := 1#32
  let arg11 : BitVec 32 := Scf.iv c0_i32_428 c1_i32_430 k0_t1
  let c32_i32_2641 : BitVec 32 := 32#32
  let v9936 : BitVec 32 := Scalar.muli arg11 c32_i32_2641
  let v9937 : Index := Scalar.indexCast v9936
  let c0_2642 : Index := 0#32
  ![208, v9937.toNat, 0]
def k0_off224 (k0_t1 : Fin k0_t1_loop.trips) : Fin 3 → Nat :=
  let c209 : Index := 209#32
  let c0_i32_428 : BitVec 32 := 0#32
  let c1_i32_430 : BitVec 32 := 1#32
  let arg11 : BitVec 32 := Scf.iv c0_i32_428 c1_i32_430 k0_t1
  let c32_i32_2647 : BitVec 32 := 32#32
  let v9964 : BitVec 32 := Scalar.muli arg11 c32_i32_2647
  let v9965 : Index := Scalar.indexCast v9964
  let c0_2648 : Index := 0#32
  ![209, v9965.toNat, 0]
def k0_off225 (k0_t1 : Fin k0_t1_loop.trips) : Fin 3 → Nat :=
  let c210 : Index := 210#32
  let c0_i32_428 : BitVec 32 := 0#32
  let c1_i32_430 : BitVec 32 := 1#32
  let arg11 : BitVec 32 := Scf.iv c0_i32_428 c1_i32_430 k0_t1
  let c32_i32_2661 : BitVec 32 := 32#32
  let v10024 : BitVec 32 := Scalar.muli arg11 c32_i32_2661
  let v10025 : Index := Scalar.indexCast v10024
  let c0_2662 : Index := 0#32
  ![210, v10025.toNat, 0]
def k0_off226 (k0_t1 : Fin k0_t1_loop.trips) : Fin 3 → Nat :=
  let c211 : Index := 211#32
  let c0_i32_428 : BitVec 32 := 0#32
  let c1_i32_430 : BitVec 32 := 1#32
  let arg11 : BitVec 32 := Scf.iv c0_i32_428 c1_i32_430 k0_t1
  let c32_i32_2667 : BitVec 32 := 32#32
  let v10052 : BitVec 32 := Scalar.muli arg11 c32_i32_2667
  let v10053 : Index := Scalar.indexCast v10052
  let c0_2668 : Index := 0#32
  ![211, v10053.toNat, 0]
def k0_off227 (k0_t1 : Fin k0_t1_loop.trips) : Fin 3 → Nat :=
  let c212 : Index := 212#32
  let c0_i32_428 : BitVec 32 := 0#32
  let c1_i32_430 : BitVec 32 := 1#32
  let arg11 : BitVec 32 := Scf.iv c0_i32_428 c1_i32_430 k0_t1
  let c32_i32_2681 : BitVec 32 := 32#32
  let v10112 : BitVec 32 := Scalar.muli arg11 c32_i32_2681
  let v10113 : Index := Scalar.indexCast v10112
  let c0_2682 : Index := 0#32
  ![212, v10113.toNat, 0]
def k0_off228 (k0_t1 : Fin k0_t1_loop.trips) : Fin 3 → Nat :=
  let c213 : Index := 213#32
  let c0_i32_428 : BitVec 32 := 0#32
  let c1_i32_430 : BitVec 32 := 1#32
  let arg11 : BitVec 32 := Scf.iv c0_i32_428 c1_i32_430 k0_t1
  let c32_i32_2687 : BitVec 32 := 32#32
  let v10140 : BitVec 32 := Scalar.muli arg11 c32_i32_2687
  let v10141 : Index := Scalar.indexCast v10140
  let c0_2688 : Index := 0#32
  ![213, v10141.toNat, 0]
def k0_off229 (k0_t1 : Fin k0_t1_loop.trips) : Fin 3 → Nat :=
  let c214 : Index := 214#32
  let c0_i32_428 : BitVec 32 := 0#32
  let c1_i32_430 : BitVec 32 := 1#32
  let arg11 : BitVec 32 := Scf.iv c0_i32_428 c1_i32_430 k0_t1
  let c32_i32_2701 : BitVec 32 := 32#32
  let v10200 : BitVec 32 := Scalar.muli arg11 c32_i32_2701
  let v10201 : Index := Scalar.indexCast v10200
  let c0_2702 : Index := 0#32
  ![214, v10201.toNat, 0]
def k0_off230 (k0_t1 : Fin k0_t1_loop.trips) : Fin 3 → Nat :=
  let c215 : Index := 215#32
  let c0_i32_428 : BitVec 32 := 0#32
  let c1_i32_430 : BitVec 32 := 1#32
  let arg11 : BitVec 32 := Scf.iv c0_i32_428 c1_i32_430 k0_t1
  let c32_i32_2707 : BitVec 32 := 32#32
  let v10228 : BitVec 32 := Scalar.muli arg11 c32_i32_2707
  let v10229 : Index := Scalar.indexCast v10228
  let c0_2708 : Index := 0#32
  ![215, v10229.toNat, 0]
def k0_off231 (k0_t1 : Fin k0_t1_loop.trips) : Fin 3 → Nat :=
  let c216 : Index := 216#32
  let c0_i32_428 : BitVec 32 := 0#32
  let c1_i32_430 : BitVec 32 := 1#32
  let arg11 : BitVec 32 := Scf.iv c0_i32_428 c1_i32_430 k0_t1
  let c32_i32_2721 : BitVec 32 := 32#32
  let v10288 : BitVec 32 := Scalar.muli arg11 c32_i32_2721
  let v10289 : Index := Scalar.indexCast v10288
  let c0_2722 : Index := 0#32
  ![216, v10289.toNat, 0]
def k0_off232 (k0_t1 : Fin k0_t1_loop.trips) : Fin 3 → Nat :=
  let c217 : Index := 217#32
  let c0_i32_428 : BitVec 32 := 0#32
  let c1_i32_430 : BitVec 32 := 1#32
  let arg11 : BitVec 32 := Scf.iv c0_i32_428 c1_i32_430 k0_t1
  let c32_i32_2727 : BitVec 32 := 32#32
  let v10316 : BitVec 32 := Scalar.muli arg11 c32_i32_2727
  let v10317 : Index := Scalar.indexCast v10316
  let c0_2728 : Index := 0#32
  ![217, v10317.toNat, 0]
def k0_off233 (k0_t1 : Fin k0_t1_loop.trips) : Fin 3 → Nat :=
  let c218 : Index := 218#32
  let c0_i32_428 : BitVec 32 := 0#32
  let c1_i32_430 : BitVec 32 := 1#32
  let arg11 : BitVec 32 := Scf.iv c0_i32_428 c1_i32_430 k0_t1
  let c32_i32_2741 : BitVec 32 := 32#32
  let v10376 : BitVec 32 := Scalar.muli arg11 c32_i32_2741
  let v10377 : Index := Scalar.indexCast v10376
  let c0_2742 : Index := 0#32
  ![218, v10377.toNat, 0]
def k0_off234 (k0_t1 : Fin k0_t1_loop.trips) : Fin 3 → Nat :=
  let c219 : Index := 219#32
  let c0_i32_428 : BitVec 32 := 0#32
  let c1_i32_430 : BitVec 32 := 1#32
  let arg11 : BitVec 32 := Scf.iv c0_i32_428 c1_i32_430 k0_t1
  let c32_i32_2747 : BitVec 32 := 32#32
  let v10404 : BitVec 32 := Scalar.muli arg11 c32_i32_2747
  let v10405 : Index := Scalar.indexCast v10404
  let c0_2748 : Index := 0#32
  ![219, v10405.toNat, 0]
def k0_off235 (k0_t1 : Fin k0_t1_loop.trips) : Fin 3 → Nat :=
  let c220 : Index := 220#32
  let c0_i32_428 : BitVec 32 := 0#32
  let c1_i32_430 : BitVec 32 := 1#32
  let arg11 : BitVec 32 := Scf.iv c0_i32_428 c1_i32_430 k0_t1
  let c32_i32_2761 : BitVec 32 := 32#32
  let v10464 : BitVec 32 := Scalar.muli arg11 c32_i32_2761
  let v10465 : Index := Scalar.indexCast v10464
  let c0_2762 : Index := 0#32
  ![220, v10465.toNat, 0]
def k0_off236 (k0_t1 : Fin k0_t1_loop.trips) : Fin 3 → Nat :=
  let c221 : Index := 221#32
  let c0_i32_428 : BitVec 32 := 0#32
  let c1_i32_430 : BitVec 32 := 1#32
  let arg11 : BitVec 32 := Scf.iv c0_i32_428 c1_i32_430 k0_t1
  let c32_i32_2767 : BitVec 32 := 32#32
  let v10492 : BitVec 32 := Scalar.muli arg11 c32_i32_2767
  let v10493 : Index := Scalar.indexCast v10492
  let c0_2768 : Index := 0#32
  ![221, v10493.toNat, 0]
def k0_off237 (k0_t1 : Fin k0_t1_loop.trips) : Fin 3 → Nat :=
  let c222 : Index := 222#32
  let c0_i32_428 : BitVec 32 := 0#32
  let c1_i32_430 : BitVec 32 := 1#32
  let arg11 : BitVec 32 := Scf.iv c0_i32_428 c1_i32_430 k0_t1
  let c32_i32_2781 : BitVec 32 := 32#32
  let v10552 : BitVec 32 := Scalar.muli arg11 c32_i32_2781
  let v10553 : Index := Scalar.indexCast v10552
  let c0_2782 : Index := 0#32
  ![222, v10553.toNat, 0]
def k0_off238 (k0_t1 : Fin k0_t1_loop.trips) : Fin 3 → Nat :=
  let c223 : Index := 223#32
  let c0_i32_428 : BitVec 32 := 0#32
  let c1_i32_430 : BitVec 32 := 1#32
  let arg11 : BitVec 32 := Scf.iv c0_i32_428 c1_i32_430 k0_t1
  let c32_i32_2787 : BitVec 32 := 32#32
  let v10580 : BitVec 32 := Scalar.muli arg11 c32_i32_2787
  let v10581 : Index := Scalar.indexCast v10580
  let c0_2788 : Index := 0#32
  ![223, v10581.toNat, 0]
def k0_mult15 (k0_t1 : Fin k0_t1_loop.trips) : BitVec 32 :=
  let c0_i32_428 : BitVec 32 := 0#32
  let c1_i32_430 : BitVec 32 := 1#32
  let arg11 : BitVec 32 := Scf.iv c0_i32_428 c1_i32_430 k0_t1
  let c512_i32_2797 : BitVec 32 := 512#32
  let v10619 : BitVec 32 := Scalar.muli arg11 c512_i32_2797
  let c0_i32_2798 : BitVec 32 := 0#32
  let v10620 : BitVec 32 := Scalar.addi v10619 c0_i32_2798
  v10620
def k0_off239 (k0_t1 : Fin k0_t1_loop.trips) (c0_i32_2798 : BitVec 32) : Fin 2 → Nat :=
  let c0_2799 : Index := 0#32
  let c0_i32_428 : BitVec 32 := 0#32
  let c1_i32_430 : BitVec 32 := 1#32
  let arg11 : BitVec 32 := Scf.iv c0_i32_428 c1_i32_430 k0_t1
  let c512_i32_2797 : BitVec 32 := 512#32
  let v10619 : BitVec 32 := Scalar.muli arg11 c512_i32_2797
  let v10620 : BitVec 32 := Scalar.addi v10619 c0_i32_2798
  let v10621 : BitVec 32 := v10620
  let v10622 : Index := Scalar.indexCast v10621
  ![0, v10622.toNat]
def k0_mult16 (k0_t1 : Fin k0_t1_loop.trips) : BitVec 32 :=
  let c0_i32_428 : BitVec 32 := 0#32
  let c1_i32_430 : BitVec 32 := 1#32
  let arg11 : BitVec 32 := Scf.iv c0_i32_428 c1_i32_430 k0_t1
  let c512_i32_2801 : BitVec 32 := 512#32
  let v10628 : BitVec 32 := Scalar.muli arg11 c512_i32_2801
  let c256_i32 : BitVec 32 := 256#32
  let v10629 : BitVec 32 := Scalar.addi v10628 c256_i32
  v10629
abbrev stage0_0 : Fin 1 → Memref sig .tc .vmem S14x16x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S14x16x256 : Shape := ⟨3, ![14, 16, 256]⟩
abbrev S16x8192 : Shape := ⟨2, ![16, 8192]⟩
abbrev S8192x112x16 : Shape := ⟨3, ![8192, 112, 16]⟩
abbrev S8192x112 : Shape := ⟨2, ![8192, 112]⟩
abbrev S2 : Shape := ⟨1, ![2]⟩
abbrev S16x14x256 : Shape := ⟨3, ![16, 14, 256]⟩
abbrev S16x3584 : Shape := ⟨2, ![16, 3584]⟩
abbrev S1x1x2x1 : Shape := ⟨4, ![1, 1, 2, 1]⟩
abbrev S8192x112x1x16 : Shape := ⟨4, ![8192, 112, 1, 16]⟩
abbrev S8192x112x2x16 : Shape := ⟨4, ![8192, 112, 2, 16]⟩
abbrev S_ : Shape := ⟨0, ![]⟩
abbrev S8192x112x1x1 : Shape := ⟨4, ![8192, 112, 1, 1]⟩
abbrev S16x112x2x16 : Shape := ⟨4, ![16, 112, 2, 16]⟩

abbrev nBuf : Space → Nat
  | .hbm => 27
  | .vmem => 0
  | .smem => 0
  | _ => 0

abbrev bufTy : (tb : Table) → Fin (tcTables nBuf tb) → BufTy
  | .hbm, ⟨0, _⟩ => ⟨S14x16x256, .bf16⟩
  | .hbm, ⟨1, _⟩ => ⟨S16x8192, .f32⟩
  | .hbm, ⟨2, _⟩ => ⟨S8192x112x16, .i8⟩
  | .hbm, ⟨3, _⟩ => ⟨S8192x112, .bf16⟩
  | .hbm, ⟨4, _⟩ => ⟨S2, .i32⟩
  | .hbm, ⟨5, _⟩ => ⟨S16x14x256, .bf16⟩
  | .hbm, ⟨6, _⟩ => ⟨S16x3584, .bf16⟩
  | .hbm, ⟨7, _⟩ => ⟨S1x1x2x1, .i32⟩
  | .hbm, ⟨8, _⟩ => ⟨S8192x112x16, .i32⟩
  | .hbm, ⟨9, _⟩ => ⟨S8192x112x1x16, .i32⟩
  | .hbm, ⟨10, _⟩ => ⟨S8192x112x2x16, .i32⟩
  | .hbm, ⟨11, _⟩ => ⟨S8192x112x2x16, .i32⟩
  | .hbm, ⟨12, _⟩ => ⟨S8192x112x2x16, .i32⟩
  | .hbm, ⟨13, _⟩ => ⟨S_, .i32⟩
  | .hbm, ⟨14, _⟩ => ⟨S8192x112x2x16, .i32⟩
  | .hbm, ⟨15, _⟩ => ⟨S8192x112x2x16, .i32⟩
  | .hbm, ⟨16, _⟩ => ⟨S8192x112x2x16, .bf16⟩
  | .hbm, ⟨17, _⟩ => ⟨S_, .bf16⟩
  | .hbm, ⟨18, _⟩ => ⟨S8192x112x2x16, .bf16⟩
  | .hbm, ⟨19, _⟩ => ⟨S8192x112x2x16, .bf16⟩
  | .hbm, ⟨20, _⟩ => ⟨S8192x112x1x1, .bf16⟩
  | .hbm, ⟨21, _⟩ => ⟨S8192x112x2x16, .bf16⟩
  | .hbm, ⟨22, _⟩ => ⟨S8192x112x2x16, .bf16⟩
  | .hbm, ⟨23, _⟩ => ⟨S16x112x2x16, .bf16⟩
  | .hbm, ⟨24, _⟩ => ⟨S16x8192, .f32⟩
  | .hbm, ⟨25, _⟩ => ⟨S16x8192, .f32⟩
  | .hbm, ⟨26, _⟩ => ⟨S16x8192, .bf16⟩
  | _, _ => ⟨S14x16x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== GateUp.lean ====
abbrev S16x8192 : Shape := ⟨2, ![16, 8192]⟩
abbrev S3584x256x16 : Shape := ⟨3, ![3584, 256, 16]⟩
abbrev S3584x256 : Shape := ⟨2, ![3584, 256]⟩
abbrev S3584x16x256 : Shape := ⟨3, ![3584, 16, 256]⟩
abbrev S3584x2x8x2x128 : Shape := ⟨5, ![3584, 2, 8, 2, 128]⟩
abbrev S3584x2x2x8x128 : Shape := ⟨5, ![3584, 2, 2, 8, 128]⟩
abbrev S114688x128 : Shape := ⟨2, ![114688, 128]⟩
abbrev S14x16x256 : Shape := ⟨3, ![14, 16, 256]⟩
abbrev S6x2x8192x128 : Shape := ⟨4, ![6, 2, 8192, 128]⟩
abbrev S6x2x256x256 : Shape := ⟨4, ![6, 2, 256, 256]⟩
abbrev S256x256 : Shape := ⟨2, ![256, 256]⟩
abbrev S4x256x256 : Shape := ⟨3, ![4, 256, 256]⟩
abbrev S48 : Shape := ⟨1, ![48]⟩
abbrev S1 : Shape := ⟨1, ![1]⟩
abbrev S_ : Shape := ⟨0, ![]⟩
abbrev S1x1x8192x128 : Shape := ⟨4, ![1, 1, 8192, 128]⟩
abbrev S8192x128 : Shape := ⟨2, ![8192, 128]⟩
abbrev S1x1x256x256 : Shape := ⟨4, ![1, 1, 256, 256]⟩
abbrev S16x256 : Shape := ⟨2, ![16, 256]⟩
abbrev S128x256 : Shape := ⟨2, ![128, 256]⟩
abbrev S128x128 : Shape := ⟨2, ![128, 128]⟩
abbrev S4096x128 : Shape := ⟨2, ![4096, 128]⟩
abbrev S1024x128 : Shape := ⟨2, ![1024, 128]⟩
abbrev S128x8x128 : Shape := ⟨3, ![128, 8, 128]⟩
abbrev S128x1x128 : Shape := ⟨3, ![128, 1, 128]⟩
abbrev S1x128x128 : Shape := ⟨3, ![1, 128, 128]⟩
abbrev S8x128 : Shape := ⟨2, ![8, 128]⟩
abbrev S1x128 : Shape := ⟨2, ![1, 128]⟩
abbrev S32x128 : Shape := ⟨2, ![32, 128]⟩
abbrev S32x1x128 : Shape := ⟨3, ![32, 1, 128]⟩
abbrev S32x2x128 : Shape := ⟨3, ![32, 2, 128]⟩
abbrev S64x128 : Shape := ⟨2, ![64, 128]⟩
abbrev S1x8x128 : Shape := ⟨3, ![1, 8, 128]⟩
abbrev S8x8x128 : Shape := ⟨3, ![8, 8, 128]⟩
abbrev S8x1x128 : Shape := ⟨3, ![8, 1, 128]⟩
abbrev S256x128 : Shape := ⟨2, ![256, 128]⟩
abbrev S1x16x256 : Shape := ⟨3, ![1, 16, 256]⟩

abbrev nBuf : Space → Nat
  | .hbm => 14
  | .vmem => 10
  | .smem => 0
  | _ => 0

abbrev bufTy : (tb : Table) → Fin (tcTables nBuf tb) → BufTy
  | .hbm, ⟨0, _⟩ => ⟨S16x8192, .bf16⟩
  | .hbm, ⟨1, _⟩ => ⟨S3584x256x16, .i8⟩
  | .hbm, ⟨2, _⟩ => ⟨S3584x256, .bf16⟩
  | .hbm, ⟨3, _⟩ => ⟨S3584x256x16, .i8⟩
  | .hbm, ⟨4, _⟩ => ⟨S3584x256, .bf16⟩
  | .hbm, ⟨5, _⟩ => ⟨S3584x16x256, .i8⟩
  | .hbm, ⟨6, _⟩ => ⟨S3584x2x8x2x128, .i8⟩
  | .hbm, ⟨7, _⟩ => ⟨S3584x2x2x8x128, .i8⟩
  | .hbm, ⟨8, _⟩ => ⟨S114688x128, .i8⟩
  | .hbm, ⟨9, _⟩ => ⟨S3584x16x256, .i8⟩
  | .hbm, ⟨10, _⟩ => ⟨S3584x2x8x2x128, .i8⟩
  | .hbm, ⟨11, _⟩ => ⟨S3584x2x2x8x128, .i8⟩
  | .hbm, ⟨12, _⟩ => ⟨S114688x128, .i8⟩
  | .hbm, ⟨13, _⟩ => ⟨S14x16x256, .bf16⟩
  | .local _ .vmem, ⟨0, _⟩ => ⟨S16x8192, .bf16⟩
  | .local _ .vmem, ⟨1, _⟩ => ⟨S14x16x256, .bf16⟩
  | .local _ .vmem, ⟨2, _⟩ => ⟨S6x2x8192x128, .i8⟩
  | .local _ .vmem, ⟨3, _⟩ => ⟨S6x2x256x256, .bf16⟩
  | .local _ .vmem, ⟨4, _⟩ => ⟨S16x8192, .bf16⟩
  | .local _ .vmem, ⟨5, _⟩ => ⟨S256x256, .bf16⟩
  | .local _ .vmem, ⟨6, _⟩ => ⟨S4x256x256, .i32⟩
  | .local _ .vmem, ⟨7, _⟩ => ⟨S256x256, .f32⟩
  | .local _ .vmem, ⟨8, _⟩ => ⟨S4x256x256, .i32⟩
  | .local _ .vmem, ⟨9, _⟩ => ⟨S256x256, .f32⟩
  | _, _ => ⟨S16x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_493 : BitVec 32 := 0#32
  let c14_i32 : BitVec 32 := 14#32
  let v695 : BitVec 32 := Scalar.addi c0_i32_493 c14_i32
  let c1_i32_494 : BitVec 32 := 1#32
  ⟨c0_i32_493, v695, c1_i32_494⟩
def k0_off1 (k0_t1 : Fin k0_t1_loop.trips) : Fin 4 → Nat :=
  let c0_i32_493 : BitVec 32 := 0#32
  let c1_i32_494 : BitVec 32 := 1#32
  let arg15 : BitVec 32 := Scf.iv c0_i32_493 c1_i32_494 k0_t1
  let c6_i32 : BitVec 32 := 6#32
  let c0_i32_496 : BitVec 32 := 0#32
  let v696 : BitVec 1 := Scalar.cmpi .eq c6_i32 c0_i32_496
  let c1_i32_497 : BitVec 32 := 1#32
  let v697 : BitVec 32 := Scalar.select v696 c1_i32_497 c6_i32
  let v698 : BitVec 32 := Scalar.remsi arg15 v697
  let c0_i32_499 : BitVec 32 := 0#32
  let v700 : BitVec 1 := Scalar.cmpi .slt v698 c0_i32_499
  let c0_i32_500 : BitVec 32 := 0#32
  let v701 : BitVec 1 := Scalar.cmpi .slt v697 c0_i32_500
  let v702 : BitVec 1 := Scalar.xori v700 v701
  let c0_i32_498 : BitVec 32 := 0#32
  let v699 : BitVec 1 := Scalar.cmpi .ne v698 c0_i32_498
  let v703 : BitVec 1 := Scalar.andi v702 v699
  let v704 : BitVec 32 := Scalar.addi v698 v697
  let v705 : BitVec 32 := Scalar.select v703 v704 v698
  let c1_i32_582 : BitVec 32 := 1#32
  let c0_i32_583 : BitVec 32 := 0#32
  let c0_i32_584 : BitVec 32 := 0#32
  ![v705.toNat, 1, 0, 0]
def k0_off2 (k0_t1 : Fin k0_t1_loop.trips) : Fin 4 → Nat :=
  let c0_i32_493 : BitVec 32 := 0#32
  let c1_i32_494 : BitVec 32 := 1#32
  let arg15 : BitVec 32 := Scf.iv c0_i32_493 c1_i32_494 k0_t1
  let c6_i32 : BitVec 32 := 6#32
  let c0_i32_496 : BitVec 32 := 0#32
  let v696 : BitVec 1 := Scalar.cmpi .eq c6_i32 c0_i32_496
  let c1_i32_497 : BitVec 32 := 1#32
  let v697 : BitVec 32 := Scalar.select v696 c1_i32_497 c6_i32
  let v698 : BitVec 32 := Scalar.remsi arg15 v697
  let c0_i32_499 : BitVec 32 := 0#32
  let v700 : BitVec 1 := Scalar.cmpi .slt v698 c0_i32_499
  let c0_i32_500 : BitVec 32 := 0#32
  let v701 : BitVec 1 := Scalar.cmpi .slt v697 c0_i32_500
  let v702 : BitVec 1 := Scalar.xori v700 v701
  let c0_i32_498 : BitVec 32 := 0#32
  let v699 : BitVec 1 := Scalar.cmpi .ne v698 c0_i32_498
  let v703 : BitVec 1 := Scalar.andi v702 v699
  let v704 : BitVec 32 := Scalar.addi v698 v697
  let v705 : BitVec 32 := Scalar.select v703 v704 v698
  let c1_i32_739 : BitVec 32 := 1#32
  let c0_i32_740 : BitVec 32 := 0#32
  let c0_i32_741 : BitVec 32 := 0#32
  ![v705.toNat, 1, 0, 0]
def k0_cond1 (k0_t1 : Fin k0_t1_loop.trips) : BitVec 1 :=
  let c0_i32_493 : BitVec 32 := 0#32
  let c1_i32_494 : BitVec 32 := 1#32
  let arg15 : BitVec 32 := Scf.iv c0_i32_493 c1_i32_494 k0_t1
  let c1_i32_3081 : BitVec 32 := 1#32
  let v7416 : BitVec 32 := Scalar.addi arg15 c1_i32_3081
  let c14_i32_3082 : BitVec 32 := 14#32
  let v7417 : BitVec 1 := Scalar.cmpi .slt v7416 c14_i32_3082
  let v7418 : BitVec 32 := Scalar.extui v7417
  let c0_i32_3083 : BitVec 32 := 0#32
  let v7419 : BitVec 1 := Scalar.cmpi .ne v7418 c0_i32_3083
  v7419

def k0_off3 (k0_t1 : Fin k0_t1_loop.trips) (c24_i32_5932 : BitVec 32) : Fin 1 → Nat :=
  let c0_i32_493 : BitVec 32 := 0#32
  let c1_i32_494 : BitVec 32 := 1#32
  let arg15 : BitVec 32 := Scf.iv c0_i32_493 c1_i32_494 k0_t1
  let c1_i32_3080 : BitVec 32 := 1#32
  let v7414 : BitVec 32 := Scalar.addi arg15 c1_i32_3080
  let c13_i32 : BitVec 32 := 13#32
  let v7415 : BitVec 32 := Scalar.minsi v7414 c13_i32
  let c6_i32_5925 : BitVec 32 := 6#32
  let c0_i32_5926 : BitVec 32 := 0#32
  let v14150 : BitVec 1 := Scalar.cmpi .eq c6_i32_5925 c0_i32_5926
  let c1_i32_5927 : BitVec 32 := 1#32
  let v14151 : BitVec 32 := Scalar.select v14150 c1_i32_5927 c6_i32_5925
  let v14152 : BitVec 32 := Scalar.remsi v7415 v14151
  let c0_i32_5929 : BitVec 32 := 0#32
  let v14154 : BitVec 1 := Scalar.cmpi .slt v14152 c0_i32_5929
  let c0_i32_5930 : BitVec 32 := 0#32
  let v14155 : BitVec 1 := Scalar.cmpi .slt v14151 c0_i32_5930
  let v14156 : BitVec 1 := Scalar.xori v14154 v14155
  let c0_i32_5928 : BitVec 32 := 0#32
  let v14153 : BitVec 1 := Scalar.cmpi .ne v14152 c0_i32_5928
  let v14157 : BitVec 1 := Scalar.andi v14156 v14153
  let v14158 : BitVec 32 := Scalar.addi v14152 v14151
  let v14159 : BitVec 32 := Scalar.select v14157 v14158 v14152
  let v14161 : BitVec 32 := Scalar.addi c24_i32_5932 v14159
  ![v14161.toNat]
def k0_off4 (k0_t1 : Fin k0_t1_loop.trips) : Fin 4 → Nat :=
  let c0_i32_493 : BitVec 32 := 0#32
  let c1_i32_494 : BitVec 32 := 1#32
  let arg15 : BitVec 32 := Scf.iv c0_i32_493 c1_i32_494 k0_t1
  let c1_i32_3080 : BitVec 32 := 1#32
  let v7414 : BitVec 32 := Scalar.addi arg15 c1_i32_3080
  let c13_i32 : BitVec 32 := 13#32
  let v7415 : BitVec 32 := Scalar.minsi v7414 c13_i32
  let c6_i32_5925 : BitVec 32 := 6#32
  let c0_i32_5926 : BitVec 32 := 0#32
  let v14150 : BitVec 1 := Scalar.cmpi .eq c6_i32_5925 c0_i32_5926
  let c1_i32_5927 : BitVec 32 := 1#32
  let v14151 : BitVec 32 := Scalar.select v14150 c1_i32_5927 c6_i32_5925
  let v14152 : BitVec 32 := Scalar.remsi v7415 v14151
  let c0_i32_5929 : BitVec 32 := 0#32
  let v14154 : BitVec 1 := Scalar.cmpi .slt v14152 c0_i32_5929
  let c0_i32_5930 : BitVec 32 := 0#32
  let v14155 : BitVec 1 := Scalar.cmpi .slt v14151 c0_i32_5930
  let v14156 : BitVec 1 := Scalar.xori v14154 v14155
  let c0_i32_5928 : BitVec 32 := 0#32
  let v14153 : BitVec 1 := Scalar.cmpi .ne v14152 c0_i32_5928
  let v14157 : BitVec 1 := Scalar.andi v14156 v14153
  let v14158 : BitVec 32 := Scalar.addi v14152 v14151
  let v14159 : BitVec 32 := Scalar.select v14157 v14158 v14152
  let c0_i32_5939 : BitVec 32 := 0#32
  let c0_i32_5940 : BitVec 32 := 0#32
  let c0_i32_5941 : BitVec 32 := 0#32
  ![v14159.toNat, 0, 0, 0]
def k0_off5 (k0_t1 : Fin k0_t1_loop.trips) : Fin 2 → Nat :=
  let c0_i32_493 : BitVec 32 := 0#32
  let c1_i32_494 : BitVec 32 := 1#32
  let arg15 : BitVec 32 := Scf.iv c0_i32_493 c1_i32_494 k0_t1
  let c1_i32_3080 : BitVec 32 := 1#32
  let v7414 : BitVec 32 := Scalar.addi arg15 c1_i32_3080
  let c13_i32 : BitVec 32 := 13#32
  let v7415 : BitVec 32 := Scalar.minsi v7414 c13_i32
  let c8192_i32_5931 : BitVec 32 := 8192#32
  let v14160 : BitVec 32 := Scalar.muli v7415 c8192_i32_5931
  let c0_i32_5942 : BitVec 32 := 0#32
  ![v14160.toNat, 0]
def k0_off6 (k0_t1 : Fin k0_t1_loop.trips) : Fin 4 → Nat :=
  let c0_i32_493 : BitVec 32 := 0#32
  let c1_i32_494 : BitVec 32 := 1#32
  let arg15 : BitVec 32 := Scf.iv c0_i32_493 c1_i32_494 k0_t1
  let c1_i32_3080 : BitVec 32 := 1#32
  let v7414 : BitVec 32 := Scalar.addi arg15 c1_i32_3080
  let c13_i32 : BitVec 32 := 13#32
  let v7415 : BitVec 32 := Scalar.minsi v7414 c13_i32
  let c6_i32_5925 : BitVec 32 := 6#32
  let c0_i32_5926 : BitVec 32 := 0#32
  let v14150 : BitVec 1 := Scalar.cmpi .eq c6_i32_5925 c0_i32_5926
  let c1_i32_5927 : BitVec 32 := 1#32
  let v14151 : BitVec 32 := Scalar.select v14150 c1_i32_5927 c6_i32_5925
  let v14152 : BitVec 32 := Scalar.remsi v7415 v14151
  let c0_i32_5929 : BitVec 32 := 0#32
  let v14154 : BitVec 1 := Scalar.cmpi .slt v14152 c0_i32_5929
  let c0_i32_5930 : BitVec 32 := 0#32
  let v14155 : BitVec 1 := Scalar.cmpi .slt v14151 c0_i32_5930
  let v14156 : BitVec 1 := Scalar.xori v14154 v14155
  let c0_i32_5928 : BitVec 32 := 0#32
  let v14153 : BitVec 1 := Scalar.cmpi .ne v14152 c0_i32_5928
  let v14157 : BitVec 1 := Scalar.andi v14156 v14153
  let v14158 : BitVec 32 := Scalar.addi v14152 v14151
  let v14159 : BitVec 32 := Scalar.select v14157 v14158 v14152
  let c1_i32_5943 : BitVec 32 := 1#32
  let c0_i32_5944 : BitVec 32 := 0#32
  let c0_i32_5945 : BitVec 32 := 0#32
  ![v14159.toNat, 1, 0, 0]
def k0_off7 (k0_t1 : Fin k0_t1_loop.trips) : Fin 4 → Nat :=
  let c0_i32_493 : BitVec 32 := 0#32
  let c1_i32_494 : BitVec 32 := 1#32
  let arg15 : BitVec 32 := Scf.iv c0_i32_493 c1_i32_494 k0_t1
  let c1_i32_3080 : BitVec 32 := 1#32
  let v7414 : BitVec 32 := Scalar.addi arg15 c1_i32_3080
  let c13_i32 : BitVec 32 := 13#32
  let v7415 : BitVec 32 := Scalar.minsi v7414 c13_i32
  let c6_i32_5925 : BitVec 32 := 6#32
  let c0_i32_5926 : BitVec 32 := 0#32
  let v14150 : BitVec 1 := Scalar.cmpi .eq c6_i32_5925 c0_i32_5926
  let c1_i32_5927 : BitVec 32 := 1#32
  let v14151 : BitVec 32 := Scalar.select v14150 c1_i32_5927 c6_i32_5925
  let v14152 : BitVec 32 := Scalar.remsi v7415 v14151
  let c0_i32_5929 : BitVec 32 := 0#32
  let v14154 : BitVec 1 := Scalar.cmpi .slt v14152 c0_i32_5929
  let c0_i32_5930 : BitVec 32 := 0#32
  let v14155 : BitVec 1 := Scalar.cmpi .slt v14151 c0_i32_5930
  let v14156 : BitVec 1 := Scalar.xori v14154 v14155
  let c0_i32_5928 : BitVec 32 := 0#32
  let v14153 : BitVec 1 := Scalar.cmpi .ne v14152 c0_i32_5928
  let v14157 : BitVec 1 := Scalar.andi v14156 v14153
  let v14158 : BitVec 32 := Scalar.addi v14152 v14151
  let v14159 : BitVec 32 := Scalar.select v14157 v14158 v14152
  let c0_i32_5947 : BitVec 32 := 0#32
  let c0_i32_5948 : BitVec 32 := 0#32
  let c0_i32_5949 : BitVec 32 := 0#32
  ![v14159.toNat, 0, 0, 0]
def k0_off8 (k0_t1 : Fin k0_t1_loop.trips) : Fin 2 → Nat :=
  let c0_i32_493 : BitVec 32 := 0#32
  let c1_i32_494 : BitVec 32 := 1#32
  let arg15 : BitVec 32 := Scf.iv c0_i32_493 c1_i32_494 k0_t1
  let c1_i32_3080 : BitVec 32 := 1#32
  let v7414 : BitVec 32 := Scalar.addi arg15 c1_i32_3080
  let c13_i32 : BitVec 32 := 13#32
  let v7415 : BitVec 32 := Scalar.minsi v7414 c13_i32
  let c256_i32_5935 : BitVec 32 := 256#32
  let v14164 : BitVec 32 := Scalar.muli v7415 c256_i32_5935
  let c0_i32_5950 : BitVec 32 := 0#32
  ![v14164.toNat, 0]
def k0_off9 (k0_t1 : Fin k0_t1_loop.trips) : Fin 4 → Nat :=
  let c0_i32_493 : BitVec 32 := 0#32
  let c1_i32_494 : BitVec 32 := 1#32
  let arg15 : BitVec 32 := Scf.iv c0_i32_493 c1_i32_494 k0_t1
  let c1_i32_3080 : BitVec 32 := 1#32
  let v7414 : BitVec 32 := Scalar.addi arg15 c1_i32_3080
  let c13_i32 : BitVec 32 := 13#32
  let v7415 : BitVec 32 := Scalar.minsi v7414 c13_i32
  let c6_i32_5925 : BitVec 32 := 6#32
  let c0_i32_5926 : BitVec 32 := 0#32
  let v14150 : BitVec 1 := Scalar.cmpi .eq c6_i32_5925 c0_i32_5926
  let c1_i32_5927 : BitVec 32 := 1#32
  let v14151 : BitVec 32 := Scalar.select v14150 c1_i32_5927 c6_i32_5925
  let v14152 : BitVec 32 := Scalar.remsi v7415 v14151
  let c0_i32_5929 : BitVec 32 := 0#32
  let v14154 : BitVec 1 := Scalar.cmpi .slt v14152 c0_i32_5929
  let c0_i32_5930 : BitVec 32 := 0#32
  let v14155 : BitVec 1 := Scalar.cmpi .slt v14151 c0_i32_5930
  let v14156 : BitVec 1 := Scalar.xori v14154 v14155
  let c0_i32_5928 : BitVec 32 := 0#32
  let v14153 : BitVec 1 := Scalar.cmpi .ne v14152 c0_i32_5928
  let v14157 : BitVec 1 := Scalar.andi v14156 v14153
  let v14158 : BitVec 32 := Scalar.addi v14152 v14151
  let v14159 : BitVec 32 := Scalar.select v14157 v14158 v14152
  let c1_i32_5951 : BitVec 32 := 1#32
  let c0_i32_5952 : BitVec 32 := 0#32
  let c0_i32_5953 : BitVec 32 := 0#32
  ![v14159.toNat, 1, 0, 0]
def k0_off10 (k0_t1 : Fin k0_t1_loop.trips) : Fin 4 → Nat :=
  let c0_i32_493 : BitVec 32 := 0#32
  let c1_i32_494 : BitVec 32 := 1#32
  let arg15 : BitVec 32 := Scf.iv c0_i32_493 c1_i32_494 k0_t1
  let c1_i32_3080 : BitVec 32 := 1#32
  let v7414 : BitVec 32 := Scalar.addi arg15 c1_i32_3080
  let c13_i32 : BitVec 32 := 13#32
  let v7415 : BitVec 32 := Scalar.minsi v7414 c13_i32
  let c6_i32_3084 : BitVec 32 := 6#32
  let c0_i32_3085 : BitVec 32 := 0#32
  let v7420 : BitVec 1 := Scalar.cmpi .eq c6_i32_3084 c0_i32_3085
  let c1_i32_3086 : BitVec 32 := 1#32
  let v7421 : BitVec 32 := Scalar.select v7420 c1_i32_3086 c6_i32_3084
  let v7422 : BitVec 32 := Scalar.remsi v7415 v7421
  let c0_i32_3088 : BitVec 32 := 0#32
  let v7424 : BitVec 1 := Scalar.cmpi .slt v7422 c0_i32_3088
  let c0_i32_3089 : BitVec 32 := 0#32
  let v7425 : BitVec 1 := Scalar.cmpi .slt v7421 c0_i32_3089
  let v7426 : BitVec 1 := Scalar.xori v7424 v7425
  let c0_i32_3087 : BitVec 32 := 0#32
  let v7423 : BitVec 1 := Scalar.cmpi .ne v7422 c0_i32_3087
  let v7427 : BitVec 1 := Scalar.andi v7426 v7423
  let v7428 : BitVec 32 := Scalar.addi v7422 v7421
  let v7429 : BitVec 32 := Scalar.select v7427 v7428 v7422
  let c0_i32_3175 : BitVec 32 := 0#32
  let c0_i32_3176 : BitVec 32 := 0#32
  let c0_i32_3177 : BitVec 32 := 0#32
  ![v7429.toNat, 0, 0, 0]
def k0_off11 (k0_t1 : Fin k0_t1_loop.trips) : Fin 4 → Nat :=
  let c0_i32_493 : BitVec 32 := 0#32
  let c1_i32_494 : BitVec 32 := 1#32
  let arg15 : BitVec 32 := Scf.iv c0_i32_493 c1_i32_494 k0_t1
  let c1_i32_3080 : BitVec 32 := 1#32
  let v7414 : BitVec 32 := Scalar.addi arg15 c1_i32_3080
  let c13_i32 : BitVec 32 := 13#32
  let v7415 : BitVec 32 := Scalar.minsi v7414 c13_i32
  let c6_i32_3084 : BitVec 32 := 6#32
  let c0_i32_3085 : BitVec 32 := 0#32
  let v7420 : BitVec 1 := Scalar.cmpi .eq c6_i32_3084 c0_i32_3085
  let c1_i32_3086 : BitVec 32 := 1#32
  let v7421 : BitVec 32 := Scalar.select v7420 c1_i32_3086 c6_i32_3084
  let v7422 : BitVec 32 := Scalar.remsi v7415 v7421
  let c0_i32_3088 : BitVec 32 := 0#32
  let v7424 : BitVec 1 := Scalar.cmpi .slt v7422 c0_i32_3088
  let c0_i32_3089 : BitVec 32 := 0#32
  let v7425 : BitVec 1 := Scalar.cmpi .slt v7421 c0_i32_3089
  let v7426 : BitVec 1 := Scalar.xori v7424 v7425
  let c0_i32_3087 : BitVec 32 := 0#32
  let v7423 : BitVec 1 := Scalar.cmpi .ne v7422 c0_i32_3087
  let v7427 : BitVec 1 := Scalar.andi v7426 v7423
  let v7428 : BitVec 32 := Scalar.addi v7422 v7421
  let v7429 : BitVec 32 := Scalar.select v7427 v7428 v7422
  let c0_i32_3348 : BitVec 32 := 0#32
  let c0_i32_3349 : BitVec 32 := 0#32
  let c0_i32_3350 : BitVec 32 := 0#32
  ![v7429.toNat, 0, 0, 0]
def k0_off12 (k0_t1 : Fin k0_t1_loop.trips) : Fin 3 → Nat :=
  let c0_i32_493 : BitVec 32 := 0#32
  let c1_i32_494 : BitVec 32 := 1#32
  let arg15 : BitVec 32 := Scf.iv c0_i32_493 c1_i32_494 k0_t1
  let v14142 : Index := Scalar.indexCast arg15
  let c0_5920 : Index := 0#32
  let c0_5921 : Index := 0#32
  ![v14142.toNat, 0, 0]
def k0_cond2 (k0_t1 : Fin k0_t1_loop.trips) : BitVec 1 :=
  let c0_i32_493 : BitVec 32 := 0#32
  let c1_i32_494 : BitVec 32 := 1#32
  let arg15 : BitVec 32 := Scf.iv c0_i32_493 c1_i32_494 k0_t1
  let c6_i32_5922 : BitVec 32 := 6#32
  let v14146 : BitVec 32 := Scalar.addi arg15 c6_i32_5922
  let c14_i32_5923 : BitVec 32 := 14#32
  let v14147 : BitVec 1 := Scalar.cmpi .slt v14146 c14_i32_5923
  let v14148 : BitVec 32 := Scalar.extui v14147
  let c0_i32_5924 : BitVec 32 := 0#32
  let v14149 : BitVec 1 := Scalar.cmpi .ne v14148 c0_i32_5924
  v14149

def k0_off13 (k0_t1 : Fin k0_t1_loop.trips) (c24_i32_5933 : BitVec 32) : Fin 1 → Nat :=
  let c0_i32_493 : BitVec 32 := 0#32
  let c1_i32_494 : BitVec 32 := 1#32
  let arg15 : BitVec 32 := Scf.iv c0_i32_493 c1_i32_494 k0_t1
  let c6_i32_5925 : BitVec 32 := 6#32
  let v14150 : BitVec 32 := Scalar.addi arg15 c6_i32_5925
  let c6_i32_5926 : BitVec 32 := 6#32
  let c0_i32_5927 : BitVec 32 := 0#32
  let v14151 : BitVec 1 := Scalar.cmpi .eq c6_i32_5926 c0_i32_5927
  let c1_i32_5928 : BitVec 32 := 1#32
  let v14152 : BitVec 32 := Scalar.select v14151 c1_i32_5928 c6_i32_5926
  let v14153 : BitVec 32 := Scalar.remsi v14150 v14152
  let c0_i32_5930 : BitVec 32 := 0#32
  let v14155 : BitVec 1 := Scalar.cmpi .slt v14153 c0_i32_5930
  let c0_i32_5931 : BitVec 32 := 0#32
  let v14156 : BitVec 1 := Scalar.cmpi .slt v14152 c0_i32_5931
  let v14157 : BitVec 1 := Scalar.xori v14155 v14156
  let c0_i32_5929 : BitVec 32 := 0#32
  let v14154 : BitVec 1 := Scalar.cmpi .ne v14153 c0_i32_5929
  let v14158 : BitVec 1 := Scalar.andi v14157 v14154
  let v14159 : BitVec 32 := Scalar.addi v14153 v14152
  let v14160 : BitVec 32 := Scalar.select v14158 v14159 v14153
  let v14162 : BitVec 32 := Scalar.addi c24_i32_5933 v14160
  ![v14162.toNat]
def k0_off14 (k0_t1 : Fin k0_t1_loop.trips) : Fin 4 → Nat :=
  let c0_i32_493 : BitVec 32 := 0#32
  let c1_i32_494 : BitVec 32 := 1#32
  let arg15 : BitVec 32 := Scf.iv c0_i32_493 c1_i32_494 k0_t1
  let c6_i32_5925 : BitVec 32 := 6#32
  let v14150 : BitVec 32 := Scalar.addi arg15 c6_i32_5925
  let c6_i32_5926 : BitVec 32 := 6#32
  let c0_i32_5927 : BitVec 32 := 0#32
  let v14151 : BitVec 1 := Scalar.cmpi .eq c6_i32_5926 c0_i32_5927
  let c1_i32_5928 : BitVec 32 := 1#32
  let v14152 : BitVec 32 := Scalar.select v14151 c1_i32_5928 c6_i32_5926
  let v14153 : BitVec 32 := Scalar.remsi v14150 v14152
  let c0_i32_5930 : BitVec 32 := 0#32
  let v14155 : BitVec 1 := Scalar.cmpi .slt v14153 c0_i32_5930
  let c0_i32_5931 : BitVec 32 := 0#32
  let v14156 : BitVec 1 := Scalar.cmpi .slt v14152 c0_i32_5931
  let v14157 : BitVec 1 := Scalar.xori v14155 v14156
  let c0_i32_5929 : BitVec 32 := 0#32
  let v14154 : BitVec 1 := Scalar.cmpi .ne v14153 c0_i32_5929
  let v14158 : BitVec 1 := Scalar.andi v14157 v14154
  let v14159 : BitVec 32 := Scalar.addi v14153 v14152
  let v14160 : BitVec 32 := Scalar.select v14158 v14159 v14153
  let c0_i32_5940 : BitVec 32 := 0#32
  let c0_i32_5941 : BitVec 32 := 0#32
  let c0_i32_5942 : BitVec 32 := 0#32
  ![v14160.toNat, 0, 0, 0]
def k0_off15 (k0_t1 : Fin k0_t1_loop.trips) : Fin 2 → Nat :=
  let c0_i32_493 : BitVec 32 := 0#32
  let c1_i32_494 : BitVec 32 := 1#32
  let arg15 : BitVec 32 := Scf.iv c0_i32_493 c1_i32_494 k0_t1
  let c6_i32_5925 : BitVec 32 := 6#32
  let v14150 : BitVec 32 := Scalar.addi arg15 c6_i32_5925
  let c8192_i32_5932 : BitVec 32 := 8192#32
  let v14161 : BitVec 32 := Scalar.muli v14150 c8192_i32_5932
  let c0_i32_5943 : BitVec 32 := 0#32
  ![v14161.toNat, 0]
def k0_off16 (k0_t1 : Fin k0_t1_loop.trips) : Fin 4 → Nat :=
  let c0_i32_493 : BitVec 32 := 0#32
  let c1_i32_494 : BitVec 32 := 1#32
  let arg15 : BitVec 32 := Scf.iv c0_i32_493 c1_i32_494 k0_t1
  let c6_i32_5925 : BitVec 32 := 6#32
  let v14150 : BitVec 32 := Scalar.addi arg15 c6_i32_5925
  let c6_i32_5926 : BitVec 32 := 6#32
  let c0_i32_5927 : BitVec 32 := 0#32
  let v14151 : BitVec 1 := Scalar.cmpi .eq c6_i32_5926 c0_i32_5927
  let c1_i32_5928 : BitVec 32 := 1#32
  let v14152 : BitVec 32 := Scalar.select v14151 c1_i32_5928 c6_i32_5926
  let v14153 : BitVec 32 := Scalar.remsi v14150 v14152
  let c0_i32_5930 : BitVec 32 := 0#32
  let v14155 : BitVec 1 := Scalar.cmpi .slt v14153 c0_i32_5930
  let c0_i32_5931 : BitVec 32 := 0#32
  let v14156 : BitVec 1 := Scalar.cmpi .slt v14152 c0_i32_5931
  let v14157 : BitVec 1 := Scalar.xori v14155 v14156
  let c0_i32_5929 : BitVec 32 := 0#32
  let v14154 : BitVec 1 := Scalar.cmpi .ne v14153 c0_i32_5929
  let v14158 : BitVec 1 := Scalar.andi v14157 v14154
  let v14159 : BitVec 32 := Scalar.addi v14153 v14152
  let v14160 : BitVec 32 := Scalar.select v14158 v14159 v14153
  let c1_i32_5944 : BitVec 32 := 1#32
  let c0_i32_5945 : BitVec 32 := 0#32
  let c0_i32_5946 : BitVec 32 := 0#32
  ![v14160.toNat, 1, 0, 0]
def k0_off17 (k0_t1 : Fin k0_t1_loop.trips) : Fin 4 → Nat :=
  let c0_i32_493 : BitVec 32 := 0#32
  let c1_i32_494 : BitVec 32 := 1#32
  let arg15 : BitVec 32 := Scf.iv c0_i32_493 c1_i32_494 k0_t1
  let c6_i32_5925 : BitVec 32 := 6#32
  let v14150 : BitVec 32 := Scalar.addi arg15 c6_i32_5925
  let c6_i32_5926 : BitVec 32 := 6#32
  let c0_i32_5927 : BitVec 32 := 0#32
  let v14151 : BitVec 1 := Scalar.cmpi .eq c6_i32_5926 c0_i32_5927
  let c1_i32_5928 : BitVec 32 := 1#32
  let v14152 : BitVec 32 := Scalar.select v14151 c1_i32_5928 c6_i32_5926
  let v14153 : BitVec 32 := Scalar.remsi v14150 v14152
  let c0_i32_5930 : BitVec 32 := 0#32
  let v14155 : BitVec 1 := Scalar.cmpi .slt v14153 c0_i32_5930
  let c0_i32_5931 : BitVec 32 := 0#32
  let v14156 : BitVec 1 := Scalar.cmpi .slt v14152 c0_i32_5931
  let v14157 : BitVec 1 := Scalar.xori v14155 v14156
  let c0_i32_5929 : BitVec 32 := 0#32
  let v14154 : BitVec 1 := Scalar.cmpi .ne v14153 c0_i32_5929
  let v14158 : BitVec 1 := Scalar.andi v14157 v14154
  let v14159 : BitVec 32 := Scalar.addi v14153 v14152
  let v14160 : BitVec 32 := Scalar.select v14158 v14159 v14153
  let c0_i32_5948 : BitVec 32 := 0#32
  let c0_i32_5949 : BitVec 32 := 0#32
  let c0_i32_5950 : BitVec 32 := 0#32
  ![v14160.toNat, 0, 0, 0]
def k0_off18 (k0_t1 : Fin k0_t1_loop.trips) : Fin 2 → Nat :=
  let c0_i32_493 : BitVec 32 := 0#32
  let c1_i32_494 : BitVec 32 := 1#32
  let arg15 : BitVec 32 := Scf.iv c0_i32_493 c1_i32_494 k0_t1
  let c6_i32_5925 : BitVec 32 := 6#32
  let v14150 : BitVec 32 := Scalar.addi arg15 c6_i32_5925
  let c256_i32_5936 : BitVec 32 := 256#32
  let v14165 : BitVec 32 := Scalar.muli v14150 c256_i32_5936
  let c0_i32_5951 : BitVec 32 := 0#32
  ![v14165.toNat, 0]
def k0_off19 (k0_t1 : Fin k0_t1_loop.trips) : Fin 4 → Nat :=
  let c0_i32_493 : BitVec 32 := 0#32
  let c1_i32_494 : BitVec 32 := 1#32
  let arg15 : BitVec 32 := Scf.iv c0_i32_493 c1_i32_494 k0_t1
  let c6_i32_5925 : BitVec 32 := 6#32
  let v14150 : BitVec 32 := Scalar.addi arg15 c6_i32_5925
  let c6_i32_5926 : BitVec 32 := 6#32
  let c0_i32_5927 : BitVec 32 := 0#32
  let v14151 : BitVec 1 := Scalar.cmpi .eq c6_i32_5926 c0_i32_5927
  let c1_i32_5928 : BitVec 32 := 1#32
  let v14152 : BitVec 32 := Scalar.select v14151 c1_i32_5928 c6_i32_5926
  let v14153 : BitVec 32 := Scalar.remsi v14150 v14152
  let c0_i32_5930 : BitVec 32 := 0#32
  let v14155 : BitVec 1 := Scalar.cmpi .slt v14153 c0_i32_5930
  let c0_i32_5931 : BitVec 32 := 0#32
  let v14156 : BitVec 1 := Scalar.cmpi .slt v14152 c0_i32_5931
  let v14157 : BitVec 1 := Scalar.xori v14155 v14156
  let c0_i32_5929 : BitVec 32 := 0#32
  let v14154 : BitVec 1 := Scalar.cmpi .ne v14153 c0_i32_5929
  let v14158 : BitVec 1 := Scalar.andi v14157 v14154
  let v14159 : BitVec 32 := Scalar.addi v14153 v14152
  let v14160 : BitVec 32 := Scalar.select v14158 v14159 v14153
  let c1_i32_5952 : BitVec 32 := 1#32
  let c0_i32_5953 : BitVec 32 := 0#32
  let c0_i32_5954 : BitVec 32 := 0#32
  ![v14160.toNat, 1, 0, 0]
abbrev stage0_0 : Fin 1 → Memref sig .tc .vmem S16x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14x16x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== GateUpReferenceIdeal.lean ====
abbrev S16x8192 : Shape := ⟨2, ![16, 8192]⟩
abbrev S3584x256x16 : Shape := ⟨3, ![3584, 256, 16]⟩
abbrev S3584x256 : Shape := ⟨2, ![3584, 256]⟩
abbrev S2 : Shape := ⟨1, ![2]⟩
abbrev S16x256x2x16 : Shape := ⟨4, ![16, 256, 2, 16]⟩
abbrev S1x1x2x1 : Shape := ⟨4, ![1, 1, 2, 1]⟩
abbrev S3584x256x1x16 : Shape := ⟨4, ![3584, 256, 1, 16]⟩
abbrev S3584x256x2x16 : Shape := ⟨4, ![3584, 256, 2, 16]⟩
abbrev S_ : Shape := ⟨0, ![]⟩
abbrev S3584x256x1x1 : Shape := ⟨4, ![3584, 256, 1, 1]⟩
abbrev S16x3584 : Shape := ⟨2, ![16, 3584]⟩
abbrev S16x14x256 : Shape := ⟨3, ![16, 14, 256]⟩
abbrev S14x16x256 : Shape := ⟨3, ![14, 16, 256]⟩

abbrev nBuf : Space → Nat
  | .hbm => 55
  | .vmem => 0
  | .smem => 0
  | _ => 0

abbrev bufTy : (tb : Table) → Fin (tcTables nBuf tb) → BufTy
  | .hbm, ⟨0, _⟩ => ⟨S16x8192, .bf16⟩
  | .hbm, ⟨1, _⟩ => ⟨S3584x256x16, .i8⟩
  | .hbm, ⟨2, _⟩ => ⟨S3584x256, .bf16⟩
  | .hbm, ⟨3, _⟩ => ⟨S3584x256x16, .i8⟩
  | .hbm, ⟨4, _⟩ => ⟨S3584x256, .bf16⟩
  | .hbm, ⟨5, _⟩ => ⟨S2, .i32⟩
  | .hbm, ⟨6, _⟩ => ⟨S2, .i32⟩
  | .hbm, ⟨7, _⟩ => ⟨S16x256x2x16, .bf16⟩
  | .hbm, ⟨8, _⟩ => ⟨S1x1x2x1, .i32⟩
  | .hbm, ⟨9, _⟩ => ⟨S3584x256x16, .i32⟩
  | .hbm, ⟨10, _⟩ => ⟨S3584x256x1x16, .i32⟩
  | .hbm, ⟨11, _⟩ => ⟨S3584x256x2x16, .i32⟩
  | .hbm, ⟨12, _⟩ => ⟨S3584x256x2x16, .i32⟩
  | .hbm, ⟨13, _⟩ => ⟨S3584x256x2x16, .i32⟩
  | .hbm, ⟨14, _⟩ => ⟨S_, .i32⟩
  | .hbm, ⟨15, _⟩ => ⟨S3584x256x2x16, .i32⟩
  | .hbm, ⟨16, _⟩ => ⟨S3584x256x2x16, .i32⟩
  | .hbm, ⟨17, _⟩ => ⟨S3584x256x2x16, .bf16⟩
  | .hbm, ⟨18, _⟩ => ⟨S_, .bf16⟩
  | .hbm, ⟨19, _⟩ => ⟨S3584x256x2x16, .bf16⟩
  | .hbm, ⟨20, _⟩ => ⟨S3584x256x2x16, .bf16⟩
  | .hbm, ⟨21, _⟩ => ⟨S3584x256x1x1, .bf16⟩
  | .hbm, ⟨22, _⟩ => ⟨S3584x256x2x16, .bf16⟩
  | .hbm, ⟨23, _⟩ => ⟨S3584x256x2x16, .bf16⟩
  | .hbm, ⟨24, _⟩ => ⟨S16x3584, .f32⟩
  | .hbm, ⟨25, _⟩ => ⟨S1x1x2x1, .i32⟩
  | .hbm, ⟨26, _⟩ => ⟨S3584x256x16, .i32⟩
  | .hbm, ⟨27, _⟩ => ⟨S3584x256x1x16, .i32⟩
  | .hbm, ⟨28, _⟩ => ⟨S3584x256x2x16, .i32⟩
  | .hbm, ⟨29, _⟩ => ⟨S3584x256x2x16, .i32⟩
  | .hbm, ⟨30, _⟩ => ⟨S3584x256x2x16, .i32⟩
  | .hbm, ⟨31, _⟩ => ⟨S_, .i32⟩
  | .hbm, ⟨32, _⟩ => ⟨S3584x256x2x16, .i32⟩
  | .hbm, ⟨33, _⟩ => ⟨S3584x256x2x16, .i32⟩
  | .hbm, ⟨34, _⟩ => ⟨S3584x256x2x16, .bf16⟩
  | .hbm, ⟨35, _⟩ => ⟨S_, .bf16⟩
  | .hbm, ⟨36, _⟩ => ⟨S3584x256x2x16, .bf16⟩
  | .hbm, ⟨37, _⟩ => ⟨S3584x256x2x16, .bf16⟩
  | .hbm, ⟨38, _⟩ => ⟨S3584x256x1x1, .bf16⟩
  | .hbm, ⟨39, _⟩ => ⟨S3584x256x2x16, .bf16⟩
  | .hbm, ⟨40, _⟩ => ⟨S3584x256x2x16, .bf16⟩
  | .hbm, ⟨41, _⟩ => ⟨S16x3584, .f32⟩
  | .hbm, ⟨42, _⟩ => ⟨S16x3584, .f32⟩
  | .hbm, ⟨43, _⟩ => ⟨S16x3584, .f32⟩
  | .hbm, ⟨44, _⟩ => ⟨S_, .f32⟩
  | .hbm, ⟨45, _⟩ => ⟨S16x3584, .f32⟩
  | .hbm, ⟨46, _⟩ => ⟨S16x3584, .f32⟩
  | .hbm, ⟨47, _⟩ => ⟨S_, .f32⟩
  | .hbm, ⟨48, _⟩ => ⟨S16x3584, .f32⟩
  | .hbm, ⟨49, _⟩ => ⟨S16x3584, .f32⟩
  | .hbm, ⟨50, _⟩ => ⟨S16x3584, .f32⟩
  | .hbm, ⟨51, _⟩ => ⟨S16x3584, .f32⟩
  | .hbm, ⟨52, _⟩ => ⟨S16x3584, .bf16⟩
  | .hbm, ⟨53, _⟩ => ⟨S16x14x256, .bf16⟩
  | .hbm, ⟨54, _⟩ => ⟨S14x16x256, .bf16⟩
  | _, _ => ⟨S16x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== Proof.Chunk.lean ====
/-
  What one trip of the down-projection loop computes, written by index instead of line by line: the loop's region as
  printed multiplies 14 chunks of 256 rows by 512 columns in several thousand lines, one row of packed codes after the
  other. Everything here is a plain function of what the trip reads; `Proof/Trip.lean` shows that the printed region
  computes exactly these functions.
-/
module

public import proofs.«01_k».proof.Proof.Gen.KernelIdeal.Loops

@[expose] public section

noncomputable section

namespace Cert.KernelIdeal.Down

open Cert.KernelIdeal Cert.KernelIdeal.Gen
open Idealize.ShloMosaic Idealize.ShloMosaic.TcCoe

variable {F : FTy → Type} [FloatOps F]

/-- The trip's counter times `n`, as the kernel computes it. -/
def kw (n : BitVec 32) (k : Fin k0_t1_loop.trips) : ℕ :=
  (Scalar.indexCast (Scalar.muli (Scf.iv 0#32 1#32 k) n)).toNat

theorem kw32_eq : ∀ k : Fin k0_t1_loop.trips, kw 32#32 k = 32 * k.val := by decide +kernel
theorem kw512_eq : ∀ k : Fin k0_t1_loop.trips, kw 512#32 k = 512 * k.val := by decide +kernel
theorem trips_le : k0_t1_loop.trips ≤ 16 := k0_t1_abs.2.1

theorem cd_inb (r : Fin 224) (k : Fin k0_t1_loop.trips) :
    ∀ a, (![r.val, kw 32#32 k, 0] : Fin 3 → ℕ) a + S1x32x128.size a ≤ S224x512x128.size a := by
  have hk := k.isLt; have h16 := trips_le; have hr := r.isLt
  intro a
  rw [kw32_eq]
  fin_cases a
  · show r.val + 1 ≤ 224; omega
  · show 32 * k.val + 32 ≤ 512; omega
  · show 0 + 128 ≤ 128; omega

theorem sc_inb (i : Fin 14) (k : Fin k0_t1_loop.trips) :
    ∀ a, (![i.val, 0, kw 512#32 k] : Fin 3 → ℕ) a + S1x8x512.size a ≤ S14x8x8192.size a := by
  have hk := k.isLt; have h16 := trips_le; have hr := i.isLt
  intro a
  rw [kw512_eq]
  fin_cases a
  · show i.val + 1 ≤ 14; omega
  · show 0 + 8 ≤ 8; omega
  · show 512 * k.val + 512 ≤ 8192; omega

theorem st_inb (i : Fin 14) : ∀ a, (![8 * i.val, 0] : Fin 2 → ℕ) a + S8x512.size a ≤ S112x512.size a := by
  have hr := i.isLt
  intro a
  fin_cases a
  · show 8 * i.val + 8 ≤ 112; omega
  · show 0 + 512 ≤ 512; omega

theorem ts_inb (b : Fin 112) (c : Fin 4) : ∀ a, (![b.val, 128 * c.val] : Fin 2 → ℕ) a + S1x128.size a ≤ S112x512.size a := by
  have hr := b.isLt; have hc := c.isLt
  intro a
  fin_cases a
  · show b.val + 1 ≤ 112; omega
  · show 128 * c.val + 128 ≤ 512; omega

theorem h_inb (n : Fin 14) : ∀ a, (![0, 256 * n.val] : Fin 2 → ℕ) a + S16x256.size a ≤ S16x8192.size a := by
  have hr := n.isLt
  intro a
  fin_cases a
  · show 0 + 16 ≤ 16; omega
  · show 256 * n.val + 256 ≤ 8192; omega

/-- Eight rows of scales, widened to float32 as the trip stores them. -/
def stage (v : Vec F S1x8x512 .bf16) : FVec F S8x512 .f32 :=
  shapeCast S8x512 (extf .f32 (shapeCast S8x512 v shapeCasts_S1x8x512_S8x512) bitsLt_bf16_f32) shapeCasts_S8x512_S8x512

/-- One row of 128 scales, repeated over the sixteen rows of a piece and narrowed back to bfloat16. -/
def scPair (v : Vec F S1x128 .f32) : FVec F S16x128 .bf16 :=
  truncf .bf16 (shapeCast S16x128 (broadcastTo S8x2x128 (shapeCast S8x1x128 (shapeCast S8x1x128
    (broadcastTo S8x128 (shapeCast S1x128 v shapeCasts_S1x128_S1x128) broadcasts_S1x128_S8x128)
    shapeCasts_S8x128_S8x1x128) shapeCasts_S8x1x128_S8x1x128) broadcasts_S8x1x128_S8x2x128)
    shapeCasts_S8x2x128_S16x128) bitsLt_bf16_f32

/-- The 64 rows of signed 4-bit codes packed in one 32-row block of bytes, as bfloat16 numbers. -/
def nib (v : Vec F S1x32x128 .i8) : FVec F S64x128 .bf16 :=
  let w : IVec S8x128 32 := xori (bitcast S8x128 32 (shapeCast S32x128 v shapeCasts_S1x32x128_S32x128 : IVec S32x128 8) bitcasts_S32x128_w8_S8x128_w32)
    (broadcast S8x128 2290649224#32)
  let r : IVec S8x8x128 32 := broadcastTo S8x8x128 (shapeCast S8x1x128 (shapeCast S8x1x128 w shapeCasts_S8x128_S8x1x128)
    shapeCasts_S8x1x128_S8x1x128) broadcasts_S8x1x128_S8x8x128
  let n : IVec S8x8x128 32 := subi (broadcast S8x8x128 28#32) (muli (broadcast S8x8x128 4#32) (iota .tc S8x8x128 32 [1] iota_S8x8x128_d1_w32))
  sitofp .bf16 (shapeCast S64x128 (shrsi (shli r n) (broadcast S8x8x128 28#32)) shapeCasts_S8x8x128_S64x128)

theorem slices_piece : ∀ c : Fin 4, S64x128.Slices ![16 * c.val, 0] S16x128 := by decide

/-- Column tile `c`'s sixteen rows of a block of codes, times their scales. -/
def piece (c : Fin 4) (x : FVec F S64x128 .bf16) (s : FVec F S16x128 .bf16) : FVec F S16x128 .bf16 :=
  mulf (extractStridedSlice S16x128 ![16 * c.val, 0] x (slices_piece c)) s

/-- Sixteen pieces of sixteen rows, one under the other. -/
def cat16 (p : Fin 16 → FVec F S16x128 .bf16) : FVec F S256x128 .bf16 :=
  concatenate S256x128 0 [⟨S16x128, p 0⟩, ⟨S16x128, p 1⟩, ⟨S16x128, p 2⟩, ⟨S16x128, p 3⟩, ⟨S16x128, p 4⟩, ⟨S16x128, p 5⟩,
    ⟨S16x128, p 6⟩, ⟨S16x128, p 7⟩, ⟨S16x128, p 8⟩, ⟨S16x128, p 9⟩, ⟨S16x128, p 10⟩, ⟨S16x128, p 11⟩, ⟨S16x128, p 12⟩,
    ⟨S16x128, p 13⟩, ⟨S16x128, p 14⟩, ⟨S16x128, p 15⟩]
    concatenates_S16x128_S16x128_S16x128_S16x128_S16x128_S16x128_S16x128_S16x128_S16x128_S16x128_S16x128_S16x128_S16x128_S16x128_S16x128_S16x128_S256x128_d0

/-- The row of scales piece `j` of chunk `n` takes. -/
def rowOf (n : Fin 14) (j : Fin 16) : Fin 112 := ⟨8 * n.val + j.val / 2, by omega⟩
/-- The block row of codes piece `j` of chunk `n` takes. -/
def blkOf (n : Fin 14) (j : Fin 16) : Fin 224 := ⟨16 * n.val + j.val, by omega⟩

/-- The dequantized weights of chunk `n`, column tile `c`. -/
def wtile (ts : Fin 112 → Fin 4 → Vec F S1x128 .f32) (cd : Fin 224 → Vec F S1x32x128 .i8) (n : Fin 14) (c : Fin 4) : FVec F S256x128 .bf16 :=
  cat16 fun j => piece c (nib (cd (blkOf n j))) (scPair (ts (rowOf n j) c))

/-- Two column tiles side by side. -/
def wpair (a b : FVec F S256x128 .bf16) : FVec F S256x256 .bf16 :=
  concatenate S256x256 1 [⟨S256x128, a⟩, ⟨S256x128, b⟩] concatenates_S256x128_S256x128_S256x256_d1

/-- The left and the right column tile of the pair `t`. -/
def tl (t : Fin 2) : Fin 4 := ⟨2 * t.val, by omega⟩
def tr (t : Fin 2) : Fin 4 := ⟨2 * t.val + 1, by omega⟩

/-- The running sum after one more chunk. -/
def accStep (h : Fin 14 → Vec F S16x256 .bf16) (ts : Fin 112 → Fin 4 → Vec F S1x128 .f32) (cd : Fin 224 → Vec F S1x32x128 .i8)
    (t : Fin 2) (a : FVec F S16x256 .f32) (n : Fin 14) : FVec F S16x256 .f32 :=
  addf a (matmul dot_S16x256_S256x256_S16x256_1_0_0_1_n_n none (h n) (wpair (wtile ts cd n (tl t)) (wtile ts cd n (tr t)))
    (constant S16x256 .f32 0x00000000#32))

/-- The sum over the fourteen chunks, for the pair of column tiles `t`. -/
def acc (h : Fin 14 → Vec F S16x256 .bf16) (ts : Fin 112 → Fin 4 → Vec F S1x128 .f32) (cd : Fin 224 → Vec F S1x32x128 .i8) (t : Fin 2) :
    FVec F S16x256 .f32 :=
  [0, 1, 2, 3, 4, 5, 6, 7, 8, 9, 10, 11, 12, 13].foldl (accStep h ts cd t) (broadcast S16x256 (Scalar.ofBits .f32 0x00000000#32))

/-- The sum added to the residual, narrowed to bfloat16: what the trip stores. -/
def outv (x : Vec F S16x256 .f32) (a : FVec F S16x256 .f32) : FVec F S16x256 .bf16 := truncf .bf16 (addf x a) bitsLt_bf16_f32

/-- The trip's fourteen stores of widened scales, last first. -/
def stagePieces {κ : Kind} {sp : Space} (v7 : View sig κ sp S14x8x8192 .bf16) (X7 : BufTy.Contents (Elt F) v7.ty) (k : Fin k0_t1_loop.trips) :
    List (View.Piece (Elt F) S112x512 .f32) :=
  [13, 12, 11, 10, 9, 8, 7, 6, 5, 4, 3, 2, 1, 0].map fun i : Fin 14 =>
    ⟨Rect.unit ![8 * i.val, 0] S8x512.size (st_inb i),
      stage (v7.readAt (Elt F) (Rect.unit (s := S14x8x8192) ![i.val, 0, kw 512#32 k] S1x8x512.size (sc_inb i k)).toLoadRect X7)⟩

/-- What the trip reads back of them. -/
def tsOf {κ κ' : Kind} {sp sp' : Space} (v7 : View sig κ sp S14x8x8192 .bf16) (v9 : View sig κ' sp' S112x512 .f32)
    (X7 : BufTy.Contents (Elt F) v7.ty) (k : Fin k0_t1_loop.trips) (b : Fin 112) (c : Fin 4) : Vec F S1x128 .f32 :=
  v9.readCov (stagePieces v7 X7 k) (Rect.unit (s := S112x512) ![b.val, 128 * c.val] S1x128.size (ts_inb b c)).toLoadRect

/-- What the trip reads of the packed codes. -/
def cdOf {κ : Kind} {sp : Space} (v6 : View sig κ sp S224x512x128 .i8) (X6 : BufTy.Contents (Elt F) v6.ty) (k : Fin k0_t1_loop.trips) (r : Fin 224) :
    Vec F S1x32x128 .i8 :=
  v6.readAt (Elt F) (Rect.unit (s := S224x512x128) ![r.val, kw 32#32 k, 0] S1x32x128.size (cd_inb r k)).toLoadRect X6

/-- What the trip reads of the activations. -/
def hOf {κ : Kind} {sp : Space} (v5 : View sig κ sp S16x8192 .bf16) (X5 : BufTy.Contents (Elt F) v5.ty) (n : Fin 14) : Vec F S16x256 .bf16 :=
  v5.readAt (Elt F) (Rect.unit (s := S16x8192) ![0, 256 * n.val] S16x256.size (h_inb n)).toLoadRect X5

/-- The rectangle of the result the trip stores for the pair `t`. -/
def outR (k : Fin k0_t1_loop.trips) (t : Fin 2) : Rect S16x8192 :=
  Rect.unit (s := S16x8192) (k0_off239 k (BitVec.ofNat 32 (256 * t.val))) S16x256.size (k0_off239_inb k t)

/-- The trip's two stores, last first. -/
def outPieces {κ₁ κ₅ κ₆ κ₇ κ₉ : Kind} {s₁ s₅ s₆ s₇ s₉ : Space} (v1 : View sig κ₁ s₁ S16x8192 .f32) (v5 : View sig κ₅ s₅ S16x8192 .bf16)
    (v6 : View sig κ₆ s₆ S224x512x128 .i8) (v7 : View sig κ₇ s₇ S14x8x8192 .bf16) (v9 : View sig κ₉ s₉ S112x512 .f32)
    (X1 : BufTy.Contents (Elt F) v1.ty) (X5 : BufTy.Contents (Elt F) v5.ty) (X6 : BufTy.Contents (Elt F) v6.ty) (X7 : BufTy.Contents (Elt F) v7.ty)
    (k : Fin k0_t1_loop.trips) : List (View.Piece (Elt F) S16x8192 .bf16) :=
  [1, 0].map fun t : Fin 2 => ⟨outR k t, outv (v1.readAt (Elt F) (outR k t).toLoadRect X1)
    (acc (hOf v5 X5) (tsOf v7 v9 X7 k) (cdOf v6 X6 k) t)⟩

end Cert.KernelIdeal.Down

end
-- ==== Proof.Trip.lean ====
/-
  One trip of the down-projection loop, run once for every trip (the counter a variable), and the loop by its
  invariant: before trip `k` the columns below `512·k` of the result hold their final values.
-/
module

public import proofs.«01_k».proof.Proof.Chunk
public import Idealize.ShloMosaic.Lib.Batch
public import Idealize.ShloMosaic.Lib.Pipeline.FrameBody

@[expose] public section

set_option maxRecDepth 8192
set_option maxHeartbeats 4000000

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline's beside the transfers' counters. -/
local notation "𝕄" => MT nD τ sig Unit (Elt F) ℕ (Pipeline.UD sig nD τ) ℕ

/-- What one trip needs: the arrays it reads, each at known contents, and the two it writes, at any. -/
abbrev TripPts (c : Dev nD) (arg1 : Memref sig .tc .vmem S16x8192 .f32) (arg5 : Memref sig .tc .vmem S16x8192 .bf16) (arg6 : Memref sig .tc .vmem S224x512x128 .i8) (arg7 : Memref sig .tc .vmem S14x8x8192 .bf16) (arg4 : Memref sig .tc .vmem S16x8192 .bf16) (arg9 : Memref sig .tc .vmem S112x512 .f32) (X_arg1 : BufTy.Contents (Elt F) arg1.view.ty) (X_arg5 : BufTy.Contents (Elt F) arg5.view.ty) (X_arg6 : BufTy.Contents (Elt F) arg6.view.ty) (X_arg7 : BufTy.Contents (Elt F) arg7.view.ty) (f_arg4 : BufTy.Contents (Elt F) arg4.view.ty) (f_arg9 : BufTy.Contents (Elt F) arg9.view.ty) : sProp 𝕄 :=
  iprop((arg1.view.loc (c : Thread nD τ) ↦[arg1.view.set]{fullShare} X_arg1) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg4.view.loc (c : Thread nD τ) ↦[arg4.view.set]{fullShare} f_arg4) ∗ (arg9.view.loc (c : Thread nD τ) ↦[arg9.view.set]{fullShare} f_arg9))

/-- ONE TRIP at a symbolic counter: the two lists of stores it makes, and that it makes them. -/
def tripRun (𝒱 : Variants) (c : Dev nD) (bd : Option 𝒱.V) (arg0 : Memref sig .tc .vmem S14x16x256 .bf16) (harg0 : arg0.IsWhole) (arg1 : Memref sig .tc .vmem S16x8192 .f32) (harg1 : arg1.IsWhole) (arg2 : Memref sig .tc .hbm S224x512x128 .i8) (harg2 : arg2.IsWhole) (arg3 : Memref sig .tc .hbm S14x8x8192 .bf16) (harg3 : arg3.IsWhole) (arg4 : Memref sig .tc .vmem S16x8192 .bf16) (harg4 : arg4.IsWhole) (arg5 : Memref sig .tc .vmem S16x8192 .bf16) (harg5 : arg5.IsWhole) (arg6 : Memref sig .tc .vmem S224x512x128 .i8) (harg6 : arg6.IsWhole) (arg7 : Memref sig .tc .vmem S14x8x8192 .bf16) (harg7 : arg7.IsWhole) (arg8 : Memref sig .tc .vmem S256x256 .bf16) (harg8 : arg8.IsWhole) (arg9 : Memref sig .tc .vmem S112x512 .f32) (harg9 : arg9.IsWhole) (arg10 : DmaSems sig S24) (X_arg1 : BufTy.Contents (Elt F) arg1.view.ty) (X_arg5 : BufTy.Contents (Elt F) arg5.view.ty) (X_arg6 : BufTy.Contents (Elt F) arg6.view.ty) (X_arg7 : BufTy.Contents (Elt F) arg7.view.ty) (k : Fin k0_t1_loop.trips) :
    Σ' (L_arg4 : (BufTy.Contents (Elt F) arg4.view.ty → BufTy.Contents (Elt F) arg9.view.ty → List (View.Piece (Elt F) S16x8192 .bf16))) , { L_arg9 : (BufTy.Contents (Elt F) arg4.view.ty → BufTy.Contents (Elt F) arg9.view.ty → List (View.Piece (Elt F) S112x512 .f32)) // ∀ (E : Set ℕ) (f_arg4 : BufTy.Contents (Elt F) arg4.view.ty) (f_arg9 : BufTy.Contents (Elt F) arg9.view.ty),
      TripPts (F := F) c arg1 arg5 arg6 arg7 arg4 arg9 X_arg1 X_arg5 X_arg6 X_arg7 f_arg4 f_arg9
      ⊢ wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 k PUnit.unit)
          (fun _ => TripPts (F := F) c arg1 arg5 arg6 arg7 arg4 arg9 X_arg1 X_arg5 X_arg6 X_arg7 (arg4.view.writes (Elt F) f_arg4 (L_arg4 f_arg4 f_arg9)) (arg9.view.writes (Elt F) f_arg9 (L_arg9 f_arg4 f_arg9))) } := by
  have hk : k.val < 16 := Nat.lt_of_lt_of_le k.isLt k0_t1_abs.2.1
  refine ⟨?_, ?_, fun E f_arg4 f_arg9 => ?run⟩
  case run =>
    unfold k0_t1_body
    iintro ⟨HR_arg1, HR_arg5, HR_arg6, HR_arg7, HW_arg4, HW_arg9⟩
    sl_exec
    sl_step
    sl_close

/-- The stores of one trip are the ones written by index. -/
theorem tripRun_out (𝒱 : Variants) (c : Dev nD) (bd : Option 𝒱.V) (arg0 : Memref sig .tc .vmem S14x16x256 .bf16) (harg0 : arg0.IsWhole) (arg1 : Memref sig .tc .vmem S16x8192 .f32) (harg1 : arg1.IsWhole) (arg2 : Memref sig .tc .hbm S224x512x128 .i8) (harg2 : arg2.IsWhole) (arg3 : Memref sig .tc .hbm S14x8x8192 .bf16) (harg3 : arg3.IsWhole) (arg4 : Memref sig .tc .vmem S16x8192 .bf16) (harg4 : arg4.IsWhole) (arg5 : Memref sig .tc .vmem S16x8192 .bf16) (harg5 : arg5.IsWhole) (arg6 : Memref sig .tc .vmem S224x512x128 .i8) (harg6 : arg6.IsWhole) (arg7 : Memref sig .tc .vmem S14x8x8192 .bf16) (harg7 : arg7.IsWhole) (arg8 : Memref sig .tc .vmem S256x256 .bf16) (harg8 : arg8.IsWhole) (arg9 : Memref sig .tc .vmem S112x512 .f32) (harg9 : arg9.IsWhole) (arg10 : DmaSems sig S24) (X_arg1 : BufTy.Contents (Elt F) arg1.view.ty) (X_arg5 : BufTy.Contents (Elt F) arg5.view.ty) (X_arg6 : BufTy.Contents (Elt F) arg6.view.ty) (X_arg7 : BufTy.Contents (Elt F) arg7.view.ty) (k : Fin k0_t1_loop.trips) (f4 : BufTy.Contents (Elt F) arg4.view.ty) (f9 : BufTy.Contents (Elt F) arg9.view.ty) :
    (tripRun (F := F) 𝒱 c bd arg0 harg0 arg1 harg1 arg2 harg2 arg3 harg3 arg4 harg4 arg5 harg5 arg6 harg6 arg7 harg7 arg8 harg8 arg9 harg9 arg10 X_arg1 X_arg5 X_arg6 X_arg7 k).1 f4 f9 = outPieces arg1.view arg5.view arg6.view arg7.view arg9.view X_arg1 X_arg5 X_arg6 X_arg7 k := by
  sl_kernel_rfl

end Cert.KernelIdeal.Down

end
-- ==== Proof.Loop.lean ====
/-
  The down-projection loop by its invariant: before trip `k` the columns below `512·k` of the result hold their final
  values.
-/
module

public import proofs.«01_k».proof.Proof.Trip
public import Idealize.ShloMosaic.Lib.Batch
public import Idealize.ShloMosaic.Lib.WritesUnit
public import Idealize.ShloMosaic.Lib.Pipeline.FrameBody

@[expose] public section

set_option maxRecDepth 8192
set_option maxHeartbeats 4000000

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline's beside the transfers' counters. -/
local notation "𝕄" => MT nD τ sig Unit (Elt F) ℕ (Pipeline.UD sig nD τ) ℕ

/-- The place of a result's index within its 256-column block. -/
def place (y : S16x8192.Idx) : S16x256.Idx :=
  fun a => match a with
  | ⟨0, _⟩ => ⟨(y (0 : Fin 2)).val, (y (0 : Fin 2)).isLt⟩
  | ⟨1, _⟩ => ⟨(y (1 : Fin 2)).val % 256, Nat.mod_lt _ (by decide)⟩
  | ⟨_ + 2, h⟩ => absurd h (Nat.not_lt.2 (Nat.le_add_left _ _))

/-- The value of the result at an index: the trip, the pair of column tiles and the place in it the index names. -/
def gout {κ₁ κ₅ κ₆ κ₇ κ₉ : Kind} {s₁ s₅ s₆ s₇ s₉ : Space} (v1 : View sig κ₁ s₁ S16x8192 .f32) (v5 : View sig κ₅ s₅ S16x8192 .bf16)
    (v6 : View sig κ₆ s₆ S224x512x128 .i8) (v7 : View sig κ₇ s₇ S14x8x8192 .bf16) (v9 : View sig κ₉ s₉ S112x512 .f32)
    (X1 : BufTy.Contents (Elt F) v1.ty) (X5 : BufTy.Contents (Elt F) v5.ty) (X6 : BufTy.Contents (Elt F) v6.ty) (X7 : BufTy.Contents (Elt F) v7.ty)
    (y : S16x8192.Idx) : Elt F .bf16 :=
  let k : Fin k0_t1_loop.trips := ⟨(y (1 : Fin 2)).val / 512, by
    have h : (y (1 : Fin 2)).val < 8192 := (y (1 : Fin 2)).isLt
    have : k0_t1_loop.trips = 16 := by decide +kernel
    omega⟩
  let t : Fin 2 := ⟨(y (1 : Fin 2)).val % 512 / 256, by omega⟩
  outv (v1.readAt (Elt F) (outR k t).toLoadRect X1) (acc (hOf v5 X5) (tsOf v7 v9 X7 k) (cdOf v6 X6 k) t)
    (place y)

theorem out_off (k : Fin k0_t1_loop.trips) (t : Fin 2) : k0_off239 k (BitVec.ofNat 32 (256 * t.val)) = ![0, 512 * k.val + 256 * t.val] :=
  k0_off239_eq k t

/-- After a trip's two stores, an index below the trip's last column holds its final value if it did before or the
    trip wrote it. -/
theorem outPieces_read {κ₁ κ₄ κ₅ κ₆ κ₇ κ₉ : Kind} {s₁ s₄ s₅ s₆ s₇ s₉ : Space} (v1 : View sig κ₁ s₁ S16x8192 .f32) (v4 : View sig κ₄ s₄ S16x8192 .bf16)
    (v5 : View sig κ₅ s₅ S16x8192 .bf16)
    (v6 : View sig κ₆ s₆ S224x512x128 .i8) (v7 : View sig κ₇ s₇ S14x8x8192 .bf16) (v9 : View sig κ₉ s₉ S112x512 .f32)
    (X1 : BufTy.Contents (Elt F) v1.ty) (X5 : BufTy.Contents (Elt F) v5.ty) (X6 : BufTy.Contents (Elt F) v6.ty) (X7 : BufTy.Contents (Elt F) v7.ty)
    (k : Fin k0_t1_loop.trips) (f : BufTy.Contents (Elt F) v4.ty)
    (hf : ∀ y : S16x8192.Idx, (y (1 : Fin 2)).val < 512 * k.val → v4.read (Elt F) f y = gout v1 v5 v6 v7 v9 X1 X5 X6 X7 y)
    (y : S16x8192.Idx) (hy : (y (1 : Fin 2)).val < 512 * (k.val + 1)) :
    v4.read (Elt F) (v4.writes (Elt F) f (outPieces v1 v5 v6 v7 v9 X1 X5 X6 X7 k)) y = gout v1 v5 v6 v7 v9 X1 X5 X6 X7 y := by
  have key : ∀ t : Fin 2, 512 * k.val + 256 * t.val ≤ (y (1 : Fin 2)).val → (y (1 : Fin 2)).val < 512 * k.val + 256 * t.val + 256 →
      ∃ x : (outR k t).shape.Idx, (∀ a, (y a).val = (![0, 512 * k.val + 256 * t.val] : Fin 2 → ℕ) a + (x a).val)
        ∧ outv (v1.readAt (Elt F) (outR k t).toLoadRect X1) (acc (hOf v5 X5) (tsOf v7 v9 X7 k) (cdOf v6 X6 k) t) x
          = gout v1 v5 v6 v7 v9 X1 X5 X6 X7 y := by
    intro t h1 h2
    refine ⟨place y, ?_, ?_⟩
    · intro a
      fin_cases a
      · show (y (0 : Fin 2)).val = 0 + (y (0 : Fin 2)).val; omega
      · show (y (1 : Fin 2)).val = 512 * k.val + 256 * t.val + (y (1 : Fin 2)).val % 256
        have := t.isLt; omega
    · unfold gout
      have ek : k = ⟨(y (1 : Fin 2)).val / 512, by
          have h : (y (1 : Fin 2)).val < 8192 := (y (1 : Fin 2)).isLt
          have : k0_t1_loop.trips = 16 := by decide +kernel
          omega⟩ := Fin.ext (by show k.val = _ / 512; have := t.isLt; omega)
      have et : t = ⟨(y (1 : Fin 2)).val % 512 / 256, by omega⟩ := Fin.ext (by show t.val = _ % 512 / 256; have := t.isLt; omega)
      dsimp only
      rw [← ek, ← et]
  show v4.read (Elt F) (v4.writes (Elt F) f [⟨outR k 1, _⟩, ⟨outR k 0, _⟩]) y = _
  by_cases h1 : 512 * k.val + 256 ≤ (y (1 : Fin 2)).val
  · obtain ⟨x, hx, hv⟩ := key 1 h1 (by show _ < 512 * k.val + 256 * 1 + 256; omega)
    exact (View.read_writes_cons_unit_of_mem v4 f _ _ _ y x (out_off k 1) hx).trans hv
  · refine (View.read_writes_cons_unit_of_not_mem v4 f _ _ _ y (out_off k 1) (1 : Fin 2) (.inl (by show _ < 512 * k.val + 256 * 1; omega))).trans ?_
    by_cases h0 : 512 * k.val ≤ (y (1 : Fin 2)).val
    · obtain ⟨x, hx, hv⟩ := key 0 h0 (by show _ < 512 * k.val + 256 * 0 + 256; omega)
      exact (View.read_writes_cons_unit_of_mem v4 f _ _ _ y x (out_off k 0) hx).trans hv
    · refine (View.read_writes_cons_unit_of_not_mem v4 f _ _ _ y (out_off k 0) (1 : Fin 2) (.inl (by show _ < 512 * k.val + 256 * 0; omega))).trans ?_
      exact hf y (by omega)

/-- THE INVARIANT before trip `k`. -/
abbrev inv (𝒱 : Variants) (c : Dev nD) (bd : Option 𝒱.V) (arg0 : Memref sig .tc .vmem S14x16x256 .bf16) (harg0 : arg0.IsWhole) (arg1 : Memref sig .tc .vmem S16x8192 .f32) (harg1 : arg1.IsWhole) (arg2 : Memref sig .tc .hbm S224x512x128 .i8) (harg2 : arg2.IsWhole) (arg3 : Memref sig .tc .hbm S14x8x8192 .bf16) (harg3 : arg3.IsWhole) (arg4 : Memref sig .tc .vmem S16x8192 .bf16) (harg4 : arg4.IsWhole) (arg5 : Memref sig .tc .vmem S16x8192 .bf16) (harg5 : arg5.IsWhole) (arg6 : Memref sig .tc .vmem S224x512x128 .i8) (harg6 : arg6.IsWhole) (arg7 : Memref sig .tc .vmem S14x8x8192 .bf16) (harg7 : arg7.IsWhole) (arg8 : Memref sig .tc .vmem S256x256 .bf16) (harg8 : arg8.IsWhole) (arg9 : Memref sig .tc .vmem S112x512 .f32) (harg9 : arg9.IsWhole) (arg10 : DmaSems sig S24) (X_arg1 : BufTy.Contents (Elt F) arg1.view.ty) (X_arg5 : BufTy.Contents (Elt F) arg5.view.ty) (X_arg6 : BufTy.Contents (Elt F) arg6.view.ty) (X_arg7 : BufTy.Contents (Elt F) arg7.view.ty) (k : ℕ) (_u : PUnit) : sProp 𝕄 :=
  iprop((arg1.view.loc (c : Thread nD τ) ↦[arg1.view.set]{fullShare} X_arg1) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7)
    ∗ (∃ f, (arg4.view.loc (c : Thread nD τ) ↦[arg4.view.set]{fullShare} f) ∗ ⌜∀ y : S16x8192.Idx, (y (1 : Fin 2)).val < 512 * k →
        arg4.view.read (Elt F) f y = gout arg1.view arg5.view arg6.view arg7.view arg9.view X_arg1 X_arg5 X_arg6 X_arg7 y⌝)
    ∗ (∃ f, (arg9.view.loc (c : Thread nD τ) ↦[arg9.view.set]{fullShare} f)))

set_option warn.classDefReducibility false in
/-- THE LOOP BY ITS INVARIANT: one trip of it, for every trip. -/
@[sl_loop] def loopInv (𝒱 : Variants) (c : Dev nD) (bd : Option 𝒱.V) (E : Set ℕ) (arg0 : Memref sig .tc .vmem S14x16x256 .bf16) (harg0 : arg0.IsWhole) (arg1 : Memref sig .tc .vmem S16x8192 .f32) (harg1 : arg1.IsWhole) (arg2 : Memref sig .tc .hbm S224x512x128 .i8) (harg2 : arg2.IsWhole) (arg3 : Memref sig .tc .hbm S14x8x8192 .bf16) (harg3 : arg3.IsWhole) (arg4 : Memref sig .tc .vmem S16x8192 .bf16) (harg4 : arg4.IsWhole) (arg5 : Memref sig .tc .vmem S16x8192 .bf16) (harg5 : arg5.IsWhole) (arg6 : Memref sig .tc .vmem S224x512x128 .i8) (harg6 : arg6.IsWhole) (arg7 : Memref sig .tc .vmem S14x8x8192 .bf16) (harg7 : arg7.IsWhole) (arg8 : Memref sig .tc .vmem S256x256 .bf16) (harg8 : arg8.IsWhole) (arg9 : Memref sig .tc .vmem S112x512 .f32) (harg9 : arg9.IsWhole) (arg10 : DmaSems sig S24) (X_arg1 : BufTy.Contents (Elt F) arg1.view.ty) (X_arg5 : BufTy.Contents (Elt F) arg5.view.ty) (X_arg6 : BufTy.Contents (Elt F) arg6.view.ty) (X_arg7 : BufTy.Contents (Elt F) arg7.view.ty) :
    LoopInvTy_k0_t1 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 where
  inv k u := inv (F := F) 𝒱 c bd arg0 harg0 arg1 harg1 arg2 harg2 arg3 harg3 arg4 harg4 arg5 harg5 arg6 harg6 arg7 harg7 arg8 harg8 arg9 harg9 arg10 X_arg1 X_arg5 X_arg6 X_arg7 k u
  step k u := by
    iintro ⟨HR_arg1, HR_arg5, HR_arg6, HR_arg7, ⟨%f_arg4, HW_arg4, %h_arg4⟩, ⟨%f_arg9, HW_arg9⟩⟩
    iapply (wp_wand_r Idealize.ShloMosaic.frame (wpE (defs₀ (F := F)) 𝒱 (c : Thread nD τ) bd) E)
    isplitl [HR_arg1 HR_arg5 HR_arg6 HR_arg7 HW_arg4 HW_arg9]
    · iapply ((tripRun (F := F) 𝒱 c bd arg0 harg0 arg1 harg1 arg2 harg2 arg3 harg3 arg4 harg4 arg5 harg5 arg6 harg6 arg7 harg7 arg8 harg8 arg9 harg9 arg10 X_arg1 X_arg5 X_arg6 X_arg7 k).2.2 E f_arg4 f_arg9)
      isplitl [HR_arg1]; · iexact HR_arg1
      isplitl [HR_arg5]; · iexact HR_arg5
      isplitl [HR_arg6]; · iexact HR_arg6
      isplitl [HR_arg7]; · iexact HR_arg7
      isplitl [HW_arg4]; · iexact HW_arg4
      iexact HW_arg9
    · iintro %_ ⟨HR_arg1, HR_arg5, HR_arg6, HR_arg7, HW_arg4, HW_arg9⟩
      isplitl [HR_arg1]; · iexact HR_arg1
      isplitl [HR_arg5]; · iexact HR_arg5
      isplitl [HR_arg6]; · iexact HR_arg6
      isplitl [HR_arg7]; · iexact HR_arg7
      isplitl [HW_arg4]
      · iexists _; isplitl [HW_arg4]; · iexact HW_arg4
        ipureintro
        rw [tripRun_out]
        exact outPieces_read arg1.view arg4.view arg5.view arg6.view arg7.view arg9.view X_arg1 X_arg5 X_arg6 X_arg7 k f_arg4 h_arg4
      iexists _; iexact HW_arg9

end Cert.KernelIdeal.Down

end
-- ==== Proof.Body.lean ====
/-
  The kernel's body run once: the permutation stored, the 28 copies issued, the activations permuted chunk by chunk,
  the copies waited for, then the loop by its invariant.
-/
module

public import proofs.«01_k».proof.Proof.Loop
public import proofs.«01_k».proof.Proof.Gen.KernelIdeal.Points

@[expose] public section

set_option maxRecDepth 8192
set_option maxHeartbeats 8000000

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline's beside the transfers' counters. -/
local notation "𝕄" => MT nD τ sig Unit (Elt F) ℕ (Pipeline.UD sig nD τ) ℕ

abbrev codesM : Memref sig .tc .hbm S224x512x128 .i8 := Memref.whole main_v3
abbrev scalesM : Memref sig .tc .hbm S14x8x8192 .bf16 := Memref.whole main_v5
abbrev hM : Memref sig .tc .vmem S16x8192 .bf16 := Memref.whole cc0_scratch0
abbrev dcM : Memref sig .tc .vmem S224x512x128 .i8 := Memref.whole cc0_scratch1
abbrev dsM : Memref sig .tc .vmem S14x8x8192 .bf16 := Memref.whole cc0_scratch2
abbrev p2M : Memref sig .tc .vmem S256x256 .bf16 := Memref.whole cc0_scratch3
abbrev tsM : Memref sig .tc .vmem S112x512 .f32 := Memref.whole cc0_scratch4

/-- A memref's elements held whole at contents `f`. -/
abbrev pt {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f

/-- The code scratch's elements are all of its buffer's. -/
theorem univ_dc (c : Dev nD) : (Finset.univ : Finset (Idx (dcM.view.loc (c : Thread nD τ)))) = dcM.view.set := (View.set_whole cc0_scratch1).symm

/-- The scale scratch's elements are all of its buffer's. -/
theorem univ_ds (c : Dev nD) : (Finset.univ : Finset (Idx (dsM.view.loc (c : Thread nD τ)))) = dsM.view.set := (View.set_whole cc0_scratch2).symm

/-- THE BODY'S RUN. -/
def bodyRun (c : Dev nD) (arg0 : Memref sig .tc .vmem S14x16x256 .bf16) (harg0 : arg0.IsWhole) (arg1 : Memref sig .tc .vmem S16x8192 .f32) (harg1 : arg1.IsWhole)
    (arg4 : Memref sig .tc .vmem S16x8192 .bf16) (harg4 : arg4.IsWhole)
    (X0 : Buf (Elt F) (arg0.view.loc (c : Thread nD τ))) (X1 : Buf (Elt F) (arg1.view.loc (c : Thread nD τ)))
    (X2 : Buf (Elt F) (codesM.view.loc (c : Thread nD τ))) (X3 : Buf (Elt F) (scalesM.view.loc (c : Thread nD τ)))
    (g5 : Buf (Elt F) (hM.view.loc (c : Thread nD τ))) (g6 : Buf (Elt F) (dcM.view.loc (c : Thread nD τ)))
    (g7 : Buf (Elt F) (dsM.view.loc (c : Thread nD τ))) (g8 : Buf (Elt F) (p2M.view.loc (c : Thread nD τ))) :
    { V : S16x8192.Idx → Elt F .bf16 //
      ∀ (W : Waits sig Unit) (f4 : Buf (Elt F) (arg4.view.loc (c : Thread nD τ))) (g9 : Buf (Elt F) (tsM.view.loc (c : Thread nD τ)))
        (K : PUnit → sProp 𝕄),
        iprop(pt c arg0 X0 ∗ pt c arg1 X1 ∗ pt c codesM X2 ∗ pt c scalesM X3 ∗ pt c arg4 f4
            ∗ pt c hM g5 ∗ (dcM.view.loc (c : Thread nD τ) ↦[Finset.univ]{fullShare} g6) ∗ (dsM.view.loc (c : Thread nD τ) ↦[Finset.univ]{fullShare} g7) ∗ pt c p2M g8 ∗ pt c tsM g9
            ∗ semVal ((c : Thread nD τ), SemLoc.dma 25) 0 ∗ semVal ((c : Thread nD τ), SemLoc.dma 26) 0
            ∗ owes (c : Thread nD τ) 0 W
            ∗ (iprop(pt c arg0 X0 ∗ pt c arg1 X1 ∗ pt c codesM X2 ∗ pt c scalesM X3
                ∗ (∃ f, pt c arg4 f ∗ ⌜∀ y, arg4.view.read (Elt F) f y = V y⌝)
                ∗ (∃ f, pt c hM f) ∗ (∃ f, (dcM.view.loc (c : Thread nD τ) ↦[Finset.univ]{fullShare} f)) ∗ (∃ f, (dsM.view.loc (c : Thread nD τ) ↦[Finset.univ]{fullShare} f)) ∗ (∃ f, pt c p2M f) ∗ (∃ f, pt c tsM f)
                ∗ semVal ((c : Thread nD τ), SemLoc.dma 25) 0 ∗ semVal ((c : Thread nD τ), SemLoc.dma 26) 0
                ∗ (∃ W', owes (c : Thread nD τ) 0 W')) -∗ K ⟨⟩))
          ⊢ wp frame (wpE (defs₀ (F := F)) Variants.none (c : Thread nD τ) none) Set.univ
              (cc0_layer arg0 harg0 arg1 harg1 codesM (Memref.isWhole_whole _) scalesM (Memref.isWhole_whole _) arg4 harg4
                hM (Memref.isWhole_whole _) dcM (Memref.isWhole_whole _) dsM (Memref.isWhole_whole _) p2M (Memref.isWhole_whole _)
                tsM (Memref.isWhole_whole _) cc0_scratch5) K } := by
  apply Subtype.mk
  case property =>
    intro W f4 g9 K
    rw [cc0_layer_eq_skeleton]; unfold cc0_layer_skel
    unfold pt
    have _p1 : Transfers.BatchOf (c : Thread nD τ) (SemLoc.dma (sig := sig) 25) 14 (windows := true) := trivial
    have _p2 : Transfers.BatchOf (c : Thread nD τ) (SemLoc.dma (sig := sig) 26) 14 (windows := true) := trivial
    iintro ⟨H0, H1, H2, H3, H4, H5, H6, H7, H8, H9, Hq0, Hq1, HW, Hk⟩
    sl_exec
    rw [univ_dc c, univ_ds c]
    sl_exec
    sl_step
    iapply Hk
    isplitl [H0]; · iexact H0
    isplitl [H1]; · iexact H1
    isplitl [H2]; · iexact H2
    isplitl [H3]; · iexact H3
    isplitl [H4]
    · iexists _; isplitl [H4]; · iexact H4
      ipureintro
      exact fun y => hL5 y (lt_of_lt_of_le (y (1 : Fin 2)).isLt (by decide +kernel))
    isplitl [H5]; · iexists _; iexact H5
    isplitl [H6]; · iexists _; iexact H6
    isplitl [H7]; · iexists _; iexact H7
    isplitl [H8]; · iexists _; iexact H8
    isplitl [H9]; · iexists _; iexact H9
    isplitl [Hq0]; · iexact Hq0
    isplitl [Hq1]; · iexact Hq1
    iexists _; iexact HW

end Cert.KernelIdeal.Down

end
-- ==== Proof.Read.lean ====
/-
  What the body's run leaves, read back: the copied codes and scales are the arrays they were copied from, the permuted
  activations are the product with the permutation, and the result is a plain function of the four arrays.
-/
module

public import proofs.«01_k».proof.Proof.Body
public import Idealize.ShloMosaic.Lib.VecWindow
public import Idealize.ShloMosaic.Lib.ViewIndex
public import Idealize.ShloMosaic.Lib.Pipeline.Value

@[expose] public section

set_option maxRecDepth 8192
set_option maxHeartbeats 4000000

noncomputable section

namespace Cert.KernelIdeal.Down

open Cert.KernelIdeal Cert.KernelIdeal.Gen
open Idealize.ShloMosaic Idealize.ShloMosaic.TcCoe Idealize.ShloMosaic.Tactic

variable {F : FTy → Type} [FloatOps F]

/-- The in-bounds fact of chunk `i`'s 16 row blocks of the codes. -/
theorem cw_inb (i : Fin 14) : ∀ a, (![16 * i.val, 0, 0] : Fin 3 → ℕ) a + S16x512x128.size a ≤ S224x512x128.size a := by
  intro a; fin_cases a
  · show 16 * i.val + 16 ≤ 224; omega
  · show 0 + 512 ≤ 512; omega
  · show 0 + 128 ≤ 128; omega

/-- The rectangle of chunk `i`'s codes. -/
abbrev cwR (i : Fin 14) : Rect S224x512x128 := Rect.unit ![16 * i.val, 0, 0] S16x512x128.size (cw_inb i)

/-- The in-bounds fact of chunk `i`'s scales. -/
theorem sw_inb (i : Fin 14) : ∀ a, (![i.val, 0, 0] : Fin 3 → ℕ) a + S1x8x8192.size a ≤ S14x8x8192.size a := by
  intro a; fin_cases a
  · show i.val + 1 ≤ 14; omega
  · show 0 + 8 ≤ 8; omega
  · show 0 + 8192 ≤ 8192; omega

/-- The rectangle of chunk `i`'s scales. -/
abbrev swR (i : Fin 14) : Rect S14x8x8192 := Rect.unit ![i.val, 0, 0] S1x8x8192.size (sw_inb i)

/-- The 14 copies of codes, newest first. -/
def cPieces (X : S224x512x128.Idx → Elt F .i8) (l : List (Fin 14)) : List (View.Piece (Elt F) S224x512x128 .i8) :=
  l.map fun i => ⟨cwR i, fun x => X ((cwR i).emb x)⟩

/-- Where one of the copies landed, the code scratch reads as the array copied. -/
theorem read_cPieces {κ : Kind} {sp : Space} (v : View sig κ sp S224x512x128 .i8) (f : v.ty.Contents (Elt F)) (X : S224x512x128.Idx → Elt F .i8) (y : S224x512x128.Idx) :
    ∀ (l : List (Fin 14)), (∃ i ∈ l, (y (0 : Fin 3)).val / 16 = i.val) → v.read (Elt F) (v.writes (Elt F) f (cPieces X l)) y = X y
  | [], h => by obtain ⟨i, hi, _⟩ := h; cases hi
  | i :: l, h => by
    have hlt : (y (1 : Fin 3)).val < 512 := (y (1 : Fin 3)).isLt
    by_cases hi : (y (0 : Fin 3)).val / 16 = i.val
    · let x : (cwR i).shape.Idx := fun a => match a with
        | ⟨0, _⟩ => ⟨(y (0 : Fin 3)).val % 16, Nat.mod_lt _ (by decide)⟩
        | ⟨1, _⟩ => ⟨(y (1 : Fin 3)).val, (y (1 : Fin 3)).isLt⟩
        | ⟨2, _⟩ => ⟨(y (2 : Fin 3)).val, (y (2 : Fin 3)).isLt⟩
        | ⟨_ + 3, h⟩ => absurd h (Nat.not_lt.2 (Nat.le_add_left _ _))
      have hx : ∀ a, (y a).val = (![16 * i.val, 0, 0] : Fin 3 → ℕ) a + (x a).val := by
        intro a; fin_cases a
        · show (y (0 : Fin 3)).val = 16 * i.val + (y (0 : Fin 3)).val % 16; omega
        · show (y (1 : Fin 3)).val = 0 + (y (1 : Fin 3)).val; omega
        · show (y (2 : Fin 3)).val = 0 + (y (2 : Fin 3)).val; omega
      refine (View.read_writes_cons_unit_of_mem v f (cw_inb i) _ _ y x rfl hx).trans ?_
      show X ((cwR i).emb x) = X y
      congr 1
      funext a; apply Fin.ext
      show (![16 * i.val, 0, 0] : Fin 3 → ℕ) a + 1 * (x a).val = (y a).val
      rw [hx a, Nat.one_mul]
    · refine (View.read_writes_cons_unit_of_not_mem v f (cw_inb i) _ _ y rfl (0 : Fin 3) ?_).trans (read_cPieces v f X y l ?_)
      · show (y (0 : Fin 3)).val < 16 * i.val ∨ 16 * i.val + 16 ≤ (y (0 : Fin 3)).val; omega
      · obtain ⟨j, hj, he⟩ := h
        rcases List.mem_cons.1 hj with rfl | hj
        · exact absurd he hi
        · exact ⟨j, hj, he⟩

/-- One copy of scales: chunk `i`'s plane, through its squeeze. -/
def sStep {κ : Kind} {sp : Space} (v : Memref sig κ sp S14x8x8192 .bf16) (X : S14x8x8192.Idx → Elt F .bf16) (f : v.view.ty.Contents (Elt F)) (i : Fin 14) : v.view.ty.Contents (Elt F) :=
  View.write (Elt F) ((v.slice (swR i) (fun _ => rfl)).squeeze S8x8192 squeezes_S1x8x8192_S8x8192).view f
    (fun x => X ((swR i).emb (Shape.reshapeEquiv squeezes_S1x8x8192_S8x8192.numel_eq x))) Finset.univ

/-- After one copy of scales, its plane reads as the array copied, the rest as before. -/
theorem read_sStep {κ : Kind} {sp : Space} (v : Memref sig κ sp S14x8x8192 .bf16) (X : S14x8x8192.Idx → Elt F .bf16) (f : v.view.ty.Contents (Elt F)) (i : Fin 14) (y : S14x8x8192.Idx) :
    v.view.read (Elt F) (sStep v X f i) y = if (y (0 : Fin 3)).val = i.val then X y else v.view.read (Elt F) f y := by
  split
  · rename_i hi
    let z : (swR i).shape.Idx := fun a => match a with
      | ⟨0, _⟩ => ⟨0, Nat.one_pos⟩
      | ⟨1, _⟩ => ⟨(y (1 : Fin 3)).val, (y (1 : Fin 3)).isLt⟩
      | ⟨2, _⟩ => ⟨(y (2 : Fin 3)).val, (y (2 : Fin 3)).isLt⟩
      | ⟨_ + 3, h⟩ => absurd h (Nat.not_lt.2 (Nat.le_add_left _ _))
    have hz : (swR i).emb z = y := by
      funext a; apply Fin.ext
      fin_cases a
      · show i.val + 1 * 0 = (y (0 : Fin 3)).val; omega
      · show 0 + 1 * (y (1 : Fin 3)).val = (y (1 : Fin 3)).val; omega
      · show 0 + 1 * (y (2 : Fin 3)).val = (y (2 : Fin 3)).val; omega
    have key := View.read_write_reshape (v.view.slice (swR i)) squeezes_S1x8x8192_S8x8192.numel_eq f
      (fun x => X ((swR i).emb (Shape.reshapeEquiv squeezes_S1x8x8192_S8x8192.numel_eq x)))
      ((Shape.reshapeEquiv squeezes_S1x8x8192_S8x8192.numel_eq).symm z)
    rw [Equiv.apply_symm_apply, hz] at key
    rw [← hz] at key ⊢
    exact key
  · rename_i hi
    rw [View.read_apply, View.read_apply]
    unfold sStep
    rw [View.write_of_not_mem]
    intro hm
    obtain ⟨x, _, hx⟩ := Finset.mem_map.1 hm
    have : (swR i).emb (Shape.reshapeEquiv squeezes_S1x8x8192_S8x8192.numel_eq x) = y := v.view.emb.injective hx
    apply hi
    rw [← this]
    have h0 := (Shape.reshapeEquiv squeezes_S1x8x8192_S8x8192.numel_eq x (0 : Fin 3)).isLt
    show i.val + 1 * (Shape.reshapeEquiv squeezes_S1x8x8192_S8x8192.numel_eq x (0 : Fin 3)).val = i.val
    have : (Shape.reshapeEquiv squeezes_S1x8x8192_S8x8192.numel_eq x (0 : Fin 3)).val < 1 := h0
    omega

/-- After the copies listed, every plane copied reads as the array. -/
theorem read_sFold {κ : Kind} {sp : Space} (v : Memref sig κ sp S14x8x8192 .bf16) (X : S14x8x8192.Idx → Elt F .bf16) (y : S14x8x8192.Idx) :
    ∀ (l : List (Fin 14)) (f : v.view.ty.Contents (Elt F)), ((∃ i ∈ l, (y (0 : Fin 3)).val = i.val) ∨ v.view.read (Elt F) f y = X y) →
      v.view.read (Elt F) (l.foldl (sStep v X) f) y = X y
  | [], f, h => by
    rcases h with ⟨i, hi, _⟩ | h
    · cases hi
    · exact h
  | i :: l, f, h => by
    rw [List.foldl_cons]
    refine read_sFold v X y l (sStep v X f i) ?_
    have key := read_sStep v X f i y
    by_cases hi : (y (0 : Fin 3)).val = i.val
    · exact .inr (key.trans (if_pos hi))
    · replace key := key.trans (if_neg hi)
      rcases h with ⟨j, hj, he⟩ | h
      · rcases List.mem_cons.1 hj with rfl | hj
        · exact absurd he hi
        · exact .inl ⟨j, hj, he⟩
      · exact .inr (key.trans h)

/-- The permutation matrix the kernel stores. -/
def p2v : FVec F S256x256 .bf16 :=
  k0_pay1760 (F := F) (iota .tc S256x256 32 [0] iota_S256x256_d0_w32) (k0_pay1755 k0_pay1752 8#32 k0_pay1753 k0_pay1754)
    (k0_pay1756 (iota .tc S256x256 32 [1] iota_S256x256_d1_w32)) (k0_pay1757 k0_pay1751) (Scalar.select (Scalar.cmpi .eq 2#32 0#32) 1#32 2#32)
    (k0_pay1758 (iota .tc S256x256 32 [1] iota_S256x256_d1_w32)) k0_pay1759

theorem h_slices (n : Fin 14) : S224x256.Slices ![16 * n.val, 0] S16x256 := by
  revert n; decide +kernel

/-- Chunk `n` of the permuted activations. -/
def hchunk (a : Vec F S14x16x256 .bf16) (p : Vec F S256x256 .bf16) (n : Fin 14) : FVec F S16x256 .bf16 :=
  extractStridedSlice S16x256 ![16 * n.val, 0] (k0_pay1762 a p) (h_slices n)

/-- The 14 stores of permuted activations, newest first. -/
def hPieces (a : Vec F S14x16x256 .bf16) (p : Vec F S256x256 .bf16) (l : List (Fin 14)) : List (View.Piece (Elt F) S16x8192 .bf16) :=
  l.map fun n => ⟨Rect.unit ![0, 256 * n.val] S16x256.size (h_inb n), shapeCast S16x256 (hchunk a p n) shapeCasts_S16x256_S16x256⟩

/-- A stored chunk reads back as stored. -/
theorem hOf_hPieces {κ : Kind} {sp : Space} (v : View sig κ sp S16x8192 .bf16) (f : v.ty.Contents (Elt F)) (a : Vec F S14x16x256 .bf16) (p : Vec F S256x256 .bf16) (n : Fin 14) :
    ∀ l : List (Fin 14), n ∈ l → hOf v (v.writes (Elt F) f (hPieces a p l)) n = hchunk a p n
  | [], h => by cases h
  | m :: l, h => by
    funext x
    let y : S16x8192.Idx := (Rect.unit (s := S16x8192) ![0, 256 * n.val] S16x256.size (h_inb n)).emb x
    have hy0 : (y (0 : Fin 2)).val = (x (0 : Fin 2)).val := by show 0 + 1 * _ = _; omega
    have hy1 : (y (1 : Fin 2)).val = 256 * n.val + (x (1 : Fin 2)).val := by show 256 * n.val + 1 * (x (1 : Fin 2)).val = _; omega
    have hx1 : (x (1 : Fin 2)).val < 256 := (x (1 : Fin 2)).isLt
    show v.read (Elt F) (v.writes (Elt F) f (hPieces a p (m :: l))) y = hchunk a p n x
    by_cases hm : m = n
    · subst hm
      refine (View.read_writes_cons_unit_of_mem v f (h_inb m) _ _ y x rfl ?_).trans ?_
      · intro a; fin_cases a
        · show (y (0 : Fin 2)).val = 0 + (x (0 : Fin 2)).val; omega
        · exact hy1
      · exact congrFun (shapeCast_self _ _) x
    · have hn : n ∈ l := (List.mem_cons.1 h).resolve_left fun e => hm e.symm
      refine (View.read_writes_cons_unit_of_not_mem v f (h_inb m) _ _ y rfl (1 : Fin 2) ?_).trans
        (congrFun (hOf_hPieces v f a p n l hn) x)
      have : m.val ≠ n.val := fun e => hm (Fin.ext e)
      show (y (1 : Fin 2)).val < 256 * m.val ∨ 256 * m.val + 256 ≤ (y (1 : Fin 2)).val
      omega

end Cert.KernelIdeal.Down

end
-- ==== Proof.Val.lean ====
/-
  The body's result as a plain function of the four arrays: `gfin`.
-/
module

public import proofs.«01_k».proof.Proof.Read

@[expose] public section

set_option maxRecDepth 8192
set_option maxHeartbeats 4000000

noncomputable section

namespace Cert.KernelIdeal.Down

open Cert.KernelIdeal Cert.KernelIdeal.Gen
open Idealize.ShloMosaic Idealize.ShloMosaic.TcCoe Idealize.ShloMosaic.Tactic

variable {F : FTy → Type} [FloatOps F]

/-- The codes a trip reads, block row by block row. -/
def cdP (C : S224x512x128.Idx → Elt F .i8) (k : Fin k0_t1_loop.trips) (r : Fin 224) : Vec F S1x32x128 .i8 :=
  fun x => C ((Rect.unit (s := S224x512x128) ![r.val, kw 32#32 k, 0] S1x32x128.size (cd_inb r k)).emb x)

/-- The scales a trip reads, eight block rows at a time. -/
def scP (S : S14x8x8192.Idx → Elt F .bf16) (k : Fin k0_t1_loop.trips) (i : Fin 14) : Vec F S1x8x512 .bf16 :=
  fun x => S ((Rect.unit (s := S14x8x8192) ![i.val, 0, kw 512#32 k] S1x8x512.size (sc_inb i k)).emb x)

/-- Where in its eight rows a row of 128 scales lies. -/
def rowIx (r : ℕ) (j : ℕ) (hj : j < 512) : S8x512.Idx :=
  fun a => match a with
  | ⟨0, _⟩ => ⟨r % 8, Nat.mod_lt _ (by decide)⟩
  | ⟨1, _⟩ => ⟨j, hj⟩
  | ⟨_ + 2, h⟩ => absurd h (Nat.not_lt.2 (Nat.le_add_left _ _))

/-- One row of 128 scales as the trip reads it back. -/
def tsP (S : S14x8x8192.Idx → Elt F .bf16) (k : Fin k0_t1_loop.trips) (b : Fin 112) (c : Fin 4) : Vec F S1x128 .f32 :=
  fun x => stage (scP S k ⟨b.val / 8, by omega⟩) (rowIx b.val (128 * c.val + (x (1 : Fin 2)).val) (by
    have : (x (1 : Fin 2)).val < 128 := (x (1 : Fin 2)).isLt
    omega))

/-- The result at an index, from the residual, the permuted activations, the codes and the scales. -/
def gfin (x1 : S16x8192.Idx → Elt F .f32) (H : Fin 14 → Vec F S16x256 .bf16) (C : S224x512x128.Idx → Elt F .i8) (S : S14x8x8192.Idx → Elt F .bf16)
    (y : S16x8192.Idx) : Elt F .bf16 :=
  let k : Fin k0_t1_loop.trips := ⟨(y (1 : Fin 2)).val / 512, by
    have h : (y (1 : Fin 2)).val < 8192 := (y (1 : Fin 2)).isLt
    have : k0_t1_loop.trips = 16 := by decide +kernel
    omega⟩
  let t : Fin 2 := ⟨(y (1 : Fin 2)).val % 512 / 256, by omega⟩
  outv (fun x => x1 ((outR k t).emb x)) (acc H (tsP S k) (cdP C k) t) (place y)

/-- Where one of the stores of widened scales landed, the scratch reads as stored. -/
theorem read_stage {κ : Kind} {sp : Space} (v : View sig κ sp S112x512 .f32) (f : v.ty.Contents (Elt F)) (w : Fin 14 → FVec F S8x512 .f32) (y : S112x512.Idx) (i : Fin 14)
    (hi : (y (0 : Fin 2)).val / 8 = i.val) :
    ∀ (l : List (Fin 14)), i ∈ l →
      v.read (Elt F) (v.writes (Elt F) f (l.map fun j => ⟨Rect.unit ![8 * j.val, 0] S8x512.size (st_inb j), w j⟩)) y
        = w i (rowIx (y (0 : Fin 2)).val (y (1 : Fin 2)).val (y (1 : Fin 2)).isLt)
  | [], h => by cases h
  | j :: l, h => by
    by_cases hj : j = i
    · subst hj
      refine View.read_writes_cons_unit_of_mem v f (st_inb j) _ _ y (rowIx (y (0 : Fin 2)).val (y (1 : Fin 2)).val (y (1 : Fin 2)).isLt) rfl ?_
      intro a; fin_cases a
      · show (y (0 : Fin 2)).val = 8 * j.val + (y (0 : Fin 2)).val % 8; omega
      · show (y (1 : Fin 2)).val = 0 + (y (1 : Fin 2)).val; omega
    · refine (View.read_writes_cons_unit_of_not_mem v f (st_inb j) _ _ y rfl (0 : Fin 2) ?_).trans
        (read_stage v f w y i hi l ((List.mem_cons.1 h).resolve_left fun e => hj e.symm))
      have : j.val ≠ i.val := fun e => hj (Fin.ext e)
      show (y (0 : Fin 2)).val < 8 * j.val ∨ 8 * j.val + 8 ≤ (y (0 : Fin 2)).val
      omega

theorem all14 : ∀ i : Fin 14, i ∈ ([13, 12, 11, 10, 9, 8, 7, 6, 5, 4, 3, 2, 1, 0] : List (Fin 14)) := by decide

/-- The scales read back in a trip are the array's, widened. -/
theorem tsOf_eq {κ κ' : Kind} {sp sp' : Space} (v7 : View sig κ sp S14x8x8192 .bf16) (v9 : View sig κ' sp' S112x512 .f32)
    (X7 : BufTy.Contents (Elt F) v7.ty) (S : S14x8x8192.Idx → Elt F .bf16) (hS : ∀ z, v7.read (Elt F) X7 z = S z) (k : Fin k0_t1_loop.trips) :
    tsOf v7 v9 X7 k = tsP S k := by
  funext b c x
  have hx : (x (1 : Fin 2)).val < 128 := (x (1 : Fin 2)).isLt
  have hx0 : (x (0 : Fin 2)).val < 1 := (x (0 : Fin 2)).isLt
  let y : S112x512.Idx := (Rect.unit (s := S112x512) ![b.val, 128 * c.val] S1x128.size (ts_inb b c)).emb x
  have hy0 : (y (0 : Fin 2)).val = b.val := by show b.val + 1 * (x (0 : Fin 2)).val = _; omega
  have hy1 : (y (1 : Fin 2)).val = 128 * c.val + (x (1 : Fin 2)).val := by show 128 * c.val + 1 * (x (1 : Fin 2)).val = _; omega
  have key := read_stage v9 v9.junk (fun i => stage (v7.readAt (Elt F) (Rect.unit (s := S14x8x8192) ![i.val, 0, kw 512#32 k] S1x8x512.size (sc_inb i k)).toLoadRect X7))
    y ⟨b.val / 8, by omega⟩ (by show _ / 8 = b.val / 8; rw [hy0]) [13, 12, 11, 10, 9, 8, 7, 6, 5, 4, 3, 2, 1, 0] (all14 _)
  refine Eq.trans key ?_
  have e : (v7.readAt (Elt F) (Rect.unit (s := S14x8x8192) ![b.val / 8, 0, kw 512#32 k] S1x8x512.size (sc_inb ⟨b.val / 8, by omega⟩ k)).toLoadRect X7)
      = scP S k ⟨b.val / 8, by omega⟩ := funext fun z => hS _
  show stage _ _ = stage _ _
  rw [e]
  congr 1
  funext a; apply Fin.ext
  fin_cases a
  · show (y (0 : Fin 2)).val % 8 = b.val % 8; rw [hy0]
  · exact hy1

/-- The loop's result over contents that read as the arrays. -/
theorem gout_eq {κ₁ κ₅ κ₆ κ₇ κ₉ : Kind} {s₁ s₅ s₆ s₇ s₉ : Space} (v1 : View sig κ₁ s₁ S16x8192 .f32) (v5 : View sig κ₅ s₅ S16x8192 .bf16)
    (v6 : View sig κ₆ s₆ S224x512x128 .i8) (v7 : View sig κ₇ s₇ S14x8x8192 .bf16) (v9 : View sig κ₉ s₉ S112x512 .f32)
    (X1 : BufTy.Contents (Elt F) v1.ty) (X5 : BufTy.Contents (Elt F) v5.ty) (X6 : BufTy.Contents (Elt F) v6.ty) (X7 : BufTy.Contents (Elt F) v7.ty)
    (H : Fin 14 → Vec F S16x256 .bf16) (C : S224x512x128.Idx → Elt F .i8) (S : S14x8x8192.Idx → Elt F .bf16)
    (hH : ∀ n, hOf v5 X5 n = H n) (hC : ∀ z, v6.read (Elt F) X6 z = C z) (hS : ∀ z, v7.read (Elt F) X7 z = S z) (y : S16x8192.Idx) :
    gout v1 v5 v6 v7 v9 X1 X5 X6 X7 y = gfin (v1.read (Elt F) X1) H C S y := by
  unfold gout gfin
  dsimp only
  rw [tsOf_eq v7 v9 X7 S hS, show hOf v5 X5 = H from funext hH,
    show cdOf v6 X6 _ = cdP C _ from funext fun r => funext fun x => hC _]
  rfl

/-- What the body's run found, with its stores and copies listed by chunk. -/
theorem bodyRun_eq (c : Dev nD) (arg0 : Memref sig .tc .vmem S14x16x256 .bf16) (harg0 : arg0.IsWhole) (arg1 : Memref sig .tc .vmem S16x8192 .f32)
    (harg1 : arg1.IsWhole) (arg4 : Memref sig .tc .vmem S16x8192 .bf16) (harg4 : arg4.IsWhole)
    (X0 : Buf (Elt F) (arg0.view.loc (c : Thread nD τ))) (X1 : Buf (Elt F) (arg1.view.loc (c : Thread nD τ)))
    (X2 : Buf (Elt F) (codesM.view.loc (c : Thread nD τ))) (X3 : Buf (Elt F) (scalesM.view.loc (c : Thread nD τ)))
    (g5 : Buf (Elt F) (hM.view.loc (c : Thread nD τ))) (g6 : Buf (Elt F) (dcM.view.loc (c : Thread nD τ)))
    (g7 : Buf (Elt F) (dsM.view.loc (c : Thread nD τ))) (g8 : Buf (Elt F) (p2M.view.loc (c : Thread nD τ))) :
    (bodyRun c arg0 harg0 arg1 harg1 arg4 harg4 X0 X1 X2 X3 g5 g6 g7 g8).1 = fun y =>
      gout arg1.view hM.view dcM.view dsM.view tsM.view X1
        (hM.view.writes (Elt F) g5 (hPieces (arg0.view.readAt (Elt F) (Rect.unit (s := S14x16x256) ![0, 0, 0] S14x16x256.size inb_S14x16x256_S14x16x256_0_0_0).toLoadRect X0)
          (p2M.view.readCov [⟨Rect.unit (s := S256x256) ![0, 0] S256x256.size inb_S256x256_S256x256_0_0, shapeCast S256x256 p2v shapeCasts_S256x256_S256x256⟩]
            (Rect.unit (s := S256x256) ![0, 0] S256x256.size inb_S256x256_S256x256_0_0).toLoadRect)
          [13, 12, 11, 10, 9, 8, 7, 6, 5, 4, 3, 2, 1, 0]))
        (dcM.view.writes (Elt F) dcM.view.junk (cPieces (codesM.view.read (Elt F) X2) [13, 12, 11, 10, 9, 8, 7, 6, 5, 4, 3, 2, 1, 0]))
        ([0, 1, 2, 3, 4, 5, 6, 7, 8, 9, 10, 11, 12, 13].foldl (sStep dsM (scalesM.view.read (Elt F) X3)) g7) y := by
  sl_kernel_rfl

/-- The body's result, at every index, from the arrays alone. -/
theorem bodyRun_val (c : Dev nD) (arg0 : Memref sig .tc .vmem S14x16x256 .bf16) (harg0 : arg0.IsWhole) (arg1 : Memref sig .tc .vmem S16x8192 .f32)
    (harg1 : arg1.IsWhole) (arg4 : Memref sig .tc .vmem S16x8192 .bf16) (harg4 : arg4.IsWhole)
    (X0 : Buf (Elt F) (arg0.view.loc (c : Thread nD τ))) (X1 : Buf (Elt F) (arg1.view.loc (c : Thread nD τ)))
    (X2 : Buf (Elt F) (codesM.view.loc (c : Thread nD τ))) (X3 : Buf (Elt F) (scalesM.view.loc (c : Thread nD τ)))
    (g5 : Buf (Elt F) (hM.view.loc (c : Thread nD τ))) (g6 : Buf (Elt F) (dcM.view.loc (c : Thread nD τ)))
    (g7 : Buf (Elt F) (dsM.view.loc (c : Thread nD τ))) (g8 : Buf (Elt F) (p2M.view.loc (c : Thread nD τ))) (y : S16x8192.Idx) :
    (bodyRun c arg0 harg0 arg1 harg1 arg4 harg4 X0 X1 X2 X3 g5 g6 g7 g8).1 y =
      gfin (arg1.view.read (Elt F) X1) (hchunk (arg0.view.read (Elt F) X0) p2v) (codesM.view.read (Elt F) X2) (scalesM.view.read (Elt F) X3) y := by
  rw [bodyRun_eq]
  refine gout_eq _ _ _ _ _ _ _ _ _ _ _ _ (fun n => ?_) (fun z => ?_) (fun z => ?_) y
  · refine (hOf_hPieces _ _ _ _ n _ (all14 n)).trans ?_
    congr 1
    · exact View.readAt_full _ _ _
    · exact (View.readCov_full _ _ _ _ _).trans (shapeCast_self _ _)
  · have hz : (z (0 : Fin 3)).val < 224 := (z (0 : Fin 3)).isLt
    exact read_cPieces _ _ _ _ _ ⟨⟨(z (0 : Fin 3)).val / 16, by omega⟩, all14 _, rfl⟩
  · have hz : (z (0 : Fin 3)).val < 14 := (z (0 : Fin 3)).isLt
    refine read_sFold _ _ _ _ _ (.inl ⟨⟨(z (0 : Fin 3)).val, hz⟩, ?_, rfl⟩)
    exact (by decide : ∀ i : Fin 14, i ∈ ([0, 1, 2, 3, 4, 5, 6, 7, 8, 9, 10, 11, 12, 13] : List (Fin 14))) _

end Cert.KernelIdeal.Down

end
-- ==== Proof.Frame.lean ====
/-
  The kernel runs, its argument arrays end unchanged, every semaphore counter ends at zero, and its result array ends at
  the function `gfin` of the arrays: the body's run (`Proof/Body.lean`) put under the one-point pipeline.
-/
module

public import proofs.«01_k».proof.Proof.Val
public import proofs.«01_k».proof.Proof.Gen.KernelIdeal.Frame

@[expose] public section

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline's beside the transfers' counters. -/
local notation "𝕄" => MT nD τ sig Unit (Elt F) ℕ (Pipeline.UD sig nD τ) ℕ

variable (m : (ℓ : Loc nD τ sig) → Buf (Elt F) ℓ) (ρ : Dev nD → PrngReg)

/-- @main up to the pipeline, at this proof's algebra. -/
theorem hmain (𝒱₀ : Variants) : Pipeline.HMain (Ix := Unit) (Name := ℕ) (U := Pipeline.UD sig nD τ) (Lvl := ℕ) cfgs 0 defs₀ 𝒱₀ m (main (F := F)) (Gen.V m) :=
  Pipeline.hmain_prefix cfgs 0 defs₀ 𝒱₀ m main hostOps0 hostOps0_sub hostOps0_fresh main_chain

/-- A whole buffer, held by its memref's elements. -/
theorem pt_whole (c : Dev nD) (b : Ref sig .tc) (f : Buf (Elt F) ((c : Thread nD τ).loc b)) :
    (pt c (Memref.whole b) f : sProp 𝕄) = (((c : Thread nD τ).loc b) ↦{fullShare} f) := by
  unfold pt; rw [show (Memref.whole b).view.set = Finset.univ from View.set_whole b]

/-- The same at contents unnamed. -/
theorem ex_whole (c : Dev nD) (b : Ref sig .tc) :
    (iprop(∃ f : Buf (Elt F) ((c : Thread nD τ).loc b), ((c : Thread nD τ).loc b) ↦{fullShare} f) : sProp 𝕄) = iprop(∃ f, pt c (Memref.whole b) f) := by
  simp only [pt_whole]

/-- The body's two DMA cells. -/
abbrev osem0 : Fin 2 → SemLoc sig := fun j => (![SemLoc.dma 25, SemLoc.dma 26] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 25) 0 ∗ semVal ((c : Thread nD τ), SemLoc.dma 26) 0) := by
  rw [Pipeline.ownSems0_eq_of_list c osem0 [0, 1] (by decide) (by decide)]; rfl

/-- The two arrays the body copies from. -/
def H0 : Finset (Ref sig .tc) := {main_v3, main_v5}
theorem H0_sub : H0 ⊆ Pipeline.restRefs sig spec0 := by decide
theorem hbmPts0_eq (c : Dev nD) :
    (bigSep H0 (fun b => ((c : Thread nD τ).loc b) ↦{fullShare} Gen.V m c b) : sProp 𝕄)
      = iprop(pt c codesM (Gen.V m c main_v3) ∗ pt c scalesM (Gen.V m c main_v5)) := by
  rw [BI.bigSep_eq_bigSepL_of_eq [main_v3, main_v5] (by decide) (by decide), pt_whole, pt_whole]; rfl

theorem PhiD0_eq (c : Dev nD) :
    (Pipeline.ΦD osem0 spec0 H0 (Gen.V m) c : sProp 𝕄)
      = iprop(iprop((∃ f, pt c hM f) ∗ (∃ f, (dcM.view.loc (c : Thread nD τ) ↦[Finset.univ]{fullShare} f))
            ∗ (∃ f, (dsM.view.loc (c : Thread nD τ) ↦[Finset.univ]{fullShare} f)) ∗ (∃ f, pt c p2M f) ∗ (∃ f, pt c tsM f))
          ∗ (∃ r, prngReg c r)
          ∗ iprop(semVal ((c : Thread nD τ), SemLoc.dma 25) 0 ∗ semVal ((c : Thread nD τ), SemLoc.dma 26) 0)
          ∗ iprop(pt c codesM (Gen.V m c main_v3) ∗ pt c scalesM (Gen.V m c main_v5))) := by
  rw [Pipeline.ΦD_eq, scopedRest0_eq, ownSems00_eq, hbmPts0_eq]
  rw [ex_whole c cc0_scratch0, ex_whole c cc0_scratch3, ex_whole c cc0_scratch4]

/-- What the result's staging buffer holds after the body. -/
def outAt (c : Dev nD) (t : Fin cfg0.N) : Vec F S16x8192 .bf16 :=
  gfin (iblk m c 1 t) (hchunk (iblk m c 0 t) p2v) (codesM.view.read (Elt F) (Gen.V m c main_v3)) (scalesM.view.read (Elt F) (Gen.V m c main_v5))

/-- The proof data of the one pipeline: the arrays as the region finds them, the inputs' blocks left in place, the
    result's at `outAt`, nothing owed. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => iblk m c 0 t
    | ⟨1, _⟩ => iblk m c 1 t
    | ⟨2, _⟩ => outAt m c t
  Φ _ := Pipeline.ΦD osem0 spec0 H0 (Gen.V m) c
  q _ := fullShare
  owed _ := 0

theorem A_eq (c : Dev nD) (w : Fin cfg0.W) : (dats m 0 c).A w = Gen.V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; rfl)

abbrev ms0_0 (t : Fin cfg0.N) : Memref sig .tc .vmem S14x16x256 .bf16 := win0_0.stage (cfg0.slots t 0)
abbrev ms0_1 (t : Fin cfg0.N) : Memref sig .tc .vmem S16x8192 .f32 := win0_1.stage (cfg0.slots t 1)
abbrev ms0_2 (t : Fin cfg0.N) : Memref sig .tc .vmem S16x8192 .bf16 := win0_2.stage (cfg0.slots t 2)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at its point: from the pipeline's precondition to its postcondition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2]
  rw [show (dats m 0 c).Φ t.castSucc = Pipeline.ΦD osem0 spec0 H0 (Gen.V m) c from rfl, PhiD0_eq]
  unfold Dat.owesAt Pipeline.owesWithin
  rw [show (dats m 0 c).owed t.castSucc = 0 from rfl, show (dats m 0 c).owed t.succ = 0 from rfl]
  simp only [before0_0, before0_1]
  iintro ⟨⟨⟨⟨%g5, H5⟩, ⟨%g6, H6⟩, ⟨%g7, H7⟩, ⟨%g8, H8⟩, ⟨%g9, H9⟩⟩, Hg, ⟨Hq0, Hq1⟩, ⟨H2, H3⟩⟩, ⟨%W, -, HW⟩, ⟨%d0, H0⟩, ⟨%d1, H1⟩, ⟨%d4, H4⟩⟩
  unfold owns
  icases H0 with ⟨%f0, %e0, H0⟩
  icases H1 with ⟨%f1, %e1, H1⟩
  icases H4 with ⟨%f4, -, H4⟩
  iapply ((bodyRun c (ms0_0 t) (hstage0_0 0) (ms0_1 t) (hstage0_1 0) (ms0_2 t) (hstage0_2 0) f0 f1 (Gen.V m c main_v3) (Gen.V m c main_v5) g5 g6 g7 g8).2 W f4 g9 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hq0]; · iexact Hq0
  isplitl [Hq1]; · iexact Hq1
  isplitl [HW]; · iexact HW
  iintro ⟨H0, H1, H2, H3, ⟨%f4', H4, %h4⟩, H5, H6, H7, H8, H9, Hq0, Hq1, ⟨%W', HW'⟩⟩
  isplitl [H2 H3 H5 H6 H7 H8 H9 Hg Hq0 Hq1]
  · isplitl [H5 H6 H7 H8 H9]
    · isplitl [H5]; · iexact H5
      isplitl [H6]; · iexact H6
      isplitl [H7]; · iexact H7
      isplitl [H8]; · iexact H8
      iexact H9
    isplitl [Hg]; · iexact Hg
    isplitl [Hq0 Hq1]
    · isplitl [Hq0]; · iexact Hq0
      iexact Hq1
    isplitl [H2]; · iexact H2
    iexact H3
  isplitl [HW']
  · iexists W'; isplitr; · ipureintro; exact fun _ _ => Or.inl trivial
    iexact HW'
  isplitl [H0]
  · iexists f0; isplitr; · ipureintro; exact e0
    iexact H0
  isplitl [H1]
  · iexists f1; isplitr; · ipureintro; exact e1
    iexact H1
  iexists f4'; isplitr; swap; · iexact H4
  ipureintro
  funext y
  refine (h4 y).trans ((bodyRun_val c _ _ _ _ _ _ _ _ _ _ _ _ _ _ y).trans ?_)
  unfold outAt
  rw [e0, e1]

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program's run. -/
theorem run_main : θ_run defs (onTc (τ := τ) (main (F := F))) (s₀ m ρ) (fun r => Pipeline.FramePost cfgs (dats m) 0 (Gen.V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := Gen.V m) (hmain := hmain m Variants.none) (hA := A_eq m)
    (hin := fun _ => .rfl) (hout := fun _ => .rfl)

/-- The result array after the run. -/
def res (c : Dev nD) : Buf (Elt F) ((c : Thread nD τ).loc main_v6) := (dats m 0 c).arrAt 2 cfg0.N

/-- The run's result, its arguments as launched and every counter at zero. -/
theorem run_all : θ_run defs (onTc (τ := τ) (main (F := F))) ⟨m, fun _ => 0, ρ⟩ (fun r => (∀ c : Dev nD,
      r.2.mem ((c.tc : Thread nD τ).loc main_v6) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 2,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.KernelIdeal.Down

end
-- ==== Proof.KFrame.lean ====
/-
  The program before idealization: its text is the idealized program's, so its run is that program's run read at bits.
-/
module

public import proofs.«01_k».proof.Proof.Frame
public import proofs.«01_k».proof.Proof.Gen.Kernel
public import proofs.«01_k».proof.Defs

@[expose] public section

set_option maxRecDepth 65536
set_option maxHeartbeats 4000000

noncomputable section

namespace Cert.Proof

open Idealize.ShloMosaic Idealize.ShloMosaic.TcCoe Idealize.ShloMosaic.Tactic Idealize.SL.Sem

/-- The program's frame. -/
theorem frame_Kernel : Cert.quiescent_Kernel (hKernel := Cert.Kernel.Gen.facts) := by
  have h : Cert.quiescent_Kernel (hKernel := Cert.Kernel.Gen.facts) =
      ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) := by
    sl_kernel_rfl
  rw [h]
  intro m g _
  exact (θ_run _ _ _).mono (fun r h => ⟨fun c => (h.1 c).2, h.2⟩) (Cert.KernelIdeal.Down.run_all (F := Bits) m g)

end Cert.Proof

end
-- ==== Proof.Nib.lean ====
/-
  The signed 4-bit codes as the trip unpacks them, one at a time: the code at a row of 64 and a lane is a half of one
  byte, less eight.
-/
module

public import proofs.«01_k».proof.Proof.Chunk
public import Idealize.ShloMosaic.Lib.Pointwise
public import Idealize.ShloMosaic.Lib.Pointwise.IndexBridge
public import Idealize.ShloMosaic.Lib.BitcastFour

@[expose] public section

set_option maxRecDepth 16384

noncomputable section

namespace Cert.KernelIdeal.Down

open Cert.KernelIdeal Cert.KernelIdeal.Gen
open Idealize.ShloMosaic Idealize.ShloMosaic.TcCoe

/-- Half `h` of a byte, less eight. -/
def half (b : BitVec 8) (h : ℕ) : ℤ := ((b.extractLsb' (4 * h) 4).toNat : ℤ) - 8

/-- Indices with the same coordinates are the same. -/
theorem ix2_congr {A B : ℕ} {p p' : Fin A} {q q' : Fin B} (h0 : p.val = p'.val) (h1 : q.val = q'.val) : ix2 p q = ix2 p' q' := by
  rw [Fin.ext h0, Fin.ext h1]

/-- Indices with the same coordinates are the same. -/
theorem ix3_congr {A B C : ℕ} {p p' : Fin A} {q q' : Fin B} {r r' : Fin C} (h0 : p.val = p'.val) (h1 : q.val = q'.val) (h2 : r.val = r'.val) :
    ix3 p q r = ix3 p' q' r' := by
  rw [Fin.ext h0, Fin.ext h1, Fin.ext h2]

/-- A word shifted left until nibble `i` is on top and back with its sign is that nibble, sign-extended. -/
theorem shl_sshr (x : BitVec 32) (i : ℕ) (hi : i < 8) :
    (x <<< (28 - 4 * i)).sshiftRight 28 = (x.extractLsb' (4 * i) 4).signExtend 32 := by
  apply BitVec.eq_of_getLsbD_eq
  intro j hj
  rw [BitVec.getLsbD_sshiftRight, BitVec.getLsbD_signExtend, BitVec.msb_shiftLeft]
  by_cases h4 : j < 4
  · have h28 : 28 + j < 32 := by omega
    simp only [BitVec.getLsbD_shiftLeft, BitVec.getLsbD_extractLsb', h4, h28]
    have e : 28 + j - (28 - 4 * i) = 4 * i + j := by omega
    have e2 : ¬ 28 + j < 28 - 4 * i := by omega
    simp [e, e2, hj, Nat.not_le.2 hj]
  · have h28 : ¬ 28 + j < 32 := by omega
    simp only [h4, h28, BitVec.msb_eq_getLsbD_last, BitVec.getLsbD_extractLsb', BitVec.getMsbD]
    have e : 32 - 1 - (28 - 4 * i) = 4 * i + (4 - 1) := by omega
    have e2 : 28 - 4 * i < 32 := by omega
    simp [e, e2, hj, Nat.not_le.2 hj]

/-- The mask flips the top bit of every nibble. -/
theorem mask_nibble : ∀ i : Fin 8, (2290649224#32).extractLsb' (4 * i.val) 4 = 8#4 := by decide

/-- A nibble with its top bit flipped, read with its sign, is the nibble less eight. -/
theorem flip_toInt : ∀ n : BitVec 4, ((n ^^^ 8#4).signExtend 32).toInt = (n.toNat : ℤ) - 8 := by decide

/-- Nibble `i` of a word whose bytes are known is a half of byte `i / 2`. -/
theorem word_nibble (w : BitVec 32) (b : BitVec 8) (i : ℕ) (hi : i < 8)
    (h : ∀ q, 8 * (i / 2) ≤ q → q < 8 * (i / 2) + 8 → w.getLsbD q = b.getLsbD (q % 8)) :
    w.extractLsb' (4 * i) 4 = b.extractLsb' (4 * (i % 2)) 4 := by
  apply BitVec.eq_of_getLsbD_eq
  intro j hj
  simp only [BitVec.getLsbD_extractLsb', hj, decide_true, Bool.true_and]
  rw [h _ (by omega) (by omega)]
  congr 1; omega

/-- The reference's half of a byte: shifted down and masked. -/
theorem ref_half : ∀ (b : BitVec 8), ((b.setWidth 32).sshiftRight 0 &&& 15#32).toInt = ((b.extractLsb' 0 4).toNat : ℤ)
    ∧ ((b.setWidth 32).sshiftRight 4 &&& 15#32).toInt = ((b.extractLsb' 4 4).toNat : ℤ) := by decide +kernel

/-- The shift amount at nibble `i`. -/
theorem amount : ∀ i : Fin 8, (28#32 - 4#32 * BitVec.ofNat 32 i.val) = BitVec.ofNat 32 (28 - 4 * i.val) := by decide

/-- The code at row `q` of 64 and lane `l`: a half of byte row `4 (q / 8) + (q % 8) / 2`, less eight. -/
theorem nib_apply (v : Vec Ideal S1x32x128 .i8) (q : Fin 64) (l : Fin 128) :
    nib (F := Ideal) v (ix2 q l) = (((half (v (ix3 (0 : Fin 1) (⟨4 * (q.val / 8) + q.val % 8 / 2, by omega⟩ : Fin 32) l)) (q.val % 8 % 2) : ℤ) : ℝ) : EReal) := by
  unfold nib
  pointwise
  have key := bitcast_8_32_getLsbD_ix2 (shapeCast S32x128 v shapeCasts_S1x32x128_S32x128) bitcasts_S32x128_w8_S8x128_w32 ⟨q.val / 8, by omega⟩ l
  rw [← ix2_eq_valueIdx] at key
  generalize bitcast S8x128 32 (shapeCast S32x128 v shapeCasts_S1x32x128_S32x128) bitcasts_S32x128_w8_S8x128_w32 (ix2 ⟨q.val / 8, by omega⟩ l) = w at key ⊢
  have hb : shapeCast S32x128 v shapeCasts_S1x32x128_S32x128 (ix2 (⟨4 * (q.val / 8) + q.val % 8 / 2, by omega⟩ : Fin 32) l)
      = v (ix3 (0 : Fin 1) (⟨4 * (q.val / 8) + q.val % 8 / 2, by omega⟩ : Fin 32) l) := by pointwise
  rw [ix2_eq_valueIdx] at hb
  generalize v (ix3 (0 : Fin 1) (⟨4 * (q.val / 8) + q.val % 8 / 2, by omega⟩ : Fin 32) l) = b at hb ⊢
  have hw : w.extractLsb' (4 * (q.val % 8)) 4 = b.extractLsb' (4 * (q.val % 8 % 2)) 4 := by
    refine word_nibble w b (q.val % 8) (by omega) fun r h1 h2 => ?_
    have hp : 4 * (q.val / 8) + q.val % 8 / 2 = 4 * (q.val / 8) + r / 8 := by omega
    rw [key r (by omega) ⟨4 * (q.val / 8) + q.val % 8 / 2, by omega⟩ hp, hb]
  have ha := amount ⟨q.val % 8, by omega⟩
  have hm := mask_nibble ⟨q.val % 8, by omega⟩
  dsimp only at ha hm
  have hn : (BitVec.ofNat 32 (28 - 4 * (q.val % 8))).toNat = 28 - 4 * (q.val % 8) := by
    rw [BitVec.toNat_ofNat]; omega
  have hs : IntOp.shrsi ArithUnit.vector (IntOp.shli ArithUnit.vector (IntOp.xori w 2290649224#32)
      (IntOp.subi (28#32) (IntOp.muli (4#32) (BitVec.ofNat 32 (q.val % 8))))) 28#32
      = ((b.extractLsb' (4 * (q.val % 8 % 2)) 4) ^^^ 8#4).signExtend 32 := by
    have ha' : IntOp.subi (28#32) (IntOp.muli (4#32) (BitVec.ofNat 32 (q.val % 8))) = BitVec.ofNat 32 (28 - 4 * (q.val % 8)) := ha
    rw [ha']
    unfold IntOp.shrsi IntOp.shli IntOp.xori
    rw [if_pos (by decide), if_pos (by rw [hn]; omega)]
    show BitVec.sshiftRight ((w ^^^ 2290649224#32) <<< (BitVec.ofNat 32 (28 - 4 * (q.val % 8))).toNat) (28#32).toNat = _
    rw [hn]
    show BitVec.sshiftRight ((w ^^^ 2290649224#32) <<< (28 - 4 * (q.val % 8))) 28 = _
    rw [shl_sshr _ _ (by omega), ← hw, ← hm, BitVec.extractLsb'_xor]
  rw [hs]
  show (((((b.extractLsb' (4 * (q.val % 8 % 2)) 4) ^^^ 8#4).signExtend 32).toInt : ℝ) : EReal) = _
  rw [flip_toInt]; rfl

end Cert.KernelIdeal.Down

end
-- ==== Proof.Acc.lean ====
/-
  The trip's weights and its sum over the fourteen chunks, read at an index.
-/
module

public import proofs.«01_k».proof.Proof.Nib
public import proofs.«01_k».proof.Proof.Val

@[expose] public section

set_option maxRecDepth 16384

noncomputable section

namespace Cert.KernelIdeal.Down

open Cert.KernelIdeal Cert.KernelIdeal.Gen
open Idealize.ShloMosaic Idealize.ShloMosaic.TcCoe

/-- A piece's scales are the row's, lane by lane. -/
theorem scPair_apply (v : Vec Ideal S1x128 .f32) (r : Fin 16) (l : Fin 128) : scPair (F := Ideal) v (ix2 r l) = v (ix2 (0 : Fin 1) l) := by
  unfold scPair
  pointwise

/-- The scales staged in float32 are the array's. -/
theorem stage_apply (v : Vec Ideal S1x8x512 .bf16) (r : Fin 8) (l : Fin 512) : stage (F := Ideal) v (ix2 r l) = v (ix3 (0 : Fin 1) r l) := by
  unfold stage
  pointwise

/-- A piece at an index: a code's number times its scale. -/
theorem piece_apply (c : Fin 4) (x : FVec Ideal S64x128 .bf16) (s : FVec Ideal S16x128 .bf16) (r : Fin 16) (l : Fin 128) :
    piece (F := Ideal) c x s (ix2 r l) = (x (ix2 (⟨16 * c.val + r.val, by omega⟩ : Fin 64) l) : EReal) * s (ix2 r l) := by
  unfold piece
  pointwise

/-- Sixteen pieces under each other, read at row `p`. -/
theorem cat16_apply (f : Fin 16 → FVec Ideal S16x128 .bf16) (p : Fin 256) (l : Fin 128) :
    cat16 (F := Ideal) f (ix2 p l) = f ⟨p.val / 16, by omega⟩ (ix2 (⟨p.val % 16, by omega⟩ : Fin 16) l) := by
  unfold cat16
  refine concatenate_ofFn_apply (t := S256x128) (s₁ := S16x128) (0 : Fin 2) f _ rfl 16 rfl (ix2 p l) ⟨p.val / 16, by omega⟩ rfl (ix2 (⟨p.val % 16, by omega⟩ : Fin 16) l) rfl ?_
  intro b hb
  fin_cases b
  · exact absurd rfl hb
  · rfl

/-- Two column tiles side by side, read at a column. -/
theorem wpair_apply (w : Fin 4 → FVec Ideal S256x128 .bf16) (t : Fin 2) (p : Fin 256) (j : Fin 256) :
    wpair (F := Ideal) (w (tl t)) (w (tr t)) (ix2 p j) = w ⟨2 * t.val + j.val / 128, by omega⟩ (ix2 p (⟨j.val % 128, by omega⟩ : Fin 128)) := by
  unfold wpair
  pointwise
  split
  · rename_i h
    have e : (⟨2 * t.val + j.val / 128, by omega⟩ : Fin 4) = tl t := Fin.ext (by show 2 * t.val + j.val / 128 = 2 * t.val; omega)
    rw [e]; congr 2; exact Fin.ext (by show j.val = j.val % 128; omega)
  · rename_i h
    have e : (⟨2 * t.val + j.val / 128, by omega⟩ : Fin 4) = tr t := Fin.ext (by show 2 * t.val + j.val / 128 = 2 * t.val + 1; omega)
    rw [e]; congr 2; exact Fin.ext (by show j.val - 128 = j.val % 128; omega)

/-- One chunk's step at an index. -/
theorem accStep_apply (h : Fin 14 → Vec Ideal S16x256 .bf16) (ts : Fin 112 → Fin 4 → Vec Ideal S1x128 .f32) (cd : Fin 224 → Vec Ideal S1x32x128 .i8)
    (t : Fin 2) (a : FVec Ideal S16x256 .f32) (n : Fin 14) (b : Fin 16) (j : Fin 256) :
    accStep (F := Ideal) h ts cd t a n (ix2 b j) = (a (ix2 b j) : EReal) + ∑ p : Fin 256, (h n (ix2 b p) : EReal) *
      wtile (F := Ideal) ts cd n ⟨2 * t.val + j.val / 128, by omega⟩ (ix2 p (⟨j.val % 128, by omega⟩ : Fin 128)) := by
  unfold accStep
  pointwise
  simp only [wpair_apply (wtile (F := Ideal) ts cd n)]

/-- The steps over a list of chunks at an index. -/
theorem accFold_apply (h : Fin 14 → Vec Ideal S16x256 .bf16) (ts : Fin 112 → Fin 4 → Vec Ideal S1x128 .f32) (cd : Fin 224 → Vec Ideal S1x32x128 .i8)
    (t : Fin 2) (b : Fin 16) (j : Fin 256) : ∀ (l : List (Fin 14)) (a : FVec Ideal S16x256 .f32),
    (l.foldl (accStep (F := Ideal) h ts cd t) a (ix2 b j) : EReal) = (a (ix2 b j) : EReal) + (l.map fun n => ∑ p : Fin 256, (h n (ix2 b p) : EReal) *
      wtile (F := Ideal) ts cd n ⟨2 * t.val + j.val / 128, by omega⟩ (ix2 p (⟨j.val % 128, by omega⟩ : Fin 128))).sum
  | [], a => by simp
  | n :: l, a => by
    rw [List.foldl_cons, accFold_apply h ts cd t b j l, accStep_apply, List.map_cons, List.sum_cons, add_assoc]

/-- The sum over the fourteen chunks at an index. -/
theorem acc_apply (h : Fin 14 → Vec Ideal S16x256 .bf16) (ts : Fin 112 → Fin 4 → Vec Ideal S1x128 .f32) (cd : Fin 224 → Vec Ideal S1x32x128 .i8)
    (t : Fin 2) (b : Fin 16) (j : Fin 256) :
    (acc (F := Ideal) h ts cd t (ix2 b j) : EReal) = ∑ n : Fin 14, ∑ p : Fin 256, (h n (ix2 b p) : EReal) *
      wtile (F := Ideal) ts cd n ⟨2 * t.val + j.val / 128, by omega⟩ (ix2 p (⟨j.val % 128, by omega⟩ : Fin 128)) := by
  unfold acc
  rw [accFold_apply, Fin.sum_univ_def]
  have e : (broadcast S16x256 (Scalar.ofBits (F := Ideal) .f32 0x00000000#32) (ix2 b j) : EReal) = 0 := Ideal.ofBits_zero_f32
  rw [e, zero_add]
  rfl

/-- A weight at an index: a half of a byte, less eight, times its scale. -/
theorem wtile_apply (ts : Fin 112 → Fin 4 → Vec Ideal S1x128 .f32) (cd : Fin 224 → Vec Ideal S1x32x128 .i8) (n : Fin 14) (c : Fin 4) (p : Fin 256) (l : Fin 128) :
    wtile (F := Ideal) ts cd n c (ix2 p l)
      = (((half (cd (blkOf n ⟨p.val / 16, by omega⟩) (ix3 (0 : Fin 1) (⟨8 * c.val + 4 * (p.val % 16 / 8) + p.val % 8 / 2, by omega⟩ : Fin 32) l)) (p.val % 2) : ℤ) : ℝ) : EReal)
        * ts (rowOf n ⟨p.val / 16, by omega⟩) c (ix2 (0 : Fin 1) l) := by
  unfold wtile
  rw [cat16_apply, piece_apply, scPair_apply, nib_apply]
  have e1 : (16 * c.val + p.val % 16) % 8 % 2 = p.val % 2 := by omega
  have e2 : (⟨4 * ((16 * c.val + p.val % 16) / 8) + (16 * c.val + p.val % 16) % 8 / 2, by omega⟩ : Fin 32)
      = ⟨8 * c.val + 4 * (p.val % 16 / 8) + p.val % 8 / 2, by omega⟩ := Fin.ext (by dsimp only; omega)
  dsimp only
  rw [e1, e2]

end Cert.KernelIdeal.Down

end
-- ==== Proof.Perm.lean ====
/-
  The permutation matrix the kernel builds: column `p` has its one at row `nat p`.
-/
module

public import proofs.«01_k».proof.Proof.Read
public import Idealize.ShloMosaic.Lib.Pointwise

@[expose] public section

set_option maxRecDepth 16384

noncomputable section

namespace Cert.KernelIdeal.Down

open Cert.KernelIdeal Cert.KernelIdeal.Gen
open Idealize.ShloMosaic Idealize.ShloMosaic.TcCoe

/-- The order in which a chunk's 256 columns are unpacked. -/
def nat (p : Fin 256) : Fin 256 :=
  ⟨32 * (p.val / 32) + 16 * (p.val % 8 % 2) + 4 * (p.val % 32 / 8) + p.val % 8 / 2, by omega⟩

/-- The integer array the kernel compares the row numbers with. -/
def natE : {V : IVec S256x256 32 // p2v (F := Ideal) = truncf .bf16 (select (cmpi .eq (iota .tc S256x256 32 [0] iota_S256x256_d0_w32) V)
    (broadcast S256x256 (Scalar.ofBits (F := Ideal) .f32 0x3F800000#32)) (broadcast S256x256 (Scalar.ofBits (F := Ideal) .f32 0x00000000#32))) bitsLt_bf16_f32} :=
  ⟨_, rfl⟩

/-- It does not depend on the row. -/
theorem natE_row (j c : Fin 256) : natE.1 (ix2 j c) = natE.1 (ix2 (0 : Fin 256) c) := rfl

/-- Its entries in row zero. -/
theorem natE_zero : ∀ c : Fin 256, natE.1 (ix2 (0 : Fin 256) c) = BitVec.ofNat 32 (nat c).val := by decide +kernel

/-- The permutation matrix at an index. -/
theorem p2v_apply (j c : Fin 256) : p2v (F := Ideal) (ix2 j c) = if j = nat c then (1 : EReal) else 0 := by
  rw [natE.2]
  pointwise
  rw [natE_row, natE_zero]
  by_cases h : j = nat c
  · subst h
    rw [if_pos rfl]
    simp [Scalar.select, IntOp.cmpi]
  · rw [if_neg h]
    have hne : BitVec.ofNat 32 j.val ≠ BitVec.ofNat 32 (nat c).val := fun e => h (Fin.ext (by
      have := congrArg BitVec.toNat e
      rw [BitVec.toNat_ofNat, BitVec.toNat_ofNat] at this
      omega))
    simp [Scalar.select, IntOp.cmpi, beq_eq_false_iff_ne.2 hne]

/-- A chunk's permuted activations at an index. -/
theorem hchunk_apply (a : Vec Ideal S14x16x256 .bf16) (n : Fin 14) (b : Fin 16) (c : Fin 256) :
    hchunk (F := Ideal) a (p2v (F := Ideal)) n (ix2 b c) = a (ix3 n b (nat c)) := by
  unfold hchunk k0_pay1762
  dsimp only
  pointwise
  simp only [p2v_apply]
  simp [mul_ite, Finset.sum_ite_eq']

end Cert.KernelIdeal.Down

end
-- ==== Proof.Arrays.lean ====
/-
  The kernel's result at an index, from the four argument arrays: the residual plus the sum over the fourteen chunks and
  their 256 columns, in the order in which the kernel unpacks them.
-/
module

public import proofs.«01_k».proof.Proof.Acc
public import proofs.«01_k».proof.Proof.Perm
public import proofs.«01_k».proof.Proof.Frame
public import Idealize.ShloMosaic.Lib.Claim
public import Idealize.ShloMosaic.Lib.Pipeline.ValueKit

@[expose] public section

set_option maxRecDepth 16384

noncomputable section

namespace Cert.KernelIdeal.Down

open Cert.KernelIdeal Cert.KernelIdeal.Gen
open Idealize.ShloMosaic Idealize.ShloMosaic.TcCoe

/-- The codes as the kernel's host lines lay them out. -/
def codesL (a : S8192x112x16.Idx → BitVec 8) : S224x512x128.Idx → BitVec 8 :=
  shapeCast S224x512x128 (transpose S224x64x8x128 [0, 2, 1, 3] (shapeCast S224x8x64x128 (transpose S112x16x8192 [1, 2, 0] a transposes_S8192x112x16_S112x16x8192_1_2_0)
    shapeCasts_S112x16x8192_S224x8x64x128) transposes_S224x8x64x128_S224x64x8x128_0_2_1_3) shapeCasts_S224x64x8x128_S224x512x128

/-- The scales as the kernel's host lines lay them out. -/
def scalesL (a : S8192x112.Idx → EReal) : S14x8x8192.Idx → EReal :=
  shapeCast S14x8x8192 (transpose S112x8192 [1, 0] a transposes_S8192x112_S112x8192_1_0) shapeCasts_S112x8192_S14x8x8192

/-- A byte of the laid-out codes. -/
theorem codesL_apply (a : S8192x112x16.Idx → BitVec 8) (r : Fin 224) (x : Fin 512) (l : Fin 128) :
    codesL a (ix3 r x l) = a (ix3 (⟨128 * (x.val / 8) + l.val, by omega⟩ : Fin 8192) (⟨r.val / 2, by omega⟩ : Fin 112) (⟨8 * (r.val % 2) + x.val % 8, by omega⟩ : Fin 16)) := by
  unfold codesL
  pointwise
  exact congrArg a (ix3_congr (by dsimp only; omega) rfl (by dsimp only; omega))

/-- A scale of the laid-out scales. -/
theorem scalesL_apply (a : S8192x112.Idx → EReal) (i : Fin 14) (s : Fin 8) (n : Fin 8192) :
    scalesL a (ix3 i s n) = a (ix2 n (⟨8 * i.val + s.val, by omega⟩ : Fin 112)) := by
  unfold scalesL
  pointwise
  exact congrArg a (ix2_congr rfl (by dsimp only; omega))

/-- The loop makes sixteen trips. -/
theorem trips_eq : k0_t1_loop.trips = 16 := by decide +kernel

/-- The codes a trip reads, at an index. -/
theorem cdP_apply (a : S8192x112x16.Idx → BitVec 8) (k : Fin k0_t1_loop.trips) (hk : k.val < 16) (r : Fin 224) (s : Fin 32) (l : Fin 128) :
    cdP (F := Ideal) (codesL a) k r (ix3 (0 : Fin 1) s l)
      = a (ix3 (⟨128 * (4 * k.val + s.val / 8) + l.val, by omega⟩ : Fin 8192) (⟨r.val / 2, by omega⟩ : Fin 112) (⟨8 * (r.val % 2) + s.val % 8, by omega⟩ : Fin 16)) := by
  have e : (Rect.unit (s := S224x512x128) ![r.val, kw 32#32 k, 0] S1x32x128.size (cd_inb r k)).emb (ix3 (0 : Fin 1) s l)
      = ix3 r (⟨32 * k.val + s.val, by omega⟩ : Fin 512) l := by
    funext d; apply Fin.ext
    fin_cases d
    · show r.val + 1 * 0 = r.val; omega
    · show kw 32#32 k + 1 * s.val = 32 * k.val + s.val; rw [kw32_eq]; omega
    · show 0 + 1 * l.val = l.val; omega
  unfold cdP
  rw [e, codesL_apply]
  exact congrArg a (ix3_congr (by dsimp only; omega) rfl (by dsimp only; omega))

/-- The scales a trip reads back, at an index. -/
theorem tsP_apply (a : S8192x112.Idx → EReal) (k : Fin k0_t1_loop.trips) (hk : k.val < 16) (b : Fin 112) (c : Fin 4) (l : Fin 128) :
    tsP (F := Ideal) (scalesL a) k b c (ix2 (0 : Fin 1) l) = a (ix2 (⟨512 * k.val + 128 * c.val + l.val, by omega⟩ : Fin 8192) b) := by
  have hr : ∀ h, rowIx b.val (128 * c.val + l.val) h = ix2 (⟨b.val % 8, by omega⟩ : Fin 8) (⟨128 * c.val + l.val, by omega⟩ : Fin 512) := fun h => by
    funext d; apply Fin.ext
    fin_cases d <;> rfl
  have e : (Rect.unit (s := S14x8x8192) ![b.val / 8, 0, kw 512#32 k] S1x8x512.size (sc_inb ⟨b.val / 8, by omega⟩ k)).emb
      (ix3 (0 : Fin 1) (⟨b.val % 8, by omega⟩ : Fin 8) (⟨128 * c.val + l.val, by omega⟩ : Fin 512))
      = ix3 (⟨b.val / 8, by omega⟩ : Fin 14) (⟨b.val % 8, by omega⟩ : Fin 8) (⟨512 * k.val + 128 * c.val + l.val, by omega⟩ : Fin 8192) := by
    funext d; apply Fin.ext
    fin_cases d
    · show b.val / 8 + 1 * 0 = b.val / 8; omega
    · show 0 + 1 * (b.val % 8) = b.val % 8; omega
    · show kw 512#32 k + 1 * (128 * c.val + l.val) = 512 * k.val + 128 * c.val + l.val; rw [kw512_eq]; omega
  refine (congrArg (stage (F := Ideal) (scP (F := Ideal) (scalesL a) k ⟨b.val / 8, by omega⟩)) (hr (by omega))).trans ?_
  rw [stage_apply]
  show scalesL a ((Rect.unit (s := S14x8x8192) ![b.val / 8, 0, kw 512#32 k] S1x8x512.size (sc_inb ⟨b.val / 8, by omega⟩ k)).emb _) = _
  rw [e, scalesL_apply]
  exact congrArg a (ix2_congr rfl (by dsimp only; omega))

/-- The element of a chunk's sum at output column `n`. -/
def term (act : S14x16x256.Idx → EReal) (codes : S8192x112x16.Idx → BitVec 8) (scales : S8192x112.Idx → EReal) (b : Fin 16) (n : Fin 8192)
    (kc : Fin 14) (p : Fin 256) : EReal :=
  act (ix3 kc b (nat p)) * ((((half (codes (ix3 n (⟨8 * kc.val + p.val / 32, by omega⟩ : Fin 112) (⟨4 * (p.val % 32 / 8) + p.val % 8 / 2, by omega⟩ : Fin 16)))
    (p.val % 2) : ℤ) : ℝ) : EReal) * scales (ix2 n (⟨8 * kc.val + p.val / 32, by omega⟩ : Fin 112)))

/-- The kernel's result at an index, written out. -/
def outE (act : S14x16x256.Idx → EReal) (x1 : S16x8192.Idx → EReal) (codes : S8192x112x16.Idx → BitVec 8) (scales : S8192x112.Idx → EReal) (b : Fin 16) (n : Fin 8192) : EReal :=
  x1 (ix2 b n) + ∑ kc : Fin 14, ∑ p : Fin 256, term act codes scales b n kc p

/-- The trip's result at an index of the whole array. -/
theorem gfin_apply (x1 : S16x8192.Idx → EReal) (act : S14x16x256.Idx → EReal) (codes : S8192x112x16.Idx → BitVec 8) (scales : S8192x112.Idx → EReal) (b : Fin 16) (n : Fin 8192) :
    gfin (F := Ideal) x1 (hchunk (F := Ideal) act (p2v (F := Ideal))) (codesL codes) (scalesL scales) (ix2 b n) = outE act x1 codes scales b n := by
  have hk16 := trips_eq
  have hn := n.isLt
  unfold gfin
  dsimp only
  have hpl : place (ix2 b n) = ix2 b (⟨n.val % 256, by omega⟩ : Fin 256) := by
    funext d; apply Fin.ext
    fin_cases d <;> rfl
  rw [hpl]
  unfold outv outE
  pointwise
  rw [acc_apply]
  have hx : ∀ (k : Fin k0_t1_loop.trips) (t : Fin 2), k.val = n.val / 512 → t.val = n.val % 512 / 256 →
      (outR k t).emb (ix2 b (⟨n.val % 256, by omega⟩ : Fin 256)) = ix2 b n := fun k t hk ht => by
    funext d; apply Fin.ext
    fin_cases d
    · show k0_off239 k (BitVec.ofNat 32 (256 * t.val)) 0 + 1 * b.val = b.val
      rw [out_off]; show 0 + 1 * b.val = b.val; omega
    · show k0_off239 k (BitVec.ofNat 32 (256 * t.val)) 1 + 1 * (n.val % 256) = n.val
      rw [out_off]; show 512 * k.val + 256 * t.val + 1 * (n.val % 256) = n.val; omega
  congr 1
  · exact congrArg x1 (hx _ _ rfl rfl)
  · refine Finset.sum_congr rfl fun kc _ => Finset.sum_congr rfl fun p _ => ?_
    have hp := p.isLt; have hkc := kc.isLt
    rw [hchunk_apply, wtile_apply, cdP_apply _ _ (by dsimp only; omega), tsP_apply _ _ (by dsimp only; omega)]
    unfold term
    have e1 : ix3 (⟨128 * (4 * (n.val / 512) + (8 * (2 * (n.val % 512 / 256) + n.val % 256 / 128) + 4 * (p.val % 16 / 8) + p.val % 8 / 2) / 8) + n.val % 256 % 128, by omega⟩ : Fin 8192)
        (⟨(blkOf kc ⟨p.val / 16, by omega⟩).val / 2, by omega⟩ : Fin 112)
        (⟨8 * ((blkOf kc ⟨p.val / 16, by omega⟩).val % 2) + (8 * (2 * (n.val % 512 / 256) + n.val % 256 / 128) + 4 * (p.val % 16 / 8) + p.val % 8 / 2) % 8, by omega⟩ : Fin 16)
        = ix3 n (⟨8 * kc.val + p.val / 32, by omega⟩ : Fin 112) (⟨4 * (p.val % 32 / 8) + p.val % 8 / 2, by omega⟩ : Fin 16) :=
      ix3_congr (by dsimp only; omega) (by dsimp only [blkOf]; omega) (by dsimp only [blkOf]; omega)
    have e2 : ix2 (⟨512 * (n.val / 512) + 128 * (2 * (n.val % 512 / 256) + n.val % 256 / 128) + n.val % 256 % 128, by omega⟩ : Fin 8192) (rowOf kc ⟨p.val / 16, by omega⟩)
        = ix2 n (⟨8 * kc.val + p.val / 32, by omega⟩ : Fin 112) := ix2_congr (by dsimp only; omega) (by dsimp only [rowOf]; omega)
    rw [← e1, ← e2]

/-- The codes as the region finds them. -/
theorem V_codes (m : (ℓ : Loc nD τ sig) → Buf (Elt Ideal) ℓ) (c : Dev nD) : codesM.view.read (Elt Ideal) (Gen.V m c main_v3) = codesL (m ((c.tc : Thread nD τ).loc main_arg2)) := by
  have e : Gen.V m c main_v3 = codesL (m ((c.tc : Thread nD τ).loc main_arg2)) := by
    entry_read
    rfl
  rw [e]; rfl

/-- The scales as the region finds them. -/
theorem V_scales (m : (ℓ : Loc nD τ sig) → Buf (Elt Ideal) ℓ) (c : Dev nD) : scalesM.view.read (Elt Ideal) (Gen.V m c main_v5) = scalesL (m ((c.tc : Thread nD τ).loc main_arg3)) := by
  have e : Gen.V m c main_v5 = scalesL (m ((c.tc : Thread nD τ).loc main_arg3)) := by
    entry_read
    rfl
  rw [e]; rfl

/-- The result array after the run, at an index. -/
theorem res_apply (m : (ℓ : Loc nD τ sig) → Buf (Elt Ideal) ℓ) (c : Dev nD) (b : Fin 16) (n : Fin 8192) :
    res m c (ix2 b n) = outE (m ((c.tc : Thread nD τ).loc main_arg0)) (m ((c.tc : Thread nD τ).loc main_arg1)) (m ((c.tc : Thread nD τ).loc main_arg2))
      (m ((c.tc : Thread nD τ).loc main_arg3)) b n := by
  have h : res m c = outAt m c t0_0 := by
    unfold res
    refine (dats m 0 c).arrAt_eq_of_after_last 2 t0_0 (by decide +kernel) _ fun j => ?_
    blk_simp
    rw [after0_2]
  rw [h]
  unfold outAt
  have h0 : iblk m c 0 t0_0 = m ((c.tc : Thread nD τ).loc main_arg0) := by
    refine Eq.trans ?_ (V_main_arg0 m c)
    funext y
    unfold iblk
    have hi : ∀ d, win0_0.index t0_0 d = 0 := by decide +kernel
    blk_ext! <;> rw [hi] <;> omega
  have h1 : iblk m c 1 t0_0 = m ((c.tc : Thread nD τ).loc main_arg1) := by
    refine Eq.trans ?_ (V_main_arg1 m c)
    funext y
    unfold iblk
    have hi : ∀ d, win0_1.index t0_0 d = 0 := by decide +kernel
    blk_ext! <;> rw [hi] <;> omega
  rw [V_codes, V_scales, h0, h1]
  exact gfin_apply _ _ _ _ b n

end Cert.KernelIdeal.Down

end
-- ==== Proof.Ref.lean ====
/-
  The reference's result at an index, and its equality with the kernel's: the same products, summed in the array's order
  instead of the order in which the kernel unpacks them.
-/
module

public import proofs.«01_k».proof.Proof.Arrays
public import proofs.«01_k».proof.Proof.Gen.ReferenceIdeal.Run

@[expose] public section

set_option maxRecDepth 16384

noncomputable section

namespace Cert.ReferenceIdeal.Down

open Cert.ReferenceIdeal Cert.ReferenceIdeal.Gen
open Cert.KernelIdeal.Down (half term outE nat ix2_congr ix3_congr ref_half)
open Idealize.ShloMosaic Idealize.ShloMosaic.TcCoe Idealize.ShloMosaic.Tactic Idealize.SL.Sem

/-- The reference's result as a function of its four arguments. -/
def refR (a0 : S14x16x256.Idx → EReal) (a1 : S16x8192.Idx → EReal) (a2 : S8192x112x16.Idx → BitVec 8) (a3 : S8192x112.Idx → EReal) : S16x8192.Idx → EReal :=
  truncf .bf16 (addf (F := Ideal) (φ := .f32) a1 (Host.dotGeneral dot_S16x112x2x16_S8192x112x2x16_S16x8192_123_123_0_0_n_n none
      (shapeCast S16x112x2x16 (shapeCast S16x3584 (transpose S16x14x256 [1, 0, 2] a0 transposes_S14x16x256_S16x14x256_1_0_2) shapeCasts_S16x14x256_S16x3584) shapeCasts_S16x3584_S16x112x2x16 : FVec Ideal S16x112x2x16 .bf16)
      (mulf (subf (sitofp .bf16 (andi (Host.shrsi
          (broadcastInDim S8192x112x2x16 ![0, 1, 2, 3] bcast_S8192x112x1x16_S8192x112x2x16_0_1_2_3 (broadcastInDim S8192x112x1x16 ![0, 1, 3] bcast_S8192x112x16_S8192x112x1x16_0_1_3 (extui 32 a2 natLt_8_32)))
          (broadcastInDim S8192x112x2x16 ![0, 1, 2, 3] bcast_S1x1x2x1_S8192x112x2x16_0_1_2_3 (shapeCast S1x1x2x1 (fun i => lit0 (S2.rowMajor i)) shapeCasts_S2_S1x1x2x1)))
          (broadcastInDim S8192x112x2x16 ![] bcast_S_S8192x112x2x16 (constantI S_ 32 15#32))))
          (broadcastInDim S8192x112x2x16 ![] bcast_S_S8192x112x2x16 (constant S_ .bf16 0x4100#16)))
        (broadcastInDim S8192x112x2x16 ![0, 1, 2, 3] bcast_S8192x112x1x1_S8192x112x2x16_0_1_2_3 (broadcastInDim S8192x112x1x1 ![0, 1] bcast_S8192x112_S8192x112x1x1_0_1 a3))
        : FVec Ideal S8192x112x2x16 .bf16) : FVec Ideal S16x8192 .f32)) bitsLt_bf16_f32

/-- The reference's run: its result is that function, its arguments are unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) = refR (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans (by unfold refR; sl_kernel_rfl), (h c).2⟩) (Value.run (F := Ideal) m ρ)

/-- The reference's weights and activations, multiplied, at an index of its contraction. -/
def refTerm (act : S14x16x256.Idx → EReal) (codes : S8192x112x16.Idx → BitVec 8) (scales : S8192x112.Idx → EReal) (b : Fin 16) (n : Fin 8192)
    (q : Fin 112) (h : Fin 2) (j : Fin 16) : EReal :=
  act (ix3 (⟨q.val / 8, by omega⟩ : Fin 14) b (⟨32 * (q.val % 8) + 16 * h.val + j.val, by omega⟩ : Fin 256))
    * ((((half (codes (ix3 n q j)) h.val : ℤ) : ℝ) : EReal) * scales (ix2 n q))

/-- The reference's product: its dimension numbers. -/
abbrev D : DotDims S16x112x2x16 S8192x112x2x16 S16x8192 := dot_S16x112x2x16_S8192x112x2x16_S16x8192_123_123_0_0_n_n

/-- The three contracted coordinates as an index of the contraction. -/
def ctr : Fin 112 × Fin 2 × Fin 16 ≃ D.contr.Idx where
  toFun x := fun p => match p with
    | ⟨0, _⟩ => x.1
    | ⟨1, _⟩ => x.2.1
    | ⟨2, _⟩ => x.2.2
  invFun k := (k ⟨0, by decide⟩, k ⟨1, by decide⟩, k ⟨2, by decide⟩)
  left_inv x := rfl
  right_inv k := by
    funext p
    match p with
    | ⟨0, _⟩ => rfl
    | ⟨1, _⟩ => rfl
    | ⟨2, _⟩ => rfl

/-- The product at an index, as a sum over the three contracted coordinates. -/
theorem dot_apply (l : S16x112x2x16.Idx → EReal) (r : S8192x112x2x16.Idx → EReal) (acc : S16x8192.Idx → EReal) (b : Fin 16) (n : Fin 8192) :
    Ideal.matmul D l r acc (ix2 b n) = acc (ix2 b n) + ∑ q : Fin 112, ∑ h : Fin 2, ∑ j : Fin 16, l (ix4 b q h j) * r (ix4 n q h j) := by
  have e : Ideal.matmul D l r acc (ix2 b n) = acc (ix2 b n) + ∑ x : Fin 112 × Fin 2 × Fin 16, l (D.lhsIdx (ix2 b n) (ctr x)) * r (D.rhsIdx (ix2 b n) (ctr x)) :=
    congrArg (acc (ix2 b n) + ·) (ctr.sum_comp fun k => l (D.lhsIdx (ix2 b n) k) * r (D.rhsIdx (ix2 b n) k)).symm
  rw [e, Fintype.sum_prod_type]
  refine congrArg (acc (ix2 b n) + ·) (Fintype.sum_congr _ _ fun q => (Fintype.sum_prod_type _).trans (Fintype.sum_congr _ _ fun h => Fintype.sum_congr _ _ fun j => ?_))
  have el : D.lhsIdx (ix2 b n) (ctr (q, h, j)) = ix4 b q h j := by
    funext a
    match a with
    | ⟨0, _⟩ => rfl
    | ⟨1, _⟩ => rfl
    | ⟨2, _⟩ => rfl
    | ⟨3, _⟩ => rfl
  have er : D.rhsIdx (ix2 b n) (ctr (q, h, j)) = ix4 n q h j := by
    funext a
    match a with
    | ⟨0, _⟩ => rfl
    | ⟨1, _⟩ => rfl
    | ⟨2, _⟩ => rfl
    | ⟨3, _⟩ => rfl
  rw [el, er]

/-- The constant the reference subtracts is eight. -/
theorem eight : Ideal.ofBits .bf16 0x4100#16 = ((8 : ℝ) : EReal) := by
  simp [Ideal.ofBits, Ideal.ieee, -EReal.coe_mul]
  norm_num

/-- The shift amounts of the two halves of a byte. -/
theorem amounts : ∀ h : Fin 2, lit0 (S2.rowMajor (ix1 h)) = BitVec.ofNat 32 (4 * h.val) := by decide

/-- A byte's half shifted down, masked and made a number, less eight. -/
theorem half_ref (c : BitVec 8) (h : Fin 2) :
    ((FloatOps.sitofp (F := Ideal) .bf16 (IntOp.andi (IntOp.shrsi .host (BitVec.setWidth 32 c) (lit0 (S2.rowMajor (ix1 h)))) 15#32) : EReal)
      - Ideal.ofBits .bf16 0x4100#16) = (((half c h.val : ℤ) : ℝ) : EReal) := by
  have key : (IntOp.andi (IntOp.shrsi .host (BitVec.setWidth 32 c) (lit0 (S2.rowMajor (ix1 h)))) 15#32).toInt = ((c.extractLsb' (4 * h.val) 4).toNat : ℤ) := by
    rw [amounts]
    unfold IntOp.shrsi IntOp.andi
    match h with
    | ⟨0, _⟩ => exact (ref_half c).1
    | ⟨1, _⟩ => exact (ref_half c).2
  show ((((IntOp.andi (IntOp.shrsi .host (BitVec.setWidth 32 c) (lit0 (S2.rowMajor (ix1 h)))) 15#32).toInt : ℝ) : EReal) - Ideal.ofBits .bf16 0x4100#16) = _
  rw [key, eight, ← EReal.coe_sub]
  unfold half
  push_cast
  rfl

/-- The reference's result at an index. -/
theorem refR_apply (act : S14x16x256.Idx → EReal) (x1 : S16x8192.Idx → EReal) (codes : S8192x112x16.Idx → BitVec 8) (scales : S8192x112.Idx → EReal) (b : Fin 16) (n : Fin 8192) :
    refR act x1 codes scales (ix2 b n) = x1 (ix2 b n) + ∑ q : Fin 112, ∑ h : Fin 2, ∑ j : Fin 16, refTerm act codes scales b n q h j := by
  unfold refR
  dsimp only
  pointwise
  refine congrArg (x1 (ix2 b n) + ·) ((dot_apply _ _ _ b n).trans ((zero_add _).trans (Fintype.sum_congr _ _ fun q => Fintype.sum_congr _ _ fun h => Fintype.sum_congr _ _ fun j => ?_)))
  unfold refTerm
  pointwise
  have ea : ix3 (⟨q.val / 8, by omega⟩ : Fin 14) b (⟨q.val % 8 * 32 + h.val * 16 + j.val, by omega⟩ : Fin 256)
      = ix3 (⟨q.val / 8, by omega⟩ : Fin 14) b (⟨32 * (q.val % 8) + 16 * h.val + j.val, by omega⟩ : Fin 256) :=
    ix3_congr rfl rfl (by dsimp only; omega)
  rw [ea]
  exact congrArg (fun w : EReal => act _ * (w * scales (ix2 n q))) (half_ref _ h)

/-- The two orders of the products. -/
def reorder : Fin 14 × Fin 256 ≃ Fin 112 × Fin 2 × Fin 16 where
  toFun x := (⟨8 * x.1.val + x.2.val / 32, by omega⟩, ⟨x.2.val % 2, by omega⟩, ⟨4 * (x.2.val % 32 / 8) + x.2.val % 8 / 2, by omega⟩)
  invFun y := (⟨y.1.val / 8, by omega⟩, ⟨32 * (y.1.val % 8) + 8 * (y.2.2.val / 4) + 2 * (y.2.2.val % 4) + y.2.1.val, by omega⟩)
  left_inv x := by
    obtain ⟨⟨k, hk⟩, ⟨p, hp⟩⟩ := x
    refine Prod.ext (Fin.ext ?_) (Fin.ext ?_) <;> dsimp only <;> omega
  right_inv y := by
    obtain ⟨⟨q, hq⟩, ⟨h, hh⟩, ⟨j, hj⟩⟩ := y
    refine Prod.ext (Fin.ext ?_) (Prod.ext (Fin.ext ?_) (Fin.ext ?_)) <;> dsimp only <;> omega

/-- A product of the kernel's is the reference's at the place the kernel unpacks. -/
theorem term_eq (act : S14x16x256.Idx → EReal) (codes : S8192x112x16.Idx → BitVec 8) (scales : S8192x112.Idx → EReal) (b : Fin 16) (n : Fin 8192) (x : Fin 14 × Fin 256) :
    term act codes scales b n x.1 x.2 = refTerm act codes scales b n (reorder x).1 (reorder x).2.1 (reorder x).2.2 := by
  obtain ⟨⟨k, hk⟩, ⟨p, hp⟩⟩ := x
  unfold term refTerm
  have e : ix3 (⟨k, hk⟩ : Fin 14) b (nat ⟨p, hp⟩) = ix3 (⟨(8 * k + p / 32) / 8, by omega⟩ : Fin 14) b
      (⟨32 * ((8 * k + p / 32) % 8) + 16 * (p % 2) + (4 * (p % 32 / 8) + p % 8 / 2), by omega⟩ : Fin 256) :=
    ix3_congr (by dsimp only; omega) rfl (by dsimp only [nat]; omega)
  exact congrArg (fun i => act i * _) e

/-- The reference's result is the kernel's. -/
theorem ref_eq (act : S14x16x256.Idx → EReal) (x1 : S16x8192.Idx → EReal) (codes : S8192x112x16.Idx → BitVec 8) (scales : S8192x112.Idx → EReal) (b : Fin 16) (n : Fin 8192) :
    refR act x1 codes scales (ix2 b n) = outE act x1 codes scales b n := by
  rw [refR_apply]
  unfold outE
  congr 1
  rw [← Fintype.sum_prod_type' (f := fun kc p => term act codes scales b n kc p)]
  rw [Fintype.sum_congr _ _ (term_eq act codes scales b n)]
  rw [reorder.sum_comp fun y => refTerm act codes scales b n y.1 y.2.1 y.2.2]
  rw [Fintype.sum_prod_type]
  exact Fintype.sum_congr _ _ fun q => (Fintype.sum_prod_type fun y : Fin 2 × Fin 16 => refTerm act codes scales b n q y.1 y.2).symm

end Cert.ReferenceIdeal.Down

end
-- ==== Proof.GU.Names.lean ====
/-
  Names for what the gate and up projections' body slices: the slots of the two rings of buffers, the cells of their
  copies and the blocks of the four weight arrays, each by the number of the block it serves; and the equations that
  bring the printed offsets to these names.
-/
module

public import proofs.«01_k».proof.Proof.Gen.GateUpIdeal.Loops
public import proofs.«01_k».proof.Proof.Gen.GateUpIdeal.Launch
public import Idealize.ShloMosaic.Lib.Ring

@[expose] public section

set_option maxRecDepth 8192

noncomputable section

namespace Cert.GateUpIdeal.GU

open Cert.GateUpIdeal Cert.GateUpIdeal.Gen
open Idealize.ShloMosaic Idealize.ShloMosaic.TcCoe Idealize.ShloMosaic.Tactic

abbrev gcM : Memref sig .tc .hbm S114688x128 .i8 := Memref.whole main_v3
abbrev gsM : Memref sig .tc .hbm S3584x256 .bf16 := Memref.whole main_arg2
abbrev ucM : Memref sig .tc .hbm S114688x128 .i8 := Memref.whole main_v7
abbrev usM : Memref sig .tc .hbm S3584x256 .bf16 := Memref.whole main_arg4
abbrev cbM : Memref sig .tc .vmem S6x2x8192x128 .i8 := Memref.whole cc0_scratch0
abbrev sbM : Memref sig .tc .vmem S6x2x256x256 .bf16 := Memref.whole cc0_scratch1
abbrev hvM : Memref sig .tc .vmem S16x8192 .bf16 := Memref.whole cc0_scratch2
abbrev p1M : Memref sig .tc .vmem S256x256 .bf16 := Memref.whole cc0_scratch3
abbrev twaM : Memref sig .tc .vmem S4x256x256 .i32 := Memref.whole cc0_scratch4
abbrev tsaM : Memref sig .tc .vmem S256x256 .f32 := Memref.whole cc0_scratch5
abbrev twbM : Memref sig .tc .vmem S4x256x256 .i32 := Memref.whole cc0_scratch6
abbrev tsbM : Memref sig .tc .vmem S256x256 .f32 := Memref.whole cc0_scratch7

/-- The loop makes fourteen trips. -/
theorem trips_eq : k0_t1_loop.trips = 14 := by decide +kernel

abbrev slotOff (b j : ℕ) : Fin 4 → ℕ := ![b % 6, j % 2, 0, 0]
theorem cslot_inb (b j : ℕ) : ∀ a, slotOff b j a + S1x1x8192x128.size a ≤ S6x2x8192x128.size a := by
  intro a; fin_cases a
  · show b % 6 + 1 ≤ 6; omega
  · show j % 2 + 1 ≤ 2; omega
  · show 0 + 8192 ≤ 8192; omega
  · show 0 + 128 ≤ 128; omega
theorem sslot_inb (b j : ℕ) : ∀ a, slotOff b j a + S1x1x256x256.size a ≤ S6x2x256x256.size a := by
  intro a; fin_cases a
  · show b % 6 + 1 ≤ 6; omega
  · show j % 2 + 1 ≤ 2; omega
  · show 0 + 256 ≤ 256; omega
  · show 0 + 256 ≤ 256; omega
theorem cell_inb (n : ℕ) : ∀ a, (![n % 48] : Fin 1 → ℕ) a + S1.size a ≤ S48.size a := by
  intro a; fin_cases a; show n % 48 + 1 ≤ 48; omega
theorem cblk_inb (n : ℕ) : ∀ a, (![min n 106496, 0] : Fin 2 → ℕ) a + S8192x128.size a ≤ S114688x128.size a := by
  intro a; fin_cases a
  · show min n 106496 + 8192 ≤ 114688; omega
  · show 0 + 128 ≤ 128; omega
theorem sblk_inb (n : ℕ) : ∀ a, (![min n 3328, 0] : Fin 2 → ℕ) a + S256x256.size a ≤ S3584x256.size a := by
  intro a; fin_cases a
  · show min n 3328 + 256 ≤ 3584; omega
  · show 0 + 256 ≤ 256; omega

/-- The slot of codes that block `b` uses: member 0 for the gate's, member 1 for the up projection's. -/
def cslot (b j : ℕ) : Memref sig .tc .vmem S8192x128 .i8 :=
  (cbM.slice (Rect.unit (s := S6x2x8192x128) (slotOff b j) S1x1x8192x128.size (cslot_inb b j)) (fun _ => rfl)).squeeze S8192x128 squeezes_S1x1x8192x128_S8192x128
/-- The slot of scales that block `b` uses. -/
def sslot (b j : ℕ) : Memref sig .tc .vmem S256x256 .bf16 :=
  (sbM.slice (Rect.unit (s := S6x2x256x256) (slotOff b j) S1x1x256x256.size (sslot_inb b j)) (fun _ => rfl)).squeeze S256x256 squeezes_S1x1x256x256_S256x256
/-- Cell `n` of the copies' cells. -/
def cellN (n : ℕ) : DmaSems sig S_ := (cc0_scratch8.slice (Rect.unit (s := S48) ![n % 48] S1.size (cell_inb n))).squeeze S_ squeezes_S1_S_
/-- The block of codes that begins at row `n`. -/
def cblk (M : Memref sig .tc .hbm S114688x128 .i8) (n : ℕ) : Memref sig .tc .hbm S8192x128 .i8 :=
  M.slice (Rect.unit (s := S114688x128) ![min n 106496, 0] S8192x128.size (cblk_inb n)) (fun _ => rfl)
/-- The block of scales that begins at row `n`. -/
def sblk (M : Memref sig .tc .hbm S3584x256 .bf16) (n : ℕ) : Memref sig .tc .hbm S256x256 .bf16 :=
  M.slice (Rect.unit (s := S3584x256) ![min n 3328, 0] S256x256.size (sblk_inb n)) (fun _ => rfl)

theorem cslot_congr {off : Fin 4 → ℕ} {b j : ℕ} (e : off = slotOff b j) (hh hs) :
    (cbM.slice (Rect.unit (s := S6x2x8192x128) off S1x1x8192x128.size hh) hs).squeeze S8192x128 squeezes_S1x1x8192x128_S8192x128 = cslot b j :=
  congrArg (fun M : Memref sig .tc .vmem S1x1x8192x128 .i8 => M.squeeze S8192x128 squeezes_S1x1x8192x128_S8192x128) (Memref.slice_unit_congr _ e _ _ _ _)
theorem sslot_congr {off : Fin 4 → ℕ} {b j : ℕ} (e : off = slotOff b j) (hh hs) :
    (sbM.slice (Rect.unit (s := S6x2x256x256) off S1x1x256x256.size hh) hs).squeeze S256x256 squeezes_S1x1x256x256_S256x256 = sslot b j :=
  congrArg (fun M : Memref sig .tc .vmem S1x1x256x256 .bf16 => M.squeeze S256x256 squeezes_S1x1x256x256_S256x256) (Memref.slice_unit_congr _ e _ _ _ _)
theorem cell_congr {off : Fin 1 → ℕ} {n : ℕ} (e : off = ![n % 48]) (hh) :
    (cc0_scratch8.slice (Rect.unit (s := S48) off S1.size hh)).squeeze S_ squeezes_S1_S_ = cellN n :=
  congrArg (fun A : DmaSems sig S1 => A.squeeze S_ squeezes_S1_S_) (SemArray.slice_unit_congr _ e _ _)
theorem cblk_congr (M : Memref sig .tc .hbm S114688x128 .i8) {off : Fin 2 → ℕ} {n : ℕ} (e : off = ![min n 106496, 0]) (hh hs) :
    M.slice (Rect.unit (s := S114688x128) off S8192x128.size hh) hs = cblk M n := Memref.slice_unit_congr M e hh (cblk_inb n) hs (fun _ => rfl)
theorem sblk_congr (M : Memref sig .tc .hbm S3584x256 .bf16) {off : Fin 2 → ℕ} {n : ℕ} (e : off = ![min n 3328, 0]) (hh hs) :
    M.slice (Rect.unit (s := S3584x256) off S256x256.size hh) hs = sblk M n := Memref.slice_unit_congr M e hh (sblk_inb n) hs (fun _ => rfl)

/-- A slot serves every sixth block. -/
theorem cslot_add6 (b j : ℕ) : cslot (b + 6) j = cslot b j :=
  (cslot_congr (show slotOff (b + 6) j = slotOff b j by unfold slotOff; rw [Nat.add_mod_right]) (cslot_inb (b + 6) j) (fun _ => rfl))
theorem sslot_add6 (b j : ℕ) : sslot (b + 6) j = sslot b j :=
  (sslot_congr (show slotOff (b + 6) j = slotOff b j by unfold slotOff; rw [Nat.add_mod_right]) (sslot_inb (b + 6) j) (fun _ => rfl))

/-! The literal offsets of the prologue. -/

@[sl_canon] theorem cslotL (s j : ℕ) (hh hs) : (cbM.slice (Rect.unit (s := S6x2x8192x128) ![s, j, 0, 0] S1x1x8192x128.size hh) hs).squeeze S8192x128 squeezes_S1x1x8192x128_S8192x128 = cslot s j :=
  cslot_congr (by
    have h0 : s + 1 ≤ 6 := hh 0
    have h1 : j + 1 ≤ 2 := hh 1
    unfold slotOff; rw [Nat.mod_eq_of_lt (show s < 6 by omega), Nat.mod_eq_of_lt (show j < 2 by omega)]) _ _
@[sl_canon] theorem sslotL (s j : ℕ) (hh hs) : (sbM.slice (Rect.unit (s := S6x2x256x256) ![s, j, 0, 0] S1x1x256x256.size hh) hs).squeeze S256x256 squeezes_S1x1x256x256_S256x256 = sslot s j :=
  sslot_congr (by
    have h0 : s + 1 ≤ 6 := hh 0
    have h1 : j + 1 ≤ 2 := hh 1
    unfold slotOff; rw [Nat.mod_eq_of_lt (show s < 6 by omega), Nat.mod_eq_of_lt (show j < 2 by omega)]) _ _
@[sl_canon] theorem cellL (n : ℕ) (hh) : (cc0_scratch8.slice (Rect.unit (s := S48) ![n] S1.size hh)).squeeze S_ squeezes_S1_S_ = cellN n :=
  cell_congr (by
    have h0 : n + 1 ≤ 48 := hh 0
    rw [Nat.mod_eq_of_lt (show n < 48 by omega)]) _
@[sl_canon] theorem cblkLg (n : ℕ) (hh hs) : gcM.slice (Rect.unit (s := S114688x128) ![n, 0] S8192x128.size hh) hs = cblk gcM n :=
  cblk_congr _ (by
    have h0 : n + 8192 ≤ 114688 := hh 0
    rw [Nat.min_eq_left (show n ≤ 106496 by omega)]) _ _
@[sl_canon] theorem cblkLu (n : ℕ) (hh hs) : ucM.slice (Rect.unit (s := S114688x128) ![n, 0] S8192x128.size hh) hs = cblk ucM n :=
  cblk_congr _ (by
    have h0 : n + 8192 ≤ 114688 := hh 0
    rw [Nat.min_eq_left (show n ≤ 106496 by omega)]) _ _
@[sl_canon] theorem sblkLg (n : ℕ) (hh hs) : gsM.slice (Rect.unit (s := S3584x256) ![n, 0] S256x256.size hh) hs = sblk gsM n :=
  sblk_congr _ (by
    have h0 : n + 256 ≤ 3584 := hh 0
    rw [Nat.min_eq_left (show n ≤ 3328 by omega)]) _ _
@[sl_canon] theorem sblkLu (n : ℕ) (hh hs) : usM.slice (Rect.unit (s := S3584x256) ![n, 0] S256x256.size hh) hs = sblk usM n :=
  sblk_congr _ (by
    have h0 : n + 256 ≤ 3584 := hh 0
    rw [Nat.min_eq_left (show n ≤ 3328 by omega)]) _ _

/-! The offsets of a trip. -/

theorem cond1_iff : ∀ k : Fin k0_t1_loop.trips, k0_cond1 k = 1#1 ↔ k.val + 1 < 14 := by decide +kernel
theorem cond2_iff : ∀ k : Fin k0_t1_loop.trips, k0_cond2 k = 1#1 ↔ k.val + 6 < 14 := by decide +kernel

theorem off1_eq : ∀ k : Fin k0_t1_loop.trips, k0_off1 k = slotOff k.val 1 := by decide +kernel
theorem off2_eq : ∀ k : Fin k0_t1_loop.trips, k0_off2 k = slotOff k.val 1 := by decide +kernel
theorem off3a_eq : ∀ k : Fin k0_t1_loop.trips, k.val + 1 < 14 → k0_off3 k 24#32 = ![(24 + (k.val + 1) % 6) % 48] := by decide +kernel
theorem off3b_eq : ∀ k : Fin k0_t1_loop.trips, k.val + 1 < 14 → k0_off3 k 30#32 = ![(30 + (k.val + 1) % 6) % 48] := by decide +kernel
theorem off3c_eq : ∀ k : Fin k0_t1_loop.trips, k.val + 1 < 14 → k0_off3 k 36#32 = ![(36 + (k.val + 1) % 6) % 48] := by decide +kernel
theorem off3d_eq : ∀ k : Fin k0_t1_loop.trips, k.val + 1 < 14 → k0_off3 k 42#32 = ![(42 + (k.val + 1) % 6) % 48] := by decide +kernel
theorem off4_eq : ∀ k : Fin k0_t1_loop.trips, k.val + 1 < 14 → k0_off4 k = slotOff (k.val + 1) 0 := by decide +kernel
theorem off5_eq : ∀ k : Fin k0_t1_loop.trips, k.val + 1 < 14 → k0_off5 k = ![min (8192 * (k.val + 1)) 106496, 0] := by decide +kernel
theorem off6_eq : ∀ k : Fin k0_t1_loop.trips, k.val + 1 < 14 → k0_off6 k = slotOff (k.val + 1) 1 := by decide +kernel
theorem off7_eq : ∀ k : Fin k0_t1_loop.trips, k.val + 1 < 14 → k0_off7 k = slotOff (k.val + 1) 0 := by decide +kernel
theorem off8_eq : ∀ k : Fin k0_t1_loop.trips, k.val + 1 < 14 → k0_off8 k = ![min (256 * (k.val + 1)) 3328, 0] := by decide +kernel
theorem off9_eq : ∀ k : Fin k0_t1_loop.trips, k.val + 1 < 14 → k0_off9 k = slotOff (k.val + 1) 1 := by decide +kernel
theorem off10_eq : ∀ k : Fin k0_t1_loop.trips, k.val + 1 < 14 → k0_off10 k = slotOff (k.val + 1) 0 := by decide +kernel
theorem off11_eq : ∀ k : Fin k0_t1_loop.trips, k.val + 1 < 14 → k0_off11 k = slotOff (k.val + 1) 0 := by decide +kernel
theorem off10_end : ∀ k : Fin k0_t1_loop.trips, k.val + 1 = 14 → k0_off10 k = slotOff k.val 0 := by decide +kernel
theorem off11_end : ∀ k : Fin k0_t1_loop.trips, k.val + 1 = 14 → k0_off11 k = slotOff k.val 0 := by decide +kernel
theorem off13a_eq : ∀ k : Fin k0_t1_loop.trips, k0_off13 k 24#32 = ![(24 + k.val % 6) % 48] := by decide +kernel
theorem off13b_eq : ∀ k : Fin k0_t1_loop.trips, k0_off13 k 30#32 = ![(30 + k.val % 6) % 48] := by decide +kernel
theorem off13c_eq : ∀ k : Fin k0_t1_loop.trips, k0_off13 k 36#32 = ![(36 + k.val % 6) % 48] := by decide +kernel
theorem off13d_eq : ∀ k : Fin k0_t1_loop.trips, k0_off13 k 42#32 = ![(42 + k.val % 6) % 48] := by decide +kernel
theorem off14_eq : ∀ k : Fin k0_t1_loop.trips, k0_off14 k = slotOff k.val 0 := by decide +kernel
theorem off15_eq : ∀ k : Fin k0_t1_loop.trips, k.val + 6 < 14 → k0_off15 k = ![min (8192 * (k.val + 6)) 106496, 0] := by decide +kernel
theorem off16_eq : ∀ k : Fin k0_t1_loop.trips, k0_off16 k = slotOff k.val 1 := by decide +kernel
theorem off17_eq : ∀ k : Fin k0_t1_loop.trips, k0_off17 k = slotOff k.val 0 := by decide +kernel
theorem off18_eq : ∀ k : Fin k0_t1_loop.trips, k.val + 6 < 14 → k0_off18 k = ![min (256 * (k.val + 6)) 3328, 0] := by decide +kernel
theorem off19_eq : ∀ k : Fin k0_t1_loop.trips, k0_off19 k = slotOff k.val 1 := by decide +kernel

section Canon
variable (k : Fin k0_t1_loop.trips)

@[sl_canon] theorem sslot1 (hh hs) : (sbM.slice (Rect.unit (s := S6x2x256x256) (k0_off1 k) S1x1x256x256.size hh) hs).squeeze S256x256 squeezes_S1x1x256x256_S256x256 = sslot k.val 1 := sslot_congr (off1_eq k) _ _
@[sl_canon] theorem cslot2 (hh hs) : (cbM.slice (Rect.unit (s := S6x2x8192x128) (k0_off2 k) S1x1x8192x128.size hh) hs).squeeze S8192x128 squeezes_S1x1x8192x128_S8192x128 = cslot k.val 1 := cslot_congr (off2_eq k) _ _
@[sl_canon] theorem cell3a (h : k.val + 1 < 14) (hh) : (cc0_scratch8.slice (Rect.unit (s := S48) (k0_off3 k 24#32) S1.size hh)).squeeze S_ squeezes_S1_S_ = cellN (24 + (k.val + 1) % 6) := cell_congr (off3a_eq k h) _
@[sl_canon] theorem cell3b (h : k.val + 1 < 14) (hh) : (cc0_scratch8.slice (Rect.unit (s := S48) (k0_off3 k 30#32) S1.size hh)).squeeze S_ squeezes_S1_S_ = cellN (30 + (k.val + 1) % 6) := cell_congr (off3b_eq k h) _
@[sl_canon] theorem cell3c (h : k.val + 1 < 14) (hh) : (cc0_scratch8.slice (Rect.unit (s := S48) (k0_off3 k 36#32) S1.size hh)).squeeze S_ squeezes_S1_S_ = cellN (36 + (k.val + 1) % 6) := cell_congr (off3c_eq k h) _
@[sl_canon] theorem cell3d (h : k.val + 1 < 14) (hh) : (cc0_scratch8.slice (Rect.unit (s := S48) (k0_off3 k 42#32) S1.size hh)).squeeze S_ squeezes_S1_S_ = cellN (42 + (k.val + 1) % 6) := cell_congr (off3d_eq k h) _
@[sl_canon] theorem cslot4 (h : k.val + 1 < 14) (hh hs) : (cbM.slice (Rect.unit (s := S6x2x8192x128) (k0_off4 k) S1x1x8192x128.size hh) hs).squeeze S8192x128 squeezes_S1x1x8192x128_S8192x128 = cslot (k.val + 1) 0 := cslot_congr (off4_eq k h) _ _
@[sl_canon] theorem cblk5g (h : k.val + 1 < 14) (hh hs) : gcM.slice (Rect.unit (s := S114688x128) (k0_off5 k) S8192x128.size hh) hs = cblk gcM (8192 * (k.val + 1)) := cblk_congr _ (off5_eq k h) _ _
@[sl_canon] theorem cblk5u (h : k.val + 1 < 14) (hh hs) : ucM.slice (Rect.unit (s := S114688x128) (k0_off5 k) S8192x128.size hh) hs = cblk ucM (8192 * (k.val + 1)) := cblk_congr _ (off5_eq k h) _ _
@[sl_canon] theorem cslot6 (h : k.val + 1 < 14) (hh hs) : (cbM.slice (Rect.unit (s := S6x2x8192x128) (k0_off6 k) S1x1x8192x128.size hh) hs).squeeze S8192x128 squeezes_S1x1x8192x128_S8192x128 = cslot (k.val + 1) 1 := cslot_congr (off6_eq k h) _ _
@[sl_canon] theorem sslot7 (h : k.val + 1 < 14) (hh hs) : (sbM.slice (Rect.unit (s := S6x2x256x256) (k0_off7 k) S1x1x256x256.size hh) hs).squeeze S256x256 squeezes_S1x1x256x256_S256x256 = sslot (k.val + 1) 0 := sslot_congr (off7_eq k h) _ _
@[sl_canon] theorem sblk8g (h : k.val + 1 < 14) (hh hs) : gsM.slice (Rect.unit (s := S3584x256) (k0_off8 k) S256x256.size hh) hs = sblk gsM (256 * (k.val + 1)) := sblk_congr _ (off8_eq k h) _ _
@[sl_canon] theorem sblk8u (h : k.val + 1 < 14) (hh hs) : usM.slice (Rect.unit (s := S3584x256) (k0_off8 k) S256x256.size hh) hs = sblk usM (256 * (k.val + 1)) := sblk_congr _ (off8_eq k h) _ _
@[sl_canon] theorem sslot9 (h : k.val + 1 < 14) (hh hs) : (sbM.slice (Rect.unit (s := S6x2x256x256) (k0_off9 k) S1x1x256x256.size hh) hs).squeeze S256x256 squeezes_S1x1x256x256_S256x256 = sslot (k.val + 1) 1 := sslot_congr (off9_eq k h) _ _
@[sl_canon] theorem sslot10 (h : k.val + 1 < 14) (hh hs) : (sbM.slice (Rect.unit (s := S6x2x256x256) (k0_off10 k) S1x1x256x256.size hh) hs).squeeze S256x256 squeezes_S1x1x256x256_S256x256 = sslot (k.val + 1) 0 := sslot_congr (off10_eq k h) _ _
@[sl_canon] theorem cslot11 (h : k.val + 1 < 14) (hh hs) : (cbM.slice (Rect.unit (s := S6x2x8192x128) (k0_off11 k) S1x1x8192x128.size hh) hs).squeeze S8192x128 squeezes_S1x1x8192x128_S8192x128 = cslot (k.val + 1) 0 := cslot_congr (off11_eq k h) _ _
@[sl_canon] theorem sslot10e (h : k.val + 1 = 14) (hh hs) : (sbM.slice (Rect.unit (s := S6x2x256x256) (k0_off10 k) S1x1x256x256.size hh) hs).squeeze S256x256 squeezes_S1x1x256x256_S256x256 = sslot k.val 0 := sslot_congr (off10_end k h) _ _
@[sl_canon] theorem cslot11e (h : k.val + 1 = 14) (hh hs) : (cbM.slice (Rect.unit (s := S6x2x8192x128) (k0_off11 k) S1x1x8192x128.size hh) hs).squeeze S8192x128 squeezes_S1x1x8192x128_S8192x128 = cslot k.val 0 := cslot_congr (off11_end k h) _ _
@[sl_canon] theorem cell13a (hh) : (cc0_scratch8.slice (Rect.unit (s := S48) (k0_off13 k 24#32) S1.size hh)).squeeze S_ squeezes_S1_S_ = cellN (24 + k.val % 6) := cell_congr (off13a_eq k) _
@[sl_canon] theorem cell13b (hh) : (cc0_scratch8.slice (Rect.unit (s := S48) (k0_off13 k 30#32) S1.size hh)).squeeze S_ squeezes_S1_S_ = cellN (30 + k.val % 6) := cell_congr (off13b_eq k) _
@[sl_canon] theorem cell13c (hh) : (cc0_scratch8.slice (Rect.unit (s := S48) (k0_off13 k 36#32) S1.size hh)).squeeze S_ squeezes_S1_S_ = cellN (36 + k.val % 6) := cell_congr (off13c_eq k) _
@[sl_canon] theorem cell13d (hh) : (cc0_scratch8.slice (Rect.unit (s := S48) (k0_off13 k 42#32) S1.size hh)).squeeze S_ squeezes_S1_S_ = cellN (42 + k.val % 6) := cell_congr (off13d_eq k) _
@[sl_canon] theorem cslot14 (hh hs) : (cbM.slice (Rect.unit (s := S6x2x8192x128) (k0_off14 k) S1x1x8192x128.size hh) hs).squeeze S8192x128 squeezes_S1x1x8192x128_S8192x128 = cslot k.val 0 := cslot_congr (off14_eq k) _ _
@[sl_canon] theorem cblk15g (h : k.val + 6 < 14) (hh hs) : gcM.slice (Rect.unit (s := S114688x128) (k0_off15 k) S8192x128.size hh) hs = cblk gcM (8192 * (k.val + 6)) := cblk_congr _ (off15_eq k h) _ _
@[sl_canon] theorem cblk15u (h : k.val + 6 < 14) (hh hs) : ucM.slice (Rect.unit (s := S114688x128) (k0_off15 k) S8192x128.size hh) hs = cblk ucM (8192 * (k.val + 6)) := cblk_congr _ (off15_eq k h) _ _
@[sl_canon] theorem cslot16 (hh hs) : (cbM.slice (Rect.unit (s := S6x2x8192x128) (k0_off16 k) S1x1x8192x128.size hh) hs).squeeze S8192x128 squeezes_S1x1x8192x128_S8192x128 = cslot k.val 1 := cslot_congr (off16_eq k) _ _
@[sl_canon] theorem sslot17 (hh hs) : (sbM.slice (Rect.unit (s := S6x2x256x256) (k0_off17 k) S1x1x256x256.size hh) hs).squeeze S256x256 squeezes_S1x1x256x256_S256x256 = sslot k.val 0 := sslot_congr (off17_eq k) _ _
@[sl_canon] theorem sblk18g (h : k.val + 6 < 14) (hh hs) : gsM.slice (Rect.unit (s := S3584x256) (k0_off18 k) S256x256.size hh) hs = sblk gsM (256 * (k.val + 6)) := sblk_congr _ (off18_eq k h) _ _
@[sl_canon] theorem sblk18u (h : k.val + 6 < 14) (hh hs) : usM.slice (Rect.unit (s := S3584x256) (k0_off18 k) S256x256.size hh) hs = sblk usM (256 * (k.val + 6)) := sblk_congr _ (off18_eq k h) _ _
@[sl_canon] theorem sslot19 (hh hs) : (sbM.slice (Rect.unit (s := S6x2x256x256) (k0_off19 k) S1x1x256x256.size hh) hs).squeeze S256x256 squeezes_S1x1x256x256_S256x256 = sslot k.val 1 := sslot_congr (off19_eq k) _ _

end Canon

end Cert.GateUpIdeal.GU

end
-- ==== Proof.GU.Chunk.lean ====
/-
  What one trip of the gate and up loop computes, written by index: a block's codes and scales transposed into words and
  float32 scales, and the product of the activations with a block of weights unpacked from them. `Trip.lean` shows that
  the printed region computes exactly these functions.
-/
module

public import proofs.«01_k».proof.Proof.GU.Names

@[expose] public section

noncomputable section

namespace Cert.GateUpIdeal.GU

open Cert.GateUpIdeal Cert.GateUpIdeal.Gen
open Idealize.ShloMosaic Idealize.ShloMosaic.TcCoe

variable {F : FTy → Type} [FloatOps F]

/-! ## The product with one block of weights -/

/-- The rows of a group of eight that take the first of two rows of scales. -/
def first : IVec S8x128 1 := cmpi .slt (iota .tc S8x128 32 [0] iota_S8x128_d0_w32) (broadcast S8x128 4#32)

/-- A row of 128 scales repeated over eight rows. -/
def row8 (v : Vec F S1x128 .f32) : FVec F S8x128 .f32 := broadcastTo S8x128 (shapeCast S1x128 v shapeCasts_S1x128_S1x128) broadcasts_S1x128_S8x128

/-- Eight rows of scales, each repeated over eight rows of 64, narrowed to bfloat16. -/
def sc64 (v : Fin 8 → Vec F S1x128 .f32) : FVec F S64x128 .bf16 :=
  let s : FVec F S32x128 .f32 := concatenate S32x128 0 [⟨S8x128, select first (row8 (v 0)) (row8 (v 1))⟩, ⟨S8x128, select first (row8 (v 2)) (row8 (v 3))⟩,
    ⟨S8x128, select first (row8 (v 4)) (row8 (v 5))⟩, ⟨S8x128, select first (row8 (v 6)) (row8 (v 7))⟩] concatenates_S8x128_S8x128_S8x128_S8x128_S32x128_d0
  truncf .bf16 (shapeCast S64x128 (broadcastTo S32x2x128 (shapeCast S32x1x128 (shapeCast S32x1x128 s shapeCasts_S32x128_S32x1x128)
    shapeCasts_S32x1x128_S32x1x128) broadcasts_S32x1x128_S32x2x128) shapeCasts_S32x2x128_S64x128) bitsLt_bf16_f32

/-- The eight signed 4-bit codes of each word, one under the other, as bfloat16 numbers. -/
def nib64 (v : Vec F S1x8x128 .i32) : FVec F S64x128 .bf16 :=
  let r : IVec S8x8x128 32 := broadcastTo S8x8x128 (shapeCast S8x1x128 (shapeCast S8x1x128 (shapeCast S8x128 v shapeCasts_S1x8x128_S8x128 : IVec S8x128 32) shapeCasts_S8x128_S8x1x128)
    shapeCasts_S8x1x128_S8x1x128) broadcasts_S8x1x128_S8x8x128
  let n : IVec S8x8x128 32 := subi (broadcast S8x8x128 28#32) (muli (broadcast S8x8x128 4#32) (iota .tc S8x8x128 32 [1] iota_S8x8x128_d1_w32))
  sitofp .bf16 (shapeCast S64x128 (shrsi (shli r n) (broadcast S8x8x128 28#32)) shapeCasts_S8x8x128_S64x128)

/-- Four pieces of 64 rows, one under the other. -/
def cat4 (p : Fin 4 → FVec F S64x128 .bf16) : FVec F S256x128 .bf16 :=
  concatenate S256x128 0 [⟨S64x128, p 0⟩, ⟨S64x128, p 1⟩, ⟨S64x128, p 2⟩, ⟨S64x128, p 3⟩] concatenates_S64x128_S64x128_S64x128_S64x128_S256x128_d0

/-- Row `r` of chunk `n`'s eight rows. -/
def rowIn (n : Fin 32) (r : Fin 8) : Fin 256 := ⟨8 * n.val + r.val, by omega⟩

/-- The weights of chunk `n`, columns of half `t`. -/
def wtile (tw : Fin 4 → Fin 32 → Fin 2 → Vec F S1x8x128 .i32) (ts : Fin 256 → Fin 2 → Vec F S1x128 .f32) (n : Fin 32) (t : Fin 2) : FVec F S256x128 .bf16 :=
  cat4 fun rs => mulf (nib64 (tw rs n t)) (sc64 fun r => ts (rowIn n r) t)

/-- Two halves side by side. -/
def wpair (a b : FVec F S256x128 .bf16) : FVec F S256x256 .bf16 :=
  concatenate S256x256 1 [⟨S256x128, a⟩, ⟨S256x128, b⟩] concatenates_S256x128_S256x128_S256x256_d1

/-- The running sum after one more chunk. -/
def accStep (h : Fin 32 → Vec F S16x256 .bf16) (tw : Fin 4 → Fin 32 → Fin 2 → Vec F S1x8x128 .i32) (ts : Fin 256 → Fin 2 → Vec F S1x128 .f32)
    (a : FVec F S16x256 .f32) (n : Fin 32) : FVec F S16x256 .f32 :=
  addf a (matmul dot_S16x256_S256x256_S16x256_1_0_0_1_n_n none (h n) (wpair (wtile tw ts n 0) (wtile tw ts n 1)) (constant S16x256 .f32 0x00000000#32))

/-- The sum over the thirty-two chunks. -/
def acc (h : Fin 32 → Vec F S16x256 .bf16) (tw : Fin 4 → Fin 32 → Fin 2 → Vec F S1x8x128 .i32) (ts : Fin 256 → Fin 2 → Vec F S1x128 .f32) : FVec F S16x256 .f32 :=
  [0, 1, 2, 3, 4, 5, 6, 7, 8, 9, 10, 11, 12, 13, 14, 15, 16, 17, 18, 19, 20, 21, 22, 23, 24, 25, 26, 27, 28, 29, 30, 31].foldl (accStep h tw ts)
    (broadcast S16x256 (Scalar.ofBits .f32 0x00000000#32))

/-- The gate's product through its sigmoid, times the up projection's, narrowed to bfloat16. -/
def swish (g u : FVec F S16x256 .f32) : FVec F S1x16x256 .bf16 :=
  shapeCast S1x16x256 (truncf .bf16 (mulf (mulf g (logistic g)) u) bitsLt_bf16_f32) shapeCasts_S16x256_S1x16x256

/-! ## A block transposed -/

theorem slices_row : ∀ r : Fin 8, S128x8x128.Slices ![0, r.val, 0] S128x1x128 := by decide

/-- Row `r` of every eight rows of words, with the top bit of each 4-bit code flipped, transposed. -/
def wordsT (r : Fin 8) (v : Vec F S4096x128 .i8) : IVec S1x128x128 32 :=
  shapeCast S1x128x128 (transpose S128x128 [1, 0] (xori (shapeCast S128x128 (extractStridedSlice S128x1x128 ![0, r.val, 0]
    (shapeCast S128x8x128 (bitcast S1024x128 32 (v : IVec S4096x128 8) bitcasts_S4096x128_w8_S1024x128_w32) shapeCasts_S1024x128_S128x8x128) (slices_row r))
    shapeCasts_S128x1x128_S128x128) (broadcast S128x128 2290649224#32)) transposes_S128x128_p1_0_S128x128) shapeCasts_S128x128_S1x128x128

/-- A tile of scales, widened to float32 and transposed. -/
def scalesT (v : Vec F S128x128 .bf16) : FVec F S128x128 .f32 :=
  shapeCast S128x128 (transpose S128x128 [1, 0] (extf .f32 v bitsLt_bf16_f32) transposes_S128x128_p1_0_S128x128) shapeCasts_S128x128_S128x128

theorem cw_inb (t : Fin 2) : ∀ a, (![4096 * t.val, 0] : Fin 2 → ℕ) a + S4096x128.size a ≤ S8192x128.size a := by
  intro a; fin_cases a
  · show 4096 * t.val + 4096 ≤ 8192; omega
  · show 0 + 128 ≤ 128; omega
theorem tw_inb (rs : Fin 4) (c t : Fin 2) : ∀ a, (![rs.val, 128 * c.val, 128 * t.val] : Fin 3 → ℕ) a + S1x128x128.size a ≤ S4x256x256.size a := by
  intro a; fin_cases a
  · show rs.val + 1 ≤ 4; omega
  · show 128 * c.val + 128 ≤ 256; omega
  · show 128 * t.val + 128 ≤ 256; omega
theorem ts_inb (c t : Fin 2) : ∀ a, (![128 * c.val, 128 * t.val] : Fin 2 → ℕ) a + S128x128.size a ≤ S256x256.size a := by
  intro a; fin_cases a
  · show 128 * c.val + 128 ≤ 256; omega
  · show 128 * t.val + 128 ≤ 256; omega

/-- The unit's row of words: `rs` of four within the column half `c`. -/
def unitRow (rs : Fin 4) (c : Fin 2) : Fin 8 := ⟨rs.val / 2 * 4 + c.val * 2 + rs.val % 2, by omega⟩

/-- The sixteen stores of a block's words, last first. -/
def twPieces (v : View sig .tc .vmem S8192x128 .i8) (f : BufTy.Contents (Elt F) v.ty) : List (View.Piece (Elt F) S4x256x256 .i32) :=
  [15, 14, 13, 12, 11, 10, 9, 8, 7, 6, 5, 4, 3, 2, 1, 0].map fun i : Fin 16 =>
    ⟨Rect.unit ![(⟨i.val % 4, by omega⟩ : Fin 4).val, 128 * (⟨i.val / 8, by omega⟩ : Fin 2).val, 128 * (⟨i.val / 4 % 2, by omega⟩ : Fin 2).val] S1x128x128.size (tw_inb _ _ _),
      wordsT (F := F) (unitRow ⟨i.val % 4, by omega⟩ ⟨i.val / 8, by omega⟩)
        (v.readAt (Elt F) (Rect.unit (s := S8192x128) ![4096 * (⟨i.val / 4 % 2, by omega⟩ : Fin 2).val, 0] S4096x128.size (cw_inb _)).toLoadRect f)⟩

/-- The four stores of a block's scales, last first. -/
def tsPieces (v : View sig .tc .vmem S256x256 .bf16) (f : BufTy.Contents (Elt F) v.ty) : List (View.Piece (Elt F) S256x256 .f32) :=
  [3, 2, 1, 0].map fun i : Fin 4 =>
    ⟨Rect.unit ![128 * (⟨i.val / 2, by omega⟩ : Fin 2).val, 128 * (⟨i.val % 2, by omega⟩ : Fin 2).val] S128x128.size (ts_inb _ _),
      scalesT (v.readAt (Elt F) (Rect.unit (s := S256x256) ![128 * (⟨i.val % 2, by omega⟩ : Fin 2).val, 128 * (⟨i.val / 2, by omega⟩ : Fin 2).val] S128x128.size (ts_inb _ _)).toLoadRect f)⟩

/-! ## What a trip reads -/

theorem h_inb (n : Fin 32) : ∀ a, (![0, 256 * n.val] : Fin 2 → ℕ) a + S16x256.size a ≤ S16x8192.size a := by
  intro a; fin_cases a
  · show 0 + 16 ≤ 16; omega
  · show 256 * n.val + 256 ≤ 8192; omega
theorem lw_inb (rs : Fin 4) (n : Fin 32) (t : Fin 2) : ∀ a, (![rs.val, 8 * n.val, 128 * t.val] : Fin 3 → ℕ) a + S1x8x128.size a ≤ S4x256x256.size a := by
  intro a; fin_cases a
  · show rs.val + 1 ≤ 4; omega
  · show 8 * n.val + 8 ≤ 256; omega
  · show 128 * t.val + 128 ≤ 256; omega
theorem ls_inb (r : Fin 256) (t : Fin 2) : ∀ a, (![r.val, 128 * t.val] : Fin 2 → ℕ) a + S1x128.size a ≤ S256x256.size a := by
  intro a; fin_cases a
  · show r.val + 1 ≤ 256; omega
  · show 128 * t.val + 128 ≤ 256; omega

/-- What a trip reads of the activations. -/
def hOf (v : View sig .tc .vmem S16x8192 .bf16) (X : BufTy.Contents (Elt F) v.ty) (n : Fin 32) : Vec F S16x256 .bf16 :=
  v.readAt (Elt F) (Rect.unit (s := S16x8192) ![0, 256 * n.val] S16x256.size (h_inb n)).toLoadRect X
/-- What a trip reads of the words it finds. -/
def twOf (v : View sig .tc .vmem S4x256x256 .i32) (X : BufTy.Contents (Elt F) v.ty) (rs : Fin 4) (n : Fin 32) (t : Fin 2) : Vec F S1x8x128 .i32 :=
  v.readAt (Elt F) (Rect.unit (s := S4x256x256) ![rs.val, 8 * n.val, 128 * t.val] S1x8x128.size (lw_inb rs n t)).toLoadRect X
/-- What a trip reads of the scales it finds. -/
def tsOf (v : View sig .tc .vmem S256x256 .f32) (X : BufTy.Contents (Elt F) v.ty) (r : Fin 256) (t : Fin 2) : Vec F S1x128 .f32 :=
  v.readAt (Elt F) (Rect.unit (s := S256x256) ![r.val, 128 * t.val] S1x128.size (ls_inb r t)).toLoadRect X
/-- What a trip reads back of words it stored. -/
def twCov (v : View sig .tc .vmem S4x256x256 .i32) (L : List (View.Piece (Elt F) S4x256x256 .i32)) (rs : Fin 4) (n : Fin 32) (t : Fin 2) : Vec F S1x8x128 .i32 :=
  v.readCov L (Rect.unit (s := S4x256x256) ![rs.val, 8 * n.val, 128 * t.val] S1x8x128.size (lw_inb rs n t)).toLoadRect
/-- What a trip reads back of scales it stored. -/
def tsCov (v : View sig .tc .vmem S256x256 .f32) (L : List (View.Piece (Elt F) S256x256 .f32)) (r : Fin 256) (t : Fin 2) : Vec F S1x128 .f32 :=
  v.readCov L (Rect.unit (s := S256x256) ![r.val, 128 * t.val] S1x128.size (ls_inb r t)).toLoadRect

/-- What trip `k` stores of the result: the gate's product from the words and scales it finds, the up projection's from
    the ones it transposes. -/
def actPiece (k : Fin k0_t1_loop.trips) (H : BufTy.Contents (Elt F) hvM.view.ty) (A : BufTy.Contents (Elt F) twaM.view.ty) (B : BufTy.Contents (Elt F) tsaM.view.ty)
    (f : BufTy.Contents (Elt F) (cslot k.val 1).view.ty) (g : BufTy.Contents (Elt F) (sslot k.val 1).view.ty) : List (View.Piece (Elt F) S14x16x256 .bf16) :=
  [⟨Rect.unit (s := S14x16x256) (k0_off12 k) S1x16x256.size (k0_off12_inb k), swish (acc (hOf hvM.view H) (twOf twaM.view A) (tsOf tsaM.view B))
    (acc (hOf hvM.view H) (twCov twbM.view (twPieces (cslot k.val 1).view f)) (tsCov tsbM.view (tsPieces (sslot k.val 1).view g)))⟩]

end Cert.GateUpIdeal.GU

end
-- ==== Proof.GU.Trip.lean ====
/-
  One trip of the gate and up loop, run with the counter a variable: in the steady state (the next block is waited for
  and the block six ahead is issued), near the end (waited for, nothing issued), and at the last trip.
-/
module

public import proofs.«01_k».proof.Proof.GU.Chunk
public import Idealize.ShloMosaic.Lib.Pipeline.FrameBody

@[expose] public section

set_option maxRecDepth 8192
set_option maxHeartbeats 16000000

noncomputable section

namespace Cert.GateUpIdeal.GU

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline's beside the transfers' counters. -/
local notation "𝕄" => MT nD τ sig Unit (Elt F) ℕ (Pipeline.UD sig nD τ) ℕ

/-- A memref's elements held whole at contents `f`. -/
abbrev pt {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f

/-- A cell of the copies, at zero. -/
abbrev cel (c : Dev nD) (n : ℕ) : sProp 𝕄 := semVal ((c : Thread nD τ), SemLoc.dma (cellN n).sem) 0

/-- A copy of a block of codes on its way to its slot. -/
abbrev flC (c : Dev nD) (M : Memref sig .tc .hbm S114688x128 .i8) (X : Buf (Elt F) (M.view.loc (c : Thread nD τ))) (n b r j : ℕ)
    (f : Buf (Elt F) ((cslot b j).view.loc (c : Thread nD τ))) : sProp 𝕄 :=
  Transfers.Flight countersEmb (c : Thread nD τ) (SemLoc.dma (cellN n).sem) () 32768
    iprop(pt c (cslot b j) ((cslot b j).view.writes (Elt F) f [⟨Rect.whole S8192x128, ReadAs.same.apply ((cblk M r).view.read (Elt F) X)⟩]) ∗ pt c (cblk M r) X)

/-- A copy of a block of scales on its way to its slot. -/
abbrev flS (c : Dev nD) (M : Memref sig .tc .hbm S3584x256 .bf16) (X : Buf (Elt F) (M.view.loc (c : Thread nD τ))) (n b r j : ℕ)
    (f : Buf (Elt F) ((sslot b j).view.loc (c : Thread nD τ))) : sProp 𝕄 :=
  Transfers.Flight countersEmb (c : Thread nD τ) (SemLoc.dma (cellN n).sem) () 4096
    iprop(pt c (sslot b j) ((sslot b j).view.writes (Elt F) f [⟨Rect.whole S256x256, ReadAs.same.apply ((sblk M r).view.read (Elt F) X)⟩]) ∗ pt c (sblk M r) X)

/-- A block of codes at home in its array. -/
abbrev hmC (c : Dev nD) (M : Memref sig .tc .hbm S114688x128 .i8) (X : Buf (Elt F) (M.view.loc (c : Thread nD τ))) (r : ℕ) : sProp 𝕄 := pt c (cblk M r) X
/-- A block of scales at home in its array. -/
abbrev hmS (c : Dev nD) (M : Memref sig .tc .hbm S3584x256 .bf16) (X : Buf (Elt F) (M.view.loc (c : Thread nD τ))) (r : ℕ) : sProp 𝕄 := pt c (sblk M r) X

/-- A slot of codes once a block has landed in it, its earlier contents forgotten. -/
abbrev landC (c : Dev nD) (M : Memref sig .tc .hbm S114688x128 .i8) (X : Buf (Elt F) (M.view.loc (c : Thread nD τ))) (b r j : ℕ) :
    Buf (Elt F) ((cslot b j).view.loc (c : Thread nD τ)) :=
  (cslot b j).view.writes (Elt F) (cslot b j).view.junk [⟨Rect.whole S8192x128, ReadAs.same.apply ((cblk M r).view.read (Elt F) X)⟩]
/-- A slot of scales once a block has landed in it. -/
abbrev landS (c : Dev nD) (M : Memref sig .tc .hbm S3584x256 .bf16) (X : Buf (Elt F) (M.view.loc (c : Thread nD τ))) (b r j : ℕ) :
    Buf (Elt F) ((sslot b j).view.loc (c : Thread nD τ)) :=
  (sslot b j).view.writes (Elt F) (sslot b j).view.junk [⟨Rect.whole S256x256, ReadAs.same.apply ((sblk M r).view.read (Elt F) X)⟩]

/-- A slot of codes at the contents a copy over `f` leaves. -/
abbrev ldC (c : Dev nD) (M : Memref sig .tc .hbm S114688x128 .i8) (X : Buf (Elt F) (M.view.loc (c : Thread nD τ))) (b r j : ℕ)
    (f : Buf (Elt F) ((cslot b j).view.loc (c : Thread nD τ))) : sProp 𝕄 :=
  pt c (cslot b j) ((cslot b j).view.writes (Elt F) f [⟨Rect.whole S8192x128, ReadAs.same.apply ((cblk M r).view.read (Elt F) X)⟩])
/-- A slot of scales at the contents a copy over `f` leaves. -/
abbrev ldS (c : Dev nD) (M : Memref sig .tc .hbm S3584x256 .bf16) (X : Buf (Elt F) (M.view.loc (c : Thread nD τ))) (b r j : ℕ)
    (f : Buf (Elt F) ((sslot b j).view.loc (c : Thread nD τ))) : sProp 𝕄 :=
  pt c (sslot b j) ((sslot b j).view.writes (Elt F) f [⟨Rect.whole S256x256, ReadAs.same.apply ((sblk M r).view.read (Elt F) X)⟩])

section Trip

variable (c : Dev nD) (arg0 : Memref sig .tc .vmem S16x8192 .bf16) (harg0 : arg0.IsWhole) (arg5 : Memref sig .tc .vmem S14x16x256 .bf16) (harg5 : arg5.IsWhole)
  (X1 : Buf (Elt F) (gcM.view.loc (c : Thread nD τ))) (X2 : Buf (Elt F) (gsM.view.loc (c : Thread nD τ)))
  (X3 : Buf (Elt F) (ucM.view.loc (c : Thread nD τ))) (X4 : Buf (Elt F) (usM.view.loc (c : Thread nD τ)))
  (k : Fin k0_t1_loop.trips)

/-- The trip's program. -/
abbrev tripG : Prog (TpuEff nD τ sig (Elt F) Λ₀ .tc) PUnit :=
  k0_t1_body (F := F) arg0 harg0 gcM (Memref.isWhole_whole _) gsM (Memref.isWhole_whole _) ucM (Memref.isWhole_whole _) usM (Memref.isWhole_whole _) arg5 harg5
    cbM (Memref.isWhole_whole _) sbM (Memref.isWhole_whole _) hvM (Memref.isWhole_whole _) p1M (Memref.isWhole_whole _)
    twaM (Memref.isWhole_whole _) tsaM (Memref.isWhole_whole _) twbM (Memref.isWhole_whole _) tsbM (Memref.isWhole_whole _) cc0_scratch8 k PUnit.unit

/-- The steady state: the next block is waited for, the block six ahead issued. -/
theorem tripA (h6 : k.val + 6 < 14)
    (H : Buf (Elt F) (hvM.view.loc (c : Thread nD τ))) (A : Buf (Elt F) (twaM.view.loc (c : Thread nD τ))) (B : Buf (Elt F) (tsaM.view.loc (c : Thread nD τ)))
    (A' : Buf (Elt F) (twbM.view.loc (c : Thread nD τ))) (B' : Buf (Elt F) (tsbM.view.loc (c : Thread nD τ))) (O : Buf (Elt F) (arg5.view.loc (c : Thread nD τ)))
    (W : Waits sig Unit)
    (f0 : Buf (Elt F) ((cslot k.val 0).view.loc (c : Thread nD τ))) (f1 : Buf (Elt F) ((cslot k.val 1).view.loc (c : Thread nD τ)))
    (g0 : Buf (Elt F) ((sslot k.val 0).view.loc (c : Thread nD τ))) (g1 : Buf (Elt F) ((sslot k.val 1).view.loc (c : Thread nD τ)))
    (n0 : Buf (Elt F) ((cslot (k.val + 1) 0).view.loc (c : Thread nD τ))) (n1 : Buf (Elt F) ((cslot (k.val + 1) 1).view.loc (c : Thread nD τ)))
    (m0 : Buf (Elt F) ((sslot (k.val + 1) 0).view.loc (c : Thread nD τ))) (m1 : Buf (Elt F) ((sslot (k.val + 1) 1).view.loc (c : Thread nD τ)))
 :
    iprop(pt c hvM H ∗ pt c twaM A ∗ pt c tsaM B ∗ pt c twbM A' ∗ pt c tsbM B' ∗ pt c arg5 O ∗ owes (c : Thread nD τ) 0 W
        ∗ (pt c (cslot k.val 0) f0 ∗ pt c (cslot k.val 1) f1 ∗ pt c (sslot k.val 0) g0 ∗ pt c (sslot k.val 1) g1)
        ∗ (cel c (24 + k.val % 6) ∗ cel c (30 + k.val % 6) ∗ cel c (36 + k.val % 6) ∗ cel c (42 + k.val % 6))
        ∗ (flC c gcM X1 (24 + (k.val + 1) % 6) (k.val + 1) (8192 * (k.val + 1)) 0 n0 ∗ flC c ucM X3 (30 + (k.val + 1) % 6) (k.val + 1) (8192 * (k.val + 1)) 1 n1
          ∗ flS c gsM X2 (36 + (k.val + 1) % 6) (k.val + 1) (256 * (k.val + 1)) 0 m0 ∗ flS c usM X4 (42 + (k.val + 1) % 6) (k.val + 1) (256 * (k.val + 1)) 1 m1)
        ∗ (hmC c gcM X1 (8192 * (k.val + 6)) ∗ hmC c ucM X3 (8192 * (k.val + 6)) ∗ hmS c gsM X2 (256 * (k.val + 6)) ∗ hmS c usM X4 (256 * (k.val + 6))))
      ⊢ wp frame (wpE (defs₀ (F := F)) Variants.none (c : Thread nD τ) none) Set.univ (tripG arg0 harg0 arg5 harg5 k) fun _ =>
        iprop(pt c hvM H ∗ (∃ f, pt c twaM f ∗ ⌜f = twaM.view.writes (Elt F) A (twPieces (cslot (k.val + 1) 0).view (landC c gcM X1 (k.val + 1) (8192 * (k.val + 1)) 0))⌝)
          ∗ (∃ f, pt c tsaM f ∗ ⌜f = tsaM.view.writes (Elt F) B (tsPieces (sslot (k.val + 1) 0).view (landS c gsM X2 (k.val + 1) (256 * (k.val + 1)) 0))⌝) ∗ (∃ f, pt c twbM f) ∗ (∃ f, pt c tsbM f)
          ∗ (∃ f, pt c arg5 f ∗ ⌜f = arg5.view.writes (Elt F) O (actPiece k H A B f1 g1)⌝) ∗ (∃ W, owes (c : Thread nD τ) 0 W)
        ∗ (ldC c gcM X1 (k.val + 1) (8192 * (k.val + 1)) 0 n0 ∗ ldC c ucM X3 (k.val + 1) (8192 * (k.val + 1)) 1 n1
          ∗ ldS c gsM X2 (k.val + 1) (256 * (k.val + 1)) 0 m0 ∗ ldS c usM X4 (k.val + 1) (256 * (k.val + 1)) 1 m1)
        ∗ (cel c (24 + (k.val + 1) % 6) ∗ cel c (30 + (k.val + 1) % 6) ∗ cel c (36 + (k.val + 1) % 6) ∗ cel c (42 + (k.val + 1) % 6))
        ∗ (hmC c gcM X1 (8192 * (k.val + 1)) ∗ hmC c ucM X3 (8192 * (k.val + 1)) ∗ hmS c gsM X2 (256 * (k.val + 1)) ∗ hmS c usM X4 (256 * (k.val + 1)))
        ∗ (flC c gcM X1 (24 + k.val % 6) k.val (8192 * (k.val + 6)) 0 f0 ∗ flC c ucM X3 (30 + k.val % 6) k.val (8192 * (k.val + 6)) 1 f1
          ∗ flS c gsM X2 (36 + k.val % 6) k.val (256 * (k.val + 6)) 0 g0 ∗ flS c usM X4 (42 + k.val % 6) k.val (256 * (k.val + 6)) 1 g1)) := by
    have hk1 : k.val + 1 < 14 := by omega
    have hC1 : k0_cond1 k = 1#1 := (cond1_iff k).2 hk1
    have hC2 : k0_cond2 k = 1#1 := (cond2_iff k).2 h6
    iintro ⟨HH, HA, HB, HA', HB', HO, HW, ⟨Hc0, Hc1, Hs0, Hs1⟩, ⟨Hq0, Hq1, Hq2, Hq3⟩, ⟨HF0, HF1, HF2, HF3⟩, ⟨Hh0, Hh1, Hh2, Hh3⟩⟩
    dsimp only [tripG]
    sl_unfold [k0_t1_body]
    sl_exec
    sl_step
    isplitl [HH]; · iexact HH
    isplitl [HA]
    · iexists _; isplitl [HA]; · iexact HA
      ipureintro; sl_kernel_rfl
    isplitl [HB]
    · iexists _; isplitl [HB]; · iexact HB
      ipureintro; sl_kernel_rfl
    isplitl [HA']; · iexists _; iexact HA'
    isplitl [HB']; · iexists _; iexact HB'
    isplitl [HO]
    · iexists _; isplitl [HO]; · iexact HO
      ipureintro; sl_kernel_rfl
    isplitl [HW]; · iexists _; iexact HW
    isplitl [HF0_dst HF1_dst HF2_dst HF3_dst]
    · isplitl [HF0_dst]; · iexact HF0_dst
      isplitl [HF1_dst]; · iexact HF1_dst
      isplitl [HF2_dst]; · iexact HF2_dst
      iexact HF3_dst
    isplitl [HF0 HF1 HF2 HF3]
    · isplitl [HF0]; · iexact HF0
      isplitl [HF1]; · iexact HF1
      isplitl [HF2]; · iexact HF2
      iexact HF3
    isplitl [HF0_src HF1_src HF2_src HF3_src]
    · isplitl [HF0_src]; · iexact HF0_src
      isplitl [HF1_src]; · iexact HF1_src
      isplitl [HF2_src]; · iexact HF2_src
      iexact HF3_src
    isplitl [Hq0]; · iexact Hq0
    isplitl [Hq1]; · iexact Hq1
    isplitl [Hq2]; · iexact Hq2
    iexact Hq3

end Trip

end Cert.GateUpIdeal.GU

end
-- ==== Proof.GU.TripB.lean ====
/-
  A trip of the gate and up loop near its end.
-/
module

public import proofs.«01_k».proof.Proof.GU.Trip
public import Idealize.ShloMosaic.Lib.Pipeline.FrameBody

@[expose] public section

set_option maxRecDepth 8192
set_option maxHeartbeats 16000000

noncomputable section

namespace Cert.GateUpIdeal.GU

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline's beside the transfers' counters. -/
local notation "𝕄" => MT nD τ sig Unit (Elt F) ℕ (Pipeline.UD sig nD τ) ℕ

section Trip

variable (c : Dev nD) (arg0 : Memref sig .tc .vmem S16x8192 .bf16) (harg0 : arg0.IsWhole) (arg5 : Memref sig .tc .vmem S14x16x256 .bf16) (harg5 : arg5.IsWhole)
  (X1 : Buf (Elt F) (gcM.view.loc (c : Thread nD τ))) (X2 : Buf (Elt F) (gsM.view.loc (c : Thread nD τ)))
  (X3 : Buf (Elt F) (ucM.view.loc (c : Thread nD τ))) (X4 : Buf (Elt F) (usM.view.loc (c : Thread nD τ)))
  (k : Fin k0_t1_loop.trips)

/-- Near the end: the next block is waited for, nothing is issued. -/
theorem tripB (h6 : ¬ k.val + 6 < 14) (hk1 : k.val + 1 < 14)
    (H : Buf (Elt F) (hvM.view.loc (c : Thread nD τ))) (A : Buf (Elt F) (twaM.view.loc (c : Thread nD τ))) (B : Buf (Elt F) (tsaM.view.loc (c : Thread nD τ)))
    (A' : Buf (Elt F) (twbM.view.loc (c : Thread nD τ))) (B' : Buf (Elt F) (tsbM.view.loc (c : Thread nD τ))) (O : Buf (Elt F) (arg5.view.loc (c : Thread nD τ)))
    (W : Waits sig Unit)
    (f0 : Buf (Elt F) ((cslot k.val 0).view.loc (c : Thread nD τ))) (f1 : Buf (Elt F) ((cslot k.val 1).view.loc (c : Thread nD τ)))
    (g0 : Buf (Elt F) ((sslot k.val 0).view.loc (c : Thread nD τ))) (g1 : Buf (Elt F) ((sslot k.val 1).view.loc (c : Thread nD τ)))
    (n0 : Buf (Elt F) ((cslot (k.val + 1) 0).view.loc (c : Thread nD τ))) (n1 : Buf (Elt F) ((cslot (k.val + 1) 1).view.loc (c : Thread nD τ)))
    (m0 : Buf (Elt F) ((sslot (k.val + 1) 0).view.loc (c : Thread nD τ))) (m1 : Buf (Elt F) ((sslot (k.val + 1) 1).view.loc (c : Thread nD τ)))
 :
    iprop(pt c hvM H ∗ pt c twaM A ∗ pt c tsaM B ∗ pt c twbM A' ∗ pt c tsbM B' ∗ pt c arg5 O ∗ owes (c : Thread nD τ) 0 W
        ∗ (pt c (cslot k.val 0) f0 ∗ pt c (cslot k.val 1) f1 ∗ pt c (sslot k.val 0) g0 ∗ pt c (sslot k.val 1) g1)
        ∗ (cel c (24 + k.val % 6) ∗ cel c (30 + k.val % 6) ∗ cel c (36 + k.val % 6) ∗ cel c (42 + k.val % 6))
        ∗ (flC c gcM X1 (24 + (k.val + 1) % 6) (k.val + 1) (8192 * (k.val + 1)) 0 n0 ∗ flC c ucM X3 (30 + (k.val + 1) % 6) (k.val + 1) (8192 * (k.val + 1)) 1 n1
          ∗ flS c gsM X2 (36 + (k.val + 1) % 6) (k.val + 1) (256 * (k.val + 1)) 0 m0 ∗ flS c usM X4 (42 + (k.val + 1) % 6) (k.val + 1) (256 * (k.val + 1)) 1 m1))
      ⊢ wp frame (wpE (defs₀ (F := F)) Variants.none (c : Thread nD τ) none) Set.univ (tripG arg0 harg0 arg5 harg5 k) fun _ =>
        iprop(pt c hvM H ∗ (∃ f, pt c twaM f ∗ ⌜f = twaM.view.writes (Elt F) A (twPieces (cslot (k.val + 1) 0).view (landC c gcM X1 (k.val + 1) (8192 * (k.val + 1)) 0))⌝)
          ∗ (∃ f, pt c tsaM f ∗ ⌜f = tsaM.view.writes (Elt F) B (tsPieces (sslot (k.val + 1) 0).view (landS c gsM X2 (k.val + 1) (256 * (k.val + 1)) 0))⌝) ∗ (∃ f, pt c twbM f) ∗ (∃ f, pt c tsbM f)
          ∗ (∃ f, pt c arg5 f ∗ ⌜f = arg5.view.writes (Elt F) O (actPiece k H A B f1 g1)⌝) ∗ (∃ W, owes (c : Thread nD τ) 0 W)
        ∗ (ldC c gcM X1 (k.val + 1) (8192 * (k.val + 1)) 0 n0 ∗ ldC c ucM X3 (k.val + 1) (8192 * (k.val + 1)) 1 n1
          ∗ ldS c gsM X2 (k.val + 1) (256 * (k.val + 1)) 0 m0 ∗ ldS c usM X4 (k.val + 1) (256 * (k.val + 1)) 1 m1)
        ∗ (cel c (24 + (k.val + 1) % 6) ∗ cel c (30 + (k.val + 1) % 6) ∗ cel c (36 + (k.val + 1) % 6) ∗ cel c (42 + (k.val + 1) % 6))
        ∗ (hmC c gcM X1 (8192 * (k.val + 1)) ∗ hmC c ucM X3 (8192 * (k.val + 1)) ∗ hmS c gsM X2 (256 * (k.val + 1)) ∗ hmS c usM X4 (256 * (k.val + 1)))
        ∗ (pt c (cslot k.val 0) f0 ∗ pt c (cslot k.val 1) f1 ∗ pt c (sslot k.val 0) g0 ∗ pt c (sslot k.val 1) g1)
        ∗ (cel c (24 + k.val % 6) ∗ cel c (30 + k.val % 6) ∗ cel c (36 + k.val % 6) ∗ cel c (42 + k.val % 6))) := by
    have hC1 : k0_cond1 k = 1#1 := (cond1_iff k).2 hk1
    have hC2 : ¬ k0_cond2 k = 1#1 := fun h => h6 ((cond2_iff k).1 h)
    iintro ⟨HH, HA, HB, HA', HB', HO, HW, ⟨Hc0, Hc1, Hs0, Hs1⟩, ⟨Hq0, Hq1, Hq2, Hq3⟩, ⟨HF0, HF1, HF2, HF3⟩⟩
    dsimp only [tripG]
    sl_unfold [k0_t1_body]
    sl_exec
    sl_step
    isplitl [HH]; · iexact HH
    isplitl [HA]
    · iexists _; isplitl [HA]; · iexact HA
      ipureintro; sl_kernel_rfl
    isplitl [HB]
    · iexists _; isplitl [HB]; · iexact HB
      ipureintro; sl_kernel_rfl
    isplitl [HA']; · iexists _; iexact HA'
    isplitl [HB']; · iexists _; iexact HB'
    isplitl [HO]
    · iexists _; isplitl [HO]; · iexact HO
      ipureintro; sl_kernel_rfl
    isplitl [HW]; · iexists _; iexact HW
    isplitl [HF0_dst HF1_dst HF2_dst HF3_dst]
    · isplitl [HF0_dst]; · iexact HF0_dst
      isplitl [HF1_dst]; · iexact HF1_dst
      isplitl [HF2_dst]; · iexact HF2_dst
      iexact HF3_dst
    isplitl [HF0 HF1 HF2 HF3]
    · isplitl [HF0]; · iexact HF0
      isplitl [HF1]; · iexact HF1
      isplitl [HF2]; · iexact HF2
      iexact HF3
    isplitl [HF0_src HF1_src HF2_src HF3_src]
    · isplitl [HF0_src]; · iexact HF0_src
      isplitl [HF1_src]; · iexact HF1_src
      isplitl [HF2_src]; · iexact HF2_src
      iexact HF3_src
    isplitl [Hc0 Hc1 Hs0 Hs1]
    · isplitl [Hc0]; · iexact Hc0
      isplitl [Hc1]; · iexact Hc1
      isplitl [Hs0]; · iexact Hs0
      iexact Hs1
    isplitl [Hq0]; · iexact Hq0
    isplitl [Hq1]; · iexact Hq1
    isplitl [Hq2]; · iexact Hq2
    iexact Hq3

end Trip

end Cert.GateUpIdeal.GU

end
-- ==== Proof.GU.TripC.lean ====
/-
  The last trip of the gate and up loop.
-/
module

public import proofs.«01_k».proof.Proof.GU.TripB
public import Idealize.ShloMosaic.Lib.Pipeline.FrameBody

@[expose] public section

set_option maxRecDepth 8192
set_option maxHeartbeats 16000000

noncomputable section

namespace Cert.GateUpIdeal.GU

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline's beside the transfers' counters. -/
local notation "𝕄" => MT nD τ sig Unit (Elt F) ℕ (Pipeline.UD sig nD τ) ℕ

section Trip

variable (c : Dev nD) (arg0 : Memref sig .tc .vmem S16x8192 .bf16) (harg0 : arg0.IsWhole) (arg5 : Memref sig .tc .vmem S14x16x256 .bf16) (harg5 : arg5.IsWhole)
  (X1 : Buf (Elt F) (gcM.view.loc (c : Thread nD τ))) (X2 : Buf (Elt F) (gsM.view.loc (c : Thread nD τ)))
  (X3 : Buf (Elt F) (ucM.view.loc (c : Thread nD τ))) (X4 : Buf (Elt F) (usM.view.loc (c : Thread nD τ)))
  (k : Fin k0_t1_loop.trips)

/-- The last trip: nothing is waited for, nothing issued; the last block's gate weights are transposed once more. -/
theorem tripC (hk1 : k.val + 1 = 14)
    (H : Buf (Elt F) (hvM.view.loc (c : Thread nD τ))) (A : Buf (Elt F) (twaM.view.loc (c : Thread nD τ))) (B : Buf (Elt F) (tsaM.view.loc (c : Thread nD τ)))
    (A' : Buf (Elt F) (twbM.view.loc (c : Thread nD τ))) (B' : Buf (Elt F) (tsbM.view.loc (c : Thread nD τ))) (O : Buf (Elt F) (arg5.view.loc (c : Thread nD τ)))
    (W : Waits sig Unit)
    (f0 : Buf (Elt F) ((cslot k.val 0).view.loc (c : Thread nD τ))) (f1 : Buf (Elt F) ((cslot k.val 1).view.loc (c : Thread nD τ)))
    (g0 : Buf (Elt F) ((sslot k.val 0).view.loc (c : Thread nD τ))) (g1 : Buf (Elt F) ((sslot k.val 1).view.loc (c : Thread nD τ)))
 :
    iprop(pt c hvM H ∗ pt c twaM A ∗ pt c tsaM B ∗ pt c twbM A' ∗ pt c tsbM B' ∗ pt c arg5 O ∗ owes (c : Thread nD τ) 0 W
        ∗ (pt c (cslot k.val 0) f0 ∗ pt c (cslot k.val 1) f1 ∗ pt c (sslot k.val 0) g0 ∗ pt c (sslot k.val 1) g1)
        ∗ (cel c (24 + k.val % 6) ∗ cel c (30 + k.val % 6) ∗ cel c (36 + k.val % 6) ∗ cel c (42 + k.val % 6)))
      ⊢ wp frame (wpE (defs₀ (F := F)) Variants.none (c : Thread nD τ) none) Set.univ (tripG arg0 harg0 arg5 harg5 k) fun _ =>
        iprop(pt c hvM H ∗ (∃ f, pt c twaM f ∗ ⌜f = twaM.view.writes (Elt F) A (twPieces (cslot k.val 0).view f0)⌝)
          ∗ (∃ f, pt c tsaM f ∗ ⌜f = tsaM.view.writes (Elt F) B (tsPieces (sslot k.val 0).view g0)⌝) ∗ (∃ f, pt c twbM f) ∗ (∃ f, pt c tsbM f)
          ∗ (∃ f, pt c arg5 f ∗ ⌜f = arg5.view.writes (Elt F) O (actPiece k H A B f1 g1)⌝) ∗ (∃ W, owes (c : Thread nD τ) 0 W)
        ∗ (pt c (cslot k.val 0) f0 ∗ pt c (cslot k.val 1) f1 ∗ pt c (sslot k.val 0) g0 ∗ pt c (sslot k.val 1) g1)
        ∗ (cel c (24 + k.val % 6) ∗ cel c (30 + k.val % 6) ∗ cel c (36 + k.val % 6) ∗ cel c (42 + k.val % 6))) := by
    have hC1 : ¬ k0_cond1 k = 1#1 := fun h => by have := (cond1_iff k).1 h; omega
    have hC2 : ¬ k0_cond2 k = 1#1 := fun h => by have := (cond2_iff k).1 h; omega
    iintro ⟨HH, HA, HB, HA', HB', HO, HW, ⟨Hc0, Hc1, Hs0, Hs1⟩, ⟨Hq0, Hq1, Hq2, Hq3⟩⟩
    dsimp only [tripG]
    sl_unfold [k0_t1_body]
    sl_exec
    sl_step
    isplitl [HH]; · iexact HH
    isplitl [HA]
    · iexists _; isplitl [HA]; · iexact HA
      ipureintro; sl_kernel_rfl
    isplitl [HB]
    · iexists _; isplitl [HB]; · iexact HB
      ipureintro; sl_kernel_rfl
    isplitl [HA']; · iexists _; iexact HA'
    isplitl [HB']; · iexists _; iexact HB'
    isplitl [HO]
    · iexists _; isplitl [HO]; · iexact HO
      ipureintro; sl_kernel_rfl
    isplitl [HW]; · iexists _; iexact HW
    isplitl [Hc0 Hc1 Hs0 Hs1]
    · isplitl [Hc0]; · iexact Hc0
      isplitl [Hc1]; · iexact Hc1
      isplitl [Hs0]; · iexact Hs0
      iexact Hs1
    isplitl [Hq0]; · iexact Hq0
    isplitl [Hq1]; · iexact Hq1
    isplitl [Hq2]; · iexact Hq2
    iexact Hq3

end Trip

end Cert.GateUpIdeal.GU

end
-- ==== Proof.GU.Prologue.lean ====
/-
  The kernel's body up to its loop: the copies of six blocks issued, the permutation stored, the activations permuted
  chunk by chunk, block 0 waited for and its gate weights transposed.
-/
module

public import proofs.«01_k».proof.Proof.GU.TripC
public import proofs.«01_k».proof.Proof.Gen.GateUpIdeal.Points
public import Idealize.ShloMosaic.Lib.Pipeline.FrameBody

@[expose] public section

set_option maxRecDepth 8192
set_option maxHeartbeats 16000000

noncomputable section

namespace Cert.GateUpIdeal.GU

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline's beside the transfers' counters. -/
local notation "𝕄" => MT nD τ sig Unit (Elt F) ℕ (Pipeline.UD sig nD τ) ℕ

section Body

variable (c : Dev nD) (arg0 : Memref sig .tc .vmem S16x8192 .bf16) (harg0 : arg0.IsWhole) (arg5 : Memref sig .tc .vmem S14x16x256 .bf16) (harg5 : arg5.IsWhole)
  (X1 : Buf (Elt F) (gcM.view.loc (c : Thread nD τ))) (X2 : Buf (Elt F) (gsM.view.loc (c : Thread nD τ)))
  (X3 : Buf (Elt F) (ucM.view.loc (c : Thread nD τ))) (X4 : Buf (Elt F) (usM.view.loc (c : Thread nD τ)))

/-- A block before its copies start: its four slots at any contents, its four cells at zero, its four pieces at home. -/
abbrev fresh (b n0 n1 n2 n3 r q : ℕ)
    (f0 : Buf (Elt F) ((cslot b 0).view.loc (c : Thread nD τ))) (f1 : Buf (Elt F) ((cslot b 1).view.loc (c : Thread nD τ)))
    (g0 : Buf (Elt F) ((sslot b 0).view.loc (c : Thread nD τ))) (g1 : Buf (Elt F) ((sslot b 1).view.loc (c : Thread nD τ))) : sProp 𝕄 :=
  iprop((pt c (cslot b 0) f0 ∗ pt c (cslot b 1) f1 ∗ pt c (sslot b 0) g0 ∗ pt c (sslot b 1) g1)
    ∗ (cel c n0 ∗ cel c n1 ∗ cel c n2 ∗ cel c n3)
    ∗ (hmC c gcM X1 r ∗ hmC c ucM X3 r ∗ hmS c gsM X2 q ∗ hmS c usM X4 q))

/-- The body's program. -/
abbrev bodyG : Prog (TpuEff nD τ sig (Elt F) Λ₀ .tc) PUnit :=
  cc0_layer (F := F) arg0 harg0 gcM (Memref.isWhole_whole _) gsM (Memref.isWhole_whole _) ucM (Memref.isWhole_whole _) usM (Memref.isWhole_whole _) arg5 harg5
    cbM (Memref.isWhole_whole _) sbM (Memref.isWhole_whole _) hvM (Memref.isWhole_whole _) p1M (Memref.isWhole_whole _)
    twaM (Memref.isWhole_whole _) tsaM (Memref.isWhole_whole _) twbM (Memref.isWhole_whole _) tsbM (Memref.isWhole_whole _) cc0_scratch8

/-- The permutation matrix the kernel stores. -/
def p1v : FVec F S256x256 .bf16 :=
  k0_pay1043 (F := F) (iota .tc S256x256 32 [0] iota_S256x256_d0_w32)
    (k0_pay1040 k0_pay1034 (k0_pay1038 (Scalar.select (Scalar.cmpi .eq 64#32 0#32) 1#32 64#32) k0_pay1035 k0_pay1036 k0_pay1037
      (Scalar.cmpi .slt (Scalar.select (Scalar.cmpi .eq 64#32 0#32) 1#32 64#32) 0#32)) (k0_pay1039 (iota .tc S256x256 32 [1] iota_S256x256_d1_w32)))
    (k0_pay1041 (k0_pay1039 (iota .tc S256x256 32 [1] iota_S256x256_d1_w32)))
    (k0_pay1042 (k0_pay1039 (iota .tc S256x256 32 [1] iota_S256x256_d1_w32)))

/-- The permutation as the kernel reads it back. -/
def p1r : FVec F S256x256 .bf16 :=
  p1M.view.readCov (Val := Elt F) [(⟨Rect.unit ![0, 0] S256x256.size inb_S256x256_S256x256_0_0, p1v (F := F)⟩ : View.Piece (Elt F) S256x256 .bf16)] (Rect.unit (s := S256x256) ![0, 0] S256x256.size inb_S256x256_S256x256_0_0).toLoadRect

/-- Chunk `r` of the eight that are permuted together as number `q`. -/
def chunkOf (q : Fin 4) (r : Fin 8) : Fin 32 := ⟨8 * q.val + r.val, by omega⟩

/-- Eight chunks of activations, one under the other, times the permutation. -/
def hgrp (a : Fin 32 → Vec F S16x256 .bf16) (p : Vec F S256x256 .bf16) (q : Fin 4) : FVec F S128x256 .bf16 :=
  k0_pay1044 (a (chunkOf q 0)) (a (chunkOf q 1)) (a (chunkOf q 2)) (a (chunkOf q 3)) (a (chunkOf q 4)) (a (chunkOf q 5)) (a (chunkOf q 6)) (a (chunkOf q 7)) p

theorem h_slices : ∀ r : Fin 8, S128x256.Slices ![16 * r.val, 0] S16x256 := by decide +kernel

/-- Chunk `n` of the permuted activations. -/
def hchunk (a : Fin 32 → Vec F S16x256 .bf16) (p : Vec F S256x256 .bf16) (n : Fin 32) : FVec F S16x256 .bf16 :=
  extractStridedSlice S16x256 ![16 * (⟨n.val % 8, by omega⟩ : Fin 8).val, 0] (hgrp a p ⟨n.val / 8, by omega⟩) (h_slices ⟨n.val % 8, by omega⟩)

/-- The stores of permuted activations, newest first. -/
def hPieces (a : Fin 32 → Vec F S16x256 .bf16) (p : Vec F S256x256 .bf16) (l : List (Fin 32)) : List (View.Piece (Elt F) S16x8192 .bf16) :=
  l.map fun n => ⟨Rect.unit ![0, 256 * n.val] S16x256.size (h_inb n), shapeCast S16x256 (hchunk a p n) shapeCasts_S16x256_S16x256⟩

/-- The 32 chunks, newest first. -/
def hList : List (Fin 32) := [31, 30, 29, 28, 27, 26, 25, 24, 23, 22, 21, 20, 19, 18, 17, 16, 15, 14, 13, 12, 11, 10, 9, 8, 7, 6, 5, 4, 3, 2, 1, 0]

/-- A block on its way: its four copies in flight. -/
abbrev flights (b n0 n1 n2 n3 r q : ℕ)
    (f0 : Buf (Elt F) ((cslot b 0).view.loc (c : Thread nD τ))) (f1 : Buf (Elt F) ((cslot b 1).view.loc (c : Thread nD τ)))
    (g0 : Buf (Elt F) ((sslot b 0).view.loc (c : Thread nD τ))) (g1 : Buf (Elt F) ((sslot b 1).view.loc (c : Thread nD τ))) : sProp 𝕄 :=
  iprop(flC c gcM X1 n0 b r 0 f0 ∗ flC c ucM X3 n1 b r 1 f1 ∗ flS c gsM X2 n2 b q 0 g0 ∗ flS c usM X4 n3 b q 1 g1)

/-- The loop and what follows it. -/
abbrev loopG : Prog (TpuEff nD τ sig (Elt F) Λ₀ .tc) PUnit :=
  Scf.for k0_t1_loop.lb k0_t1_loop.ub k0_t1_loop.st k0_t1_ok PUnit.unit (k0_t1_body (F := F) arg0 harg0 gcM (Memref.isWhole_whole _) gsM (Memref.isWhole_whole _) ucM (Memref.isWhole_whole _) usM (Memref.isWhole_whole _) arg5 harg5
    cbM (Memref.isWhole_whole _) sbM (Memref.isWhole_whole _) hvM (Memref.isWhole_whole _) p1M (Memref.isWhole_whole _)
    twaM (Memref.isWhole_whole _) tsaM (Memref.isWhole_whole _) twbM (Memref.isWhole_whole _) tsbM (Memref.isWhole_whole _) cc0_scratch8) >>= fun _ => Pure.pure PUnit.unit

/-- The state at the loop. -/
abbrev atLoop (X0 : Buf (Elt F) (arg0.view.loc (c : Thread nD τ)))
    (f0 : ∀ b : ℕ, Buf (Elt F) ((cslot b 0).view.loc (c : Thread nD τ))) (f1 : ∀ b : ℕ, Buf (Elt F) ((cslot b 1).view.loc (c : Thread nD τ)))
    (g0 : ∀ b : ℕ, Buf (Elt F) ((sslot b 0).view.loc (c : Thread nD τ))) (g1 : ∀ b : ℕ, Buf (Elt F) ((sslot b 1).view.loc (c : Thread nD τ))) : sProp 𝕄 :=
  iprop(pt c arg0 X0 ∗ (∃ f, pt c hvM f ∗ ⌜f = hvM.view.writes (Elt F) hvM.view.junk (hPieces (hOf arg0.view X0) p1r hList)⌝)
    ∗ (∃ f, pt c p1M f) ∗ (∃ f, pt c twaM f ∗ ⌜f = twaM.view.writes (Elt F) twaM.view.junk (twPieces (cslot 0 0).view (landC c gcM X1 0 0 0))⌝)
    ∗ (∃ f, pt c tsaM f ∗ ⌜f = tsaM.view.writes (Elt F) tsaM.view.junk (tsPieces (sslot 0 0).view (landS c gsM X2 0 0 0))⌝)
    ∗ (∃ W, owes (c : Thread nD τ) 0 W)
    ∗ ((∃ f, pt c (cslot 0 0) f ∗ ⌜f = landC c gcM X1 0 0 0⌝) ∗ (∃ f, pt c (cslot 0 1) f ∗ ⌜f = landC c ucM X3 0 0 1⌝)
      ∗ (∃ f, pt c (sslot 0 0) f ∗ ⌜f = landS c gsM X2 0 0 0⌝) ∗ (∃ f, pt c (sslot 0 1) f ∗ ⌜f = landS c usM X4 0 0 1⌝))
    ∗ (cel c 24 ∗ cel c 30 ∗ cel c 36 ∗ cel c 42)
    ∗ (hmC c gcM X1 0 ∗ hmC c ucM X3 0 ∗ hmS c gsM X2 0 ∗ hmS c usM X4 0)
    ∗ flights c X1 X2 X3 X4 1 25 31 37 43 8192 256 (f0 1) (f1 1) (g0 1) (g1 1)
    ∗ flights c X1 X2 X3 X4 2 26 32 38 44 16384 512 (f0 2) (f1 2) (g0 2) (g1 2)
    ∗ flights c X1 X2 X3 X4 3 27 33 39 45 24576 768 (f0 3) (f1 3) (g0 3) (g1 3)
    ∗ flights c X1 X2 X3 X4 4 28 34 40 46 32768 1024 (f0 4) (f1 4) (g0 4) (g1 4)
    ∗ flights c X1 X2 X3 X4 5 29 35 41 47 40960 1280 (f0 5) (f1 5) (g0 5) (g1 5))

/-- The body up to its loop. -/
theorem prologue (X0 : Buf (Elt F) (arg0.view.loc (c : Thread nD τ)))
    (H : Buf (Elt F) (hvM.view.loc (c : Thread nD τ))) (A : Buf (Elt F) (twaM.view.loc (c : Thread nD τ))) (B : Buf (Elt F) (tsaM.view.loc (c : Thread nD τ)))
    (Pm : Buf (Elt F) (p1M.view.loc (c : Thread nD τ)))
    (W : Waits sig Unit)
    (f0 : ∀ b : ℕ, Buf (Elt F) ((cslot b 0).view.loc (c : Thread nD τ))) (f1 : ∀ b : ℕ, Buf (Elt F) ((cslot b 1).view.loc (c : Thread nD τ)))
    (g0 : ∀ b : ℕ, Buf (Elt F) ((sslot b 0).view.loc (c : Thread nD τ))) (g1 : ∀ b : ℕ, Buf (Elt F) ((sslot b 1).view.loc (c : Thread nD τ)))
    (K : PUnit → sProp 𝕄) :
    iprop(pt c arg0 X0 ∗ pt c hvM H ∗ pt c p1M Pm ∗ pt c twaM A ∗ pt c tsaM B ∗ owes (c : Thread nD τ) 0 W
        ∗ fresh c X1 X2 X3 X4 0 24 30 36 42 0 0 (f0 0) (f1 0) (g0 0) (g1 0)
        ∗ fresh c X1 X2 X3 X4 1 25 31 37 43 8192 256 (f0 1) (f1 1) (g0 1) (g1 1)
        ∗ fresh c X1 X2 X3 X4 2 26 32 38 44 16384 512 (f0 2) (f1 2) (g0 2) (g1 2)
        ∗ fresh c X1 X2 X3 X4 3 27 33 39 45 24576 768 (f0 3) (f1 3) (g0 3) (g1 3)
        ∗ fresh c X1 X2 X3 X4 4 28 34 40 46 32768 1024 (f0 4) (f1 4) (g0 4) (g1 4)
        ∗ fresh c X1 X2 X3 X4 5 29 35 41 47 40960 1280 (f0 5) (f1 5) (g0 5) (g1 5)
        ∗ (atLoop c arg0 X1 X2 X3 X4 X0 f0 f1 g0 g1 -∗ wp frame (wpE (defs₀ (F := F)) Variants.none (c : Thread nD τ) none) Set.univ (loopG arg0 harg0 arg5 harg5) K))
      ⊢ wp frame (wpE (defs₀ (F := F)) Variants.none (c : Thread nD τ) none) Set.univ (bodyG arg0 harg0 arg5 harg5) K := by
    dsimp only [bodyG]
    rw [cc0_layer_eq_skeleton]; unfold cc0_layer_skel
    iintro ⟨H0, HH, HP, HA, HB, HW, ⟨⟨Ha0, Ha1, Ha2, Ha3⟩, ⟨Hp0, Hp1, Hp2, Hp3⟩, ⟨Hi0, Hi1, Hi2, Hi3⟩⟩,
      ⟨⟨Hb0, Hb1, Hb2, Hb3⟩, ⟨Hq0, Hq1, Hq2, Hq3⟩, ⟨Hj0, Hj1, Hj2, Hj3⟩⟩,
      ⟨⟨Hc0, Hc1, Hc2, Hc3⟩, ⟨Hr0, Hr1, Hr2, Hr3⟩, ⟨Hk0, Hk1, Hk2, Hk3⟩⟩,
      ⟨⟨Hd0, Hd1, Hd2, Hd3⟩, ⟨Hs0, Hs1, Hs2, Hs3⟩, ⟨Hl0, Hl1, Hl2, Hl3⟩⟩,
      ⟨⟨He0, He1, He2, He3⟩, ⟨Ht0, Ht1, Ht2, Ht3⟩, ⟨Hm0, Hm1, Hm2, Hm3⟩⟩,
      ⟨⟨Hf0, Hf1, Hf2, Hf3⟩, ⟨Hu0, Hu1, Hu2, Hu3⟩, ⟨Hn0, Hn1, Hn2, Hn3⟩⟩, HK⟩
    sl_exec
    iapply HK
    isplitl [H0]; · iexact H0
    isplitl [HH]
    · iexists _; isplitl [HH]; · iexact HH
      ipureintro; sl_kernel_rfl
    isplitl [HP]; · iexists _; iexact HP
    isplitl [HA]
    · iexists _; isplitl [HA]; · iexact HA
      ipureintro; sl_kernel_rfl
    isplitl [HB]
    · iexists _; isplitl [HB]; · iexact HB
      ipureintro; sl_kernel_rfl
    isplitl [HW]; · iexists _; iexact HW
    isplitl [Ha0 Ha1 Ha2 Ha3]
    · isplitl [Ha0]
      · iexists _; isplitl [Ha0]; · iexact Ha0
        ipureintro; sl_kernel_rfl
      isplitl [Ha1]
      · iexists _; isplitl [Ha1]; · iexact Ha1
        ipureintro; sl_kernel_rfl
      isplitl [Ha2]
      · iexists _; isplitl [Ha2]; · iexact Ha2
        ipureintro; sl_kernel_rfl
      iexists _; isplitl [Ha3]; · iexact Ha3
      ipureintro; sl_kernel_rfl
    isplitl [Hp0 Hp1 Hp2 Hp3]
    · isplitl [Hp0]; · iexact Hp0
      isplitl [Hp1]; · iexact Hp1
      isplitl [Hp2]; · iexact Hp2
      iexact Hp3
    isplitl [Hi0 Hi1 Hi2 Hi3]
    · isplitl [Hi0]; · iexact Hi0
      isplitl [Hi1]; · iexact Hi1
      isplitl [Hi2]; · iexact Hi2
      iexact Hi3
    isplitl [Hq0 Hq1 Hq2 Hq3]
    · isplitl [Hq0]; · iexact Hq0
      isplitl [Hq1]; · iexact Hq1
      isplitl [Hq2]; · iexact Hq2
      iexact Hq3
    isplitl [Hr0 Hr1 Hr2 Hr3]
    · isplitl [Hr0]; · iexact Hr0
      isplitl [Hr1]; · iexact Hr1
      isplitl [Hr2]; · iexact Hr2
      iexact Hr3
    isplitl [Hs0 Hs1 Hs2 Hs3]
    · isplitl [Hs0]; · iexact Hs0
      isplitl [Hs1]; · iexact Hs1
      isplitl [Hs2]; · iexact Hs2
      iexact Hs3
    isplitl [Ht0 Ht1 Ht2 Ht3]
    · isplitl [Ht0]; · iexact Ht0
      isplitl [Ht1]; · iexact Ht1
      isplitl [Ht2]; · iexact Ht2
      iexact Ht3
    isplitl [Hu0]; · iexact Hu0
    isplitl [Hu1]; · iexact Hu1
    isplitl [Hu2]; · iexact Hu2
    iexact Hu3

end Body

end Cert.GateUpIdeal.GU

end
-- ==== Proof.GU.TrVal.lean ====
/-
  The transposed words and scales as plain functions of the block they are made from, and what a trip stores as a plain
  function of the activations and the two blocks.
-/
module

public import proofs.«01_k».proof.Proof.GU.Chunk
public import Idealize.ShloMosaic.Lib.WritesUnit
public import Idealize.ShloMosaic.Lib.VecWindow
public import Idealize.ShloMosaic.Lib.ViewIndex
public import Idealize.ShloMosaic.Lib.ValueIdx
public import Idealize.ShloMosaic.Lib.Pointwise

@[expose] public section

set_option maxRecDepth 8192
set_option maxHeartbeats 4000000

noncomputable section

namespace Cert.GateUpIdeal.GU

open Cert.GateUpIdeal Cert.GateUpIdeal.Gen
open Idealize.ShloMosaic Idealize.ShloMosaic.TcCoe Idealize.ShloMosaic.Tactic

variable {F : FTy → Type} [FloatOps F]

/-- The half of 256 an index lies in, and its place there. -/
def hf (n : Fin 256) : Fin 2 := ⟨n.val / 128, by omega⟩
def lo (n : Fin 256) : Fin 128 := ⟨n.val % 128, by omega⟩

/-- The transposed words of a block of codes. -/
def twV (x : S8192x128.Idx → Elt F .i8) (y : S4x256x256.Idx) : Elt F .i32 :=
  wordsT (F := F) (unitRow (y (0 : Fin 3)) (hf (y (1 : Fin 3))))
    (fun z => x ((Rect.unit (s := S8192x128) ![4096 * (hf (y (2 : Fin 3))).val, 0] S4096x128.size (cw_inb _)).emb z))
    (ix3 (0 : Fin 1) (lo (y (1 : Fin 3))) (lo (y (2 : Fin 3))))

/-- The transposed scales of a block of scales. -/
def tsV (x : S256x256.Idx → Elt F .bf16) (y : S256x256.Idx) : Elt F .f32 :=
  scalesT (F := F)
    (fun z => x ((Rect.unit (s := S256x256) ![128 * (hf (y (1 : Fin 2))).val, 128 * (hf (y (0 : Fin 2))).val] S128x128.size (ts_inb _ _)).emb z))
    (ix2 (lo (y (0 : Fin 2))) (lo (y (1 : Fin 2))))

/-- One store of words. -/
def twPiece (v : View sig .tc .vmem S8192x128 .i8) (f : BufTy.Contents (Elt F) v.ty) (rs : Fin 4) (c t : Fin 2) : View.Piece (Elt F) S4x256x256 .i32 :=
  ⟨Rect.unit ![rs.val, 128 * c.val, 128 * t.val] S1x128x128.size (tw_inb rs c t),
    wordsT (F := F) (unitRow rs c) (v.readAt (Elt F) (Rect.unit (s := S8192x128) ![4096 * t.val, 0] S4096x128.size (cw_inb t)).toLoadRect f)⟩

/-- One store of scales. -/
def tsPiece (v : View sig .tc .vmem S256x256 .bf16) (f : BufTy.Contents (Elt F) v.ty) (c t : Fin 2) : View.Piece (Elt F) S256x256 .f32 :=
  ⟨Rect.unit ![128 * c.val, 128 * t.val] S128x128.size (ts_inb c t),
    scalesT (v.readAt (Elt F) (Rect.unit (s := S256x256) ![128 * t.val, 128 * c.val] S128x128.size (ts_inb t c)).toLoadRect f)⟩

/-- The sixteen stores by their number. -/
def twI (v : View sig .tc .vmem S8192x128 .i8) (f : BufTy.Contents (Elt F) v.ty) (i : Fin 16) : View.Piece (Elt F) S4x256x256 .i32 :=
  twPiece v f ⟨i.val % 4, by omega⟩ ⟨i.val / 8, by omega⟩ ⟨i.val / 4 % 2, by omega⟩
def tsI (v : View sig .tc .vmem S256x256 .bf16) (f : BufTy.Contents (Elt F) v.ty) (i : Fin 4) : View.Piece (Elt F) S256x256 .f32 :=
  tsPiece v f ⟨i.val / 2, by omega⟩ ⟨i.val % 2, by omega⟩

theorem twPieces_eq (v : View sig .tc .vmem S8192x128 .i8) (f : BufTy.Contents (Elt F) v.ty) :
    twPieces v f = [15, 14, 13, 12, 11, 10, 9, 8, 7, 6, 5, 4, 3, 2, 1, 0].map (twI v f) := rfl
theorem tsPieces_eq (v : View sig .tc .vmem S256x256 .bf16) (f : BufTy.Contents (Elt F) v.ty) :
    tsPieces v f = [3, 2, 1, 0].map (tsI v f) := rfl

/-- Inside the store's rectangle the store's value is the transposed word. -/
theorem read_twPiece_mem {v : View sig .tc .vmem S8192x128 .i8} {f : BufTy.Contents (Elt F) v.ty} {x : S8192x128.Idx → Elt F .i8} (hx : ∀ z, v.read (Elt F) f z = x z)
    (w : View sig .tc .vmem S4x256x256 .i32) (g : BufTy.Contents (Elt F) w.ty) (L : List (View.Piece (Elt F) S4x256x256 .i32))
    (rs : Fin 4) (c t : Fin 2) (y : S4x256x256.Idx) (h0 : (y (0 : Fin 3)).val = rs.val) (h1 : (y (1 : Fin 3)).val / 128 = c.val) (h2 : (y (2 : Fin 3)).val / 128 = t.val) :
    w.read (Elt F) (w.writes (Elt F) g (twPiece v f rs c t :: L)) y = twV x y := by
  have e0 : (y (0 : Fin 3) : Fin 4) = rs := Fin.ext h0
  have e1 : hf (y (1 : Fin 3)) = c := Fin.ext h1
  have e2 : hf (y (2 : Fin 3)) = t := Fin.ext h2
  subst e0 e1 e2
  refine (View.read_writes_cons_unit_of_mem w g (tw_inb _ _ _) _ L y (ix3 (0 : Fin 1) (lo (y (1 : Fin 3))) (lo (y (2 : Fin 3)))) rfl ?_).trans ?_
  · intro a; fin_cases a
    · show (y (0 : Fin 3)).val = (y (0 : Fin 3)).val + 0; omega
    · show (y (1 : Fin 3)).val = 128 * ((y (1 : Fin 3)).val / 128) + (y (1 : Fin 3)).val % 128; omega
    · show (y (2 : Fin 3)).val = 128 * ((y (2 : Fin 3)).val / 128) + (y (2 : Fin 3)).val % 128; omega
  · exact congrFun (congrArg (wordsT (F := F) _) (funext fun z => hx _)) _

theorem read_tsPiece_mem {v : View sig .tc .vmem S256x256 .bf16} {f : BufTy.Contents (Elt F) v.ty} {x : S256x256.Idx → Elt F .bf16} (hx : ∀ z, v.read (Elt F) f z = x z)
    (w : View sig .tc .vmem S256x256 .f32) (g : BufTy.Contents (Elt F) w.ty) (L : List (View.Piece (Elt F) S256x256 .f32))
    (c t : Fin 2) (y : S256x256.Idx) (h1 : (y (0 : Fin 2)).val / 128 = c.val) (h2 : (y (1 : Fin 2)).val / 128 = t.val) :
    w.read (Elt F) (w.writes (Elt F) g (tsPiece v f c t :: L)) y = tsV x y := by
  have e1 : hf (y (0 : Fin 2)) = c := Fin.ext h1
  have e2 : hf (y (1 : Fin 2)) = t := Fin.ext h2
  subst e1 e2
  refine (View.read_writes_cons_unit_of_mem w g (ts_inb _ _) _ L y (ix2 (lo (y (0 : Fin 2))) (lo (y (1 : Fin 2)))) rfl ?_).trans ?_
  · intro a; fin_cases a
    · show (y (0 : Fin 2)).val = 128 * ((y (0 : Fin 2)).val / 128) + (y (0 : Fin 2)).val % 128; omega
    · show (y (1 : Fin 2)).val = 128 * ((y (1 : Fin 2)).val / 128) + (y (1 : Fin 2)).val % 128; omega
  · exact congrFun (congrArg (scalesT (F := F)) (funext fun z => hx _)) _

/-- Outside it the store changes nothing. -/
theorem read_twPiece_not {v : View sig .tc .vmem S8192x128 .i8} {f : BufTy.Contents (Elt F) v.ty}
    (w : View sig .tc .vmem S4x256x256 .i32) (g : BufTy.Contents (Elt F) w.ty) (L : List (View.Piece (Elt F) S4x256x256 .i32))
    (rs : Fin 4) (c t : Fin 2) (y : S4x256x256.Idx) (h : (y (0 : Fin 3)).val ≠ rs.val ∨ (y (1 : Fin 3)).val / 128 ≠ c.val ∨ (y (2 : Fin 3)).val / 128 ≠ t.val) :
    w.read (Elt F) (w.writes (Elt F) g (twPiece v f rs c t :: L)) y = w.read (Elt F) (w.writes (Elt F) g L) y := by
  rcases h with h | h | h
  · refine View.read_writes_cons_unit_of_not_mem w g (tw_inb _ _ _) _ L y rfl (0 : Fin 3) ?_
    show (y (0 : Fin 3)).val < rs.val ∨ rs.val + 1 ≤ (y (0 : Fin 3)).val; omega
  · refine View.read_writes_cons_unit_of_not_mem w g (tw_inb _ _ _) _ L y rfl (1 : Fin 3) ?_
    show (y (1 : Fin 3)).val < 128 * c.val ∨ 128 * c.val + 128 ≤ (y (1 : Fin 3)).val; omega
  · refine View.read_writes_cons_unit_of_not_mem w g (tw_inb _ _ _) _ L y rfl (2 : Fin 3) ?_
    show (y (2 : Fin 3)).val < 128 * t.val ∨ 128 * t.val + 128 ≤ (y (2 : Fin 3)).val; omega

theorem read_tsPiece_not {v : View sig .tc .vmem S256x256 .bf16} {f : BufTy.Contents (Elt F) v.ty}
    (w : View sig .tc .vmem S256x256 .f32) (g : BufTy.Contents (Elt F) w.ty) (L : List (View.Piece (Elt F) S256x256 .f32))
    (c t : Fin 2) (y : S256x256.Idx) (h : (y (0 : Fin 2)).val / 128 ≠ c.val ∨ (y (1 : Fin 2)).val / 128 ≠ t.val) :
    w.read (Elt F) (w.writes (Elt F) g (tsPiece v f c t :: L)) y = w.read (Elt F) (w.writes (Elt F) g L) y := by
  rcases h with h | h
  · refine View.read_writes_cons_unit_of_not_mem w g (ts_inb _ _) _ L y rfl (0 : Fin 2) ?_
    show (y (0 : Fin 2)).val < 128 * c.val ∨ 128 * c.val + 128 ≤ (y (0 : Fin 2)).val; omega
  · refine View.read_writes_cons_unit_of_not_mem w g (ts_inb _ _) _ L y rfl (1 : Fin 2) ?_
    show (y (1 : Fin 2)).val < 128 * t.val ∨ 128 * t.val + 128 ≤ (y (1 : Fin 2)).val; omega

/-- After stores among which is the one that covers an index, the index reads as the transposed word. -/
theorem read_twL {v : View sig .tc .vmem S8192x128 .i8} {f : BufTy.Contents (Elt F) v.ty} {x : S8192x128.Idx → Elt F .i8} (hx : ∀ z, v.read (Elt F) f z = x z)
    (w : View sig .tc .vmem S4x256x256 .i32) (g : BufTy.Contents (Elt F) w.ty) (y : S4x256x256.Idx) :
    ∀ l : List (Fin 16), (∃ i ∈ l, (y (0 : Fin 3)).val = i.val % 4 ∧ (y (1 : Fin 3)).val / 128 = i.val / 8 ∧ (y (2 : Fin 3)).val / 128 = i.val / 4 % 2) →
      w.read (Elt F) (w.writes (Elt F) g (l.map (twI v f))) y = twV x y
  | [], h => by obtain ⟨i, hi, _⟩ := h; cases hi
  | i :: l, h => by
    by_cases hi : (y (0 : Fin 3)).val = i.val % 4 ∧ (y (1 : Fin 3)).val / 128 = i.val / 8 ∧ (y (2 : Fin 3)).val / 128 = i.val / 4 % 2
    · exact read_twPiece_mem hx w g (l.map (twI v f)) ⟨i.val % 4, by omega⟩ ⟨i.val / 8, by omega⟩ ⟨i.val / 4 % 2, by omega⟩ y hi.1 hi.2.1 hi.2.2
    · refine (read_twPiece_not w g (l.map (twI v f)) ⟨i.val % 4, by omega⟩ ⟨i.val / 8, by omega⟩ ⟨i.val / 4 % 2, by omega⟩ y ?_).trans (read_twL hx w g y l ?_)
      · simp only [ne_eq]; tauto
      · obtain ⟨j, hj, he⟩ := h
        rcases List.mem_cons.1 hj with rfl | hj
        · exact absurd he hi
        · exact ⟨j, hj, he⟩

theorem read_tsL {v : View sig .tc .vmem S256x256 .bf16} {f : BufTy.Contents (Elt F) v.ty} {x : S256x256.Idx → Elt F .bf16} (hx : ∀ z, v.read (Elt F) f z = x z)
    (w : View sig .tc .vmem S256x256 .f32) (g : BufTy.Contents (Elt F) w.ty) (y : S256x256.Idx) :
    ∀ l : List (Fin 4), (∃ i ∈ l, (y (0 : Fin 2)).val / 128 = i.val / 2 ∧ (y (1 : Fin 2)).val / 128 = i.val % 2) →
      w.read (Elt F) (w.writes (Elt F) g (l.map (tsI v f))) y = tsV x y
  | [], h => by obtain ⟨i, hi, _⟩ := h; cases hi
  | i :: l, h => by
    by_cases hi : (y (0 : Fin 2)).val / 128 = i.val / 2 ∧ (y (1 : Fin 2)).val / 128 = i.val % 2
    · exact read_tsPiece_mem hx w g (l.map (tsI v f)) ⟨i.val / 2, by omega⟩ ⟨i.val % 2, by omega⟩ y hi.1 hi.2
    · refine (read_tsPiece_not w g (l.map (tsI v f)) ⟨i.val / 2, by omega⟩ ⟨i.val % 2, by omega⟩ y ?_).trans (read_tsL hx w g y l ?_)
      · simp only [ne_eq]; tauto
      · obtain ⟨j, hj, he⟩ := h
        rcases List.mem_cons.1 hj with rfl | hj
        · exact absurd he hi
        · exact ⟨j, hj, he⟩

theorem all16 : ∀ i : Fin 16, i ∈ ([15, 14, 13, 12, 11, 10, 9, 8, 7, 6, 5, 4, 3, 2, 1, 0] : List (Fin 16)) := by decide
theorem all4 : ∀ i : Fin 4, i ∈ ([3, 2, 1, 0] : List (Fin 4)) := by decide

/-- After all sixteen stores the scratch holds the block's transposed words. -/
theorem read_tw {v : View sig .tc .vmem S8192x128 .i8} {f : BufTy.Contents (Elt F) v.ty} {x : S8192x128.Idx → Elt F .i8} (hx : ∀ z, v.read (Elt F) f z = x z)
    (w : View sig .tc .vmem S4x256x256 .i32) (g : BufTy.Contents (Elt F) w.ty) (y : S4x256x256.Idx) :
    w.read (Elt F) (w.writes (Elt F) g (twPieces v f)) y = twV x y := by
  have h0 : (y (0 : Fin 3)).val < 4 := (y (0 : Fin 3)).isLt
  have h1 : (y (1 : Fin 3)).val < 256 := (y (1 : Fin 3)).isLt
  have h2 : (y (2 : Fin 3)).val < 256 := (y (2 : Fin 3)).isLt
  rw [twPieces_eq]
  refine read_twL hx w g y _ ⟨⟨(y (1 : Fin 3)).val / 128 * 8 + (y (2 : Fin 3)).val / 128 * 4 + (y (0 : Fin 3)).val, by omega⟩, all16 _, ?_, ?_, ?_⟩
  · show (y (0 : Fin 3)).val = ((y (1 : Fin 3)).val / 128 * 8 + (y (2 : Fin 3)).val / 128 * 4 + (y (0 : Fin 3)).val) % 4; omega
  · show (y (1 : Fin 3)).val / 128 = ((y (1 : Fin 3)).val / 128 * 8 + (y (2 : Fin 3)).val / 128 * 4 + (y (0 : Fin 3)).val) / 8; omega
  · show (y (2 : Fin 3)).val / 128 = ((y (1 : Fin 3)).val / 128 * 8 + (y (2 : Fin 3)).val / 128 * 4 + (y (0 : Fin 3)).val) / 4 % 2; omega

/-- After all four stores the scratch holds the block's transposed scales. -/
theorem read_ts {v : View sig .tc .vmem S256x256 .bf16} {f : BufTy.Contents (Elt F) v.ty} {x : S256x256.Idx → Elt F .bf16} (hx : ∀ z, v.read (Elt F) f z = x z)
    (w : View sig .tc .vmem S256x256 .f32) (g : BufTy.Contents (Elt F) w.ty) (y : S256x256.Idx) :
    w.read (Elt F) (w.writes (Elt F) g (tsPieces v f)) y = tsV x y := by
  have h1 : (y (0 : Fin 2)).val < 256 := (y (0 : Fin 2)).isLt
  have h2 : (y (1 : Fin 2)).val < 256 := (y (1 : Fin 2)).isLt
  rw [tsPieces_eq]
  refine read_tsL hx w g y _ ⟨⟨(y (0 : Fin 2)).val / 128 * 2 + (y (1 : Fin 2)).val / 128, by omega⟩, all4 _, ?_, ?_⟩
  · show (y (0 : Fin 2)).val / 128 = ((y (0 : Fin 2)).val / 128 * 2 + (y (1 : Fin 2)).val / 128) / 2; omega
  · show (y (1 : Fin 2)).val / 128 = ((y (0 : Fin 2)).val / 128 * 2 + (y (1 : Fin 2)).val / 128) % 2; omega

/-! ## What a trip stores -/

/-- The eight words of chunk `n` out of the transposed words. -/
def twP (T : S4x256x256.Idx → Elt F .i32) (rs : Fin 4) (n : Fin 32) (t : Fin 2) : Vec F S1x8x128 .i32 :=
  fun z => T ((Rect.unit (s := S4x256x256) ![rs.val, 8 * n.val, 128 * t.val] S1x8x128.size (lw_inb rs n t)).emb z)
/-- A row of scales out of the transposed scales. -/
def tsP (T : S256x256.Idx → Elt F .f32) (r : Fin 256) (t : Fin 2) : Vec F S1x128 .f32 :=
  fun z => T ((Rect.unit (s := S256x256) ![r.val, 128 * t.val] S1x128.size (ls_inb r t)).emb z)

theorem twOf_eq {v : View sig .tc .vmem S4x256x256 .i32} {X : BufTy.Contents (Elt F) v.ty} {T : S4x256x256.Idx → Elt F .i32} (h : ∀ y, v.read (Elt F) X y = T y) :
    twOf v X = twP T := funext fun rs => funext fun n => funext fun t => funext fun z => h _
theorem tsOf_eq {v : View sig .tc .vmem S256x256 .f32} {X : BufTy.Contents (Elt F) v.ty} {T : S256x256.Idx → Elt F .f32} (h : ∀ y, v.read (Elt F) X y = T y) :
    tsOf v X = tsP T := funext fun r => funext fun t => funext fun z => h _
theorem twCov_eq {w : View sig .tc .vmem S4x256x256 .i32} {v : View sig .tc .vmem S8192x128 .i8} {f : BufTy.Contents (Elt F) v.ty} {x : S8192x128.Idx → Elt F .i8}
    (hx : ∀ z, v.read (Elt F) f z = x z) : twCov w (twPieces v f) = twP (twV x) :=
  funext fun rs => funext fun n => funext fun t => funext fun z => read_tw hx w _ _
theorem tsCov_eq {w : View sig .tc .vmem S256x256 .f32} {v : View sig .tc .vmem S256x256 .bf16} {f : BufTy.Contents (Elt F) v.ty} {x : S256x256.Idx → Elt F .bf16}
    (hx : ∀ z, v.read (Elt F) f z = x z) : tsCov w (tsPieces v f) = tsP (tsV x) :=
  funext fun r => funext fun t => funext fun z => read_ts hx w _ _

/-- The piece of the result a block gives: from the permuted activations, the gate's codes and scales, the up
    projection's codes and scales. -/
def blkOut (Hh : Fin 32 → Vec F S16x256 .bf16) (gc : S8192x128.Idx → Elt F .i8) (gs : S256x256.Idx → Elt F .bf16)
    (uc : S8192x128.Idx → Elt F .i8) (us : S256x256.Idx → Elt F .bf16) : FVec F S1x16x256 .bf16 :=
  swish (acc Hh (twP (twV gc)) (tsP (tsV gs))) (acc Hh (twP (twV uc)) (tsP (tsV us)))

/-- The result at an index, from every block's codes and scales. -/
def gout (Hh : Fin 32 → Vec F S16x256 .bf16) (gc : ℕ → S8192x128.Idx → Elt F .i8) (gs : ℕ → S256x256.Idx → Elt F .bf16)
    (uc : ℕ → S8192x128.Idx → Elt F .i8) (us : ℕ → S256x256.Idx → Elt F .bf16) (y : S14x16x256.Idx) : Elt F .bf16 :=
  blkOut Hh (gc (y (0 : Fin 3)).val) (gs (y (0 : Fin 3)).val) (uc (y (0 : Fin 3)).val) (us (y (0 : Fin 3)).val) (ix3 (0 : Fin 1) (y (1 : Fin 3)) (y (2 : Fin 3)))

/-- After trip `k` the indices up to `k` hold the result, if those below did before. -/
theorem act_read (k : Fin k0_t1_loop.trips) (w : View sig .tc .vmem S14x16x256 .bf16) (O : BufTy.Contents (Elt F) w.ty)
    (H : BufTy.Contents (Elt F) hvM.view.ty) (A : BufTy.Contents (Elt F) twaM.view.ty) (B : BufTy.Contents (Elt F) tsaM.view.ty)
    (f : BufTy.Contents (Elt F) (cslot k.val 1).view.ty) (g : BufTy.Contents (Elt F) (sslot k.val 1).view.ty)
    (Hh : Fin 32 → Vec F S16x256 .bf16) (gc : ℕ → S8192x128.Idx → Elt F .i8) (gs : ℕ → S256x256.Idx → Elt F .bf16)
    (uc : ℕ → S8192x128.Idx → Elt F .i8) (us : ℕ → S256x256.Idx → Elt F .bf16)
    (hH : hOf hvM.view H = Hh) (hA : ∀ y, twaM.view.read (Elt F) A y = twV (gc k.val) y) (hB : ∀ y, tsaM.view.read (Elt F) B y = tsV (gs k.val) y)
    (hf : ∀ z, (cslot k.val 1).view.read (Elt F) f z = uc k.val z) (hg : ∀ z, (sslot k.val 1).view.read (Elt F) g z = us k.val z)
    (hO : ∀ y : S14x16x256.Idx, (y (0 : Fin 3)).val < k.val → w.read (Elt F) O y = gout Hh gc gs uc us y)
    (y : S14x16x256.Idx) (hy : (y (0 : Fin 3)).val < k.val + 1) :
    w.read (Elt F) (w.writes (Elt F) O (actPiece k H A B f g)) y = gout Hh gc gs uc us y := by
  unfold actPiece
  by_cases h : (y (0 : Fin 3)).val = k.val
  · refine (View.read_writes_cons_unit_of_mem w O (k0_off12_inb k) _ [] y (ix3 (0 : Fin 1) (y (1 : Fin 3)) (y (2 : Fin 3))) (k0_off12_eq k) ?_).trans ?_
    · intro a; fin_cases a
      · show (y (0 : Fin 3)).val = k.val + 0; omega
      · show (y (1 : Fin 3)).val = 0 + (y (1 : Fin 3)).val; omega
      · show (y (2 : Fin 3)).val = 0 + (y (2 : Fin 3)).val; omega
    · unfold gout blkOut
      rw [h, hH, twOf_eq hA, tsOf_eq hB, twCov_eq hf, tsCov_eq hg]
  · refine (View.read_writes_cons_unit_of_not_mem w O (k0_off12_inb k) _ [] y (k0_off12_eq k) (0 : Fin 3) ?_).trans (hO y (by omega))
    show (y (0 : Fin 3)).val < k.val ∨ k.val + 1 ≤ (y (0 : Fin 3)).val; omega

end Cert.GateUpIdeal.GU

end
-- ==== Proof.GU.Loop.lean ====
/-
  The loop over the fourteen blocks by its invariant: before trip `k` block `k` has landed in its slots, its gate half
  is transposed, the next five blocks are on their way, every other block is home, and the rows of the result below `k`
  hold their final values.
-/
module

public import proofs.«01_k».proof.Proof.GU.Prologue
public import proofs.«01_k».proof.Proof.GU.TrVal
public import Idealize.ShloMosaic.Lib.Ring

@[expose] public section

set_option maxRecDepth 8192
set_option maxHeartbeats 16000000

noncomputable section

namespace Cert.GateUpIdeal.GU

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline's beside the transfers' counters. -/
local notation "𝕄" => MT nD τ sig Unit (Elt F) ℕ (Pipeline.UD sig nD τ) ℕ

section Loop

variable (c : Dev nD) (arg0 : Memref sig .tc .vmem S16x8192 .bf16) (harg0 : arg0.IsWhole) (arg5 : Memref sig .tc .vmem S14x16x256 .bf16) (harg5 : arg5.IsWhole)
  (X1 : Buf (Elt F) (gcM.view.loc (c : Thread nD τ))) (X2 : Buf (Elt F) (gsM.view.loc (c : Thread nD τ)))
  (X3 : Buf (Elt F) (ucM.view.loc (c : Thread nD τ))) (X4 : Buf (Elt F) (usM.view.loc (c : Thread nD τ)))
  (Hh : Fin 32 → Vec F S16x256 .bf16)

/-- A store over the whole view reads back as stored. -/
theorem read_whole {κ : Kind} {sp : Space} {s : Shape} {e : EltTy} (v : View sig κ sp s e) (f : BufTy.Contents (Elt F) v.ty) (x : s.Idx → Elt F e) (z : s.Idx) :
    v.read (Elt F) (v.writes (Elt F) f [⟨Rect.whole s, x⟩]) z = x z := by
  have h : v.read (Elt F) (v.writes (Elt F) f [⟨Rect.whole s, x⟩]) ((Rect.whole s).emb z) = x z :=
    congrFun (View.read_write_univ (v := v.slice (Rect.whole s)) f x) z
  have e : (Rect.whole s).emb z = z := funext fun a => Fin.ext (by show 0 + 1 * (z a).val = (z a).val; omega)
  rwa [e] at h

/-- The block of codes at row `r` of an array. -/
def rdC (M : Memref sig .tc .hbm S114688x128 .i8) (X : Buf (Elt F) (M.view.loc (c : Thread nD τ))) (r : ℕ) : S8192x128.Idx → Elt F .i8 := (cblk M r).view.read (Elt F) X
/-- The block of scales at row `r` of an array. -/
def rdS (M : Memref sig .tc .hbm S3584x256 .bf16) (X : Buf (Elt F) (M.view.loc (c : Thread nD τ))) (r : ℕ) : S256x256.Idx → Elt F .bf16 := (sblk M r).view.read (Elt F) X

/-- A slot of codes that reads as `x` where `p` holds. -/
def holdC (S : Memref sig .tc .vmem S8192x128 .i8) (p : Prop) (x : S8192x128.Idx → Elt F .i8) : sProp 𝕄 :=
  iprop(∃ f : Buf (Elt F) (S.view.loc (c : Thread nD τ)), pt c S f ∗ ⌜p → ∀ z, S.view.read (Elt F) f z = x z⌝)
/-- A slot of scales that reads as `x` where `p` holds. -/
def holdS (S : Memref sig .tc .vmem S256x256 .bf16) (p : Prop) (x : S256x256.Idx → Elt F .bf16) : sProp 𝕄 :=
  iprop(∃ f : Buf (Elt F) (S.view.loc (c : Thread nD τ)), pt c S f ∗ ⌜p → ∀ z, S.view.read (Elt F) f z = x z⌝)

/-- A copy of the codes at row `r` on its way to the slot `S`. -/
def flyC (M : Memref sig .tc .hbm S114688x128 .i8) (X : Buf (Elt F) (M.view.loc (c : Thread nD τ))) (n : ℕ) (S : Memref sig .tc .vmem S8192x128 .i8) (r : ℕ) : sProp 𝕄 :=
  iprop(∃ f : Buf (Elt F) (S.view.loc (c : Thread nD τ)), Transfers.Flight countersEmb (c : Thread nD τ) (SemLoc.dma (cellN n).sem) () 32768
    iprop(pt c S (S.view.writes (Elt F) f [⟨Rect.whole S8192x128, ReadAs.same.apply ((cblk M r).view.read (Elt F) X)⟩]) ∗ pt c (cblk M r) X))
/-- A copy of the scales at row `r` on its way to the slot `S`. -/
def flyS (M : Memref sig .tc .hbm S3584x256 .bf16) (X : Buf (Elt F) (M.view.loc (c : Thread nD τ))) (n : ℕ) (S : Memref sig .tc .vmem S256x256 .bf16) (r : ℕ) : sProp 𝕄 :=
  iprop(∃ f : Buf (Elt F) (S.view.loc (c : Thread nD τ)), Transfers.Flight countersEmb (c : Thread nD τ) (SemLoc.dma (cellN n).sem) () 4096
    iprop(pt c S (S.view.writes (Elt F) f [⟨Rect.whole S256x256, ReadAs.same.apply ((sblk M r).view.read (Elt F) X)⟩]) ∗ pt c (sblk M r) X))

/-- The four slots of block `s`, holding block `b` where `p` holds, and their cells at zero. -/
def helds (s b : ℕ) (p : Prop) : sProp 𝕄 :=
  iprop((holdC c (cslot s 0) p (rdC c gcM X1 (8192 * b)) ∗ holdC c (cslot s 1) p (rdC c ucM X3 (8192 * b))
      ∗ holdS c (sslot s 0) p (rdS c gsM X2 (256 * b)) ∗ holdS c (sslot s 1) p (rdS c usM X4 (256 * b)))
    ∗ (cel c (24 + s % 6) ∗ cel c (30 + s % 6) ∗ cel c (36 + s % 6) ∗ cel c (42 + s % 6)))
/-- The four copies of block `b` on their way to the slots of block `s`. -/
def flys (s b : ℕ) : sProp 𝕄 :=
  iprop(flyC c gcM X1 (24 + s % 6) (cslot s 0) (8192 * b) ∗ flyC c ucM X3 (30 + s % 6) (cslot s 1) (8192 * b)
    ∗ flyS c gsM X2 (36 + s % 6) (sslot s 0) (256 * b) ∗ flyS c usM X4 (42 + s % 6) (sslot s 1) (256 * b))
/-- Block `n` at home in the four arrays. -/
abbrev homes (n : ℕ) : sProp 𝕄 := iprop(hmC c gcM X1 (8192 * n) ∗ hmC c ucM X3 (8192 * n) ∗ hmS c gsM X2 (256 * n) ∗ hmS c usM X4 (256 * n))

theorem helds_add6 (s b : ℕ) (p : Prop) : helds c X1 X2 X3 X4 (s + 6) b p = helds c X1 X2 X3 X4 s b p := by
  unfold helds; rw [cslot_add6, cslot_add6, sslot_add6, sslot_add6, Nat.add_mod_right]
theorem flys_add6 (s b : ℕ) : flys c X1 X2 X3 X4 (s + 6) b = flys c X1 X2 X3 X4 s b := by
  unfold flys; rw [cslot_add6, cslot_add6, sslot_add6, sslot_add6, Nat.add_mod_right]

/-- Block `b` to come: its copies on their way, or, past the last block, its slots free. -/
def coming (b : ℕ) : sProp 𝕄 := if b < 14 then flys c X1 X2 X3 X4 b b else helds c X1 X2 X3 X4 b b False
theorem coming_lt {b : ℕ} (h : b < 14) : coming c X1 X2 X3 X4 b = flys c X1 X2 X3 X4 b b := if_pos h
theorem coming_ge {b : ℕ} (h : ¬ b < 14) : coming c X1 X2 X3 X4 b = helds c X1 X2 X3 X4 b b False := if_neg h

/-- The blocks at home before trip `k`. -/
def HS (k : ℕ) : sProp 𝕄 := bigSep (Ring.homeSet (NB := 14) 5 (k + 1)) fun b => homes c X1 X2 X3 X4 b.val

theorem HS_out (k : ℕ) (h : k + 6 < 14) : HS c X1 X2 X3 X4 k = iprop(homes c X1 X2 X3 X4 (k + 6)
    ∗ bigSep ((Ring.homeSet (NB := 14) 5 (k + 1)).erase (Ring.bk 14 (k + 6))) fun b => homes c X1 X2 X3 X4 b.val) := by
  unfold HS
  conv_lhs => rw [Ring.homeSet_out 5 (k + 1) (by omega), bigSep_insert (Ring.bkL_not_mem_erase 5 (k + 1))]
  have e : (Ring.bk 14 (k + 1 + 5)).val = k + 6 := Ring.bk_val (by omega)
  rw [e]; rfl
theorem HS_in (k : ℕ) (h : k + 6 < 14) : HS c X1 X2 X3 X4 (k + 1) = iprop(homes c X1 X2 X3 X4 (k + 1)
    ∗ bigSep ((Ring.homeSet (NB := 14) 5 (k + 1)).erase (Ring.bk 14 (k + 6))) fun b => homes c X1 X2 X3 X4 b.val) := by
  unfold HS
  conv_lhs => rw [Ring.homeSet_succ 5 (k + 1) (by omega), bigSep_insert (Ring.bk_not_mem_erase 5 (k + 1) (by omega) (by decide))]
  have e : (Ring.bk 14 (k + 1)).val = k + 1 := Ring.bk_val (by omega)
  rw [e]; rfl
theorem HS_tail (k : ℕ) (h : ¬ k + 6 < 14) (h1 : k + 1 < 14) : HS c X1 X2 X3 X4 (k + 1) = iprop(homes c X1 X2 X3 X4 (k + 1) ∗ HS c X1 X2 X3 X4 k) := by
  unfold HS
  conv_lhs => rw [Ring.homeSet_succ_tail 5 (k + 1) (by omega) h1, bigSep_insert (Ring.bk_not_mem_homeSet 5 (k + 1) h1 (by decide))]
  have e : (Ring.bk 14 (k + 1)).val = k + 1 := Ring.bk_val (by omega)
  rw [e]; rfl
theorem HS_end (k : ℕ) (h : 14 ≤ k + 1) : HS c X1 X2 X3 X4 k = bigSep Finset.univ fun b : Fin 14 => homes c X1 X2 X3 X4 b.val := by
  unfold HS; rw [Ring.homeSet_last 5 (k + 1) h]

/-- Slots that hold a block. -/
theorem helds_intro (s b : ℕ) (p : Prop)
    (f0 : Buf (Elt F) ((cslot s 0).view.loc (c : Thread nD τ))) (f1 : Buf (Elt F) ((cslot s 1).view.loc (c : Thread nD τ)))
    (g0 : Buf (Elt F) ((sslot s 0).view.loc (c : Thread nD τ))) (g1 : Buf (Elt F) ((sslot s 1).view.loc (c : Thread nD τ)))
    (h0 : p → ∀ z, (cslot s 0).view.read (Elt F) f0 z = rdC c gcM X1 (8192 * b) z) (h1 : p → ∀ z, (cslot s 1).view.read (Elt F) f1 z = rdC c ucM X3 (8192 * b) z)
    (h2 : p → ∀ z, (sslot s 0).view.read (Elt F) g0 z = rdS c gsM X2 (256 * b) z) (h3 : p → ∀ z, (sslot s 1).view.read (Elt F) g1 z = rdS c usM X4 (256 * b) z) :
    iprop((pt c (cslot s 0) f0 ∗ pt c (cslot s 1) f1 ∗ pt c (sslot s 0) g0 ∗ pt c (sslot s 1) g1)
      ∗ (cel c (24 + s % 6) ∗ cel c (30 + s % 6) ∗ cel c (36 + s % 6) ∗ cel c (42 + s % 6))) ⊢ helds c X1 X2 X3 X4 s b p := by
  unfold helds holdC holdS
  iintro ⟨⟨H0, H1, H2, H3⟩, HC⟩
  isplitl [H0 H1 H2 H3]
  · isplitl [H0]
    · iexists f0; isplitl [H0]; · iexact H0
      ipureintro; exact h0
    isplitl [H1]
    · iexists f1; isplitl [H1]; · iexact H1
      ipureintro; exact h1
    isplitl [H2]
    · iexists g0; isplitl [H2]; · iexact H2
      ipureintro; exact h2
    iexists g1; isplitl [H3]; · iexact H3
    ipureintro; exact h3
  iexact HC

/-- Slots in which a block landed. -/
theorem helds_land (b : ℕ)
    (f0 : Buf (Elt F) ((cslot b 0).view.loc (c : Thread nD τ))) (f1 : Buf (Elt F) ((cslot b 1).view.loc (c : Thread nD τ)))
    (g0 : Buf (Elt F) ((sslot b 0).view.loc (c : Thread nD τ))) (g1 : Buf (Elt F) ((sslot b 1).view.loc (c : Thread nD τ))) (p : Prop) :
    iprop((ldC c gcM X1 b (8192 * b) 0 f0 ∗ ldC c ucM X3 b (8192 * b) 1 f1 ∗ ldS c gsM X2 b (256 * b) 0 g0 ∗ ldS c usM X4 b (256 * b) 1 g1)
      ∗ (cel c (24 + b % 6) ∗ cel c (30 + b % 6) ∗ cel c (36 + b % 6) ∗ cel c (42 + b % 6))) ⊢ helds c X1 X2 X3 X4 b b p :=
  helds_intro c X1 X2 X3 X4 b b p _ _ _ _ (fun _ z => read_whole _ _ _ z) (fun _ z => read_whole _ _ _ z) (fun _ z => read_whole _ _ _ z) (fun _ z => read_whole _ _ _ z)

/-- Copies on their way. -/
theorem flys_intro (s b : ℕ)
    (f0 : Buf (Elt F) ((cslot s 0).view.loc (c : Thread nD τ))) (f1 : Buf (Elt F) ((cslot s 1).view.loc (c : Thread nD τ)))
    (g0 : Buf (Elt F) ((sslot s 0).view.loc (c : Thread nD τ))) (g1 : Buf (Elt F) ((sslot s 1).view.loc (c : Thread nD τ))) :
    iprop(flC c gcM X1 (24 + s % 6) s (8192 * b) 0 f0 ∗ flC c ucM X3 (30 + s % 6) s (8192 * b) 1 f1
      ∗ flS c gsM X2 (36 + s % 6) s (256 * b) 0 g0 ∗ flS c usM X4 (42 + s % 6) s (256 * b) 1 g1) ⊢ flys c X1 X2 X3 X4 s b := by
  unfold flys flyC flyS
  iintro ⟨H0, H1, H2, H3⟩
  isplitl [H0]; · iexists f0; iexact H0
  isplitl [H1]; · iexists f1; iexact H1
  isplitl [H2]; · iexists g0; iexact H2
  iexists g1; iexact H3

/-- What is known of the slots may be forgotten. -/
theorem helds_mono (s b : ℕ) {p q : Prop} (h : q → p) : helds c X1 X2 X3 X4 s b p ⊢ helds c X1 X2 X3 X4 s b q := by
  conv => lhs; unfold helds holdC holdS
  iintro ⟨⟨⟨%f0, H0, %h0⟩, ⟨%f1, H1, %h1⟩, ⟨%g0, H2, %h2⟩, ⟨%g1, H3, %h3⟩⟩, HC⟩
  iapply (helds_intro c X1 X2 X3 X4 s b q f0 f1 g0 g1 (fun x => h0 (h x)) (fun x => h1 (h x)) (fun x => h2 (h x)) (fun x => h3 (h x)))
  isplitl [H0 H1 H2 H3]
  · isplitl [H0]; · iexact H0
    isplitl [H1]; · iexact H1
    isplitl [H2]; · iexact H2
    iexact H3
  iexact HC

/-- The result at an index. -/
abbrev gval (y : S14x16x256.Idx) : Elt F .bf16 :=
  gout Hh (fun b => rdC c gcM X1 (8192 * b)) (fun b => rdS c gsM X2 (256 * b)) (fun b => rdC c ucM X3 (8192 * b)) (fun b => rdS c usM X4 (256 * b)) y

/-- What the loop keeps in the kernel's buffers before trip `k`. -/
def work (k : ℕ) : sProp 𝕄 :=
  iprop((∃ f, pt c hvM f ∗ ⌜hOf hvM.view f = Hh⌝)
    ∗ (∃ f, pt c twaM f ∗ ⌜∀ y, twaM.view.read (Elt F) f y = twV (rdC c gcM X1 (8192 * min k 13)) y⌝)
    ∗ (∃ f, pt c tsaM f ∗ ⌜∀ y, tsaM.view.read (Elt F) f y = tsV (rdS c gsM X2 (256 * min k 13)) y⌝)
    ∗ (∃ f, pt c twbM f) ∗ (∃ f, pt c tsbM f)
    ∗ (∃ f, pt c arg5 f ∗ ⌜∀ y : S14x16x256.Idx, (y (0 : Fin 3)).val < k → arg5.view.read (Elt F) f y = gval c X1 X2 X3 X4 Hh y⌝)
    ∗ (∃ W, owes (c : Thread nD τ) 0 W))

/-- THE INVARIANT before trip `k`. -/
def inv (k : ℕ) : sProp 𝕄 :=
  iprop(work c arg5 X1 X2 X3 X4 Hh k ∗ helds c X1 X2 X3 X4 k k (k < 14) ∗ coming c X1 X2 X3 X4 (k + 1) ∗ coming c X1 X2 X3 X4 (k + 2) ∗ coming c X1 X2 X3 X4 (k + 3)
    ∗ coming c X1 X2 X3 X4 (k + 4) ∗ coming c X1 X2 X3 X4 (k + 5) ∗ HS c X1 X2 X3 X4 k)

/-- A trip of the steady state. -/
theorem stepA (k : Fin k0_t1_loop.trips) (h6 : k.val + 6 < 14) :
    inv c arg5 X1 X2 X3 X4 Hh k.val ⊢ wp frame (wpE (defs₀ (F := F)) Variants.none (c : Thread nD τ) none) Set.univ (tripG arg0 harg0 arg5 harg5 k)
      fun _ => inv c arg5 X1 X2 X3 X4 Hh (k.val + 1) := by
  have hk1 : k.val + 1 < 14 := by omega
  have hk : k.val < 14 := by omega
  have hmin : min k.val 13 = k.val := by omega
  conv => lhs; rw [inv, coming_lt c X1 X2 X3 X4 hk1, HS_out c X1 X2 X3 X4 k.val h6]; unfold work helds holdC holdS flys flyC flyS
  iintro ⟨⟨⟨%H, HH, %hH⟩, ⟨%A, HA, %hA⟩, ⟨%B, HB, %hB⟩, ⟨%A', HA'⟩, ⟨%B', HB'⟩, ⟨%O, HO, %hO⟩, ⟨%W, HW⟩⟩, ⟨⟨⟨%f0, Hc0, %h0⟩, ⟨%f1, Hc1, %h1⟩, ⟨%g0, Hs0, %h2⟩, ⟨%g1, Hs1, %h3⟩⟩, HQ⟩, ⟨⟨%n0, HF0⟩, ⟨%n1, HF1⟩, ⟨%m0, HF2⟩, ⟨%m1, HF3⟩⟩, Hcm2, Hcm3, Hcm4, Hcm5, ⟨⟨Hh0, Hh1, Hh2, Hh3⟩, HS⟩⟩
  have rA := hA; rw [hmin] at rA
  have rB := hB; rw [hmin] at rB
  have rO := act_read k arg5.view O H A B f1 g1 Hh (fun b => rdC c gcM X1 (8192 * b)) (fun b => rdS c gsM X2 (256 * b)) (fun b => rdC c ucM X3 (8192 * b)) (fun b => rdS c usM X4 (256 * b))
    hH rA rB (h1 hk) (h3 hk) hO
  iapply (wp_wand_r Idealize.ShloMosaic.frame (wpE (defs₀ (F := F)) Variants.none (c : Thread nD τ) none) Set.univ)
  isplitl [HH HA HB HA' HB' HO HW Hc0 Hc1 Hs0 Hs1 HQ HF0 HF1 HF2 HF3 Hh0 Hh1 Hh2 Hh3 ]
  · iapply (tripA c arg0 harg0 arg5 harg5 X1 X2 X3 X4 k h6 H A B A' B' O W f0 f1 g0 g1 n0 n1 m0 m1)
    isplitl [HH]; · iexact HH
    isplitl [HA]; · iexact HA
    isplitl [HB]; · iexact HB
    isplitl [HA']; · iexact HA'
    isplitl [HB']; · iexact HB'
    isplitl [HO]; · iexact HO
    isplitl [HW]; · iexact HW
    isplitl [Hc0 Hc1 Hs0 Hs1]
    · isplitl [Hc0]; · iexact Hc0
      isplitl [Hc1]; · iexact Hc1
      isplitl [Hs0]; · iexact Hs0
      iexact Hs1
    isplitl [HQ]; · iexact HQ
    isplitl [HF0 HF1 HF2 HF3]
    · isplitl [HF0]; · iexact HF0
      isplitl [HF1]; · iexact HF1
      isplitl [HF2]; · iexact HF2
      iexact HF3
    isplitl [Hh0]; · iexact Hh0
    isplitl [Hh1]; · iexact Hh1
    isplitl [Hh2]; · iexact Hh2
    iexact Hh3
  · iintro %_ ⟨HH, ⟨%A2, HA, %eA⟩, ⟨%B2, HB, %eB⟩, ⟨%A3, HA'⟩, ⟨%B3, HB'⟩, ⟨%O2, HO, %eO⟩, ⟨%W2, HW⟩, HL, HQ, HM, HN⟩
    subst eA eB eO
    have hmin1 : min (k.val + 1) 13 = k.val + 1 := by omega
    unfold inv work
    isplitl [HH HA HB HA' HB' HO HW]
    · isplitl [HH]
      · iexists H; isplitl [HH]; · iexact HH
        ipureintro; exact hH
      isplitl [HA]
      · iexists _; isplitl [HA]; · iexact HA
        ipureintro; intro y; rw [hmin1]; exact read_tw (fun z => read_whole _ _ _ z) _ _ y
      isplitl [HB]
      · iexists _; isplitl [HB]; · iexact HB
        ipureintro; intro y; rw [hmin1]; exact read_ts (fun z => read_whole _ _ _ z) _ _ y
      isplitl [HA']; · iexists _; iexact HA'
      isplitl [HB']; · iexists _; iexact HB'
      isplitl [HO]
      · iexists _; isplitl [HO]; · iexact HO
        ipureintro; exact rO
      iexists _; iexact HW
    isplitl [HL HQ]
    · iapply (helds_land c X1 X2 X3 X4 (k.val + 1) _ _ _ _ (k.val + 1 < 14))
      isplitl [HL]; · iexact HL
      iexact HQ
    isplitl [Hcm2]; · iexact Hcm2
    isplitl [Hcm3]; · iexact Hcm3
    isplitl [Hcm4]; · iexact Hcm4
    isplitl [Hcm5]; · iexact Hcm5
    isplitl [HN]
    · rw [show k.val + 1 + 5 = k.val + 6 from rfl, coming_lt c X1 X2 X3 X4 h6, flys_add6]
      iapply (flys_intro c X1 X2 X3 X4 k.val (k.val + 6) f0 f1 g0 g1)
      iexact HN
    rw [HS_in c X1 X2 X3 X4 k.val h6]
    isplitl [HM]; · iexact HM
    iexact HS

/-- A trip once the last block is on its way. -/
theorem stepB (k : Fin k0_t1_loop.trips) (h6 : ¬ k.val + 6 < 14) (hk1 : k.val + 1 < 14) :
    inv c arg5 X1 X2 X3 X4 Hh k.val ⊢ wp frame (wpE (defs₀ (F := F)) Variants.none (c : Thread nD τ) none) Set.univ (tripG arg0 harg0 arg5 harg5 k)
      fun _ => inv c arg5 X1 X2 X3 X4 Hh (k.val + 1) := by
  have hk : k.val < 14 := by omega
  have hmin : min k.val 13 = k.val := by omega
  conv => lhs; rw [inv, coming_lt c X1 X2 X3 X4 hk1]; unfold work helds holdC holdS flys flyC flyS
  iintro ⟨⟨⟨%H, HH, %hH⟩, ⟨%A, HA, %hA⟩, ⟨%B, HB, %hB⟩, ⟨%A', HA'⟩, ⟨%B', HB'⟩, ⟨%O, HO, %hO⟩, ⟨%W, HW⟩⟩, ⟨⟨⟨%f0, Hc0, %h0⟩, ⟨%f1, Hc1, %h1⟩, ⟨%g0, Hs0, %h2⟩, ⟨%g1, Hs1, %h3⟩⟩, HQ⟩, ⟨⟨%n0, HF0⟩, ⟨%n1, HF1⟩, ⟨%m0, HF2⟩, ⟨%m1, HF3⟩⟩, Hcm2, Hcm3, Hcm4, Hcm5, HS⟩
  have rA := hA; rw [hmin] at rA
  have rB := hB; rw [hmin] at rB
  have rO := act_read k arg5.view O H A B f1 g1 Hh (fun b => rdC c gcM X1 (8192 * b)) (fun b => rdS c gsM X2 (256 * b)) (fun b => rdC c ucM X3 (8192 * b)) (fun b => rdS c usM X4 (256 * b))
    hH rA rB (h1 hk) (h3 hk) hO
  iapply (wp_wand_r Idealize.ShloMosaic.frame (wpE (defs₀ (F := F)) Variants.none (c : Thread nD τ) none) Set.univ)
  isplitl [HH HA HB HA' HB' HO HW Hc0 Hc1 Hs0 Hs1 HQ HF0 HF1 HF2 HF3 ]
  · iapply (tripB c arg0 harg0 arg5 harg5 X1 X2 X3 X4 k h6 hk1 H A B A' B' O W f0 f1 g0 g1 n0 n1 m0 m1)
    isplitl [HH]; · iexact HH
    isplitl [HA]; · iexact HA
    isplitl [HB]; · iexact HB
    isplitl [HA']; · iexact HA'
    isplitl [HB']; · iexact HB'
    isplitl [HO]; · iexact HO
    isplitl [HW]; · iexact HW
    isplitl [Hc0 Hc1 Hs0 Hs1]
    · isplitl [Hc0]; · iexact Hc0
      isplitl [Hc1]; · iexact Hc1
      isplitl [Hs0]; · iexact Hs0
      iexact Hs1
    isplitl [HQ]; · iexact HQ
    isplitl [HF0]; · iexact HF0
    isplitl [HF1]; · iexact HF1
    isplitl [HF2]; · iexact HF2
    iexact HF3
  · iintro %_ ⟨HH, ⟨%A2, HA, %eA⟩, ⟨%B2, HB, %eB⟩, ⟨%A3, HA'⟩, ⟨%B3, HB'⟩, ⟨%O2, HO, %eO⟩, ⟨%W2, HW⟩, HL, HQ, HM, HN, HQ'⟩
    subst eA eB eO
    have hmin1 : min (k.val + 1) 13 = k.val + 1 := by omega
    unfold inv work
    isplitl [HH HA HB HA' HB' HO HW]
    · isplitl [HH]
      · iexists H; isplitl [HH]; · iexact HH
        ipureintro; exact hH
      isplitl [HA]
      · iexists _; isplitl [HA]; · iexact HA
        ipureintro; intro y; rw [hmin1]; exact read_tw (fun z => read_whole _ _ _ z) _ _ y
      isplitl [HB]
      · iexists _; isplitl [HB]; · iexact HB
        ipureintro; intro y; rw [hmin1]; exact read_ts (fun z => read_whole _ _ _ z) _ _ y
      isplitl [HA']; · iexists _; iexact HA'
      isplitl [HB']; · iexists _; iexact HB'
      isplitl [HO]
      · iexists _; isplitl [HO]; · iexact HO
        ipureintro; exact rO
      iexists _; iexact HW
    isplitl [HL HQ]
    · iapply (helds_land c X1 X2 X3 X4 (k.val + 1) _ _ _ _ (k.val + 1 < 14))
      isplitl [HL]; · iexact HL
      iexact HQ
    isplitl [Hcm2]; · iexact Hcm2
    isplitl [Hcm3]; · iexact Hcm3
    isplitl [Hcm4]; · iexact Hcm4
    isplitl [Hcm5]; · iexact Hcm5
    isplitl [HN HQ']
    · rw [show k.val + 1 + 5 = k.val + 6 from rfl, coming_ge c X1 X2 X3 X4 (b := k.val + 6) (by omega), helds_add6]
      iapply (helds_intro c X1 X2 X3 X4 k.val (k.val + 6) False f0 f1 g0 g1 False.elim False.elim False.elim False.elim)
      isplitl [HN]; · iexact HN
      iexact HQ'
    rw [HS_tail c X1 X2 X3 X4 k.val h6 hk1]
    isplitl [HM]; · iexact HM
    iexact HS

/-- The last trip. -/
theorem stepC (k : Fin k0_t1_loop.trips) (hk1 : k.val + 1 = 14) :
    inv c arg5 X1 X2 X3 X4 Hh k.val ⊢ wp frame (wpE (defs₀ (F := F)) Variants.none (c : Thread nD τ) none) Set.univ (tripG arg0 harg0 arg5 harg5 k)
      fun _ => inv c arg5 X1 X2 X3 X4 Hh (k.val + 1) := by
  have hk : k.val < 14 := by omega
  have hmin : min k.val 13 = k.val := by omega
  conv => lhs; rw [inv]; unfold work helds holdC holdS
  iintro ⟨⟨⟨%H, HH, %hH⟩, ⟨%A, HA, %hA⟩, ⟨%B, HB, %hB⟩, ⟨%A', HA'⟩, ⟨%B', HB'⟩, ⟨%O, HO, %hO⟩, ⟨%W, HW⟩⟩, ⟨⟨⟨%f0, Hc0, %h0⟩, ⟨%f1, Hc1, %h1⟩, ⟨%g0, Hs0, %h2⟩, ⟨%g1, Hs1, %h3⟩⟩, HQ⟩, Hcm1, Hcm2, Hcm3, Hcm4, Hcm5, HS⟩
  have rA := hA; rw [hmin] at rA
  have rB := hB; rw [hmin] at rB
  have rO := act_read k arg5.view O H A B f1 g1 Hh (fun b => rdC c gcM X1 (8192 * b)) (fun b => rdS c gsM X2 (256 * b)) (fun b => rdC c ucM X3 (8192 * b)) (fun b => rdS c usM X4 (256 * b))
    hH rA rB (h1 hk) (h3 hk) hO
  iapply (wp_wand_r Idealize.ShloMosaic.frame (wpE (defs₀ (F := F)) Variants.none (c : Thread nD τ) none) Set.univ)
  isplitl [HH HA HB HA' HB' HO HW Hc0 Hc1 Hs0 Hs1 HQ ]
  · iapply (tripC c arg0 harg0 arg5 harg5 k hk1 H A B A' B' O W f0 f1 g0 g1)
    isplitl [HH]; · iexact HH
    isplitl [HA]; · iexact HA
    isplitl [HB]; · iexact HB
    isplitl [HA']; · iexact HA'
    isplitl [HB']; · iexact HB'
    isplitl [HO]; · iexact HO
    isplitl [HW]; · iexact HW
    isplitl [Hc0 Hc1 Hs0 Hs1]
    · isplitl [Hc0]; · iexact Hc0
      isplitl [Hc1]; · iexact Hc1
      isplitl [Hs0]; · iexact Hs0
      iexact Hs1
    iexact HQ
  · iintro %_ ⟨HH, ⟨%A2, HA, %eA⟩, ⟨%B2, HB, %eB⟩, ⟨%A3, HA'⟩, ⟨%B3, HB'⟩, ⟨%O2, HO, %eO⟩, ⟨%W2, HW⟩, HN, HQ'⟩
    subst eA eB eO
    have hmin1 : min (k.val + 1) 13 = k.val := by omega
    unfold inv work
    isplitl [HH HA HB HA' HB' HO HW]
    · isplitl [HH]
      · iexists H; isplitl [HH]; · iexact HH
        ipureintro; exact hH
      isplitl [HA]
      · iexists _; isplitl [HA]; · iexact HA
        ipureintro; intro y; rw [hmin1]; exact read_tw (h0 hk) _ _ y
      isplitl [HB]
      · iexists _; isplitl [HB]; · iexact HB
        ipureintro; intro y; rw [hmin1]; exact read_ts (h2 hk) _ _ y
      isplitl [HA']; · iexists _; iexact HA'
      isplitl [HB']; · iexists _; iexact HB'
      isplitl [HO]
      · iexists _; isplitl [HO]; · iexact HO
        ipureintro; exact rO
      iexists _; iexact HW
    isplitl [Hcm1]
    · iapply (helds_mono c X1 X2 X3 X4 (k.val + 1) (k.val + 1) (p := False) (q := k.val + 1 < 14) (fun h => by omega))
      rw [coming_ge c X1 X2 X3 X4 (b := k.val + 1) (by omega)]
      first | iexact Hcm1 | exact .rfl
    isplitl [Hcm2]; · iexact Hcm2
    isplitl [Hcm3]; · iexact Hcm3
    isplitl [Hcm4]; · iexact Hcm4
    isplitl [Hcm5]; · iexact Hcm5
    isplitl [HN HQ']
    · rw [show k.val + 1 + 5 = k.val + 6 from rfl, coming_ge c X1 X2 X3 X4 (b := k.val + 6) (by omega), helds_add6]
      iapply (helds_intro c X1 X2 X3 X4 k.val (k.val + 6) False f0 f1 g0 g1 False.elim False.elim False.elim False.elim)
      isplitl [HN]; · iexact HN
      iexact HQ'
    rw [HS_end c X1 X2 X3 X4 (k.val + 1) (by omega), HS_end c X1 X2 X3 X4 k.val (by omega)]
    first | iexact HS | exact .rfl

/-- One trip, whichever. -/
theorem step (k : Fin k0_t1_loop.trips) :
    inv c arg5 X1 X2 X3 X4 Hh k.val ⊢ wp frame (wpE (defs₀ (F := F)) Variants.none (c : Thread nD τ) none) Set.univ (tripG arg0 harg0 arg5 harg5 k)
      fun _ => inv c arg5 X1 X2 X3 X4 Hh (k.val + 1) := by
  have hk : k.val < 14 := lt_of_lt_of_eq k.isLt trips_eq
  by_cases h6 : k.val + 6 < 14
  · exact stepA c arg0 harg0 arg5 harg5 X1 X2 X3 X4 Hh k h6
  by_cases h1 : k.val + 1 < 14
  · exact stepB c arg0 harg0 arg5 harg5 X1 X2 X3 X4 Hh k h6 h1
  exact stepC c arg0 harg0 arg5 harg5 X1 X2 X3 X4 Hh k (by omega)

set_option maxRecDepth 65536 in
/-- The body of the loop at its buffers. -/
theorem step_body (k : Fin k0_t1_loop.trips) (acc : PUnit) :
    inv c arg5 X1 X2 X3 X4 Hh k.val ⊢ wp frame (wpE (defs₀ (F := F)) Variants.none (c : Thread nD τ) none) Set.univ
      (k0_t1_body (F := F) arg0 harg0 gcM (Memref.isWhole_whole _) gsM (Memref.isWhole_whole _) ucM (Memref.isWhole_whole _) usM (Memref.isWhole_whole _) arg5 harg5
        cbM (Memref.isWhole_whole _) sbM (Memref.isWhole_whole _) hvM (Memref.isWhole_whole _) p1M (Memref.isWhole_whole _)
        twaM (Memref.isWhole_whole _) tsaM (Memref.isWhole_whole _) twbM (Memref.isWhole_whole _) tsbM (Memref.isWhole_whole _) cc0_scratch8 k acc)
      fun _ => inv c arg5 X1 X2 X3 X4 Hh (k.val + 1) := by
  cases acc
  exact step c arg0 harg0 arg5 harg5 X1 X2 X3 X4 Hh k

set_option maxRecDepth 65536 in
/-- THE LOOP and the return after it: from the invariant before the first trip, the invariant after the last. -/
theorem loop_run (K : PUnit → sProp 𝕄) :
    iprop(inv c arg5 X1 X2 X3 X4 Hh 0 ∗ (inv c arg5 X1 X2 X3 X4 Hh 14 -∗ K ⟨⟩))
      ⊢ wp frame (wpE (defs₀ (F := F)) Variants.none (c : Thread nD τ) none) Set.univ (loopG arg0 harg0 arg5 harg5) K := by
  iintro ⟨HI, HK⟩
  iapply (Scf.wp_for_bind frame (wpE (defs₀ (F := F)) Variants.none (c : Thread nD τ) none) Set.univ k0_t1_loop.lb k0_t1_loop.ub k0_t1_loop.st k0_t1_ok PUnit.unit
    (k0_t1_body (F := F) arg0 harg0 gcM (Memref.isWhole_whole _) gsM (Memref.isWhole_whole _) ucM (Memref.isWhole_whole _) usM (Memref.isWhole_whole _) arg5 harg5
    cbM (Memref.isWhole_whole _) sbM (Memref.isWhole_whole _) hvM (Memref.isWhole_whole _) p1M (Memref.isWhole_whole _)
    twaM (Memref.isWhole_whole _) tsaM (Memref.isWhole_whole _) twbM (Memref.isWhole_whole _) tsbM (Memref.isWhole_whole _) cc0_scratch8)
    (fun k _ => inv c arg5 X1 X2 X3 X4 Hh k) (step_body c arg0 harg0 arg5 harg5 X1 X2 X3 X4 Hh)) $$ [HI]
  · iexact HI
  iintro %acc HI
  have e : Scf.trips k0_t1_loop.lb k0_t1_loop.ub k0_t1_loop.st = 14 := trips_eq
  rw [e]
  sl_step
  iapply HK
  iexact HI

end Loop

end Cert.GateUpIdeal.GU

end
-- ==== Proof.GU.Body.lean ====
/-
  The kernel's body run once: from its buffers, its slots and cells free and every block home, through the prologue and
  the loop to the same with the result stored.
-/
module

public import proofs.«01_k».proof.Proof.GU.Loop

@[expose] public section

set_option maxRecDepth 8192
set_option maxHeartbeats 16000000

noncomputable section

namespace Cert.GateUpIdeal.GU

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline's beside the transfers' counters. -/
local notation "𝕄" => MT nD τ sig Unit (Elt F) ℕ (Pipeline.UD sig nD τ) ℕ

theorem entails_of_eq {P Q : sProp 𝕄} (e : P = Q) : P ⊢ Q := e ▸ .rfl

section Body

variable (c : Dev nD) (arg0 : Memref sig .tc .vmem S16x8192 .bf16) (harg0 : arg0.IsWhole) (arg5 : Memref sig .tc .vmem S14x16x256 .bf16) (harg5 : arg5.IsWhole)
  (X1 : Buf (Elt F) (gcM.view.loc (c : Thread nD τ))) (X2 : Buf (Elt F) (gsM.view.loc (c : Thread nD τ)))
  (X3 : Buf (Elt F) (ucM.view.loc (c : Thread nD τ))) (X4 : Buf (Elt F) (usM.view.loc (c : Thread nD τ)))

/-- The four slots of block `s` at any contents and their cells at zero. -/
abbrev free (s : ℕ) : sProp 𝕄 :=
  iprop(((∃ f, pt c (cslot s 0) f) ∗ (∃ f, pt c (cslot s 1) f) ∗ (∃ f, pt c (sslot s 0) f) ∗ (∃ f, pt c (sslot s 1) f))
    ∗ (cel c (24 + s % 6) ∗ cel c (30 + s % 6) ∗ cel c (36 + s % 6) ∗ cel c (42 + s % 6)))

theorem free_add6 (s : ℕ) : (free c (s + 6) : sProp 𝕄) = free c s := by
  unfold free; rw [cslot_add6, cslot_add6, sslot_add6, sslot_add6, Nat.add_mod_right]

/-- Slots that hold anything are free. -/
theorem free_of (s b : ℕ) (p : Prop) : helds c X1 X2 X3 X4 s b p ⊢ free c s := by
  unfold free helds holdC holdS
  iintro ⟨⟨⟨%f0, H0, %h0⟩, ⟨%f1, H1, %h1⟩, ⟨%g0, H2, %h2⟩, ⟨%g1, H3, %h3⟩⟩, HC⟩
  isplitl [H0 H1 H2 H3]
  · isplitl [H0]; · iexists f0; iexact H0
    isplitl [H1]; · iexists f1; iexact H1
    isplitl [H2]; · iexists g0; iexact H2
    iexists g1; iexact H3
  iexact HC
/-- A block past the last is a free slot. -/
theorem free_coming {b : ℕ} (h : ¬ b < 14) : coming c X1 X2 X3 X4 b ⊢ free c b := by
  rw [coming_ge c X1 X2 X3 X4 h]; exact free_of c X1 X2 X3 X4 b b False

/-- A stored chunk reads back as stored. -/
theorem hOf_hPieces (v : View sig .tc .vmem S16x8192 .bf16) (f : v.ty.Contents (Elt F)) (a : Fin 32 → Vec F S16x256 .bf16) (p : Vec F S256x256 .bf16) (n : Fin 32) :
    ∀ l : List (Fin 32), n ∈ l → hOf v (v.writes (Elt F) f (hPieces a p l)) n = hchunk a p n
  | [], h => by cases h
  | m :: l, h => by
    funext x
    let y : S16x8192.Idx := (Rect.unit (s := S16x8192) ![0, 256 * n.val] S16x256.size (h_inb n)).emb x
    have hy0 : (y (0 : Fin 2)).val = (x (0 : Fin 2)).val := by show 0 + 1 * _ = _; omega
    have hy1 : (y (1 : Fin 2)).val = 256 * n.val + (x (1 : Fin 2)).val := by show 256 * n.val + 1 * (x (1 : Fin 2)).val = _; omega
    have hx1 : (x (1 : Fin 2)).val < 256 := (x (1 : Fin 2)).isLt
    show v.read (Elt F) (v.writes (Elt F) f (hPieces a p (m :: l))) y = hchunk a p n x
    by_cases hm : m = n
    · subst hm
      refine (View.read_writes_cons_unit_of_mem v f (h_inb m) _ _ y x rfl ?_).trans ?_
      · intro a; fin_cases a
        · show (y (0 : Fin 2)).val = 0 + (x (0 : Fin 2)).val; omega
        · exact hy1
      · exact congrFun (shapeCast_self _ _) x
    · have hn : n ∈ l := (List.mem_cons.1 h).resolve_left fun e => hm e.symm
      refine (View.read_writes_cons_unit_of_not_mem v f (h_inb m) _ _ y rfl (1 : Fin 2) ?_).trans
        (congrFun (hOf_hPieces v f a p n l hn) x)
      have : m.val ≠ n.val := fun e => hm (Fin.ext e)
      show (y (1 : Fin 2)).val < 256 * m.val ∨ 256 * m.val + 256 ≤ (y (1 : Fin 2)).val
      omega

theorem all32 : ∀ n : Fin 32, n ∈ hList := by decide

/-- The fourteen blocks, the first six apart. -/
theorem homes_split (Φ : Fin 14 → sProp 𝕄) : bigSep Finset.univ Φ = iprop(Φ 0 ∗ Φ 1 ∗ Φ 2 ∗ Φ 3 ∗ Φ 4 ∗ Φ 5 ∗ bigSep (Ring.homeSet (NB := 14) 6 0) Φ) := by
  have e : (Finset.univ : Finset (Fin 14)) = insert 0 (insert 1 (insert 2 (insert 3 (insert 4 (insert 5 (Ring.homeSet (NB := 14) 6 0)))))) := by decide
  rw [e, bigSep_insert (by decide), bigSep_insert (by decide), bigSep_insert (by decide), bigSep_insert (by decide), bigSep_insert (by decide), bigSep_insert (by decide)]
  rfl
/-- The blocks at home at the loop's start: the first, and the last eight. -/
theorem homes_start (Φ : Fin 14 → sProp 𝕄) : bigSep (Ring.homeSet (NB := 14) 5 1) Φ = iprop(Φ 0 ∗ bigSep (Ring.homeSet (NB := 14) 6 0) Φ) := by
  have e : Ring.homeSet (NB := 14) 5 1 = insert 0 (Ring.homeSet (NB := 14) 6 0) := by decide
  rw [e, bigSep_insert (by decide)]
  rfl

/-- A family of contents from its first six members. -/
def pick {P : ℕ → Type} (d : ∀ b, P b) (a0 : P 0) (a1 : P 1) (a2 : P 2) (a3 : P 3) (a4 : P 4) (a5 : P 5) : ∀ b, P b
  | 0 => a0 | 1 => a1 | 2 => a2 | 3 => a3 | 4 => a4 | 5 => a5 | b + 6 => d (b + 6)

/-- The copies of block `b` under way. -/
theorem coming_of (b : ℕ) (hb : b < 14) (n0 n1 n2 n3 r q : ℕ) (e0 : n0 = 24 + b % 6) (e1 : n1 = 30 + b % 6) (e2 : n2 = 36 + b % 6) (e3 : n3 = 42 + b % 6)
    (er : r = 8192 * b) (eq : q = 256 * b)
    (f0 : Buf (Elt F) ((cslot b 0).view.loc (c : Thread nD τ))) (f1 : Buf (Elt F) ((cslot b 1).view.loc (c : Thread nD τ)))
    (g0 : Buf (Elt F) ((sslot b 0).view.loc (c : Thread nD τ))) (g1 : Buf (Elt F) ((sslot b 1).view.loc (c : Thread nD τ))) :
    flights c X1 X2 X3 X4 b n0 n1 n2 n3 r q f0 f1 g0 g1 ⊢ coming c X1 X2 X3 X4 b := by
  subst e0 e1 e2 e3 er eq
  rw [coming_lt c X1 X2 X3 X4 hb]
  exact flys_intro c X1 X2 X3 X4 b b f0 f1 g0 g1

/-- What the body needs besides its arguments: its buffers at any contents, its slots free. -/
abbrev bufs : sProp 𝕄 :=
  iprop((∃ f, pt c hvM f) ∗ (∃ f, pt c p1M f) ∗ (∃ f, pt c twaM f) ∗ (∃ f, pt c tsaM f) ∗ (∃ f, pt c twbM f) ∗ (∃ f, pt c tsbM f)
    ∗ free c 0 ∗ free c 1 ∗ free c 2 ∗ free c 3 ∗ free c 4 ∗ free c 5)

set_option maxRecDepth 65536 in
/-- THE BODY'S RUN. -/
theorem body_run (X0 : Buf (Elt F) (arg0.view.loc (c : Thread nD τ))) (O : Buf (Elt F) (arg5.view.loc (c : Thread nD τ))) (W : Waits sig Unit) (K : PUnit → sProp 𝕄) :
    iprop(pt c arg0 X0 ∗ pt c arg5 O ∗ bufs c ∗ (bigSep Finset.univ fun b : Fin 14 => homes c X1 X2 X3 X4 b.val) ∗ owes (c : Thread nD τ) 0 W
        ∗ (iprop(pt c arg0 X0 ∗ (∃ f, pt c arg5 f ∗ ⌜∀ y, arg5.view.read (Elt F) f y = gval c X1 X2 X3 X4 (hchunk (hOf arg0.view X0) p1r) y⌝)
            ∗ bufs c ∗ (bigSep Finset.univ fun b : Fin 14 => homes c X1 X2 X3 X4 b.val) ∗ (∃ W', owes (c : Thread nD τ) 0 W')) -∗ K ⟨⟩))
      ⊢ wp frame (wpE (defs₀ (F := F)) Variants.none (c : Thread nD τ) none) Set.univ (bodyG arg0 harg0 arg5 harg5) K := by
  have hsp := homes_split (F := F) fun b : Fin 14 => homes c X1 X2 X3 X4 b.val
  conv => lhs; rw [hsp]
  iintro ⟨H0, HO, ⟨⟨%H, HH⟩, ⟨%Pm, HP⟩, ⟨%A, HA⟩, ⟨%B, HB⟩, HA', HB',
    ⟨⟨⟨%x00, Hx00⟩, ⟨%x01, Hx01⟩, ⟨%x02, Hx02⟩, ⟨%x03, Hx03⟩⟩, ⟨Hq00, Hq01, Hq02, Hq03⟩⟩,
    ⟨⟨⟨%x10, Hx10⟩, ⟨%x11, Hx11⟩, ⟨%x12, Hx12⟩, ⟨%x13, Hx13⟩⟩, ⟨Hq10, Hq11, Hq12, Hq13⟩⟩,
    ⟨⟨⟨%x20, Hx20⟩, ⟨%x21, Hx21⟩, ⟨%x22, Hx22⟩, ⟨%x23, Hx23⟩⟩, ⟨Hq20, Hq21, Hq22, Hq23⟩⟩,
    ⟨⟨⟨%x30, Hx30⟩, ⟨%x31, Hx31⟩, ⟨%x32, Hx32⟩, ⟨%x33, Hx33⟩⟩, ⟨Hq30, Hq31, Hq32, Hq33⟩⟩,
    ⟨⟨⟨%x40, Hx40⟩, ⟨%x41, Hx41⟩, ⟨%x42, Hx42⟩, ⟨%x43, Hx43⟩⟩, ⟨Hq40, Hq41, Hq42, Hq43⟩⟩,
    ⟨⟨⟨%x50, Hx50⟩, ⟨%x51, Hx51⟩, ⟨%x52, Hx52⟩, ⟨%x53, Hx53⟩⟩, ⟨Hq50, Hq51, Hq52, Hq53⟩⟩⟩, ⟨Hh0, Hh1, Hh2, Hh3, Hh4, Hh5, Hhr⟩, HW, HK⟩
  iapply (prologue c arg0 harg0 arg5 harg5 X1 X2 X3 X4 X0 H A B Pm W
    (pick (fun b => (cslot b 0).view.junk) x00 x10 x20 x30 x40 x50) (pick (fun b => (cslot b 1).view.junk) x01 x11 x21 x31 x41 x51)
    (pick (fun b => (sslot b 0).view.junk) x02 x12 x22 x32 x42 x52) (pick (fun b => (sslot b 1).view.junk) x03 x13 x23 x33 x43 x53) K)
  isplitl [H0]; · iexact H0
  isplitl [HH]; · iexact HH
  isplitl [HP]; · iexact HP
  isplitl [HA]; · iexact HA
  isplitl [HB]; · iexact HB
  isplitl [HW]; · iexact HW
  isplitl [Hx00 Hx01 Hx02 Hx03 Hq00 Hq01 Hq02 Hq03 Hh0]
  · isplitl [Hx00 Hx01 Hx02 Hx03]
    · isplitl [Hx00]; · iexact Hx00
      isplitl [Hx01]; · iexact Hx01
      isplitl [Hx02]; · iexact Hx02
      iexact Hx03
    isplitl [Hq00 Hq01 Hq02 Hq03]
    · isplitl [Hq00]; · iexact Hq00
      isplitl [Hq01]; · iexact Hq01
      isplitl [Hq02]; · iexact Hq02
      iexact Hq03
    iexact Hh0
  isplitl [Hx10 Hx11 Hx12 Hx13 Hq10 Hq11 Hq12 Hq13 Hh1]
  · isplitl [Hx10 Hx11 Hx12 Hx13]
    · isplitl [Hx10]; · iexact Hx10
      isplitl [Hx11]; · iexact Hx11
      isplitl [Hx12]; · iexact Hx12
      iexact Hx13
    isplitl [Hq10 Hq11 Hq12 Hq13]
    · isplitl [Hq10]; · iexact Hq10
      isplitl [Hq11]; · iexact Hq11
      isplitl [Hq12]; · iexact Hq12
      iexact Hq13
    iexact Hh1
  isplitl [Hx20 Hx21 Hx22 Hx23 Hq20 Hq21 Hq22 Hq23 Hh2]
  · isplitl [Hx20 Hx21 Hx22 Hx23]
    · isplitl [Hx20]; · iexact Hx20
      isplitl [Hx21]; · iexact Hx21
      isplitl [Hx22]; · iexact Hx22
      iexact Hx23
    isplitl [Hq20 Hq21 Hq22 Hq23]
    · isplitl [Hq20]; · iexact Hq20
      isplitl [Hq21]; · iexact Hq21
      isplitl [Hq22]; · iexact Hq22
      iexact Hq23
    iexact Hh2
  isplitl [Hx30 Hx31 Hx32 Hx33 Hq30 Hq31 Hq32 Hq33 Hh3]
  · isplitl [Hx30 Hx31 Hx32 Hx33]
    · isplitl [Hx30]; · iexact Hx30
      isplitl [Hx31]; · iexact Hx31
      isplitl [Hx32]; · iexact Hx32
      iexact Hx33
    isplitl [Hq30 Hq31 Hq32 Hq33]
    · isplitl [Hq30]; · iexact Hq30
      isplitl [Hq31]; · iexact Hq31
      isplitl [Hq32]; · iexact Hq32
      iexact Hq33
    iexact Hh3
  isplitl [Hx40 Hx41 Hx42 Hx43 Hq40 Hq41 Hq42 Hq43 Hh4]
  · isplitl [Hx40 Hx41 Hx42 Hx43]
    · isplitl [Hx40]; · iexact Hx40
      isplitl [Hx41]; · iexact Hx41
      isplitl [Hx42]; · iexact Hx42
      iexact Hx43
    isplitl [Hq40 Hq41 Hq42 Hq43]
    · isplitl [Hq40]; · iexact Hq40
      isplitl [Hq41]; · iexact Hq41
      isplitl [Hq42]; · iexact Hq42
      iexact Hq43
    iexact Hh4
  isplitl [Hx50 Hx51 Hx52 Hx53 Hq50 Hq51 Hq52 Hq53 Hh5]
  · isplitl [Hx50 Hx51 Hx52 Hx53]
    · isplitl [Hx50]; · iexact Hx50
      isplitl [Hx51]; · iexact Hx51
      isplitl [Hx52]; · iexact Hx52
      iexact Hx53
    isplitl [Hq50 Hq51 Hq52 Hq53]
    · isplitl [Hq50]; · iexact Hq50
      isplitl [Hq51]; · iexact Hq51
      isplitl [Hq52]; · iexact Hq52
      iexact Hq53
    iexact Hh5
  iintro ⟨H0, ⟨%H2, HH, %eH⟩, HP, ⟨%A2, HA, %eA⟩, ⟨%B2, HB, %eB⟩, HW, ⟨⟨%f0, Hs0, %e0⟩, ⟨%f1, Hs1, %e1⟩, ⟨%f2, Hs2, %e2⟩, ⟨%f3, Hs3, %e3⟩⟩, HQ, HM, HF1, HF2, HF3, HF4, HF5⟩
  subst eH eA eB e0 e1 e2 e3
  iapply (loop_run c arg0 harg0 arg5 harg5 X1 X2 X3 X4 (hchunk (hOf arg0.view X0) p1r) K)
  isplitl [HH HA HB HA' HB' HO HW Hs0 Hs1 Hs2 Hs3 HQ HM HF1 HF2 HF3 HF4 HF5 Hhr]
  · unfold inv work
    isplitl [HH HA HB HA' HB' HO HW]
    · isplitl [HH]
      · iexists _; isplitl [HH]; · iexact HH
        ipureintro; exact funext fun n => hOf_hPieces _ _ _ _ n hList (all32 n)
      isplitl [HA]
      · iexists _; isplitl [HA]; · iexact HA
        ipureintro; intro y; exact read_tw (fun z => read_whole _ _ _ z) _ _ y
      isplitl [HB]
      · iexists _; isplitl [HB]; · iexact HB
        ipureintro; intro y; exact read_ts (fun z => read_whole _ _ _ z) _ _ y
      isplitl [HA']; · iexact HA'
      isplitl [HB']; · iexact HB'
      isplitl [HO]
      · iexists _; isplitl [HO]; · iexact HO
        ipureintro; intro y hy; exact absurd hy (Nat.not_lt_zero _)
      iexact HW
    isplitl [Hs0 Hs1 Hs2 Hs3 HQ]
    · iapply (helds_land c X1 X2 X3 X4 0 _ _ _ _ (0 < 14))
      isplitl [Hs0 Hs1 Hs2 Hs3]
      · isplitl [Hs0]; · iexact Hs0
        isplitl [Hs1]; · iexact Hs1
        isplitl [Hs2]; · iexact Hs2
        iexact Hs3
      iexact HQ
    isplitl [HF1]
    · iapply (coming_of c X1 X2 X3 X4 1 (by omega) 25 31 37 43 8192 256 rfl rfl rfl rfl rfl rfl _ _ _ _); iexact HF1
    isplitl [HF2]
    · iapply (coming_of c X1 X2 X3 X4 2 (by omega) 26 32 38 44 16384 512 rfl rfl rfl rfl rfl rfl _ _ _ _); iexact HF2
    isplitl [HF3]
    · iapply (coming_of c X1 X2 X3 X4 3 (by omega) 27 33 39 45 24576 768 rfl rfl rfl rfl rfl rfl _ _ _ _); iexact HF3
    isplitl [HF4]
    · iapply (coming_of c X1 X2 X3 X4 4 (by omega) 28 34 40 46 32768 1024 rfl rfl rfl rfl rfl rfl _ _ _ _); iexact HF4
    isplitl [HF5]
    · iapply (coming_of c X1 X2 X3 X4 5 (by omega) 29 35 41 47 40960 1280 rfl rfl rfl rfl rfl rfl _ _ _ _); iexact HF5
    unfold HS
    rw [homes_start (F := F) fun b : Fin 14 => homes c X1 X2 X3 X4 b.val]
    isplitl [HM]; · iexact HM
    iexact Hhr
  unfold inv work
  iintro ⟨⟨⟨%H3, HH, -⟩, ⟨%A3, HA, -⟩, ⟨%B3, HB, -⟩, HA', HB', ⟨%O2, HO, %hO⟩, HW⟩, HL, Hc1, Hc2, Hc3, Hc4, Hc5, HS⟩
  iapply HK
  isplitl [H0]; · iexact H0
  isplitl [HO]
  · iexists O2; isplitl [HO]; · iexact HO
    ipureintro; exact fun y => hO y (y (0 : Fin 3)).isLt
  isplitl [HH HP HA HB HA' HB' HL Hc1 Hc2 Hc3 Hc4 Hc5]
  · isplitl [HH]; · iexists _; iexact HH
    isplitl [HP]; · iexact HP
    isplitl [HA]; · iexists _; iexact HA
    isplitl [HB]; · iexists _; iexact HB
    isplitl [HA']; · iexact HA'
    isplitl [HB']; · iexact HB'
    isplitl [Hc4]
    · iapply (entails_of_eq (((free_add6 c 12).trans (free_add6 c 6)).trans (free_add6 c 0)))
      iapply (free_coming c X1 X2 X3 X4 (b := 18) (by omega)); iexact Hc4
    isplitl [Hc5]
    · iapply (entails_of_eq (((free_add6 c 13).trans (free_add6 c 7)).trans (free_add6 c 1)))
      iapply (free_coming c X1 X2 X3 X4 (b := 19) (by omega)); iexact Hc5
    isplitl [HL]
    · iapply (entails_of_eq ((free_add6 c 8).trans (free_add6 c 2)))
      iapply (free_of c X1 X2 X3 X4 14 14 (14 < 14)); iexact HL
    isplitl [Hc1]
    · iapply (entails_of_eq ((free_add6 c 9).trans (free_add6 c 3)))
      iapply (free_coming c X1 X2 X3 X4 (b := 15) (by omega)); iexact Hc1
    isplitl [Hc2]
    · iapply (entails_of_eq ((free_add6 c 10).trans (free_add6 c 4)))
      iapply (free_coming c X1 X2 X3 X4 (b := 16) (by omega)); iexact Hc2
    iapply (entails_of_eq ((free_add6 c 11).trans (free_add6 c 5)))
    iapply (free_coming c X1 X2 X3 X4 (b := 17) (by omega)); iexact Hc3
  isplitl [HS]
  · iapply (entails_of_eq ((HS_end c X1 X2 X3 X4 14 (by omega)).trans hsp)); iexact HS
  iexact HW

end Body

end Cert.GateUpIdeal.GU

end
-- ==== Proof.GU.Split.lean ====
/-
  What the pipeline hands the body, cut as the body's proof holds it: each ring of buffers into its twelve slots, each
  weight array into its fourteen blocks, the copies' cells one by one; and the same joined again at the body's end.
-/
module

public import proofs.«01_k».proof.Proof.GU.Body
public import proofs.«01_k».proof.Proof.Gen.GateUpIdeal.Frame
public import Idealize.ShloMosaic.Lib.Pipeline.BigSepL

@[expose] public section

set_option maxRecDepth 16384

noncomputable section

namespace Cert.GateUpIdeal.GU

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline's beside the transfers' counters. -/
local notation "𝕄" => MT nD τ sig Unit (Elt F) ℕ (Pipeline.UD sig nD τ) ℕ

/-! ## Separating conjunctions over families -/

/-- The six slots' numbers. -/
abbrev sixL : List (Fin 6) := [0, 1, 2, 3, 4, 5]

theorem six (Φ : ℕ → sProp 𝕄) : (bigSep Finset.univ fun s : Fin 6 => Φ s.val) = iprop(Φ 0 ∗ Φ 1 ∗ Φ 2 ∗ Φ 3 ∗ Φ 4 ∗ Φ 5) :=
  bigSep_univ_eq_bigSepL sixL (by decide) (by decide) _

theorem bigSepL_pairs {A B : Type} (k : List B) (Φ : A × B → sProp 𝕄) : ∀ l : List A,
    bigSepL (l.flatMap fun a => k.map fun s => (a, s)) Φ = bigSepL l fun a => bigSepL k fun s => Φ (a, s)
  | [] => rfl
  | a :: l => by
    rw [List.flatMap_cons, bigSepL_append, bigSepL_map, bigSepL_pairs k Φ l, bigSepL_cons]
    rfl

theorem pairs2 (Φ : Fin 2 × Fin 6 → sProp 𝕄) :
    bigSep Finset.univ Φ = iprop((bigSep Finset.univ fun s : Fin 6 => Φ (0, s)) ∗ (bigSep Finset.univ fun s : Fin 6 => Φ (1, s))) := by
  rw [bigSep_univ_eq_bigSepL ([0, 1].flatMap fun a => sixL.map fun s => (a, s)) (by decide) (by decide) Φ, bigSepL_pairs,
    bigSep_univ_eq_bigSepL sixL (by decide) (by decide) fun s => Φ (0, s), bigSep_univ_eq_bigSepL sixL (by decide) (by decide) fun s => Φ (1, s)]
  rfl
theorem pairs4 (Φ : Fin 4 × Fin 6 → sProp 𝕄) :
    bigSep Finset.univ Φ = iprop((bigSep Finset.univ fun s : Fin 6 => Φ (0, s)) ∗ (bigSep Finset.univ fun s : Fin 6 => Φ (1, s))
      ∗ (bigSep Finset.univ fun s : Fin 6 => Φ (2, s)) ∗ (bigSep Finset.univ fun s : Fin 6 => Φ (3, s))) := by
  rw [bigSep_univ_eq_bigSepL ([0, 1, 2, 3].flatMap fun a => sixL.map fun s => (a, s)) (by decide) (by decide) Φ, bigSepL_pairs,
    bigSep_univ_eq_bigSepL sixL (by decide) (by decide) fun s => Φ (0, s), bigSep_univ_eq_bigSepL sixL (by decide) (by decide) fun s => Φ (1, s),
    bigSep_univ_eq_bigSepL sixL (by decide) (by decide) fun s => Φ (2, s), bigSep_univ_eq_bigSepL sixL (by decide) (by decide) fun s => Φ (3, s)]
  rfl

theorem sep4 {I : Type} [DecidableEq I] (s : Finset I) (A B C D : I → sProp 𝕄) :
    (bigSep s fun i => iprop(A i ∗ B i ∗ C i ∗ D i)) = iprop(bigSep s A ∗ bigSep s B ∗ bigSep s C ∗ bigSep s D) := by
  rw [bigSep_sep' s A (fun i => iprop(B i ∗ C i ∗ D i)), bigSep_sep' s B (fun i => iprop(C i ∗ D i)), bigSep_sep' s C D]

/-! ## A whole buffer -/

/-- A whole buffer, held by its memref's elements. -/
theorem pt_whole (c : Dev nD) (b : Ref sig .tc) (f : Buf (Elt F) ((c : Thread nD τ).loc b)) :
    (pt c (Memref.whole b) f : sProp 𝕄) = (((c : Thread nD τ).loc b) ↦{fullShare} f) := by
  unfold pt; rw [show (Memref.whole b).view.set = Finset.univ from View.set_whole b]

/-- The same at contents unnamed. -/
theorem ex_whole (c : Dev nD) (b : Ref sig .tc) :
    (iprop(∃ f : Buf (Elt F) ((c : Thread nD τ).loc b), ((c : Thread nD τ).loc b) ↦{fullShare} f) : sProp 𝕄) = iprop(∃ f, pt c (Memref.whole b) f) := by
  simp only [pt_whole]

/-! ## The arrays in blocks -/

abbrev CB (b : Fin 14) : Finset S114688x128.Idx := (Rect.unit (s := S114688x128) ![min (8192 * b.val) 106496, 0] S8192x128.size (cblk_inb _)).set
abbrev SB (b : Fin 14) : Finset S3584x256.Idx := (Rect.unit (s := S3584x256) ![min (256 * b.val) 3328, 0] S256x256.size (sblk_inb _)).set

theorem mem_CB (b : Fin 14) (y : S114688x128.Idx) : y ∈ CB b ↔ (y (0 : Fin 2)).val / 8192 = b.val := by
  rw [Rect.mem_set_unit]
  have h0 : (y (0 : Fin 2)).val < 114688 := (y (0 : Fin 2)).isLt
  have h1 : (y (1 : Fin 2)).val < 128 := (y (1 : Fin 2)).isLt
  have hb := b.isLt
  constructor
  · intro H; have a0 : min (8192 * b.val) 106496 ≤ (y (0 : Fin 2)).val ∧ (y (0 : Fin 2)).val < min (8192 * b.val) 106496 + 8192 := H 0; omega
  · intro H i; fin_cases i
    · show min (8192 * b.val) 106496 ≤ (y (0 : Fin 2)).val ∧ (y (0 : Fin 2)).val < min (8192 * b.val) 106496 + 8192; omega
    · show 0 ≤ (y (1 : Fin 2)).val ∧ (y (1 : Fin 2)).val < 0 + 128; omega
theorem mem_SB (b : Fin 14) (y : S3584x256.Idx) : y ∈ SB b ↔ (y (0 : Fin 2)).val / 256 = b.val := by
  rw [Rect.mem_set_unit]
  have h0 : (y (0 : Fin 2)).val < 3584 := (y (0 : Fin 2)).isLt
  have h1 : (y (1 : Fin 2)).val < 256 := (y (1 : Fin 2)).isLt
  have hb := b.isLt
  constructor
  · intro H; have a0 : min (256 * b.val) 3328 ≤ (y (0 : Fin 2)).val ∧ (y (0 : Fin 2)).val < min (256 * b.val) 3328 + 256 := H 0; omega
  · intro H i; fin_cases i
    · show min (256 * b.val) 3328 ≤ (y (0 : Fin 2)).val ∧ (y (0 : Fin 2)).val < min (256 * b.val) 3328 + 256; omega
    · show 0 ≤ (y (1 : Fin 2)).val ∧ (y (1 : Fin 2)).val < 0 + 256; omega

theorem CB_disjoint : ∀ b b' : Fin 14, b ≠ b' → Disjoint (CB b) (CB b') := by
  intro b b' hne; rw [Finset.disjoint_left]; intro y hy hy'; rw [mem_CB] at hy hy'; exact hne (Fin.ext (hy.symm.trans hy'))
theorem CB_cover : (Finset.univ : Finset (Fin 14)).biUnion CB = Finset.univ := by
  ext y; simp only [Finset.mem_biUnion, Finset.mem_univ, true_and, iff_true]
  have h0 : (y (0 : Fin 2)).val < 114688 := (y (0 : Fin 2)).isLt
  exact ⟨⟨(y (0 : Fin 2)).val / 8192, by omega⟩, by rw [mem_CB]⟩
theorem SB_disjoint : ∀ b b' : Fin 14, b ≠ b' → Disjoint (SB b) (SB b') := by
  intro b b' hne; rw [Finset.disjoint_left]; intro y hy hy'; rw [mem_SB] at hy hy'; exact hne (Fin.ext (hy.symm.trans hy'))
theorem SB_cover : (Finset.univ : Finset (Fin 14)).biUnion SB = Finset.univ := by
  ext y; simp only [Finset.mem_biUnion, Finset.mem_univ, true_and, iff_true]
  have h0 : (y (0 : Fin 2)).val < 3584 := (y (0 : Fin 2)).isLt
  exact ⟨⟨(y (0 : Fin 2)).val / 256, by omega⟩, by rw [mem_SB]⟩

/-- A whole array of codes is its fourteen blocks. -/
theorem codes_blocks (c : Dev nD) (M : Memref sig .tc .hbm S114688x128 .i8) (X : Buf (Elt F) (M.view.loc (c : Thread nD τ)))
    (hw : M.view.set = Finset.univ) (I : Fin 14 → Finset (Idx (M.view.loc (c : Thread nD τ)))) (hI : ∀ b : Fin 14, (cblk M (8192 * b.val)).view.set = I b)
    (hd : ∀ b b' : Fin 14, b ≠ b' → Disjoint (I b) (I b')) (hc : (Finset.univ : Finset (Fin 14)).biUnion I = Finset.univ) :
    (pt c M X : sProp 𝕄) = bigSep Finset.univ fun b : Fin 14 => hmC c M X (8192 * b.val) := by
  unfold pt; rw [hw, Ring.pointsTo_blocks (ℓ := M.view.loc (c : Thread nD τ)) I hd hc]
  exact bigSep_congr fun b _ => congrArg (fun S => (M.view.loc (c : Thread nD τ) ↦[S]{fullShare} X : sProp 𝕄)) (hI b).symm
/-- A whole array of scales is its fourteen blocks. -/
theorem scales_blocks (c : Dev nD) (M : Memref sig .tc .hbm S3584x256 .bf16) (X : Buf (Elt F) (M.view.loc (c : Thread nD τ)))
    (hw : M.view.set = Finset.univ) (I : Fin 14 → Finset (Idx (M.view.loc (c : Thread nD τ)))) (hI : ∀ b : Fin 14, (sblk M (256 * b.val)).view.set = I b)
    (hd : ∀ b b' : Fin 14, b ≠ b' → Disjoint (I b) (I b')) (hc : (Finset.univ : Finset (Fin 14)).biUnion I = Finset.univ) :
    (pt c M X : sProp 𝕄) = bigSep Finset.univ fun b : Fin 14 => hmS c M X (256 * b.val) := by
  unfold pt; rw [hw, Ring.pointsTo_blocks (ℓ := M.view.loc (c : Thread nD τ)) I hd hc]
  exact bigSep_congr fun b _ => congrArg (fun S => (M.view.loc (c : Thread nD τ) ↦[S]{fullShare} X : sProp 𝕄)) (hI b).symm

/-- The four arrays, cut into the blocks. -/
theorem homes_eq (c : Dev nD) (X1 : Buf (Elt F) (gcM.view.loc (c : Thread nD τ))) (X2 : Buf (Elt F) (gsM.view.loc (c : Thread nD τ)))
    (X3 : Buf (Elt F) (ucM.view.loc (c : Thread nD τ))) (X4 : Buf (Elt F) (usM.view.loc (c : Thread nD τ))) :
    (bigSep Finset.univ fun b : Fin 14 => homes c X1 X2 X3 X4 b.val) = (iprop(pt c gcM X1 ∗ pt c ucM X3 ∗ pt c gsM X2 ∗ pt c usM X4) : sProp 𝕄) := by
  rw [codes_blocks c gcM X1 (View.set_whole _) CB (fun b => View.set_slice_whole _ _) CB_disjoint CB_cover,
    codes_blocks c ucM X3 (View.set_whole _) CB (fun b => View.set_slice_whole _ _) CB_disjoint CB_cover,
    scales_blocks c gsM X2 (View.set_whole _) SB (fun b => View.set_slice_whole _ _) SB_disjoint SB_cover,
    scales_blocks c usM X4 (View.set_whole _) SB (fun b => View.set_slice_whole _ _) SB_disjoint SB_cover]
  exact sep4 _ _ _ _ _

/-! ## The rings in slots -/

abbrev CS (p : Fin 2 × Fin 6) : Finset S6x2x8192x128.Idx := (Rect.unit (s := S6x2x8192x128) (slotOff p.2.val p.1.val) S1x1x8192x128.size (cslot_inb _ _)).set
abbrev SS (p : Fin 2 × Fin 6) : Finset S6x2x256x256.Idx := (Rect.unit (s := S6x2x256x256) (slotOff p.2.val p.1.val) S1x1x256x256.size (sslot_inb _ _)).set

theorem mem_CS (p : Fin 2 × Fin 6) (y : S6x2x8192x128.Idx) : y ∈ CS p ↔ (y (0 : Fin 4)).val = p.2.val ∧ (y (1 : Fin 4)).val = p.1.val := by
  rw [Rect.mem_set_unit]
  have h2 : (y (2 : Fin 4)).val < 8192 := (y (2 : Fin 4)).isLt
  have h3 : (y (3 : Fin 4)).val < 128 := (y (3 : Fin 4)).isLt
  have hs := p.2.isLt; have hj := p.1.isLt
  constructor
  · intro H
    have a0 : p.2.val % 6 ≤ (y (0 : Fin 4)).val ∧ (y (0 : Fin 4)).val < p.2.val % 6 + 1 := H 0
    have a1 : p.1.val % 2 ≤ (y (1 : Fin 4)).val ∧ (y (1 : Fin 4)).val < p.1.val % 2 + 1 := H 1
    omega
  · intro H i; fin_cases i
    · show p.2.val % 6 ≤ (y (0 : Fin 4)).val ∧ (y (0 : Fin 4)).val < p.2.val % 6 + 1; omega
    · show p.1.val % 2 ≤ (y (1 : Fin 4)).val ∧ (y (1 : Fin 4)).val < p.1.val % 2 + 1; omega
    · show 0 ≤ (y (2 : Fin 4)).val ∧ (y (2 : Fin 4)).val < 0 + 8192; omega
    · show 0 ≤ (y (3 : Fin 4)).val ∧ (y (3 : Fin 4)).val < 0 + 128; omega
theorem mem_SS (p : Fin 2 × Fin 6) (y : S6x2x256x256.Idx) : y ∈ SS p ↔ (y (0 : Fin 4)).val = p.2.val ∧ (y (1 : Fin 4)).val = p.1.val := by
  rw [Rect.mem_set_unit]
  have h2 : (y (2 : Fin 4)).val < 256 := (y (2 : Fin 4)).isLt
  have h3 : (y (3 : Fin 4)).val < 256 := (y (3 : Fin 4)).isLt
  have hs := p.2.isLt; have hj := p.1.isLt
  constructor
  · intro H
    have a0 : p.2.val % 6 ≤ (y (0 : Fin 4)).val ∧ (y (0 : Fin 4)).val < p.2.val % 6 + 1 := H 0
    have a1 : p.1.val % 2 ≤ (y (1 : Fin 4)).val ∧ (y (1 : Fin 4)).val < p.1.val % 2 + 1 := H 1
    omega
  · intro H i; fin_cases i
    · show p.2.val % 6 ≤ (y (0 : Fin 4)).val ∧ (y (0 : Fin 4)).val < p.2.val % 6 + 1; omega
    · show p.1.val % 2 ≤ (y (1 : Fin 4)).val ∧ (y (1 : Fin 4)).val < p.1.val % 2 + 1; omega
    · show 0 ≤ (y (2 : Fin 4)).val ∧ (y (2 : Fin 4)).val < 0 + 256; omega
    · show 0 ≤ (y (3 : Fin 4)).val ∧ (y (3 : Fin 4)).val < 0 + 256; omega

theorem CS_disjoint : ∀ p p' : Fin 2 × Fin 6, p ≠ p' → Disjoint (CS p) (CS p') := by
  intro p p' hne; rw [Finset.disjoint_left]; intro y hy hy'; rw [mem_CS] at hy hy'
  exact hne (Prod.ext (Fin.ext (hy.2.symm.trans hy'.2)) (Fin.ext (hy.1.symm.trans hy'.1)))
theorem CS_cover : (Finset.univ : Finset (Fin 2 × Fin 6)).biUnion CS = Finset.univ := by
  ext y; simp only [Finset.mem_biUnion, Finset.mem_univ, true_and, iff_true]
  exact ⟨(⟨(y (1 : Fin 4)).val, (y (1 : Fin 4)).isLt⟩, ⟨(y (0 : Fin 4)).val, (y (0 : Fin 4)).isLt⟩), by rw [mem_CS]; exact ⟨rfl, rfl⟩⟩
theorem SS_disjoint : ∀ p p' : Fin 2 × Fin 6, p ≠ p' → Disjoint (SS p) (SS p') := by
  intro p p' hne; rw [Finset.disjoint_left]; intro y hy hy'; rw [mem_SS] at hy hy'
  exact hne (Prod.ext (Fin.ext (hy.2.symm.trans hy'.2)) (Fin.ext (hy.1.symm.trans hy'.1)))
theorem SS_cover : (Finset.univ : Finset (Fin 2 × Fin 6)).biUnion SS = Finset.univ := by
  ext y; simp only [Finset.mem_biUnion, Finset.mem_univ, true_and, iff_true]
  exact ⟨(⟨(y (1 : Fin 4)).val, (y (1 : Fin 4)).isLt⟩, ⟨(y (0 : Fin 4)).val, (y (0 : Fin 4)).isLt⟩), by rw [mem_SS]; exact ⟨rfl, rfl⟩⟩

/-- A buffer at any contents is a covering family of pieces, each at any contents. -/
theorem ex_blocks {ℓ : Loc nD τ sig} {B : Type} [Fintype B] [DecidableEq B] (I : B → Finset (Idx ℓ))
    (hd : ∀ b b' : B, b ≠ b' → Disjoint (I b) (I b')) (hc : (Finset.univ : Finset B).biUnion I = Finset.univ) (f₀ : Buf (Elt F) ℓ) :
    (iprop(∃ f : Buf (Elt F) ℓ, ℓ ↦{fullShare} f) : sProp 𝕄) = bigSep Finset.univ fun b => iprop(∃ f : Buf (Elt F) ℓ, ℓ ↦[I b]{fullShare} f) := by
  have h1 : (iprop(∃ f : Buf (Elt F) ℓ, ℓ ↦{fullShare} f) : sProp 𝕄) ⊢ bigSep Finset.univ fun b => iprop(∃ f : Buf (Elt F) ℓ, ℓ ↦[I b]{fullShare} f) := by
    iintro ⟨%f, H⟩
    iapply ((entails_of_eq (Ring.pointsTo_blocks (Ix := Unit) (Name := ℕ) (U := Pipeline.UD sig nD τ) (Lvl := ℕ) (q := fullShare) (ℓ := ℓ) I hd hc f)).trans
      (bigSep_mono fun b _ => by
        show (_ : sProp 𝕄) ⊢ _
        iintro H; iexists f; iexact H))
    iexact H
  exact h1.antisymm (Ring.pointsTo_blocks_join_exists (Ix := Unit) (Name := ℕ) (U := Pipeline.UD sig nD τ) (Lvl := ℕ) (q := fullShare) (ℓ := ℓ) I hd hc f₀)

theorem cslot_set (p : Fin 2 × Fin 6) : (cslot p.2.val p.1.val).view.set = CS p := (View.set_reshape _ _).trans (View.set_slice_whole _ _)
theorem sslot_set (p : Fin 2 × Fin 6) : (sslot p.2.val p.1.val).view.set = SS p := (View.set_reshape _ _).trans (View.set_slice_whole _ _)

theorem cslot_ex (c : Dev nD) (p : Fin 2 × Fin 6) :
    (iprop(∃ f : Buf (Elt F) ((c : Thread nD τ).loc cc0_scratch0), ((c : Thread nD τ).loc cc0_scratch0) ↦[CS p]{fullShare} f) : sProp 𝕄)
      = iprop(∃ f, pt c (cslot p.2.val p.1.val) f) := by
  rw [← cslot_set p]; rfl
theorem sslot_ex (c : Dev nD) (p : Fin 2 × Fin 6) :
    (iprop(∃ f : Buf (Elt F) ((c : Thread nD τ).loc cc0_scratch1), ((c : Thread nD τ).loc cc0_scratch1) ↦[SS p]{fullShare} f) : sProp 𝕄)
      = iprop(∃ f, pt c (sslot p.2.val p.1.val) f) := by
  rw [← sslot_set p]; rfl

/-- The ring of codes is its twelve slots. -/
theorem cb_eq (c : Dev nD) :
    (iprop(∃ f : Buf (Elt F) ((c : Thread nD τ).loc cc0_scratch0), ((c : Thread nD τ).loc cc0_scratch0) ↦{fullShare} f) : sProp 𝕄)
      = iprop((bigSep Finset.univ fun s : Fin 6 => iprop(∃ f, pt c (cslot s.val 0) f)) ∗ (bigSep Finset.univ fun s : Fin 6 => iprop(∃ f, pt c (cslot s.val 1) f))) := by
  rw [ex_blocks (ℓ := (c : Thread nD τ).loc cc0_scratch0) CS CS_disjoint CS_cover cbM.view.junk, bigSep_congr fun p _ => cslot_ex c p, pairs2]
  rfl
/-- The ring of scales is its twelve slots. -/
theorem sb_eq (c : Dev nD) :
    (iprop(∃ f : Buf (Elt F) ((c : Thread nD τ).loc cc0_scratch1), ((c : Thread nD τ).loc cc0_scratch1) ↦{fullShare} f) : sProp 𝕄)
      = iprop((bigSep Finset.univ fun s : Fin 6 => iprop(∃ f, pt c (sslot s.val 0) f)) ∗ (bigSep Finset.univ fun s : Fin 6 => iprop(∃ f, pt c (sslot s.val 1) f))) := by
  rw [ex_blocks (ℓ := (c : Thread nD τ).loc cc0_scratch1) SS SS_disjoint SS_cover sbM.view.junk, bigSep_congr fun p _ => sslot_ex c p, pairs2]
  rfl

/-! ## The cells -/

/-- The cells the gate and up copies are counted in. -/
abbrev osem0 : Fin 4 × Fin 6 → SemLoc sig := fun p => SemLoc.dma (cellN (24 + 6 * p.1.val + p.2.val % 6)).sem
theorem ownSemFacts0 : Pipeline.OwnSemFacts spec0 osem0 := by decide +kernel
theorem ownSems00_eq (c : Dev nD) :
    (Pipeline.ownSems0 (Ix := Unit) (Name := ℕ) (U := Pipeline.UD sig nD τ) (Lvl := ℕ) (Val := Elt F) (τ := τ) osem0 c : sProp 𝕄)
      = iprop((bigSep Finset.univ fun s : Fin 6 => cel c (24 + s.val % 6)) ∗ (bigSep Finset.univ fun s : Fin 6 => cel c (30 + s.val % 6))
        ∗ (bigSep Finset.univ fun s : Fin 6 => cel c (36 + s.val % 6)) ∗ (bigSep Finset.univ fun s : Fin 6 => cel c (42 + s.val % 6))) := by
  unfold Pipeline.ownSems0; rw [pairs4]; rfl

/-! ## What the body gets -/

/-- The body's buffers, the slots and cells of one kind together. -/
theorem bufs_eq (c : Dev nD) : (bufs c : sProp 𝕄)
    = iprop((∃ f, pt c hvM f) ∗ (∃ f, pt c p1M f) ∗ (∃ f, pt c twaM f) ∗ (∃ f, pt c tsaM f) ∗ (∃ f, pt c twbM f) ∗ (∃ f, pt c tsbM f)
      ∗ ((bigSep Finset.univ fun s : Fin 6 => iprop(∃ f, pt c (cslot s.val 0) f)) ∗ (bigSep Finset.univ fun s : Fin 6 => iprop(∃ f, pt c (cslot s.val 1) f))
        ∗ (bigSep Finset.univ fun s : Fin 6 => iprop(∃ f, pt c (sslot s.val 0) f)) ∗ (bigSep Finset.univ fun s : Fin 6 => iprop(∃ f, pt c (sslot s.val 1) f)))
      ∗ ((bigSep Finset.univ fun s : Fin 6 => cel c (24 + s.val % 6)) ∗ (bigSep Finset.univ fun s : Fin 6 => cel c (30 + s.val % 6))
        ∗ (bigSep Finset.univ fun s : Fin 6 => cel c (36 + s.val % 6)) ∗ (bigSep Finset.univ fun s : Fin 6 => cel c (42 + s.val % 6)))) := by
  unfold bufs
  rw [← six (free c), ← sep4, ← sep4, ← bigSep_sep']

/-- The arrays the body copies from. -/
def H0 : Finset (Ref sig .tc) := {main_v3, main_arg2, main_v7, main_arg4}
theorem H0_sub : H0 ⊆ Pipeline.restRefs sig spec0 := by decide

variable (m : (ℓ : Loc nD τ sig) → Buf (Elt F) ℓ)

theorem hbmPts0_eq (c : Dev nD) :
    (bigSep H0 (fun b => ((c : Thread nD τ).loc b) ↦{fullShare} Gen.V m c b) : sProp 𝕄)
      = iprop(pt c gcM (Gen.V m c main_v3) ∗ pt c ucM (Gen.V m c main_v7) ∗ pt c gsM (Gen.V m c main_arg2) ∗ pt c usM (Gen.V m c main_arg4)) := by
  rw [BI.bigSep_eq_bigSepL_of_eq [main_v3, main_v7, main_arg2, main_arg4] (by decide) (by decide), pt_whole, pt_whole, pt_whole, pt_whole]; rfl

/-- The blocks of the four arrays at home, as the region finds the arrays. -/
abbrev homesV (c : Dev nD) : sProp 𝕄 :=
  bigSep Finset.univ fun b : Fin 14 => homes c (Gen.V m c main_v3) (Gen.V m c main_arg2) (Gen.V m c main_v7) (Gen.V m c main_arg4) b.val

theorem PhiD0_eq (c : Dev nD) :
    (Pipeline.ΦD osem0 spec0 H0 (Gen.V m) c : sProp 𝕄) = iprop(bufs c ∗ homesV m c ∗ (∃ r, prngReg c r)) := by
  rw [Pipeline.ΦD_eq, scopedRest0_eq, ownSems00_eq, hbmPts0_eq, cb_eq, sb_eq, homesV, homes_eq, bufs_eq]
  rw [ex_whole c cc0_scratch2, ex_whole c cc0_scratch3, ex_whole c cc0_scratch4, ex_whole c cc0_scratch5, ex_whole c cc0_scratch6, ex_whole c cc0_scratch7]
  refine Entails.antisymm (P := _) ?_ ?_
  · show (_ : sProp 𝕄) ⊢ _
    iintro ⟨⟨⟨C0, C1⟩, ⟨S0, S1⟩, B2, B3, B4, B5, B6, B7⟩, Hg, HC, HH⟩
    isplitl [C0 C1 S0 S1 B2 B3 B4 B5 B6 B7 HC]
    · isplitl [B2]; · iexact B2
      isplitl [B3]; · iexact B3
      isplitl [B4]; · iexact B4
      isplitl [B5]; · iexact B5
      isplitl [B6]; · iexact B6
      isplitl [B7]; · iexact B7
      isplitl [C0 C1 S0 S1]
      · isplitl [C0]; · iexact C0
        isplitl [C1]; · iexact C1
        isplitl [S0]; · iexact S0
        iexact S1
      iexact HC
    isplitl [HH]; · iexact HH
    iexact Hg
  · show (_ : sProp 𝕄) ⊢ _
    iintro ⟨⟨B2, B3, B4, B5, B6, B7, ⟨C0, C1, S0, S1⟩, HC⟩, HH, Hg⟩
    isplitl [C0 C1 S0 S1 B2 B3 B4 B5 B6 B7]
    · isplitl [C0 C1]
      · isplitl [C0]; · iexact C0
        iexact C1
      isplitl [S0 S1]
      · isplitl [S0]; · iexact S0
        iexact S1
      isplitl [B2]; · iexact B2
      isplitl [B3]; · iexact B3
      isplitl [B4]; · iexact B4
      isplitl [B5]; · iexact B5
      isplitl [B6]; · iexact B6
      iexact B7
    isplitl [Hg]; · iexact Hg
    isplitl [HC]; · iexact HC
    iexact HH

end Cert.GateUpIdeal.GU

end
-- ==== Proof.GU.Frame.lean ====
/-
  The gate and up kernel runs, its argument arrays end unchanged, every semaphore counter ends at zero, and its result
  array ends at what the body stores: the body's run (`Proof/GU/Body.lean`) put under the one-point pipeline.
-/
module

public import proofs.«01_k».proof.Proof.GU.Split

@[expose] public section

set_option maxRecDepth 16384

noncomputable section

namespace Cert.GateUpIdeal.GU

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline's beside the transfers' counters. -/
local notation "𝕄" => MT nD τ sig Unit (Elt F) ℕ (Pipeline.UD sig nD τ) ℕ

variable (m : (ℓ : Loc nD τ sig) → Buf (Elt F) ℓ) (ρ : Dev nD → PrngReg)

/-- @main up to the pipeline, at this proof's algebra. -/
theorem hmain (𝒱₀ : Variants) : Pipeline.HMain (Ix := Unit) (Name := ℕ) (U := Pipeline.UD sig nD τ) (Lvl := ℕ) cfgs 0 defs₀ 𝒱₀ m (main (F := F)) (Gen.V m) :=
  Pipeline.hmain_prefix cfgs 0 defs₀ 𝒱₀ m main hostOps0 hostOps0_sub hostOps0_fresh main_chain

/-- A chunk of the activations as staged. -/
def hStaged (a : S16x8192.Idx → Elt F .bf16) (n : Fin 32) : Vec F S16x256 .bf16 :=
  fun z => a ((Rect.unit (s := S16x8192) ![0, 256 * n.val] S16x256.size (h_inb n)).emb z)

/-- What the result's staging buffer holds after the body. -/
def outAt (c : Dev nD) (t : Fin cfg0.N) : Vec F S14x16x256 .bf16 :=
  fun y => gval c (Gen.V m c main_v3) (Gen.V m c main_arg2) (Gen.V m c main_v7) (Gen.V m c main_arg4) (hchunk (hStaged (iblk m c 0 t)) p1r) y

/-- The proof data of the one pipeline: the arrays as the region finds them, the input's block left in place, the
    result's at `outAt`, nothing owed. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => iblk m c 0 t
    | ⟨1, _⟩ => outAt m c t
  Φ _ := Pipeline.ΦD osem0 spec0 H0 (Gen.V m) c
  q _ := fullShare
  owed _ := 0

theorem A_eq (c : Dev nD) (w : Fin cfg0.W) : (dats m 0 c).A w = Gen.V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; rfl)

abbrev ms0_0 (t : Fin cfg0.N) : Memref sig .tc .vmem S16x8192 .bf16 := win0_0.stage (cfg0.slots t 0)
abbrev ms0_1 (t : Fin cfg0.N) : Memref sig .tc .vmem S14x16x256 .bf16 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- What the body reads of the staged activations. -/
theorem hOf_staged (v : View sig .tc .vmem S16x8192 .bf16) (f : BufTy.Contents (Elt F) v.ty) (a : S16x8192.Idx → Elt F .bf16) (e : v.read (Elt F) f = a) :
    hOf v f = hStaged a := by
  subst e; rfl

/-- The body at its point: from the pipeline's precondition to its postcondition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1]
  rw [show (dats m 0 c).Φ t.castSucc = Pipeline.ΦD osem0 spec0 H0 (Gen.V m) c from rfl, PhiD0_eq]
  unfold Dat.owesAt Pipeline.owesWithin
  rw [show (dats m 0 c).owed t.castSucc = 0 from rfl, show (dats m 0 c).owed t.succ = 0 from rfl]
  simp only [before0_0]
  iintro ⟨⟨HB, HH, Hg⟩, ⟨%W, -, HW⟩, ⟨%d0, H0⟩, ⟨%d1, H1⟩⟩
  unfold owns
  icases H0 with ⟨%f0, %e0, H0⟩
  icases H1 with ⟨%f1, -, H1⟩
  iapply (body_run c (ms0_0 t) (hstage0_0 0) (ms0_1 t) (hstage0_1 0) (Gen.V m c main_v3) (Gen.V m c main_arg2) (Gen.V m c main_v7) (Gen.V m c main_arg4) f0 f1 W _)
  isplitl [H0]; · iexact H0
  isplitl [H1]; · iexact H1
  isplitl [HB]; · iexact HB
  isplitl [HH]; · iexact HH
  isplitl [HW]; · iexact HW
  iintro ⟨H0, ⟨%f1', H1, %h1⟩, HB, HH, ⟨%W', HW'⟩⟩
  isplitl [HB HH Hg]
  · isplitl [HB]; · iexact HB
    isplitl [HH]; · iexact HH
    iexact Hg
  isplitl [HW']
  · iexists W'; isplitr; · ipureintro; exact fun _ _ => Or.inl trivial
    iexact HW'
  isplitl [H0]
  · iexists f0; isplitr; · ipureintro; exact e0
    iexact H0
  iexists f1'; isplitr; swap; · iexact H1
  ipureintro
  funext y
  refine (h1 y).trans ?_
  unfold outAt
  rw [hOf_staged (ms0_0 t).view f0 _ e0]

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program's run. -/
theorem run_main : θ_run defs (onTc (τ := τ) (main (F := F))) (s₀ m ρ) (fun r => Pipeline.FramePost cfgs (dats m) 0 (Gen.V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := Gen.V m) (hmain := hmain m Variants.none) (hA := A_eq m)
    (hin := fun _ => .rfl) (hout := fun _ => .rfl)

/-- The result array after the run. -/
def res (c : Dev nD) : Buf (Elt F) ((c : Thread nD τ).loc main_v8) := (dats m 0 c).arrAt 1 cfg0.N

/-- The run's result, its arguments as launched and every counter at zero. -/
theorem run_all : θ_run defs (onTc (τ := τ) (main (F := F))) ⟨m, fun _ => 0, ρ⟩ (fun r => (∀ c : Dev nD,
      r.2.mem ((c.tc : Thread nD τ).loc main_v8) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 1,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.GateUpIdeal.GU

end
-- ==== Proof.GU.KFrame.lean ====
/-
  The gate and up program before idealization: its text is the idealized program's, so its run is that program's run read at bits.
-/
module

public import proofs.«01_k».proof.Proof.GU.Frame
public import proofs.«01_k».proof.Proof.Gen.GateUp
public import proofs.«01_k».proof.Defs

@[expose] public section

set_option maxRecDepth 65536
set_option maxHeartbeats 4000000

noncomputable section

namespace Cert.Proof

open Idealize.ShloMosaic Idealize.ShloMosaic.TcCoe Idealize.ShloMosaic.Tactic Idealize.SL.Sem

/-- The program's frame. -/
theorem frame_GateUp : Cert.quiescent_GateUp (hGateUp := Cert.GateUp.Gen.facts) := by
  have h : Cert.quiescent_GateUp (hGateUp := Cert.GateUp.Gen.facts) =
      ∀ (m : (ℓ : Loc Cert.GateUpIdeal.nD Cert.GateUpIdeal.τ Cert.GateUpIdeal.sig) → Buf (Elt Bits) ℓ) (g : Dev Cert.GateUpIdeal.nD → PrngReg), True →
    θ_run (Cert.GateUpIdeal.defs (F := Bits)) (onTc (τ := Cert.GateUpIdeal.τ) (Cert.GateUpIdeal.main (F := Bits))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0) := by
    sl_kernel_rfl
  rw [h]
  intro m g _
  exact (θ_run _ _ _).mono (fun r h => ⟨fun c => (h.1 c).2, h.2⟩) (Cert.GateUpIdeal.GU.run_all (F := Bits) m g)

end Cert.Proof

end
-- ==== Proof.GU.Nib.lean ====
/-
  The unpacked weights, one at a time: the words and scales of a block transposed, the codes and scales of a tile, each
  read at an index.
-/
module

public import proofs.«01_k».proof.Proof.GU.TrVal
public import proofs.«01_k».proof.Proof.Nib
public import Idealize.ShloMosaic.Lib.Pointwise
public import Idealize.ShloMosaic.Lib.Pointwise.IndexBridge
public import Idealize.ShloMosaic.Lib.BitcastFour

@[expose] public section

set_option maxRecDepth 16384

noncomputable section

namespace Cert.GateUpIdeal.GU

open Cert.GateUpIdeal Cert.GateUpIdeal.Gen
open Cert.KernelIdeal.Down (half shl_sshr mask_nibble flip_toInt word_nibble amount)
open Idealize.ShloMosaic Idealize.ShloMosaic.TcCoe

/-- Row `r` of every eight rows of words, transposed, at an index: the word of row `8 j + r`, its codes' top bits flipped. -/
theorem wordsT_apply (r : Fin 8) (v : Vec Ideal S4096x128 .i8) (z : Fin 1) (i j : Fin 128) :
    wordsT (F := Ideal) r v (ix3 z i j)
      = IntOp.xori (bitcast S1024x128 32 (v : IVec S4096x128 8) bitcasts_S4096x128_w8_S1024x128_w32 (ix2 (⟨8 * j.val + r.val, by omega⟩ : Fin 1024) i)) 2290649224#32 := by
  unfold wordsT
  pointwise
  congr 2
  funext d; apply Fin.ext
  fin_cases d
  · dsimp; omega
  · rfl

/-- A tile of scales transposed, at an index. -/
theorem scalesT_apply (v : Vec Ideal S128x128 .bf16) (i j : Fin 128) : scalesT (F := Ideal) v (ix2 i j) = v (ix2 j i) := by
  unfold scalesT
  pointwise

/-- The code at row `p` of 64 and lane `l`: nibble `p % 8` of word `p / 8`, with its sign. -/
theorem nib64_apply (v : Vec Ideal S1x8x128 .i32) (p : Fin 64) (l : Fin 128) :
    nib64 (F := Ideal) v (ix2 p l)
      = ((((((v (ix3 (0 : Fin 1) (⟨p.val / 8, by omega⟩ : Fin 8) l) : BitVec 32).extractLsb' (4 * (p.val % 8)) 4).signExtend 32).toInt : ℤ) : ℝ) : EReal) := by
  unfold nib64
  pointwise
  have ha := amount ⟨p.val % 8, by omega⟩
  dsimp only at ha
  have hn : (BitVec.ofNat 32 (28 - 4 * (p.val % 8))).toNat = 28 - 4 * (p.val % 8) := by
    rw [BitVec.toNat_ofNat]; omega
  generalize v (ix3 (0 : Fin 1) (⟨p.val / 8, by omega⟩ : Fin 8) l) = w
  have hs : IntOp.shrsi ArithUnit.vector (IntOp.shli ArithUnit.vector w
      (IntOp.subi (28#32) (IntOp.muli (4#32) (BitVec.ofNat 32 (p.val % 8))))) 28#32
      = (w.extractLsb' (4 * (p.val % 8)) 4).signExtend 32 := by
    have ha' : IntOp.subi (28#32) (IntOp.muli (4#32) (BitVec.ofNat 32 (p.val % 8))) = BitVec.ofNat 32 (28 - 4 * (p.val % 8)) := ha
    rw [ha']
    unfold IntOp.shrsi IntOp.shli
    rw [if_pos (by decide), if_pos (by rw [hn]; omega)]
    show BitVec.sshiftRight (w <<< (BitVec.ofNat 32 (28 - 4 * (p.val % 8))).toNat) (28#32).toNat = _
    rw [hn]
    show BitVec.sshiftRight (w <<< (28 - 4 * (p.val % 8))) 28 = _
    rw [shl_sshr _ _ (by omega)]
  rw [hs]
  rfl

/-- A row of scales over eight rows. -/
theorem row8_apply (v : Vec Ideal S1x128 .f32) (r : Fin 8) (l : Fin 128) : row8 (F := Ideal) v (ix2 r l) = v (ix2 (0 : Fin 1) l) := by
  unfold row8
  pointwise

theorem first_apply : ∀ (r : Fin 8) (l : Fin 128), first (ix2 r l) = if r.val < 4 then 1#1 else 0#1 := by
  intro r l
  have h : first (ix2 r l) = first (ix2 r (0 : Fin 128)) := rfl
  rw [h]
  clear h
  revert r; decide +kernel

/-- Two rows of scales, four rows each. -/
def two8 (v : Fin 8 → Vec Ideal S1x128 .f32) (q : Fin 4) : FVec Ideal S8x128 .f32 :=
  select first (row8 (v ⟨2 * q.val, by omega⟩)) (row8 (v ⟨2 * q.val + 1, by omega⟩))
theorem two8_apply (v : Fin 8 → Vec Ideal S1x128 .f32) (q : Fin 4) (r : Fin 8) (l : Fin 128) :
    two8 v q (ix2 r l) = v ⟨2 * q.val + r.val / 4, by omega⟩ (ix2 (0 : Fin 1) l) := by
  have h : two8 v q (ix2 r l) = Scalar.select (first (ix2 r l)) (row8 (F := Ideal) (v ⟨2 * q.val, by omega⟩) (ix2 r l)) (row8 (F := Ideal) (v ⟨2 * q.val + 1, by omega⟩) (ix2 r l)) := rfl
  rw [h, row8_apply, row8_apply, first_apply]
  by_cases hr : r.val < 4
  · rw [if_pos hr]
    have e : (⟨2 * q.val + r.val / 4, by omega⟩ : Fin 8) = ⟨2 * q.val, by omega⟩ := Fin.ext (by dsimp only; omega)
    rw [e]; simp [Scalar.select]
  · rw [if_neg hr]
    have e : (⟨2 * q.val + r.val / 4, by omega⟩ : Fin 8) = ⟨2 * q.val + 1, by omega⟩ := Fin.ext (by dsimp only; omega)
    rw [e]; simp [Scalar.select]

/-- The thirty-two rows before they are doubled. -/
def sc32 (v : Fin 8 → Vec Ideal S1x128 .f32) : FVec Ideal S32x128 .f32 :=
  concatenate S32x128 0 (List.ofFn fun q : Fin 4 => (⟨S8x128, two8 v q⟩ : (s : Shape) × Vec Ideal s .f32)) concatenates_S8x128_S8x128_S8x128_S8x128_S32x128_d0
theorem sc32_apply (v : Fin 8 → Vec Ideal S1x128 .f32) (r : Fin 32) (l : Fin 128) :
    sc32 v (ix2 r l) = v ⟨r.val / 4, by omega⟩ (ix2 (0 : Fin 1) l) := by
  have h : sc32 v (ix2 r l) = two8 v ⟨r.val / 8, by omega⟩ (ix2 (⟨r.val % 8, by omega⟩ : Fin 8) l) := by
    unfold sc32
    refine concatenate_ofFn_apply (t := S32x128) (s₁ := S8x128) (0 : Fin 2) (two8 v) _ rfl 8 rfl (ix2 r l) ⟨r.val / 8, by omega⟩ rfl (ix2 (⟨r.val % 8, by omega⟩ : Fin 8) l) rfl ?_
    intro b hb
    fin_cases b
    · exact absurd rfl hb
    · rfl
  rw [h, two8_apply]
  have e : (⟨2 * (⟨r.val / 8, by omega⟩ : Fin 4).val + (⟨r.val % 8, by omega⟩ : Fin 8).val / 4, by dsimp only; omega⟩ : Fin 8) = ⟨r.val / 4, by omega⟩ := Fin.ext (by dsimp only; omega)
  rw [e]

theorem sc64_eq (v : Fin 8 → Vec Ideal S1x128 .f32) : sc64 (F := Ideal) v = truncf .bf16 (shapeCast S64x128 (broadcastTo S32x2x128 (shapeCast S32x1x128 (shapeCast S32x1x128 (sc32 v) shapeCasts_S32x128_S32x1x128)
    shapeCasts_S32x1x128_S32x1x128) broadcasts_S32x1x128_S32x2x128) shapeCasts_S32x2x128_S64x128) bitsLt_bf16_f32 := rfl

/-- The scales of a tile at row `p`: those of row `p / 8`. -/
theorem sc64_apply (v : Fin 8 → Vec Ideal S1x128 .f32) (p : Fin 64) (l : Fin 128) :
    (sc64 (F := Ideal) v (ix2 p l) : EReal) = v ⟨p.val / 8, by omega⟩ (ix2 (0 : Fin 1) l) := by
  rw [sc64_eq]
  pointwise
  rw [sc32_apply]
  have e : (⟨(⟨p.val / 2, by omega⟩ : Fin 32).val / 4, by dsimp only; omega⟩ : Fin 8) = ⟨p.val / 8, by omega⟩ := Fin.ext (by dsimp only; omega)
  rw [e]

/-- Four pieces of 64 rows, at a row. -/
theorem cat4_apply (f : Fin 4 → FVec Ideal S64x128 .bf16) (p : Fin 256) (l : Fin 128) :
    cat4 (F := Ideal) f (ix2 p l) = f ⟨p.val / 64, by omega⟩ (ix2 (⟨p.val % 64, by omega⟩ : Fin 64) l) := by
  have h : cat4 (F := Ideal) f = concatenate S256x128 0 (List.ofFn fun q : Fin 4 => (⟨S64x128, f q⟩ : (s : Shape) × Vec Ideal s .bf16)) concatenates_S64x128_S64x128_S64x128_S64x128_S256x128_d0 := rfl
  rw [h]
  refine concatenate_ofFn_apply (t := S256x128) (s₁ := S64x128) (0 : Fin 2) f _ rfl 64 rfl (ix2 p l) ⟨p.val / 64, by omega⟩ rfl (ix2 (⟨p.val % 64, by omega⟩ : Fin 64) l) rfl ?_
  intro b hb
  fin_cases b
  · exact absurd rfl hb
  · rfl

/-- A tile's weight at an index. -/
theorem wtile_apply (tw : Fin 4 → Fin 32 → Fin 2 → Vec Ideal S1x8x128 .i32) (ts : Fin 256 → Fin 2 → Vec Ideal S1x128 .f32) (n : Fin 32) (t : Fin 2) (p : Fin 256) (l : Fin 128) :
    (wtile (F := Ideal) tw ts n t (ix2 p l) : EReal)
      = ((((((tw ⟨p.val / 64, by omega⟩ n t (ix3 (0 : Fin 1) (⟨p.val % 64 / 8, by omega⟩ : Fin 8) l) : BitVec 32).extractLsb' (4 * (p.val % 64 % 8)) 4).signExtend 32).toInt : ℤ) : ℝ) : EReal)
        * ts (rowIn n ⟨p.val % 64 / 8, by omega⟩) t (ix2 (0 : Fin 1) l) := by
  unfold wtile
  rw [cat4_apply]
  have h : ∀ (x y : FVec Ideal S64x128 .bf16) (i : S64x128.Idx), (mulf x y i : EReal) = (x i : EReal) * y i := fun _ _ _ => rfl
  rw [h, nib64_apply, sc64_apply]

end Cert.GateUpIdeal.GU

end
-- ==== Proof.GU.Perm.lean ====
/-
  The permutation matrix the kernel builds, and a chunk's permuted activations: column `p` takes column `nat p`.
-/
module

public import proofs.«01_k».proof.Proof.GU.Prologue
public import Idealize.ShloMosaic.Lib.Pointwise
public import Idealize.ShloMosaic.Lib.VecWindow

@[expose] public section

set_option maxRecDepth 16384

noncomputable section

namespace Cert.GateUpIdeal.GU

open Cert.GateUpIdeal Cert.GateUpIdeal.Gen
open Idealize.ShloMosaic Idealize.ShloMosaic.TcCoe

/-- The order in which a chunk's 256 columns are unpacked. -/
def nat (p : Fin 256) : Fin 256 :=
  ⟨32 * (p.val % 64 / 8) + 16 * (p.val % 8 % 2) + 4 * (p.val / 64) + p.val % 8 / 2, by omega⟩

/-- The integer array the kernel compares the row numbers with. -/
def natE : {V : IVec S256x256 32 // p1v (F := Ideal) = shapeCast S256x256 (truncf .bf16 (select (cmpi .eq (iota .tc S256x256 32 [0] iota_S256x256_d0_w32) V)
    (broadcast S256x256 (Scalar.ofBits (F := Ideal) .f32 0x3F800000#32)) (broadcast S256x256 (Scalar.ofBits (F := Ideal) .f32 0x00000000#32))) bitsLt_bf16_f32) shapeCasts_S256x256_S256x256} :=
  ⟨_, rfl⟩

/-- It does not depend on the row. -/
theorem natE_row (j c : Fin 256) : natE.1 (ix2 j c) = natE.1 (ix2 (0 : Fin 256) c) := rfl

/-- Its entries in row zero. -/
theorem natE_zero : ∀ c : Fin 256, natE.1 (ix2 (0 : Fin 256) c) = BitVec.ofNat 32 (nat c).val := by decide +kernel

/-- The permutation matrix at an index. -/
theorem p1v_apply (j c : Fin 256) : p1v (F := Ideal) (ix2 j c) = if j = nat c then (1 : EReal) else 0 := by
  rw [natE.2, shapeCast_self]
  pointwise
  rw [natE_row, natE_zero]
  by_cases h : j = nat c
  · subst h
    rw [if_pos rfl]
    simp [Scalar.select, IntOp.cmpi]
  · rw [if_neg h]
    have hne : BitVec.ofNat 32 j.val ≠ BitVec.ofNat 32 (nat c).val := fun e => h (Fin.ext (by
      have := congrArg BitVec.toNat e
      rw [BitVec.toNat_ofNat, BitVec.toNat_ofNat] at this
      omega))
    simp [Scalar.select, IntOp.cmpi, beq_eq_false_iff_ne.2 hne]

/-- The permutation as read back is the one stored. -/
theorem p1r_eq : p1r (F := Ideal) = p1v (F := Ideal) := by
  unfold p1r
  exact View.readCov_full _ _ _ _ _

/-- Eight chunks one under the other, at a row. -/
def hcat (a : Fin 32 → Vec Ideal S16x256 .bf16) (q : Fin 4) : FVec Ideal S128x256 .bf16 :=
  concatenate S128x256 0 (List.ofFn fun r : Fin 8 => (⟨S16x256, a (chunkOf q r)⟩ : (s : Shape) × Vec Ideal s .bf16))
    concatenates_S16x256_S16x256_S16x256_S16x256_S16x256_S16x256_S16x256_S16x256_S128x256_d0

theorem hcat_apply (a : Fin 32 → Vec Ideal S16x256 .bf16) (q : Fin 4) (r : Fin 128) (c : Fin 256) :
    hcat a q (ix2 r c) = a (chunkOf q ⟨r.val / 16, by omega⟩) (ix2 (⟨r.val % 16, by omega⟩ : Fin 16) c) := by
  unfold hcat
  refine concatenate_ofFn_apply (t := S128x256) (s₁ := S16x256) (0 : Fin 2) (fun r : Fin 8 => a (chunkOf q r)) _ rfl 16 rfl (ix2 r c) ⟨r.val / 16, by omega⟩ rfl (ix2 (⟨r.val % 16, by omega⟩ : Fin 16) c) rfl ?_
  intro b hb
  fin_cases b
  · exact absurd rfl hb
  · rfl

theorem hgrp_eq (a : Fin 32 → Vec Ideal S16x256 .bf16) (p : Vec Ideal S256x256 .bf16) (q : Fin 4) :
    hgrp (F := Ideal) a p q = truncf .bf16 (matmul (F := Ideal) (φ₁ := .bf16) (φ₂ := .bf16) dot_S128x256_S256x256_S128x256_1_0_0_1_n_n none (hcat a q) (p : FVec Ideal S256x256 .bf16) (constant S128x256 .f32 0x00000000#32)) bitsLt_bf16_f32 := rfl

theorem chunk_eq (n : Fin 32) (r : Fin 8) (q : Fin 4) (hq : q.val = n.val / 8) (hr : r.val = n.val % 8) : chunkOf q r = n :=
  Fin.ext (by show 8 * q.val + r.val = n.val; omega)

/-- A chunk's permuted activations at an index. -/
theorem hchunk_apply (a : Fin 32 → Vec Ideal S16x256 .bf16) (n : Fin 32) (b : Fin 16) (c : Fin 256) :
    hchunk (F := Ideal) a (p1v (F := Ideal)) n (ix2 b c) = a n (ix2 b (nat c)) := by
  unfold hchunk
  rw [hgrp_eq]
  dsimp only
  pointwise
  simp only [p1v_apply, hcat_apply]
  simp [mul_ite, Finset.sum_ite_eq']
  rw [chunk_eq n _ _ rfl (by dsimp only; omega)]
  congr 2
  exact Fin.ext (by dsimp only; omega)

end Cert.GateUpIdeal.GU

end
-- ==== Proof.GU.Term.lean ====
/-
  The gate and up projections' result written out: for every output the sum of its products, in the order in which the
  kernel unpacks the weights.
-/
module

public import proofs.«01_k».proof.Proof.GU.Perm
public import proofs.«01_k».proof.Proof.Nib

@[expose] public section

set_option maxRecDepth 16384

noncomputable section

namespace Cert.GateUpIdeal.GU

open Cert.GateUpIdeal Cert.GateUpIdeal.Gen
open Cert.KernelIdeal.Down (half)
open Idealize.ShloMosaic Idealize.ShloMosaic.TcCoe

/-- One product: position `p` of chunk `kc` for output column `n`. -/
def term (h : S16x8192.Idx → EReal) (codes : S3584x256x16.Idx → BitVec 8) (scales : S3584x256.Idx → EReal) (b : Fin 16) (n : Fin 3584)
    (kc : Fin 32) (p : Fin 256) : EReal :=
  h (ix2 b (⟨256 * kc.val + (nat p).val, by omega⟩ : Fin 8192))
    * ((((half (codes (ix3 n (⟨8 * kc.val + p.val % 64 / 8, by omega⟩ : Fin 256) (⟨4 * (p.val / 64) + p.val % 8 / 2, by omega⟩ : Fin 16)))
      (p.val % 8 % 2) : ℤ) : ℝ) : EReal) * scales (ix2 n (⟨8 * kc.val + p.val % 64 / 8, by omega⟩ : Fin 256)))

/-- A projection at an output. -/
def proj (h : S16x8192.Idx → EReal) (codes : S3584x256x16.Idx → BitVec 8) (scales : S3584x256.Idx → EReal) (b : Fin 16) (n : Fin 3584) : EReal :=
  ∑ kc : Fin 32, ∑ p : Fin 256, term h codes scales b n kc p

/-- The result at an output: the gate times its sigmoid, times the up projection. -/
def outE (h : S16x8192.Idx → EReal) (gc : S3584x256x16.Idx → BitVec 8) (gs : S3584x256.Idx → EReal) (uc : S3584x256x16.Idx → BitVec 8) (us : S3584x256.Idx → EReal)
    (b : Fin 16) (n : Fin 3584) : EReal :=
  proj h gc gs b n * Ideal.logistic (proj h gc gs b n) * proj h uc us b n

end Cert.GateUpIdeal.GU

end
-- ==== Proof.GU.Acc.lean ====
/-
  A block's weights and its sum over the thirty-two chunks, read at an index.
-/
module

public import proofs.«01_k».proof.Proof.GU.Nib
public import proofs.«01_k».proof.Proof.GU.Term
public import proofs.«01_k».proof.Proof.GU.Frame

@[expose] public section

set_option maxRecDepth 16384

noncomputable section

namespace Cert.GateUpIdeal.GU

open Cert.GateUpIdeal Cert.GateUpIdeal.Gen
open Cert.KernelIdeal.Down (half mask_nibble flip_toInt word_nibble ix2_congr ix3_congr)
open Idealize.ShloMosaic Idealize.ShloMosaic.TcCoe

/-- Two halves side by side, read at a column. -/
theorem wpair_apply (w : Fin 2 → FVec Ideal S256x128 .bf16) (p : Fin 256) (j : Fin 256) :
    wpair (F := Ideal) (w 0) (w 1) (ix2 p j) = w (hf j) (ix2 p (lo j)) := by
  unfold wpair
  pointwise
  split
  · rename_i h
    have e : hf j = 0 := Fin.ext (by show j.val / 128 = 0; omega)
    rw [e]; congr 2; exact Fin.ext (by show j.val = j.val % 128; omega)
  · rename_i h
    have e : hf j = 1 := Fin.ext (by show j.val / 128 = 1; omega)
    rw [e]; congr 2; exact Fin.ext (by show j.val - 128 = j.val % 128; omega)

section Sum

variable (h : Fin 32 → Vec Ideal S16x256 .bf16) (tw : Fin 4 → Fin 32 → Fin 2 → Vec Ideal S1x8x128 .i32) (ts : Fin 256 → Fin 2 → Vec Ideal S1x128 .f32)

/-- One chunk's step at an index. -/
theorem accStep_apply (a : FVec Ideal S16x256 .f32) (n : Fin 32) (b : Fin 16) (j : Fin 256) :
    accStep (F := Ideal) h tw ts a n (ix2 b j) = (a (ix2 b j) : EReal) + ∑ p : Fin 256, (h n (ix2 b p) : EReal) *
      wtile (F := Ideal) tw ts n (hf j) (ix2 p (lo j)) := by
  unfold accStep
  pointwise
  simp only [wpair_apply (wtile (F := Ideal) tw ts n)]

/-- The steps over a list of chunks at an index. -/
theorem accFold_apply (b : Fin 16) (j : Fin 256) : ∀ (l : List (Fin 32)) (a : FVec Ideal S16x256 .f32),
    (l.foldl (accStep (F := Ideal) h tw ts) a (ix2 b j) : EReal) = (a (ix2 b j) : EReal) + (l.map fun n => ∑ p : Fin 256, (h n (ix2 b p) : EReal) *
      wtile (F := Ideal) tw ts n (hf j) (ix2 p (lo j))).sum
  | [], a => by simp
  | n :: l, a => by
    rw [List.foldl_cons, accFold_apply b j l, accStep_apply, List.map_cons, List.sum_cons, add_assoc]

/-- The sum over the thirty-two chunks at an index. -/
theorem acc_apply (b : Fin 16) (j : Fin 256) :
    (acc (F := Ideal) h tw ts (ix2 b j) : EReal) = ∑ n : Fin 32, ∑ p : Fin 256, (h n (ix2 b p) : EReal) *
      wtile (F := Ideal) tw ts n (hf j) (ix2 p (lo j)) := by
  unfold acc
  rw [accFold_apply, Fin.sum_univ_def]
  have e : (broadcast S16x256 (Scalar.ofBits (F := Ideal) .f32 0x00000000#32) (ix2 b j) : EReal) = 0 := Ideal.ofBits_zero_f32
  rw [e, zero_add]
  rfl

end Sum

/-- The row of the block's codes that holds byte `q` of the word at row `i`, column `j` of piece `rs`. -/
def byteRow (rs : Fin 4) (i j : Fin 256) (q : Fin 4) : Fin 8192 :=
  ⟨4096 * (j.val / 128) + 4 * (8 * (j.val % 128) + (unitRow rs (hf i)).val) + q.val, by
    have := (unitRow rs (hf i)).isLt; omega⟩

/-- A code of the transposed words: a half of a byte, its top bit flipped. -/
theorem twV_nibble (x : S8192x128.Idx → BitVec 8) (rs : Fin 4) (i j : Fin 256) (e : Fin 8) :
    ((((twV (F := Ideal) x (ix3 rs i j) : BitVec 32).extractLsb' (4 * e.val) 4).signExtend 32).toInt : ℤ)
      = half (x (ix2 (byteRow rs i j ⟨e.val / 2, by omega⟩) (lo i))) (e.val % 2) := by
  have hu := (unitRow rs (hf i)).isLt
  have h1 : twV (F := Ideal) x (ix3 rs i j) = IntOp.xori (bitcast S1024x128 32
      (fun z => x ((Rect.unit (s := S8192x128) ![4096 * (hf j).val, 0] S4096x128.size (cw_inb _)).emb z) : IVec S4096x128 8) bitcasts_S4096x128_w8_S1024x128_w32
      (ix2 (⟨8 * (lo j).val + (unitRow rs (hf i)).val, by have := (lo j).isLt; omega⟩ : Fin 1024) (lo i))) 2290649224#32 := by
    unfold twV
    exact wordsT_apply (unitRow rs (hf i)) _ 0 (lo i) (lo j)
  rw [h1]
  have key := bitcast_8_32_getLsbD_ix2 (fun z => x ((Rect.unit (s := S8192x128) ![4096 * (hf j).val, 0] S4096x128.size (cw_inb _)).emb z) : IVec S4096x128 8)
    bitcasts_S4096x128_w8_S1024x128_w32 (⟨8 * (lo j).val + (unitRow rs (hf i)).val, by have := (lo j).isLt; omega⟩ : Fin 1024) (lo i)
  rw [← ix2_eq_valueIdx] at key
  generalize bitcast S1024x128 32 (fun z => x ((Rect.unit (s := S8192x128) ![4096 * (hf j).val, 0] S4096x128.size (cw_inb _)).emb z) : IVec S4096x128 8)
    bitcasts_S4096x128_w8_S1024x128_w32 (ix2 (⟨8 * (lo j).val + (unitRow rs (hf i)).val, by have := (lo j).isLt; omega⟩ : Fin 1024) (lo i)) = w at key ⊢
  have hw : w.extractLsb' (4 * e.val) 4 = (x (ix2 (byteRow rs i j ⟨e.val / 2, by omega⟩) (lo i))).extractLsb' (4 * (e.val % 2)) 4 := by
    refine word_nibble w _ e.val e.isLt fun r h1 h2 => ?_
    have hlo : (lo j).val = j.val % 128 := rfl
    rw [key r (by omega) ⟨4 * (8 * (lo j).val + (unitRow rs (hf i)).val) + e.val / 2, by omega⟩ (by dsimp only; omega), ← ix2_eq_valueIdx]
    have hi : (Rect.unit (s := S8192x128) ![4096 * (hf j).val, 0] S4096x128.size (cw_inb _)).emb
        (ix2 (⟨4 * (8 * (lo j).val + (unitRow rs (hf i)).val) + e.val / 2, by omega⟩ : Fin 4096) (lo i)) = ix2 (byteRow rs i j ⟨e.val / 2, by omega⟩) (lo i) := by
      funext d; apply Fin.ext
      fin_cases d
      · show 4096 * (j.val / 128) + 1 * (4 * (8 * (j.val % 128) + (unitRow rs (hf i)).val) + e.val / 2)
          = 4096 * (j.val / 128) + 4 * (8 * (j.val % 128) + (unitRow rs (hf i)).val) + e.val / 2
        omega
      · show 0 + 1 * (lo i).val = (lo i).val; omega
    exact congrArg (fun z => (x z).getLsbD (r % 8)) hi
  have hm := mask_nibble e
  unfold IntOp.xori
  rw [BitVec.extractLsb'_xor, hw, hm, flip_toInt]
  rfl

/-- A transposed scale. -/
theorem tsV_apply (x : S256x256.Idx → EReal) (i j : Fin 256) : (tsV (F := Ideal) x (ix2 i j) : EReal) = x (ix2 j i) := by
  unfold tsV
  refine (scalesT_apply _ (lo i) (lo j)).trans (congrArg x ?_)
  funext d; apply Fin.ext
  fin_cases d
  · show 128 * (j.val / 128) + 1 * (j.val % 128) = j.val; omega
  · show 128 * (i.val / 128) + 1 * (i.val % 128) = i.val; omega

/-- A block's weight at an index: a half of a byte, less eight, times its scale. -/
theorem weight_apply (x : S8192x128.Idx → BitVec 8) (s : S256x256.Idx → EReal) (n : Fin 32) (j p : Fin 256) :
    (wtile (F := Ideal) (twP (twV (F := Ideal) x)) (tsP (tsV (F := Ideal) s)) n (hf j) (ix2 p (lo j)) : EReal)
      = (((half (x (ix2 (byteRow ⟨p.val / 64, by omega⟩ (rowIn n ⟨p.val % 64 / 8, by omega⟩) j ⟨p.val % 8 / 2, by omega⟩) (lo (rowIn n ⟨p.val % 64 / 8, by omega⟩))))
          (p.val % 8 % 2) : ℤ) : ℝ) : EReal) * s (ix2 j (rowIn n ⟨p.val % 64 / 8, by omega⟩)) := by
  rw [wtile_apply]
  have e1 : twP (F := Ideal) (twV (F := Ideal) x) ⟨p.val / 64, by omega⟩ n (hf j) (ix3 (0 : Fin 1) (⟨p.val % 64 / 8, by omega⟩ : Fin 8) (lo j))
      = twV (F := Ideal) x (ix3 (⟨p.val / 64, by omega⟩ : Fin 4) (rowIn n ⟨p.val % 64 / 8, by omega⟩) j) := by
    refine congrArg (twV (F := Ideal) x) ?_
    funext d; apply Fin.ext
    fin_cases d
    · show p.val / 64 + 1 * 0 = p.val / 64; omega
    · show 8 * n.val + 1 * (p.val % 64 / 8) = 8 * n.val + p.val % 64 / 8; omega
    · show 128 * (j.val / 128) + 1 * (j.val % 128) = j.val; omega
  have e2 : (tsP (F := Ideal) (tsV (F := Ideal) s) (rowIn n ⟨p.val % 64 / 8, by omega⟩) (hf j) (ix2 (0 : Fin 1) (lo j)) : EReal)
      = tsV (F := Ideal) s (ix2 (rowIn n ⟨p.val % 64 / 8, by omega⟩) j) := by
    refine congrArg (tsV (F := Ideal) s) ?_
    funext d; apply Fin.ext
    fin_cases d
    · show (rowIn n ⟨p.val % 64 / 8, by omega⟩).val + 1 * 0 = (rowIn n ⟨p.val % 64 / 8, by omega⟩).val; omega
    · show 128 * (j.val / 128) + 1 * (j.val % 128) = j.val; omega
  have e3 := twV_nibble x ⟨p.val / 64, by omega⟩ (rowIn n ⟨p.val % 64 / 8, by omega⟩) j ⟨p.val % 64 % 8, by omega⟩
  have e4 : p.val % 64 % 8 = p.val % 8 := by omega
  rw [e1, e2, tsV_apply]
  dsimp only at e3
  simp only [e4] at e3 ⊢
  rw [e3]

/-! ## The block's sum from the arrays -/

/-- The codes as the kernel's host lines lay them out. -/
def codesL (a : S3584x256x16.Idx → BitVec 8) : S114688x128.Idx → BitVec 8 :=
  shapeCast S114688x128 (transpose S3584x2x2x8x128 [0, 1, 3, 2, 4] (shapeCast S3584x2x8x2x128 (transpose S3584x16x256 [0, 2, 1] a transposes_S3584x256x16_S3584x16x256_0_2_1)
    shapeCasts_S3584x16x256_S3584x2x8x2x128) transposes_S3584x2x8x2x128_S3584x2x2x8x128_0_1_3_2_4) shapeCasts_S3584x2x2x8x128_S114688x128

/-- A byte of the laid-out codes. -/
theorem codesL_apply (a : S3584x256x16.Idx → BitVec 8) (r : Fin 114688) (l : Fin 128) :
    codesL a (ix2 r l) = a (ix3 (⟨r.val / 32, by omega⟩ : Fin 3584) (⟨128 * (r.val / 8 % 2) + l.val, by omega⟩ : Fin 256) (⟨8 * (r.val / 16 % 2) + r.val % 8, by omega⟩ : Fin 16)) := by
  unfold codesL
  pointwise
  exact congrArg a (ix3_congr rfl (by dsimp only; omega) (by dsimp only; omega))

/-- The same, the row given by its parts: the weight's column, the half of its bytes, the half of its groups, and the
    byte's place in eight. -/
theorem codesL_at (a : S3584x256x16.Idx → BitVec 8) (r : Fin 114688) (l : Fin 128) (n : Fin 3584) (q : Fin 256) (j : Fin 16) (A B E : ℕ)
    (hA : A < 2) (hB : B < 2) (hE : E < 8) (hr : r.val = 32 * n.val + 16 * A + 8 * B + E) (hq : 128 * B + l.val = q.val) (hj : 8 * A + E = j.val) :
    codesL a (ix2 r l) = a (ix3 n q j) := by
  have h32 : r.val / 32 = n.val := by omega
  have h16 : r.val / 16 = 2 * n.val + A := by omega
  have h8 : r.val / 8 = 4 * n.val + 2 * A + B := by omega
  have h1 : r.val % 8 = E := by omega
  rw [codesL_apply]
  refine congrArg a (ix3_congr ?_ ?_ ?_)
  · exact h32
  · show 128 * (r.val / 8 % 2) + l.val = q.val
    rw [h8]; omega
  · show 8 * (r.val / 16 % 2) + r.val % 8 = j.val
    rw [h16, h1]; omega

/-- A chunk of the staged activations, at an index. -/
theorem hStaged_apply (a : S16x8192.Idx → EReal) (n : Fin 32) (b : Fin 16) (c : Fin 256) : hStaged (F := Ideal) a n (ix2 b c) = a (ix2 b (⟨256 * n.val + c.val, by omega⟩ : Fin 8192)) := by
  refine congrArg a ?_
  funext d; apply Fin.ext
  fin_cases d
  · show 0 + 1 * b.val = b.val; omega
  · show 256 * n.val + 1 * c.val = 256 * n.val + c.val; omega

/-- Block `k`'s sum is the projection at the block's columns. -/
theorem proj_apply (h : S16x8192.Idx → EReal) (codes : S3584x256x16.Idx → BitVec 8) (scales : S3584x256.Idx → EReal) (k : Fin 14)
    (gc : S8192x128.Idx → BitVec 8) (gs : S256x256.Idx → EReal)
    (hgc : ∀ (r : Fin 8192) (l : Fin 128), gc (ix2 r l) = codesL codes (ix2 (⟨8192 * k.val + r.val, by omega⟩ : Fin 114688) l))
    (hgs : ∀ (j q : Fin 256), gs (ix2 j q) = scales (ix2 (⟨256 * k.val + j.val, by omega⟩ : Fin 3584) q)) (b : Fin 16) (j : Fin 256) :
    (acc (F := Ideal) (hchunk (F := Ideal) (hStaged (F := Ideal) h) (p1v (F := Ideal))) (twP (twV (F := Ideal) gc)) (tsP (tsV (F := Ideal) gs)) (ix2 b j) : EReal)
      = proj h codes scales b ⟨256 * k.val + j.val, by omega⟩ := by
  rw [acc_apply]
  unfold proj
  refine Finset.sum_congr rfl fun kc _ => Finset.sum_congr rfl fun p _ => ?_
  have hp := p.isLt; have hkc := kc.isLt; have hk := k.isLt; have hj := j.isLt
  rw [weight_apply, hchunk_apply, hStaged_apply, hgc, hgs]
  unfold term
  rw [codesL_at codes _ _ (⟨256 * k.val + j.val, by omega⟩ : Fin 3584) (⟨8 * kc.val + p.val % 64 / 8, by omega⟩ : Fin 256)
    (⟨4 * (p.val / 64) + p.val % 8 / 2, by omega⟩ : Fin 16) (p.val / 64 / 2) ((8 * kc.val + p.val % 64 / 8) / 128) (4 * (p.val / 64 % 2) + p.val % 8 / 2)
    (by omega) (by omega) (by omega) ?_ ?_ ?_]
  · rfl
  · show 8192 * k.val + (4096 * (j.val / 128) + 4 * (8 * (j.val % 128)
        + (p.val / 64 / 2 * 4 + (8 * kc.val + p.val % 64 / 8) / 128 * 2 + p.val / 64 % 2)) + p.val % 8 / 2)
      = 32 * (256 * k.val + j.val) + 16 * (p.val / 64 / 2) + 8 * ((8 * kc.val + p.val % 64 / 8) / 128) + (4 * (p.val / 64 % 2) + p.val % 8 / 2)
    omega
  · show 128 * ((8 * kc.val + p.val % 64 / 8) / 128) + (8 * kc.val + p.val % 64 / 8) % 128 = 8 * kc.val + p.val % 64 / 8
    omega
  · show 8 * (p.val / 64 / 2) + (4 * (p.val / 64 % 2) + p.val % 8 / 2) = 4 * (p.val / 64) + p.val % 8 / 2
    omega

/-- The piece of the result a block gives, at an index. -/
theorem swish_apply (g u : FVec Ideal S16x256 .f32) (z : Fin 1) (b : Fin 16) (j : Fin 256) :
    (swish (F := Ideal) g u (ix3 z b j) : EReal) = g (ix2 b j) * Ideal.logistic (g (ix2 b j)) * u (ix2 b j) := by
  unfold swish
  pointwise

end Cert.GateUpIdeal.GU

end
-- ==== Proof.GU.Arrays.lean ====
/-
  The gate and up kernel's result at an index, from the five argument arrays.
-/
module

public import proofs.«01_k».proof.Proof.GU.Acc
public import Idealize.ShloMosaic.Lib.Claim
public import Idealize.ShloMosaic.Lib.Pipeline.ValueKit

@[expose] public section

set_option maxRecDepth 16384

noncomputable section

namespace Cert.GateUpIdeal.GU

open Cert.GateUpIdeal Cert.GateUpIdeal.Gen
open Idealize.ShloMosaic Idealize.ShloMosaic.TcCoe

/-- The result's element of block `k`, from blocks that hold the arrays' rows. -/
theorem blkOut_apply (h : S16x8192.Idx → EReal) (gc : S3584x256x16.Idx → BitVec 8) (gs : S3584x256.Idx → EReal) (uc : S3584x256x16.Idx → BitVec 8) (us : S3584x256.Idx → EReal)
    (k : Fin 14) (xg : S8192x128.Idx → BitVec 8) (sg : S256x256.Idx → EReal) (xu : S8192x128.Idx → BitVec 8) (su : S256x256.Idx → EReal)
    (hxg : ∀ (r : Fin 8192) (l : Fin 128), xg (ix2 r l) = codesL gc (ix2 (⟨8192 * k.val + r.val, by omega⟩ : Fin 114688) l))
    (hsg : ∀ (j q : Fin 256), sg (ix2 j q) = gs (ix2 (⟨256 * k.val + j.val, by omega⟩ : Fin 3584) q))
    (hxu : ∀ (r : Fin 8192) (l : Fin 128), xu (ix2 r l) = codesL uc (ix2 (⟨8192 * k.val + r.val, by omega⟩ : Fin 114688) l))
    (hsu : ∀ (j q : Fin 256), su (ix2 j q) = us (ix2 (⟨256 * k.val + j.val, by omega⟩ : Fin 3584) q)) (b : Fin 16) (j : Fin 256) :
    (blkOut (F := Ideal) (hchunk (F := Ideal) (hStaged (F := Ideal) h) (p1v (F := Ideal))) xg sg xu su (ix3 (0 : Fin 1) b j) : EReal)
      = outE h gc gs uc us b ⟨256 * k.val + j.val, by omega⟩ := by
  unfold blkOut outE
  rw [swish_apply, proj_apply h gc gs k xg sg hxg hsg b j, proj_apply h uc us k xu su hxu hsu b j]

/-- A block of codes, read from the whole array. -/
theorem rdC_gate (c : Dev nD) (a : S114688x128.Idx → BitVec 8) (k : Fin 14) (r : Fin 8192) (l : Fin 128) :
    rdC (F := Ideal) c gcM a (8192 * k.val) (ix2 r l) = a (ix2 (⟨8192 * k.val + r.val, by omega⟩ : Fin 114688) l) := by
  refine congrArg a ?_
  funext d; apply Fin.ext
  fin_cases d
  · show min (8192 * k.val) 106496 + 1 * r.val = 8192 * k.val + r.val; omega
  · show 0 + 1 * l.val = l.val; omega
theorem rdC_up (c : Dev nD) (a : S114688x128.Idx → BitVec 8) (k : Fin 14) (r : Fin 8192) (l : Fin 128) :
    rdC (F := Ideal) c ucM a (8192 * k.val) (ix2 r l) = a (ix2 (⟨8192 * k.val + r.val, by omega⟩ : Fin 114688) l) := by
  refine congrArg a ?_
  funext d; apply Fin.ext
  fin_cases d
  · show min (8192 * k.val) 106496 + 1 * r.val = 8192 * k.val + r.val; omega
  · show 0 + 1 * l.val = l.val; omega
/-- A block of scales, read from the whole array. -/
theorem rdS_gate (c : Dev nD) (a : S3584x256.Idx → EReal) (k : Fin 14) (j q : Fin 256) :
    (rdS (F := Ideal) c gsM a (256 * k.val) (ix2 j q) : EReal) = a (ix2 (⟨256 * k.val + j.val, by omega⟩ : Fin 3584) q) := by
  refine congrArg a ?_
  funext d; apply Fin.ext
  fin_cases d
  · show min (256 * k.val) 3328 + 1 * j.val = 256 * k.val + j.val; omega
  · show 0 + 1 * q.val = q.val; omega
theorem rdS_up (c : Dev nD) (a : S3584x256.Idx → EReal) (k : Fin 14) (j q : Fin 256) :
    (rdS (F := Ideal) c usM a (256 * k.val) (ix2 j q) : EReal) = a (ix2 (⟨256 * k.val + j.val, by omega⟩ : Fin 3584) q) := by
  refine congrArg a ?_
  funext d; apply Fin.ext
  fin_cases d
  · show min (256 * k.val) 3328 + 1 * j.val = 256 * k.val + j.val; omega
  · show 0 + 1 * q.val = q.val; omega

variable (m : (ℓ : Loc nD τ sig) → Buf (Elt Ideal) ℓ) (c : Dev nD)

/-- The gate's codes as the region finds them. -/
theorem V_gate : Gen.V m c main_v3 = codesL (m ((c.tc : Thread nD τ).loc main_arg1)) := by
  entry_read
  rfl
/-- The up projection's codes as the region finds them. -/
theorem V_up : Gen.V m c main_v7 = codesL (m ((c.tc : Thread nD τ).loc main_arg3)) := by
  entry_read
  rfl

/-- The result array after the run, at an index. -/
theorem res_apply (k : Fin 14) (b : Fin 16) (j : Fin 256) :
    res m c (ix3 k b j) = outE (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) b ⟨256 * k.val + j.val, by omega⟩ := by
  have h : res m c = outAt m c t0_0 := by
    unfold res
    refine (dats m 0 c).arrAt_eq_of_after_last 1 t0_0 (by decide +kernel) _ fun j => ?_
    blk_simp
    rw [after0_1]
  rw [h]
  unfold outAt
  have h0 : iblk m c 0 t0_0 = m ((c.tc : Thread nD τ).loc main_arg0) := by
    refine Eq.trans ?_ (V_main_arg0 m c)
    funext y
    unfold iblk
    have hi : ∀ d, win0_0.index t0_0 d = 0 := by decide +kernel
    blk_ext! <;> rw [hi] <;> omega
  rw [V_gate, V_up, V_main_arg2, V_main_arg4, h0, p1r_eq]
  exact blkOut_apply _ _ _ _ _ k _ _ _ _ (fun r l => rdC_gate c _ k r l) (fun i q => rdS_gate c _ k i q) (fun r l => rdC_up c _ k r l) (fun i q => rdS_up c _ k i q) b j

end Cert.GateUpIdeal.GU

end
-- ==== Proof.GU.Ref.lean ====
/-
  The gate and up reference's result at an index, and its equality with the kernel's: the same products, summed in the
  array's order instead of the order in which the kernel unpacks them, and the same gate.
-/
module

public import proofs.«01_k».proof.Proof.GU.Term
public import proofs.«01_k».proof.Proof.Gen.GateUpReferenceIdeal.Run

@[expose] public section

set_option maxRecDepth 16384

noncomputable section

namespace Cert.GateUpReferenceIdeal.GU

open Cert.GateUpReferenceIdeal Cert.GateUpReferenceIdeal.Gen
open Cert.KernelIdeal.Down (half ix2_congr ix3_congr ref_half)
open Cert.GateUpIdeal.GU (term proj outE nat)
open Idealize.ShloMosaic Idealize.ShloMosaic.TcCoe Idealize.ShloMosaic.Tactic Idealize.SL.Sem

/-- The reference's weights: each byte's two halves less eight, times the group's scale. -/
def refW (lit : Fin 2 → BitVec 32) (a1 : S3584x256x16.Idx → BitVec 8) (a2 : S3584x256.Idx → EReal) : FVec Ideal S3584x256x2x16 .bf16 :=
  mulf (F := Ideal) (φ := .bf16) (subf (sitofp .bf16 (andi (Host.shrsi
      (broadcastInDim S3584x256x2x16 ![0, 1, 2, 3] bcast_S3584x256x1x16_S3584x256x2x16_0_1_2_3 (broadcastInDim S3584x256x1x16 ![0, 1, 3] bcast_S3584x256x16_S3584x256x1x16_0_1_3 (extui 32 a1 natLt_8_32)))
      (broadcastInDim S3584x256x2x16 ![0, 1, 2, 3] bcast_S1x1x2x1_S3584x256x2x16_0_1_2_3 (shapeCast S1x1x2x1 (fun i => lit (S2.rowMajor i)) shapeCasts_S2_S1x1x2x1)))
      (broadcastInDim S3584x256x2x16 ![] bcast_S_S3584x256x2x16 (constantI S_ 32 15#32))))
      (broadcastInDim S3584x256x2x16 ![] bcast_S_S3584x256x2x16 (constant S_ .bf16 0x4100#16)))
    (broadcastInDim S3584x256x2x16 ![0, 1, 2, 3] bcast_S3584x256x1x1_S3584x256x2x16_0_1_2_3 (broadcastInDim S3584x256x1x1 ![0, 1] bcast_S3584x256_S3584x256x1x1_0_1 a2))

/-- A projection of the reference. -/
def refP (lit : Fin 2 → BitVec 32) (a0 : S16x8192.Idx → EReal) (a1 : S3584x256x16.Idx → BitVec 8) (a2 : S3584x256.Idx → EReal) : FVec Ideal S16x3584 .f32 :=
  Host.dotGeneral dot_S16x256x2x16_S3584x256x2x16_S16x3584_123_123_0_0_n_n none
    (shapeCast S16x256x2x16 a0 shapeCasts_S16x8192_S16x256x2x16 : FVec Ideal S16x256x2x16 .bf16) (refW lit a1 a2)

/-- The reference's result as a function of its five arguments. -/
def refR (a0 : S16x8192.Idx → EReal) (a1 : S3584x256x16.Idx → BitVec 8) (a2 : S3584x256.Idx → EReal) (a3 : S3584x256x16.Idx → BitVec 8) (a4 : S3584x256.Idx → EReal) : S14x16x256.Idx → EReal :=
  transpose S14x16x256 [1, 0, 2] (shapeCast S16x14x256 (truncf .bf16 (mulf (mulf (refP lit0 a0 a1 a2)
      (Host.divf (broadcastInDim S16x3584 ![] bcast_S_S16x3584 (constant S_ .f32 0x3F800000#32))
        (addf (broadcastInDim S16x3584 ![] bcast_S_S16x3584 (constant S_ .f32 0x3F800000#32)) (Host.exp (Host.negf (refP lit0 a0 a1 a2)))))) (refP lit1 a0 a3 a4)) bitsLt_bf16_f32)
    shapeCasts_S16x3584_S16x14x256) transposes_S16x14x256_S14x16x256_1_0_2

/-- The reference's run: its result is that function, its arguments are unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v35) = refR (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans (by unfold refR refP refW; sl_kernel_rfl), (h c).2⟩) (Value.run (F := Ideal) m ρ)

/-- The reference's weights and activations, multiplied, at an index of its contraction. -/
def refTerm (h2 : S16x8192.Idx → EReal) (codes : S3584x256x16.Idx → BitVec 8) (scales : S3584x256.Idx → EReal) (b : Fin 16) (n : Fin 3584)
    (q : Fin 256) (h : Fin 2) (j : Fin 16) : EReal :=
  h2 (ix2 b (⟨32 * q.val + 16 * h.val + j.val, by omega⟩ : Fin 8192))
    * ((((half (codes (ix3 n q j)) h.val : ℤ) : ℝ) : EReal) * scales (ix2 n q))

/-- The reference's product: its dimension numbers. -/
abbrev D : DotDims S16x256x2x16 S3584x256x2x16 S16x3584 := dot_S16x256x2x16_S3584x256x2x16_S16x3584_123_123_0_0_n_n

/-- The three contracted coordinates as an index of the contraction. -/
def ctr : Fin 256 × Fin 2 × Fin 16 ≃ D.contr.Idx where
  toFun x := fun p => match p with
    | ⟨0, _⟩ => x.1
    | ⟨1, _⟩ => x.2.1
    | ⟨2, _⟩ => x.2.2
  invFun k := (k ⟨0, by decide⟩, k ⟨1, by decide⟩, k ⟨2, by decide⟩)
  left_inv x := rfl
  right_inv k := by
    funext p
    match p with
    | ⟨0, _⟩ => rfl
    | ⟨1, _⟩ => rfl
    | ⟨2, _⟩ => rfl

/-- The product at an index, as a sum over the three contracted coordinates. -/
theorem dot_apply (l : S16x256x2x16.Idx → EReal) (r : S3584x256x2x16.Idx → EReal) (acc : S16x3584.Idx → EReal) (b : Fin 16) (n : Fin 3584) :
    Ideal.matmul D l r acc (ix2 b n) = acc (ix2 b n) + ∑ q : Fin 256, ∑ h : Fin 2, ∑ j : Fin 16, l (ix4 b q h j) * r (ix4 n q h j) := by
  have e : Ideal.matmul D l r acc (ix2 b n) = acc (ix2 b n) + ∑ x : Fin 256 × Fin 2 × Fin 16, l (D.lhsIdx (ix2 b n) (ctr x)) * r (D.rhsIdx (ix2 b n) (ctr x)) :=
    congrArg (acc (ix2 b n) + ·) (ctr.sum_comp fun k => l (D.lhsIdx (ix2 b n) k) * r (D.rhsIdx (ix2 b n) k)).symm
  rw [e, Fintype.sum_prod_type]
  refine congrArg (acc (ix2 b n) + ·) (Fintype.sum_congr _ _ fun q => (Fintype.sum_prod_type _).trans (Fintype.sum_congr _ _ fun h => Fintype.sum_congr _ _ fun j => ?_))
  have el : D.lhsIdx (ix2 b n) (ctr (q, h, j)) = ix4 b q h j := by
    funext a
    match a with
    | ⟨0, _⟩ => rfl
    | ⟨1, _⟩ => rfl
    | ⟨2, _⟩ => rfl
    | ⟨3, _⟩ => rfl
  have er : D.rhsIdx (ix2 b n) (ctr (q, h, j)) = ix4 n q h j := by
    funext a
    match a with
    | ⟨0, _⟩ => rfl
    | ⟨1, _⟩ => rfl
    | ⟨2, _⟩ => rfl
    | ⟨3, _⟩ => rfl
  rw [el, er]

/-- The constant the reference subtracts is eight. -/
theorem eight : Ideal.ofBits .bf16 0x4100#16 = ((8 : ℝ) : EReal) := by
  simp [Ideal.ofBits, Ideal.ieee, -EReal.coe_mul]
  norm_num

/-- The shift amounts of the two halves of a byte. -/
def Amounts (lit : Fin 2 → BitVec 32) : Prop := ∀ h : Fin 2, lit (S2.rowMajor (ix1 h)) = BitVec.ofNat 32 (4 * h.val)

theorem amounts0 : Amounts lit0 := by unfold Amounts; decide
theorem amounts1 : Amounts lit1 := by unfold Amounts; decide

/-- A byte's half shifted down, masked and made a number, less eight. -/
theorem half_ref {lit : Fin 2 → BitVec 32} (hl : Amounts lit) (c : BitVec 8) (h : Fin 2) :
    ((FloatOps.sitofp (F := Ideal) .bf16 (IntOp.andi (IntOp.shrsi .host (BitVec.setWidth 32 c) (lit (S2.rowMajor (ix1 h)))) 15#32) : EReal)
      - Ideal.ofBits .bf16 0x4100#16) = (((half c h.val : ℤ) : ℝ) : EReal) := by
  have key : (IntOp.andi (IntOp.shrsi .host (BitVec.setWidth 32 c) (lit (S2.rowMajor (ix1 h)))) 15#32).toInt = ((c.extractLsb' (4 * h.val) 4).toNat : ℤ) := by
    rw [hl h]
    unfold IntOp.shrsi IntOp.andi
    match h with
    | ⟨0, _⟩ => exact (ref_half c).1
    | ⟨1, _⟩ => exact (ref_half c).2
  show ((((IntOp.andi (IntOp.shrsi .host (BitVec.setWidth 32 c) (lit (S2.rowMajor (ix1 h)))) 15#32).toInt : ℝ) : EReal) - Ideal.ofBits .bf16 0x4100#16) = _
  rw [key, eight, ← EReal.coe_sub]
  unfold half
  push_cast
  rfl

/-- A projection of the reference at an index. -/
theorem refP_apply {lit : Fin 2 → BitVec 32} (hl : Amounts lit) (h2 : S16x8192.Idx → EReal) (codes : S3584x256x16.Idx → BitVec 8) (scales : S3584x256.Idx → EReal) (b : Fin 16) (n : Fin 3584) :
    (refP lit h2 codes scales (ix2 b n) : EReal) = ∑ q : Fin 256, ∑ h : Fin 2, ∑ j : Fin 16, refTerm h2 codes scales b n q h j := by
  unfold refP
  pointwise
  refine (dot_apply _ _ _ b n).trans ((zero_add _).trans (Fintype.sum_congr _ _ fun q => Fintype.sum_congr _ _ fun h => Fintype.sum_congr _ _ fun j => ?_))
  unfold refTerm refW
  pointwise
  have ea : ix2 b (⟨q.val * 32 + h.val * 16 + j.val, by omega⟩ : Fin 8192) = ix2 b (⟨32 * q.val + 16 * h.val + j.val, by omega⟩ : Fin 8192) :=
    ix2_congr rfl (by dsimp only; omega)
  rw [ea]
  exact congrArg (fun w : EReal => h2 _ * (w * scales (ix2 n q))) (half_ref hl _ h)

/-- The two orders of the products. -/
def reorder : Fin 32 × Fin 256 ≃ Fin 256 × Fin 2 × Fin 16 where
  toFun x := (⟨8 * x.1.val + x.2.val % 64 / 8, by omega⟩, ⟨x.2.val % 8 % 2, by omega⟩, ⟨4 * (x.2.val / 64) + x.2.val % 8 / 2, by omega⟩)
  invFun y := (⟨y.1.val / 8, by omega⟩, ⟨64 * (y.2.2.val / 4) + 8 * (y.1.val % 8) + 2 * (y.2.2.val % 4) + y.2.1.val, by omega⟩)
  left_inv x := by
    obtain ⟨⟨k, hk⟩, ⟨p, hp⟩⟩ := x
    refine Prod.ext (Fin.ext ?_) (Fin.ext ?_) <;> dsimp only <;> omega
  right_inv y := by
    obtain ⟨⟨q, hq⟩, ⟨h, hh⟩, ⟨j, hj⟩⟩ := y
    refine Prod.ext (Fin.ext ?_) (Prod.ext (Fin.ext ?_) (Fin.ext ?_)) <;> dsimp only <;> omega

/-- A product of the kernel's is the reference's at the place the kernel unpacks. -/
theorem term_eq (h2 : S16x8192.Idx → EReal) (codes : S3584x256x16.Idx → BitVec 8) (scales : S3584x256.Idx → EReal) (b : Fin 16) (n : Fin 3584) (x : Fin 32 × Fin 256) :
    term h2 codes scales b n x.1 x.2 = refTerm h2 codes scales b n (reorder x).1 (reorder x).2.1 (reorder x).2.2 := by
  obtain ⟨⟨k, hk⟩, ⟨p, hp⟩⟩ := x
  unfold term refTerm
  have e : ix2 b (⟨256 * k + (nat ⟨p, hp⟩).val, by have := (nat ⟨p, hp⟩).isLt; omega⟩ : Fin 8192) = ix2 b
      (⟨32 * (8 * k + p % 64 / 8) + 16 * (p % 8 % 2) + (4 * (p / 64) + p % 8 / 2), by omega⟩ : Fin 8192) :=
    ix2_congr rfl (by dsimp only [nat]; omega)
  exact congrArg (fun i => h2 i * _) e

/-- A projection of the reference is the kernel's. -/
theorem refP_eq {lit : Fin 2 → BitVec 32} (hl : Amounts lit) (h2 : S16x8192.Idx → EReal) (codes : S3584x256x16.Idx → BitVec 8) (scales : S3584x256.Idx → EReal) (b : Fin 16) (n : Fin 3584) :
    (refP lit h2 codes scales (ix2 b n) : EReal) = proj h2 codes scales b n := by
  rw [refP_apply hl]
  unfold proj
  rw [← Fintype.sum_prod_type' (f := fun kc p => term h2 codes scales b n kc p)]
  rw [Fintype.sum_congr _ _ (term_eq h2 codes scales b n)]
  rw [reorder.sum_comp fun y => refTerm h2 codes scales b n y.1 y.2.1 y.2.2]
  rw [Fintype.sum_prod_type]
  exact Fintype.sum_congr _ _ fun q => (Fintype.sum_prod_type fun y : Fin 2 × Fin 16 => refTerm h2 codes scales b n q y.1 y.2).symm

/-- The reference's result is the kernel's. -/
theorem ref_eq (h2 : S16x8192.Idx → EReal) (gc : S3584x256x16.Idx → BitVec 8) (gs : S3584x256.Idx → EReal) (uc : S3584x256x16.Idx → BitVec 8) (us : S3584x256.Idx → EReal)
    (k : Fin 14) (b : Fin 16) (j : Fin 256) :
    refR h2 gc gs uc us (ix3 k b j) = outE h2 gc gs uc us b ⟨256 * k.val + j.val, by omega⟩ := by
  unfold refR outE
  rw [← refP_eq amounts0, ← refP_eq amounts1]
  generalize refP lit0 h2 gc gs = g
  generalize refP lit1 h2 uc us = u
  pointwise
  have e : ix2 b (⟨k.val * 256 + j.val, by omega⟩ : Fin 3584) = ix2 b (⟨256 * k.val + j.val, by omega⟩ : Fin 3584) := ix2_congr rfl (by dsimp only; omega)
  rw [e]
  unfold Ideal.logistic
  simp only [Ideal.ofBits_one_f32]

end Cert.GateUpReferenceIdeal.GU

end
-- ==== Proof.lean ====
module

public import proofs.«01_k».proof.Proof.Gen.GateUpIdeal.Frame
public import proofs.«01_k».proof.Proof.Gen.GateUpIdeal.Loops
public import proofs.«01_k».proof.Proof.Gen.GateUpIdeal.Points
public import proofs.«01_k».proof.Proof.Gen.GateUp.Frame
public import proofs.«01_k».proof.Proof.Gen.GateUp.Loops
public import proofs.«01_k».proof.Proof.Gen.GateUpReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KFrame
public import proofs.«01_k».proof.Proof.Ref
public import proofs.«01_k».proof.Proof.GU.KFrame
public import proofs.«01_k».proof.Proof.GU.Arrays
public import proofs.«01_k».proof.Proof.GU.Ref
public import Idealize.ShloMosaic.Adequacy
public import Idealize.ShloMosaic.Init

@[expose] public section

noncomputable section

namespace Cert.Proof

open Idealize.ShloMosaic Idealize.SL.Sem Cert.Kernel

/-- The idealized program's frame. -/
theorem frame_KernelIdeal : Cert.quiescent_KernelIdeal (hKernelIdeal := Cert.KernelIdeal.Gen.facts) := by
  intro m g _
  exact (θ_run _ _ _).mono (fun r h => ⟨fun c => (h.1 c).2, h.2⟩) (Cert.KernelIdeal.Down.run_all (F := Ideal) m g)

/-- The reference's frame: it has no semaphore, and it leaves its arguments. -/
theorem frame_ReferenceIdeal : Cert.quiescent_ReferenceIdeal (hReferenceIdeal := Cert.ReferenceIdeal.Gen.facts) := by
  intro m g _
  exact (θ_run _ _ _).mono (fun r h => ⟨fun c => (h c).2, Idealize.ShloMosaic.sem_eq_zero_of_no_sems (by decide) r.2⟩) (Cert.ReferenceIdeal.Down.ref_run m g)

/-- The idealized program and the reference end with the same result. -/
theorem algebraic_claim : Cert.algebraic_KernelIdeal_ReferenceIdeal (hKernelIdeal := Cert.KernelIdeal.Gen.facts)
    (hReferenceIdeal := Cert.ReferenceIdeal.Gen.facts) := by
  intro m g m' g' _ hag
  refine ⟨fun c => Cert.KernelIdeal.Down.res m c, (θ_run _ _ _).mono (fun r h c => h.1 c) (Cert.KernelIdeal.Down.run_all (F := Ideal) m g), ?_⟩
  refine (θ_run _ _ _).mono (fun r h c => ⟨(h c).1.trans ?_, (h c).2⟩) (Cert.ReferenceIdeal.Down.ref_run m' g')
  obtain ⟨h0, h1, h2, h3⟩ := hag c
  rw [h0, h1, h2, h3]
  funext i
  rw [Idealize.ShloMosaic.eq_ix2 i]
  exact (Cert.ReferenceIdeal.Down.ref_eq _ _ _ _ (i 0) (i 1)).trans (Cert.KernelIdeal.Down.res_apply m c (i 0) (i 1)).symm

/-- The gate and up program's frame. -/
theorem frame_GateUpIdeal : Cert.quiescent_GateUpIdeal (hGateUpIdeal := Cert.GateUpIdeal.Gen.facts) := by
  intro m g _
  exact (θ_run _ _ _).mono (fun r h => ⟨fun c => (h.1 c).2, h.2⟩) (Cert.GateUpIdeal.GU.run_all (F := Ideal) m g)

/-- The gate and up reference's frame: it has no semaphore, and it leaves its arguments. -/
theorem frame_GateUpReferenceIdeal : Cert.quiescent_GateUpReferenceIdeal (hGateUpReferenceIdeal := Cert.GateUpReferenceIdeal.Gen.facts) := by
  intro m g _
  exact (θ_run _ _ _).mono (fun r h => ⟨fun c => (h c).2, Idealize.ShloMosaic.sem_eq_zero_of_no_sems (by decide) r.2⟩) (Cert.GateUpReferenceIdeal.GU.ref_run m g)

/-- The gate and up program and its reference end with the same result. -/
theorem algebraic_gateUp : Cert.algebraic_GateUpIdeal_GateUpReferenceIdeal (hGateUpIdeal := Cert.GateUpIdeal.Gen.facts)
    (hGateUpReferenceIdeal := Cert.GateUpReferenceIdeal.Gen.facts) := by
  intro m g m' g' _ hag
  refine ⟨fun c => Cert.GateUpIdeal.GU.res m c, (θ_run _ _ _).mono (fun r h c => h.1 c) (Cert.GateUpIdeal.GU.run_all (F := Ideal) m g), ?_⟩
  refine (θ_run _ _ _).mono (fun r h c => ⟨(h c).1.trans ?_, (h c).2⟩) (Cert.GateUpReferenceIdeal.GU.ref_run m' g')
  obtain ⟨h0, h1, h2, h3, h4⟩ := hag c
  rw [h0, h1, h2, h3, h4]
  funext i
  rw [Idealize.ShloMosaic.eq_ix3 i]
  exact (Cert.GateUpReferenceIdeal.GU.ref_eq _ _ _ _ _ (i 0) (i 1) (i 2)).trans (Cert.GateUpIdeal.GU.res_apply m c (i 0) (i 1) (i 2)).symm

/-- The ten claims. -/
theorem claim : Cert.Claim := ⟨Cert.Kernel.Gen.facts, Cert.KernelIdeal.Gen.facts, Cert.ReferenceIdeal.Gen.facts,
  Cert.GateUp.Gen.facts, Cert.GateUpIdeal.Gen.facts, Cert.GateUpReferenceIdeal.Gen.facts,
  frame_Kernel, frame_KernelIdeal, frame_ReferenceIdeal, frame_GateUp, frame_GateUpIdeal, frame_GateUpReferenceIdeal,
  trivial, algebraic_claim, trivial, algebraic_gateUp⟩

end Cert.Proof

end
